-- ==== Defs.lean ====
def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_sb_finite [hPre_sb_finite : Cert.Pre_sb_finite.Facts] (m : (ℓ : Loc Cert.SbIdeal.nD Cert.SbIdeal.τ Cert.SbIdeal.sig) → Buf (Elt Ideal) ℓ) : Prop :=
  ∀ c : Dev Cert.SbIdeal.nD,
    (Cert.Pre_sb_finite.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_sb_finite [hPre_sb_finite : Cert.Pre_sb_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_finite [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9)) (m ((c.tc : Thread Cert.PrepIdeal.nD Cert.PrepIdeal.τ).loc Cert.PrepIdeal.main_arg10)) (m ((c.tc : Thread Cert.PrepIdeal.nD Cert.PrepIdeal.τ).loc Cert.PrepIdeal.main_arg11)) (m ((c.tc : Thread Cert.PrepIdeal.nD Cert.PrepIdeal.τ).loc Cert.PrepIdeal.main_arg12)) (m ((c.tc : Thread Cert.PrepIdeal.nD Cert.PrepIdeal.τ).loc Cert.PrepIdeal.main_arg13)) (m ((c.tc : Thread Cert.PrepIdeal.nD Cert.PrepIdeal.τ).loc Cert.PrepIdeal.main_arg14)) (m ((c.tc : Thread Cert.PrepIdeal.nD Cert.PrepIdeal.τ).loc Cert.PrepIdeal.main_arg15)) (m ((c.tc : Thread Cert.PrepIdeal.nD Cert.PrepIdeal.τ).loc Cert.PrepIdeal.main_arg16))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9)) (m ((c.tc : Thread Cert.PrepRefIdeal.nD Cert.PrepRefIdeal.τ).loc Cert.PrepRefIdeal.main_arg10)) (m ((c.tc : Thread Cert.PrepRefIdeal.nD Cert.PrepRefIdeal.τ).loc Cert.PrepRefIdeal.main_arg11)) (m ((c.tc : Thread Cert.PrepRefIdeal.nD Cert.PrepRefIdeal.τ).loc Cert.PrepRefIdeal.main_arg12)) (m ((c.tc : Thread Cert.PrepRefIdeal.nD Cert.PrepRefIdeal.τ).loc Cert.PrepRefIdeal.main_arg13)) (m ((c.tc : Thread Cert.PrepRefIdeal.nD Cert.PrepRefIdeal.τ).loc Cert.PrepRefIdeal.main_arg14)) (m ((c.tc : Thread Cert.PrepRefIdeal.nD Cert.PrepRefIdeal.τ).loc Cert.PrepRefIdeal.main_arg15)) (m ((c.tc : Thread Cert.PrepRefIdeal.nD Cert.PrepRefIdeal.τ).loc Cert.PrepRefIdeal.main_arg16))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_DYcat (m : (ℓ : Loc Cert.DYcat.nD Cert.DYcat.τ Cert.DYcat.sig) → Buf (Elt Bits) ℓ) : Prop :=
  True

def Pre_DYcatIdeal (m : (ℓ : Loc Cert.DYcatIdeal.nD Cert.DYcatIdeal.τ Cert.DYcatIdeal.sig) → Buf (Elt Ideal) ℓ) : Prop :=
  True

def Pre_DYcatRefIdeal (m : (ℓ : Loc Cert.DYcatRefIdeal.nD Cert.DYcatRefIdeal.τ Cert.DYcatRefIdeal.sig) → Buf (Elt Ideal) ℓ) : Prop :=
  True

def Pre_DWDown (m : (ℓ : Loc Cert.DWDown.nD Cert.DWDown.τ Cert.DWDown.sig) → Buf (Elt Bits) ℓ) : Prop :=
  True

def Pre_DWDownIdeal (m : (ℓ : Loc Cert.DWDownIdeal.nD Cert.DWDownIdeal.τ Cert.DWDownIdeal.sig) → Buf (Elt Ideal) ℓ) : Prop :=
  True

def Pre_DWDownRefIdeal (m : (ℓ : Loc Cert.DWDownRefIdeal.nD Cert.DWDownRefIdeal.τ Cert.DWDownRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1)
      ∧ r.2.mem ((c.tc : Thread Cert.DH2.nD Cert.DH2.τ).loc Cert.DH2.main_arg2) = m ((c.tc : Thread Cert.DH2.nD Cert.DH2.τ).loc Cert.DH2.main_arg2)
      ∧ r.2.mem ((c.tc : Thread Cert.DH2.nD Cert.DH2.τ).loc Cert.DH2.main_arg3) = m ((c.tc : Thread Cert.DH2.nD Cert.DH2.τ).loc Cert.DH2.main_arg3)
      ∧ r.2.mem ((c.tc : Thread Cert.DH2.nD Cert.DH2.τ).loc Cert.DH2.main_arg4) = m ((c.tc : Thread Cert.DH2.nD Cert.DH2.τ).loc Cert.DH2.main_arg4))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
      ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2)
      ∧ r.2.mem ((c.tc : Thread Cert.DH2Ideal.nD Cert.DH2Ideal.τ).loc Cert.DH2Ideal.main_arg3) = m ((c.tc : Thread Cert.DH2Ideal.nD Cert.DH2Ideal.τ).loc Cert.DH2Ideal.main_arg3)
      ∧ r.2.mem ((c.tc : Thread Cert.DH2Ideal.nD Cert.DH2Ideal.τ).loc Cert.DH2Ideal.main_arg4) = m ((c.tc : Thread Cert.DH2Ideal.nD Cert.DH2Ideal.τ).loc Cert.DH2Ideal.main_arg4))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1)
      ∧ r.2.mem ((c.tc : Thread Cert.DH2RefIdeal.nD Cert.DH2RefIdeal.τ).loc Cert.DH2RefIdeal.main_arg2) = m ((c.tc : Thread Cert.DH2RefIdeal.nD Cert.DH2RefIdeal.τ).loc Cert.DH2RefIdeal.main_arg2)
      ∧ r.2.mem ((c.tc : Thread Cert.DH2RefIdeal.nD Cert.DH2RefIdeal.τ).loc Cert.DH2RefIdeal.main_arg3) = m ((c.tc : Thread Cert.DH2RefIdeal.nD Cert.DH2RefIdeal.τ).loc Cert.DH2RefIdeal.main_arg3)
      ∧ r.2.mem ((c.tc : Thread Cert.DH2RefIdeal.nD Cert.DH2RefIdeal.τ).loc Cert.DH2RefIdeal.main_arg4) = m ((c.tc : Thread Cert.DH2RefIdeal.nD Cert.DH2RefIdeal.τ).loc Cert.DH2RefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1)
      ∧ r.2.mem ((c.tc : Thread Cert.DH1.nD Cert.DH1.τ).loc Cert.DH1.main_arg2) = m ((c.tc : Thread Cert.DH1.nD Cert.DH1.τ).loc Cert.DH1.main_arg2)
      ∧ r.2.mem ((c.tc : Thread Cert.DH1.nD Cert.DH1.τ).loc Cert.DH1.main_arg3) = m ((c.tc : Thread Cert.DH1.nD Cert.DH1.τ).loc Cert.DH1.main_arg3)
      ∧ r.2.mem ((c.tc : Thread Cert.DH1.nD Cert.DH1.τ).loc Cert.DH1.main_arg4) = m ((c.tc : Thread Cert.DH1.nD Cert.DH1.τ).loc Cert.DH1.main_arg4))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
      ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
      ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
      ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1)
      ∧ r.2.mem ((c.tc : Thread Cert.DH1RefIdeal.nD Cert.DH1RefIdeal.τ).loc Cert.DH1RefIdeal.main_arg2) = m ((c.tc : Thread Cert.DH1RefIdeal.nD Cert.DH1RefIdeal.τ).loc Cert.DH1RefIdeal.main_arg2)
      ∧ r.2.mem ((c.tc : Thread Cert.DH1RefIdeal.nD Cert.DH1RefIdeal.τ).loc Cert.DH1RefIdeal.main_arg3) = m ((c.tc : Thread Cert.DH1RefIdeal.nD Cert.DH1RefIdeal.τ).loc Cert.DH1RefIdeal.main_arg3)
      ∧ r.2.mem ((c.tc : Thread Cert.DH1RefIdeal.nD Cert.DH1RefIdeal.τ).loc Cert.DH1RefIdeal.main_arg4) = m ((c.tc : Thread Cert.DH1RefIdeal.nD Cert.DH1RefIdeal.τ).loc Cert.DH1RefIdeal.main_arg4))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbIdeal_pre_sb_finite [hSbIdeal : Cert.SbIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg), Pre_SbIdeal_sb_finite m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_SbRefIdeal_pre_sb_finite [hSbRefIdeal : Cert.SbRefIdeal.Facts] [hPre_sb_finite : Cert.Pre_sb_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_sb_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11)
      ∧ r.2.mem ((c.tc : Thread Cert.Prep.nD Cert.Prep.τ).loc Cert.Prep.main_arg12) = m ((c.tc : Thread Cert.Prep.nD Cert.Prep.τ).loc Cert.Prep.main_arg12)
      ∧ r.2.mem ((c.tc : Thread Cert.Prep.nD Cert.Prep.τ).loc Cert.Prep.main_arg13) = m ((c.tc : Thread Cert.Prep.nD Cert.Prep.τ).loc Cert.Prep.main_arg13)
      ∧ r.2.mem ((c.tc : Thread Cert.Prep.nD Cert.Prep.τ).loc Cert.Prep.main_arg14) = m ((c.tc : Thread Cert.Prep.nD Cert.Prep.τ).loc Cert.Prep.main_arg14)
      ∧ r.2.mem ((c.tc : Thread Cert.Prep.nD Cert.Prep.τ).loc Cert.Prep.main_arg15) = m ((c.tc : Thread Cert.Prep.nD Cert.Prep.τ).loc Cert.Prep.main_arg15)
      ∧ r.2.mem ((c.tc : Thread Cert.Prep.nD Cert.Prep.τ).loc Cert.Prep.main_arg16) = m ((c.tc : Thread Cert.Prep.nD Cert.Prep.τ).loc Cert.Prep.main_arg16))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
      ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
      ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15)
      ∧ r.2.mem ((c.tc : Thread Cert.PrepIdeal.nD Cert.PrepIdeal.τ).loc Cert.PrepIdeal.main_arg16) = m ((c.tc : Thread Cert.PrepIdeal.nD Cert.PrepIdeal.τ).loc Cert.PrepIdeal.main_arg16))
      ∧ r.2.sem = fun _ => 0)

def quiescent_PrepIdeal_pre_prep_finite [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
      ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
      ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15)
      ∧ r.2.mem ((c.tc : Thread Cert.PrepIdeal.nD Cert.PrepIdeal.τ).loc Cert.PrepIdeal.main_arg16) = m ((c.tc : Thread Cert.PrepIdeal.nD Cert.PrepIdeal.τ).loc Cert.PrepIdeal.main_arg16))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12)
      ∧ r.2.mem ((c.tc : Thread Cert.PrepRefIdeal.nD Cert.PrepRefIdeal.τ).loc Cert.PrepRefIdeal.main_arg13) = m ((c.tc : Thread Cert.PrepRefIdeal.nD Cert.PrepRefIdeal.τ).loc Cert.PrepRefIdeal.main_arg13)
      ∧ r.2.mem ((c.tc : Thread Cert.PrepRefIdeal.nD Cert.PrepRefIdeal.τ).loc Cert.PrepRefIdeal.main_arg14) = m ((c.tc : Thread Cert.PrepRefIdeal.nD Cert.PrepRefIdeal.τ).loc Cert.PrepRefIdeal.main_arg14)
      ∧ r.2.mem ((c.tc : Thread Cert.PrepRefIdeal.nD Cert.PrepRefIdeal.τ).loc Cert.PrepRefIdeal.main_arg15) = m ((c.tc : Thread Cert.PrepRefIdeal.nD Cert.PrepRefIdeal.τ).loc Cert.PrepRefIdeal.main_arg15)
      ∧ r.2.mem ((c.tc : Thread Cert.PrepRefIdeal.nD Cert.PrepRefIdeal.τ).loc Cert.PrepRefIdeal.main_arg16) = m ((c.tc : Thread Cert.PrepRefIdeal.nD Cert.PrepRefIdeal.τ).loc Cert.PrepRefIdeal.main_arg16))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12)
      ∧ r.2.mem ((c.tc : Thread Cert.PrepRefIdeal.nD Cert.PrepRefIdeal.τ).loc Cert.PrepRefIdeal.main_arg13) = m ((c.tc : Thread Cert.PrepRefIdeal.nD Cert.PrepRefIdeal.τ).loc Cert.PrepRefIdeal.main_arg13)
      ∧ r.2.mem ((c.tc : Thread Cert.PrepRefIdeal.nD Cert.PrepRefIdeal.τ).loc Cert.PrepRefIdeal.main_arg14) = m ((c.tc : Thread Cert.PrepRefIdeal.nD Cert.PrepRefIdeal.τ).loc Cert.PrepRefIdeal.main_arg14)
      ∧ r.2.mem ((c.tc : Thread Cert.PrepRefIdeal.nD Cert.PrepRefIdeal.τ).loc Cert.PrepRefIdeal.main_arg15) = m ((c.tc : Thread Cert.PrepRefIdeal.nD Cert.PrepRefIdeal.τ).loc Cert.PrepRefIdeal.main_arg15)
      ∧ r.2.mem ((c.tc : Thread Cert.PrepRefIdeal.nD Cert.PrepRefIdeal.τ).loc Cert.PrepRefIdeal.main_arg16) = m ((c.tc : Thread Cert.PrepRefIdeal.nD Cert.PrepRefIdeal.τ).loc Cert.PrepRefIdeal.main_arg16))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2)
      ∧ r.2.mem ((c.tc : Thread Cert.ProjOutRefIdeal.nD Cert.ProjOutRefIdeal.τ).loc Cert.ProjOutRefIdeal.main_arg3) = m ((c.tc : Thread Cert.ProjOutRefIdeal.nD Cert.ProjOutRefIdeal.τ).loc Cert.ProjOutRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3)
      ∧ r.2.mem ((c.tc : Thread Cert.PrepFwd.nD Cert.PrepFwd.τ).loc Cert.PrepFwd.main_arg4) = m ((c.tc : Thread Cert.PrepFwd.nD Cert.PrepFwd.τ).loc Cert.PrepFwd.main_arg4)
      ∧ r.2.mem ((c.tc : Thread Cert.PrepFwd.nD Cert.PrepFwd.τ).loc Cert.PrepFwd.main_arg5) = m ((c.tc : Thread Cert.PrepFwd.nD Cert.PrepFwd.τ).loc Cert.PrepFwd.main_arg5)
      ∧ r.2.mem ((c.tc : Thread Cert.PrepFwd.nD Cert.PrepFwd.τ).loc Cert.PrepFwd.main_arg6) = m ((c.tc : Thread Cert.PrepFwd.nD Cert.PrepFwd.τ).loc Cert.PrepFwd.main_arg6))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
      ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4)
      ∧ r.2.mem ((c.tc : Thread Cert.PrepFwdIdeal.nD Cert.PrepFwdIdeal.τ).loc Cert.PrepFwdIdeal.main_arg5) = m ((c.tc : Thread Cert.PrepFwdIdeal.nD Cert.PrepFwdIdeal.τ).loc Cert.PrepFwdIdeal.main_arg5)
      ∧ r.2.mem ((c.tc : Thread Cert.PrepFwdIdeal.nD Cert.PrepFwdIdeal.τ).loc Cert.PrepFwdIdeal.main_arg6) = m ((c.tc : Thread Cert.PrepFwdIdeal.nD Cert.PrepFwdIdeal.τ).loc Cert.PrepFwdIdeal.main_arg6))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2)
      ∧ r.2.mem ((c.tc : Thread Cert.PrepFwdRefIdeal.nD Cert.PrepFwdRefIdeal.τ).loc Cert.PrepFwdRefIdeal.main_arg3) = m ((c.tc : Thread Cert.PrepFwdRefIdeal.nD Cert.PrepFwdRefIdeal.τ).loc Cert.PrepFwdRefIdeal.main_arg3)
      ∧ r.2.mem ((c.tc : Thread Cert.PrepFwdRefIdeal.nD Cert.PrepFwdRefIdeal.τ).loc Cert.PrepFwdRefIdeal.main_arg4) = m ((c.tc : Thread Cert.PrepFwdRefIdeal.nD Cert.PrepFwdRefIdeal.τ).loc Cert.PrepFwdRefIdeal.main_arg4)
      ∧ r.2.mem ((c.tc : Thread Cert.PrepFwdRefIdeal.nD Cert.PrepFwdRefIdeal.τ).loc Cert.PrepFwdRefIdeal.main_arg5) = m ((c.tc : Thread Cert.PrepFwdRefIdeal.nD Cert.PrepFwdRefIdeal.τ).loc Cert.PrepFwdRefIdeal.main_arg5)
      ∧ r.2.mem ((c.tc : Thread Cert.PrepFwdRefIdeal.nD Cert.PrepFwdRefIdeal.τ).loc Cert.PrepFwdRefIdeal.main_arg6) = m ((c.tc : Thread Cert.PrepFwdRefIdeal.nD Cert.PrepFwdRefIdeal.τ).loc Cert.PrepFwdRefIdeal.main_arg6))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_DYcat [hDYcat : Cert.DYcat.Facts] : Prop :=
  ∀ (m : (ℓ : Loc Cert.DYcat.nD Cert.DYcat.τ Cert.DYcat.sig) → Buf (Elt Bits) ℓ) (g : Dev Cert.DYcat.nD → PrngReg), Pre_DYcat m →
    θ_run (Cert.DYcat.defs (F := Bits)) (onTc (τ := Cert.DYcat.τ) (Cert.DYcat.main (F := Bits))) ⟨m, fun _ => 0, g⟩ (fun r => (∀ c : Dev Cert.DYcat.nD,
      r.2.mem ((c.tc : Thread Cert.DYcat.nD Cert.DYcat.τ).loc Cert.DYcat.main_arg0) = m ((c.tc : Thread Cert.DYcat.nD Cert.DYcat.τ).loc Cert.DYcat.main_arg0)
      ∧ r.2.mem ((c.tc : Thread Cert.DYcat.nD Cert.DYcat.τ).loc Cert.DYcat.main_arg1) = m ((c.tc : Thread Cert.DYcat.nD Cert.DYcat.τ).loc Cert.DYcat.main_arg1))
      ∧ r.2.sem = fun _ => 0)

def quiescent_DYcatIdeal [hDYcatIdeal : Cert.DYcatIdeal.Facts] : Prop :=
  ∀ (m : (ℓ : Loc Cert.DYcatIdeal.nD Cert.DYcatIdeal.τ Cert.DYcatIdeal.sig) → Buf (Elt Ideal) ℓ) (g : Dev Cert.DYcatIdeal.nD → PrngReg), Pre_DYcatIdeal m →
    θ_run (Cert.DYcatIdeal.defs (F := Ideal)) (onTc (τ := Cert.DYcatIdeal.τ) (Cert.DYcatIdeal.main (F := Ideal))) ⟨m, fun _ => 0, g⟩ (fun r => (∀ c : Dev Cert.DYcatIdeal.nD,
      r.2.mem ((c.tc : Thread Cert.DYcatIdeal.nD Cert.DYcatIdeal.τ).loc Cert.DYcatIdeal.main_arg0) = m ((c.tc : Thread Cert.DYcatIdeal.nD Cert.DYcatIdeal.τ).loc Cert.DYcatIdeal.main_arg0)
      ∧ r.2.mem ((c.tc : Thread Cert.DYcatIdeal.nD Cert.DYcatIdeal.τ).loc Cert.DYcatIdeal.main_arg1) = m ((c.tc : Thread Cert.DYcatIdeal.nD Cert.DYcatIdeal.τ).loc Cert.DYcatIdeal.main_arg1))
      ∧ r.2.sem = fun _ => 0)

def quiescent_DYcatRefIdeal [hDYcatRefIdeal : Cert.DYcatRefIdeal.Facts] : Prop :=
  ∀ (m : (ℓ : Loc Cert.DYcatRefIdeal.nD Cert.DYcatRefIdeal.τ Cert.DYcatRefIdeal.sig) → Buf (Elt Ideal) ℓ) (g : Dev Cert.DYcatRefIdeal.nD → PrngReg), Pre_DYcatRefIdeal m →
    θ_run (Cert.DYcatRefIdeal.defs (F := Ideal)) (onTc (τ := Cert.DYcatRefIdeal.τ) (Cert.DYcatRefIdeal.main (F := Ideal))) ⟨m, fun _ => 0, g⟩ (fun r => (∀ c : Dev Cert.DYcatRefIdeal.nD,
      r.2.mem ((c.tc : Thread Cert.DYcatRefIdeal.nD Cert.DYcatRefIdeal.τ).loc Cert.DYcatRefIdeal.main_arg0) = m ((c.tc : Thread Cert.DYcatRefIdeal.nD Cert.DYcatRefIdeal.τ).loc Cert.DYcatRefIdeal.main_arg0)
      ∧ r.2.mem ((c.tc : Thread Cert.DYcatRefIdeal.nD Cert.DYcatRefIdeal.τ).loc Cert.DYcatRefIdeal.main_arg1) = m ((c.tc : Thread Cert.DYcatRefIdeal.nD Cert.DYcatRefIdeal.τ).loc Cert.DYcatRefIdeal.main_arg1))
      ∧ r.2.sem = fun _ => 0)

def quiescent_DWDown [hDWDown : Cert.DWDown.Facts] : Prop :=
  ∀ (m : (ℓ : Loc Cert.DWDown.nD Cert.DWDown.τ Cert.DWDown.sig) → Buf (Elt Bits) ℓ) (g : Dev Cert.DWDown.nD → PrngReg), Pre_DWDown m →
    θ_run (Cert.DWDown.defs (F := Bits)) (onTc (τ := Cert.DWDown.τ) (Cert.DWDown.main (F := Bits))) ⟨m, fun _ => 0, g⟩ (fun r => (∀ c : Dev Cert.DWDown.nD,
      r.2.mem ((c.tc : Thread Cert.DWDown.nD Cert.DWDown.τ).loc Cert.DWDown.main_arg0) = m ((c.tc : Thread Cert.DWDown.nD Cert.DWDown.τ).loc Cert.DWDown.main_arg0)
      ∧ r.2.mem ((c.tc : Thread Cert.DWDown.nD Cert.DWDown.τ).loc Cert.DWDown.main_arg1) = m ((c.tc : Thread Cert.DWDown.nD Cert.DWDown.τ).loc Cert.DWDown.main_arg1))
      ∧ r.2.sem = fun _ => 0)

def quiescent_DWDownIdeal [hDWDownIdeal : Cert.DWDownIdeal.Facts] : Prop :=
  ∀ (m : (ℓ : Loc Cert.DWDownIdeal.nD Cert.DWDownIdeal.τ Cert.DWDownIdeal.sig) → Buf (Elt Ideal) ℓ) (g : Dev Cert.DWDownIdeal.nD → PrngReg), Pre_DWDownIdeal m →
    θ_run (Cert.DWDownIdeal.defs (F := Ideal)) (onTc (τ := Cert.DWDownIdeal.τ) (Cert.DWDownIdeal.main (F := Ideal))) ⟨m, fun _ => 0, g⟩ (fun r => (∀ c : Dev Cert.DWDownIdeal.nD,
      r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
      ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ r.2.sem = fun _ => 0)

def quiescent_DWDownRefIdeal [hDWDownRefIdeal : Cert.DWDownRefIdeal.Facts] : Prop :=
  ∀ (m : (ℓ : Loc Cert.DWDownRefIdeal.nD Cert.DWDownRefIdeal.τ Cert.DWDownRefIdeal.sig) → Buf (Elt Ideal) ℓ) (g : Dev Cert.DWDownRefIdeal.nD → PrngReg), Pre_DWDownRefIdeal m →
    θ_run (Cert.DWDownRefIdeal.defs (F := Ideal)) (onTc (τ := Cert.DWDownRefIdeal.τ) (Cert.DWDownRefIdeal.main (F := Ideal))) ⟨m, fun _ => 0, g⟩ (fun r => (∀ c : Dev Cert.DWDownRefIdeal.nD,
      r.2.mem ((c.tc : Thread Cert.DWDownRefIdeal.nD Cert.DWDownRefIdeal.τ).loc Cert.DWDownRefIdeal.main_arg0) = m ((c.tc : Thread Cert.DWDownRefIdeal.nD Cert.DWDownRefIdeal.τ).loc Cert.DWDownRefIdeal.main_arg0)
      ∧ r.2.mem ((c.tc : Thread Cert.DWDownRefIdeal.nD Cert.DWDownRefIdeal.τ).loc Cert.DWDownRefIdeal.main_arg1) = m ((c.tc : Thread Cert.DWDownRefIdeal.nD Cert.DWDownRefIdeal.τ).loc Cert.DWDownRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v14) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)
      ∧ m' ((c.tc : Thread Cert.DH2RefIdeal.nD Cert.DH2RefIdeal.τ).loc Cert.DH2RefIdeal.main_arg2) = m ((c.tc : Thread Cert.DH2Ideal.nD Cert.DH2Ideal.τ).loc Cert.DH2Ideal.main_arg2)
      ∧ m' ((c.tc : Thread Cert.DH2RefIdeal.nD Cert.DH2RefIdeal.τ).loc Cert.DH2RefIdeal.main_arg3) = m ((c.tc : Thread Cert.DH2Ideal.nD Cert.DH2Ideal.τ).loc Cert.DH2Ideal.main_arg3)
      ∧ m' ((c.tc : Thread Cert.DH2RefIdeal.nD Cert.DH2RefIdeal.τ).loc Cert.DH2RefIdeal.main_arg4) = m ((c.tc : Thread Cert.DH2Ideal.nD Cert.DH2Ideal.τ).loc Cert.DH2Ideal.main_arg4)) →
    ∃ (v0 : (c : Dev Cert.DH2Ideal.nD) → Buf (Elt Ideal) ((c.tc : Thread Cert.DH2Ideal.nD Cert.DH2Ideal.τ).loc Cert.DH2Ideal.main_v0_0)) (v1 : (c : Dev Cert.DH2Ideal.nD) → Buf (Elt Ideal) ((c.tc : Thread Cert.DH2Ideal.nD Cert.DH2Ideal.τ).loc Cert.DH2Ideal.main_v0_1)) (v2 : (c : Dev Cert.DH2Ideal.nD) → Buf (Elt Ideal) ((c.tc : Thread Cert.DH2Ideal.nD Cert.DH2Ideal.τ).loc Cert.DH2Ideal.main_v0_2)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v0_0) = v0 c
          ∧ r.2.mem ((c.tc : Thread Cert.DH2Ideal.nD Cert.DH2Ideal.τ).loc Cert.DH2Ideal.main_v0_1) = v1 c
          ∧ r.2.mem ((c.tc : Thread Cert.DH2Ideal.nD Cert.DH2Ideal.τ).loc Cert.DH2Ideal.main_v0_2) = v2 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1)
          ∧ r.2.mem ((c.tc : Thread Cert.DH2Ideal.nD Cert.DH2Ideal.τ).loc Cert.DH2Ideal.main_arg2) = m ((c.tc : Thread Cert.DH2Ideal.nD Cert.DH2Ideal.τ).loc Cert.DH2Ideal.main_arg2)
          ∧ r.2.mem ((c.tc : Thread Cert.DH2Ideal.nD Cert.DH2Ideal.τ).loc Cert.DH2Ideal.main_arg3) = m ((c.tc : Thread Cert.DH2Ideal.nD Cert.DH2Ideal.τ).loc Cert.DH2Ideal.main_arg3)
          ∧ r.2.mem ((c.tc : Thread Cert.DH2Ideal.nD Cert.DH2Ideal.τ).loc Cert.DH2Ideal.main_arg4) = m ((c.tc : Thread Cert.DH2Ideal.nD Cert.DH2Ideal.τ).loc Cert.DH2Ideal.main_arg4))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v41) = v0 c
          ∧ r.2.mem ((c.tc : Thread Cert.DH2RefIdeal.nD Cert.DH2RefIdeal.τ).loc Cert.DH2RefIdeal.main_v43) = v1 c
          ∧ r.2.mem ((c.tc : Thread Cert.DH2RefIdeal.nD Cert.DH2RefIdeal.τ).loc Cert.DH2RefIdeal.main_v42) = v2 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1)
          ∧ r.2.mem ((c.tc : Thread Cert.DH2RefIdeal.nD Cert.DH2RefIdeal.τ).loc Cert.DH2RefIdeal.main_arg2) = m' ((c.tc : Thread Cert.DH2RefIdeal.nD Cert.DH2RefIdeal.τ).loc Cert.DH2RefIdeal.main_arg2)
          ∧ r.2.mem ((c.tc : Thread Cert.DH2RefIdeal.nD Cert.DH2RefIdeal.τ).loc Cert.DH2RefIdeal.main_arg3) = m' ((c.tc : Thread Cert.DH2RefIdeal.nD Cert.DH2RefIdeal.τ).loc Cert.DH2RefIdeal.main_arg3)
          ∧ r.2.mem ((c.tc : Thread Cert.DH2RefIdeal.nD Cert.DH2RefIdeal.τ).loc Cert.DH2RefIdeal.main_arg4) = m' ((c.tc : Thread Cert.DH2RefIdeal.nD Cert.DH2RefIdeal.τ).loc Cert.DH2RefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v3)) (v3 : (c : Dev Cert.LossIdeal.nD) → Buf (Elt Ideal) ((c.tc : Thread Cert.LossIdeal.nD Cert.LossIdeal.τ).loc Cert.LossIdeal.main_v4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v3) = v2 c
          ∧ r.2.mem ((c.tc : Thread Cert.LossIdeal.nD Cert.LossIdeal.τ).loc Cert.LossIdeal.main_v4) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v54) = v0 c
          ∧ r.2.mem ((c.tc : Thread Cert.LossRefIdeal.nD Cert.LossRefIdeal.τ).loc Cert.LossRefIdeal.main_v55) = v1 c
          ∧ r.2.mem ((c.tc : Thread Cert.LossRefIdeal.nD Cert.LossRefIdeal.τ).loc Cert.LossRefIdeal.main_v28) = v2 c
          ∧ r.2.mem ((c.tc : Thread Cert.LossRefIdeal.nD Cert.LossRefIdeal.τ).loc Cert.LossRefIdeal.main_v40) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)
      ∧ m' ((c.tc : Thread Cert.DH1RefIdeal.nD Cert.DH1RefIdeal.τ).loc Cert.DH1RefIdeal.main_arg2) = m ((c.tc : Thread Cert.DH1Ideal.nD Cert.DH1Ideal.τ).loc Cert.DH1Ideal.main_arg2)
      ∧ m' ((c.tc : Thread Cert.DH1RefIdeal.nD Cert.DH1RefIdeal.τ).loc Cert.DH1RefIdeal.main_arg3) = m ((c.tc : Thread Cert.DH1Ideal.nD Cert.DH1Ideal.τ).loc Cert.DH1Ideal.main_arg3)
      ∧ m' ((c.tc : Thread Cert.DH1RefIdeal.nD Cert.DH1RefIdeal.τ).loc Cert.DH1RefIdeal.main_arg4) = m ((c.tc : Thread Cert.DH1Ideal.nD Cert.DH1Ideal.τ).loc Cert.DH1Ideal.main_arg4)) →
    ∃ (v0 : (c : Dev Cert.DH1Ideal.nD) → Buf (Elt Ideal) ((c.tc : Thread Cert.DH1Ideal.nD Cert.DH1Ideal.τ).loc Cert.DH1Ideal.main_v0_0)) (v1 : (c : Dev Cert.DH1Ideal.nD) → Buf (Elt Ideal) ((c.tc : Thread Cert.DH1Ideal.nD Cert.DH1Ideal.τ).loc Cert.DH1Ideal.main_v0_1)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v0_0) = v0 c
          ∧ r.2.mem ((c.tc : Thread Cert.DH1Ideal.nD Cert.DH1Ideal.τ).loc Cert.DH1Ideal.main_v0_1) = v1 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
          ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
          ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
          ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v41) = v0 c
          ∧ r.2.mem ((c.tc : Thread Cert.DH1RefIdeal.nD Cert.DH1RefIdeal.τ).loc Cert.DH1RefIdeal.main_v42) = v1 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1)
          ∧ r.2.mem ((c.tc : Thread Cert.DH1RefIdeal.nD Cert.DH1RefIdeal.τ).loc Cert.DH1RefIdeal.main_arg2) = m' ((c.tc : Thread Cert.DH1RefIdeal.nD Cert.DH1RefIdeal.τ).loc Cert.DH1RefIdeal.main_arg2)
          ∧ r.2.mem ((c.tc : Thread Cert.DH1RefIdeal.nD Cert.DH1RefIdeal.τ).loc Cert.DH1RefIdeal.main_arg3) = m' ((c.tc : Thread Cert.DH1RefIdeal.nD Cert.DH1RefIdeal.τ).loc Cert.DH1RefIdeal.main_arg3)
          ∧ r.2.mem ((c.tc : Thread Cert.DH1RefIdeal.nD Cert.DH1RefIdeal.τ).loc Cert.DH1RefIdeal.main_arg4) = m' ((c.tc : Thread Cert.DH1RefIdeal.nD Cert.DH1RefIdeal.τ).loc Cert.DH1RefIdeal.main_arg4))

def preserves_Sb_SbIdeal : Prop :=
  IdealRules.named_const.Statement Cert.SbIdeal.κ "mask" .f32 0xF149F2CA#32 ⊥

def algebraic_SbIdeal_SbRefIdeal_pre_sb_finite [hSbIdeal : Cert.SbIdeal.Facts] [hSbRefIdeal : Cert.SbRefIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_sb_finite m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)) →
    ∃ (v0 : (c : Dev Cert.SbIdeal.nD) → Buf (Elt Ideal) ((c.tc : Thread Cert.SbIdeal.nD Cert.SbIdeal.τ).loc Cert.SbIdeal.main_v38_0)) (v1 : (c : Dev Cert.SbIdeal.nD) → Buf (Elt Ideal) ((c.tc : Thread Cert.SbIdeal.nD Cert.SbIdeal.τ).loc Cert.SbIdeal.main_v38_1)) (v2 : (c : Dev Cert.SbIdeal.nD) → Buf (Elt Ideal) ((c.tc : Thread Cert.SbIdeal.nD Cert.SbIdeal.τ).loc Cert.SbIdeal.main_v38_2)) (v3 : (c : Dev Cert.SbIdeal.nD) → Buf (Elt Ideal) ((c.tc : Thread Cert.SbIdeal.nD Cert.SbIdeal.τ).loc Cert.SbIdeal.main_v39)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v38_0) = v0 c
          ∧ r.2.mem ((c.tc : Thread Cert.SbIdeal.nD Cert.SbIdeal.τ).loc Cert.SbIdeal.main_v38_1) = v1 c
          ∧ r.2.mem ((c.tc : Thread Cert.SbIdeal.nD Cert.SbIdeal.τ).loc Cert.SbIdeal.main_v38_2) = v2 c
          ∧ r.2.mem ((c.tc : Thread Cert.SbIdeal.nD Cert.SbIdeal.τ).loc Cert.SbIdeal.main_v39) = v3 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v94) = v0 c
          ∧ r.2.mem ((c.tc : Thread Cert.SbRefIdeal.nD Cert.SbRefIdeal.τ).loc Cert.SbRefIdeal.main_v92) = v1 c
          ∧ r.2.mem ((c.tc : Thread Cert.SbRefIdeal.nD Cert.SbRefIdeal.τ).loc Cert.SbRefIdeal.main_v90) = v2 c
          ∧ r.2.mem ((c.tc : Thread Cert.SbRefIdeal.nD Cert.SbRefIdeal.τ).loc Cert.SbRefIdeal.main_v56) = v3 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2))

def preserves_Prep_PrepIdeal : Prop :=
  True

def algebraic_PrepIdeal_PrepRefIdeal_pre_prep_finite [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)
      ∧ m' ((c.tc : Thread Cert.PrepRefIdeal.nD Cert.PrepRefIdeal.τ).loc Cert.PrepRefIdeal.main_arg11) = m ((c.tc : Thread Cert.PrepIdeal.nD Cert.PrepIdeal.τ).loc Cert.PrepIdeal.main_arg11)
      ∧ m' ((c.tc : Thread Cert.PrepRefIdeal.nD Cert.PrepRefIdeal.τ).loc Cert.PrepRefIdeal.main_arg12) = m ((c.tc : Thread Cert.PrepIdeal.nD Cert.PrepIdeal.τ).loc Cert.PrepIdeal.main_arg12)
      ∧ m' ((c.tc : Thread Cert.PrepRefIdeal.nD Cert.PrepRefIdeal.τ).loc Cert.PrepRefIdeal.main_arg13) = m ((c.tc : Thread Cert.PrepIdeal.nD Cert.PrepIdeal.τ).loc Cert.PrepIdeal.main_arg13)
      ∧ m' ((c.tc : Thread Cert.PrepRefIdeal.nD Cert.PrepRefIdeal.τ).loc Cert.PrepRefIdeal.main_arg14) = m ((c.tc : Thread Cert.PrepIdeal.nD Cert.PrepIdeal.τ).loc Cert.PrepIdeal.main_arg14)
      ∧ m' ((c.tc : Thread Cert.PrepRefIdeal.nD Cert.PrepRefIdeal.τ).loc Cert.PrepRefIdeal.main_arg15) = m ((c.tc : Thread Cert.PrepIdeal.nD Cert.PrepIdeal.τ).loc Cert.PrepIdeal.main_arg15)
      ∧ m' ((c.tc : Thread Cert.PrepRefIdeal.nD Cert.PrepRefIdeal.τ).loc Cert.PrepRefIdeal.main_arg16) = m ((c.tc : Thread Cert.PrepIdeal.nD Cert.PrepIdeal.τ).loc Cert.PrepIdeal.main_arg16)) →
    ∃ (v0 : (c : Dev Cert.PrepIdeal.nD) → Buf (Elt Ideal) ((c.tc : Thread Cert.PrepIdeal.nD Cert.PrepIdeal.τ).loc Cert.PrepIdeal.main_v27_0)) (v1 : (c : Dev Cert.PrepIdeal.nD) → Buf (Elt Ideal) ((c.tc : Thread Cert.PrepIdeal.nD Cert.PrepIdeal.τ).loc Cert.PrepIdeal.main_v28)) (v2 : (c : Dev Cert.PrepIdeal.nD) → Buf (Elt Ideal) ((c.tc : Thread Cert.PrepIdeal.nD Cert.PrepIdeal.τ).loc Cert.PrepIdeal.main_v29)) (v3 : (c : Dev Cert.PrepIdeal.nD) → Buf (Elt Ideal) ((c.tc : Thread Cert.PrepIdeal.nD Cert.PrepIdeal.τ).loc Cert.PrepIdeal.main_v30)) (v4 : (c : Dev Cert.PrepIdeal.nD) → Buf (Elt Ideal) ((c.tc : Thread Cert.PrepIdeal.nD Cert.PrepIdeal.τ).loc Cert.PrepIdeal.main_v31)) (v5 : (c : Dev Cert.PrepIdeal.nD) → Buf (Elt Ideal) ((c.tc : Thread Cert.PrepIdeal.nD Cert.PrepIdeal.τ).loc Cert.PrepIdeal.main_v32)) (v6 : (c : Dev Cert.PrepIdeal.nD) → Buf (Elt Ideal) ((c.tc : Thread Cert.PrepIdeal.nD Cert.PrepIdeal.τ).loc Cert.PrepIdeal.main_v27_6)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v27_0) = v0 c
          ∧ r.2.mem ((c.tc : Thread Cert.PrepIdeal.nD Cert.PrepIdeal.τ).loc Cert.PrepIdeal.main_v28) = v1 c
          ∧ r.2.mem ((c.tc : Thread Cert.PrepIdeal.nD Cert.PrepIdeal.τ).loc Cert.PrepIdeal.main_v29) = v2 c
          ∧ r.2.mem ((c.tc : Thread Cert.PrepIdeal.nD Cert.PrepIdeal.τ).loc Cert.PrepIdeal.main_v30) = v3 c
          ∧ r.2.mem ((c.tc : Thread Cert.PrepIdeal.nD Cert.PrepIdeal.τ).loc Cert.PrepIdeal.main_v31) = v4 c
          ∧ r.2.mem ((c.tc : Thread Cert.PrepIdeal.nD Cert.PrepIdeal.τ).loc Cert.PrepIdeal.main_v32) = v5 c
          ∧ r.2.mem ((c.tc : Thread Cert.PrepIdeal.nD Cert.PrepIdeal.τ).loc Cert.PrepIdeal.main_v27_6) = v6 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
          ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
          ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
          ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
          ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15)
          ∧ r.2.mem ((c.tc : Thread Cert.PrepIdeal.nD Cert.PrepIdeal.τ).loc Cert.PrepIdeal.main_arg16) = m ((c.tc : Thread Cert.PrepIdeal.nD Cert.PrepIdeal.τ).loc Cert.PrepIdeal.main_arg16))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v105) = v0 c
          ∧ r.2.mem ((c.tc : Thread Cert.PrepRefIdeal.nD Cert.PrepRefIdeal.τ).loc Cert.PrepRefIdeal.main_v95) = v1 c
          ∧ r.2.mem ((c.tc : Thread Cert.PrepRefIdeal.nD Cert.PrepRefIdeal.τ).loc Cert.PrepRefIdeal.main_v84) = v2 c
          ∧ r.2.mem ((c.tc : Thread Cert.PrepRefIdeal.nD Cert.PrepRefIdeal.τ).loc Cert.PrepRefIdeal.main_v86) = v3 c
          ∧ r.2.mem ((c.tc : Thread Cert.PrepRefIdeal.nD Cert.PrepRefIdeal.τ).loc Cert.PrepRefIdeal.main_v75) = v4 c
          ∧ r.2.mem ((c.tc : Thread Cert.PrepRefIdeal.nD Cert.PrepRefIdeal.τ).loc Cert.PrepRefIdeal.main_v77) = v5 c
          ∧ r.2.mem ((c.tc : Thread Cert.PrepRefIdeal.nD Cert.PrepRefIdeal.τ).loc Cert.PrepRefIdeal.main_v69) = v6 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10)
          ∧ r.2.mem ((c.tc : Thread Cert.PrepRefIdeal.nD Cert.PrepRefIdeal.τ).loc Cert.PrepRefIdeal.main_arg11) = m' ((c.tc : Thread Cert.PrepRefIdeal.nD Cert.PrepRefIdeal.τ).loc Cert.PrepRefIdeal.main_arg11)
          ∧ r.2.mem ((c.tc : Thread Cert.PrepRefIdeal.nD Cert.PrepRefIdeal.τ).loc Cert.PrepRefIdeal.main_arg12) = m' ((c.tc : Thread Cert.PrepRefIdeal.nD Cert.PrepRefIdeal.τ).loc Cert.PrepRefIdeal.main_arg12)
          ∧ r.2.mem ((c.tc : Thread Cert.PrepRefIdeal.nD Cert.PrepRefIdeal.τ).loc Cert.PrepRefIdeal.main_arg13) = m' ((c.tc : Thread Cert.PrepRefIdeal.nD Cert.PrepRefIdeal.τ).loc Cert.PrepRefIdeal.main_arg13)
          ∧ r.2.mem ((c.tc : Thread Cert.PrepRefIdeal.nD Cert.PrepRefIdeal.τ).loc Cert.PrepRefIdeal.main_arg14) = m' ((c.tc : Thread Cert.PrepRefIdeal.nD Cert.PrepRefIdeal.τ).loc Cert.PrepRefIdeal.main_arg14)
          ∧ r.2.mem ((c.tc : Thread Cert.PrepRefIdeal.nD Cert.PrepRefIdeal.τ).loc Cert.PrepRefIdeal.main_arg15) = m' ((c.tc : Thread Cert.PrepRefIdeal.nD Cert.PrepRefIdeal.τ).loc Cert.PrepRefIdeal.main_arg15)
          ∧ r.2.mem ((c.tc : Thread Cert.PrepRefIdeal.nD Cert.PrepRefIdeal.τ).loc Cert.PrepRefIdeal.main_arg16) = m' ((c.tc : Thread Cert.PrepRefIdeal.nD Cert.PrepRefIdeal.τ).loc Cert.PrepRefIdeal.main_arg16))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_v5) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)
      ∧ m' ((c.tc : Thread Cert.ProjOutRefIdeal.nD Cert.ProjOutRefIdeal.τ).loc Cert.ProjOutRefIdeal.main_arg3) = m ((c.tc : Thread Cert.ProjOutIdeal.nD Cert.ProjOutIdeal.τ).loc Cert.ProjOutIdeal.main_arg3)) →
    ∃ (v0 : (c : Dev Cert.ProjOutIdeal.nD) → Buf (Elt Ideal) ((c.tc : Thread Cert.ProjOutIdeal.nD Cert.ProjOutIdeal.τ).loc Cert.ProjOutIdeal.main_v0_0)) (v1 : (c : Dev Cert.ProjOutIdeal.nD) → Buf (Elt Ideal) ((c.tc : Thread Cert.ProjOutIdeal.nD Cert.ProjOutIdeal.τ).loc Cert.ProjOutIdeal.main_v0_1)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0_0) = v0 c
          ∧ r.2.mem ((c.tc : Thread Cert.ProjOutIdeal.nD Cert.ProjOutIdeal.τ).loc Cert.ProjOutIdeal.main_v0_1) = v1 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v3) = v0 c
          ∧ r.2.mem ((c.tc : Thread Cert.ProjOutRefIdeal.nD Cert.ProjOutRefIdeal.τ).loc Cert.ProjOutRefIdeal.main_v18) = v1 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2)
          ∧ r.2.mem ((c.tc : Thread Cert.ProjOutRefIdeal.nD Cert.ProjOutRefIdeal.τ).loc Cert.ProjOutRefIdeal.main_arg3) = m' ((c.tc : Thread Cert.ProjOutRefIdeal.nD Cert.ProjOutRefIdeal.τ).loc Cert.ProjOutRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v2) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)) →
    ∃ (v0 : (c : Dev Cert.Norm1Ideal.nD) → Buf (Elt Ideal) ((c.tc : Thread Cert.Norm1Ideal.nD Cert.Norm1Ideal.τ).loc Cert.Norm1Ideal.main_v0)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v0) = v0 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v14) = v0 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1))

def preserves_PrepFwd_PrepFwdIdeal : Prop :=
  True

def algebraic_PrepFwdIdeal_PrepFwdRefIdeal [hPrepFwdIdeal : Cert.PrepFwdIdeal.Facts] [hPrepFwdRefIdeal : Cert.PrepFwdRefIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)
      ∧ m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2)
      ∧ m' ((c.tc : Thread Cert.PrepFwdRefIdeal.nD Cert.PrepFwdRefIdeal.τ).loc Cert.PrepFwdRefIdeal.main_arg3) = m ((c.tc : Thread Cert.PrepFwdIdeal.nD Cert.PrepFwdIdeal.τ).loc Cert.PrepFwdIdeal.main_arg3)
      ∧ m' ((c.tc : Thread Cert.PrepFwdRefIdeal.nD Cert.PrepFwdRefIdeal.τ).loc Cert.PrepFwdRefIdeal.main_arg4) = m ((c.tc : Thread Cert.PrepFwdIdeal.nD Cert.PrepFwdIdeal.τ).loc Cert.PrepFwdIdeal.main_arg4)
      ∧ m' ((c.tc : Thread Cert.PrepFwdRefIdeal.nD Cert.PrepFwdRefIdeal.τ).loc Cert.PrepFwdRefIdeal.main_arg5) = m ((c.tc : Thread Cert.PrepFwdIdeal.nD Cert.PrepFwdIdeal.τ).loc Cert.PrepFwdIdeal.main_arg5)
      ∧ m' ((c.tc : Thread Cert.PrepFwdRefIdeal.nD Cert.PrepFwdRefIdeal.τ).loc Cert.PrepFwdRefIdeal.main_arg6) = m ((c.tc : Thread Cert.PrepFwdIdeal.nD Cert.PrepFwdIdeal.τ).loc Cert.PrepFwdIdeal.main_arg6)) →
    ∃ (v0 : (c : Dev Cert.PrepFwdIdeal.nD) → Buf (Elt Ideal) ((c.tc : Thread Cert.PrepFwdIdeal.nD Cert.PrepFwdIdeal.τ).loc Cert.PrepFwdIdeal.main_v10_0)) (v1 : (c : Dev Cert.PrepFwdIdeal.nD) → Buf (Elt Ideal) ((c.tc : Thread Cert.PrepFwdIdeal.nD Cert.PrepFwdIdeal.τ).loc Cert.PrepFwdIdeal.main_v10_1)) (v2 : (c : Dev Cert.PrepFwdIdeal.nD) → Buf (Elt Ideal) ((c.tc : Thread Cert.PrepFwdIdeal.nD Cert.PrepFwdIdeal.τ).loc Cert.PrepFwdIdeal.main_v10_2)) (v3 : (c : Dev Cert.PrepFwdIdeal.nD) → Buf (Elt Ideal) ((c.tc : Thread Cert.PrepFwdIdeal.nD Cert.PrepFwdIdeal.τ).loc Cert.PrepFwdIdeal.main_v10_3)) (v4 : (c : Dev Cert.PrepFwdIdeal.nD) → Buf (Elt Ideal) ((c.tc : Thread Cert.PrepFwdIdeal.nD Cert.PrepFwdIdeal.τ).loc Cert.PrepFwdIdeal.main_v10_4)) (v5 : (c : Dev Cert.PrepFwdIdeal.nD) → Buf (Elt Ideal) ((c.tc : Thread Cert.PrepFwdIdeal.nD Cert.PrepFwdIdeal.τ).loc Cert.PrepFwdIdeal.main_v10_5)) (v6 : (c : Dev Cert.PrepFwdIdeal.nD) → Buf (Elt Ideal) ((c.tc : Thread Cert.PrepFwdIdeal.nD Cert.PrepFwdIdeal.τ).loc Cert.PrepFwdIdeal.main_v10_6)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v10_0) = v0 c
          ∧ r.2.mem ((c.tc : Thread Cert.PrepFwdIdeal.nD Cert.PrepFwdIdeal.τ).loc Cert.PrepFwdIdeal.main_v10_1) = v1 c
          ∧ r.2.mem ((c.tc : Thread Cert.PrepFwdIdeal.nD Cert.PrepFwdIdeal.τ).loc Cert.PrepFwdIdeal.main_v10_2) = v2 c
          ∧ r.2.mem ((c.tc : Thread Cert.PrepFwdIdeal.nD Cert.PrepFwdIdeal.τ).loc Cert.PrepFwdIdeal.main_v10_3) = v3 c
          ∧ r.2.mem ((c.tc : Thread Cert.PrepFwdIdeal.nD Cert.PrepFwdIdeal.τ).loc Cert.PrepFwdIdeal.main_v10_4) = v4 c
          ∧ r.2.mem ((c.tc : Thread Cert.PrepFwdIdeal.nD Cert.PrepFwdIdeal.τ).loc Cert.PrepFwdIdeal.main_v10_5) = v5 c
          ∧ r.2.mem ((c.tc : Thread Cert.PrepFwdIdeal.nD Cert.PrepFwdIdeal.τ).loc Cert.PrepFwdIdeal.main_v10_6) = v6 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
          ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
          ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4)
          ∧ r.2.mem ((c.tc : Thread Cert.PrepFwdIdeal.nD Cert.PrepFwdIdeal.τ).loc Cert.PrepFwdIdeal.main_arg5) = m ((c.tc : Thread Cert.PrepFwdIdeal.nD Cert.PrepFwdIdeal.τ).loc Cert.PrepFwdIdeal.main_arg5)
          ∧ r.2.mem ((c.tc : Thread Cert.PrepFwdIdeal.nD Cert.PrepFwdIdeal.τ).loc Cert.PrepFwdIdeal.main_arg6) = m ((c.tc : Thread Cert.PrepFwdIdeal.nD Cert.PrepFwdIdeal.τ).loc Cert.PrepFwdIdeal.main_arg6))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v58) = v0 c
          ∧ r.2.mem ((c.tc : Thread Cert.PrepFwdRefIdeal.nD Cert.PrepFwdRefIdeal.τ).loc Cert.PrepFwdRefIdeal.main_v59) = v1 c
          ∧ r.2.mem ((c.tc : Thread Cert.PrepFwdRefIdeal.nD Cert.PrepFwdRefIdeal.τ).loc Cert.PrepFwdRefIdeal.main_v60) = v2 c
          ∧ r.2.mem ((c.tc : Thread Cert.PrepFwdRefIdeal.nD Cert.PrepFwdRefIdeal.τ).loc Cert.PrepFwdRefIdeal.main_v61) = v3 c
          ∧ r.2.mem ((c.tc : Thread Cert.PrepFwdRefIdeal.nD Cert.PrepFwdRefIdeal.τ).loc Cert.PrepFwdRefIdeal.main_v62) = v4 c
          ∧ r.2.mem ((c.tc : Thread Cert.PrepFwdRefIdeal.nD Cert.PrepFwdRefIdeal.τ).loc Cert.PrepFwdRefIdeal.main_v63) = v5 c
          ∧ r.2.mem ((c.tc : Thread Cert.PrepFwdRefIdeal.nD Cert.PrepFwdRefIdeal.τ).loc Cert.PrepFwdRefIdeal.main_v57) = v6 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1)
          ∧ r.2.mem ((c.tc : Thread Cert.PrepFwdRefIdeal.nD Cert.PrepFwdRefIdeal.τ).loc Cert.PrepFwdRefIdeal.main_arg2) = m' ((c.tc : Thread Cert.PrepFwdRefIdeal.nD Cert.PrepFwdRefIdeal.τ).loc Cert.PrepFwdRefIdeal.main_arg2)
          ∧ r.2.mem ((c.tc : Thread Cert.PrepFwdRefIdeal.nD Cert.PrepFwdRefIdeal.τ).loc Cert.PrepFwdRefIdeal.main_arg3) = m' ((c.tc : Thread Cert.PrepFwdRefIdeal.nD Cert.PrepFwdRefIdeal.τ).loc Cert.PrepFwdRefIdeal.main_arg3)
          ∧ r.2.mem ((c.tc : Thread Cert.PrepFwdRefIdeal.nD Cert.PrepFwdRefIdeal.τ).loc Cert.PrepFwdRefIdeal.main_arg4) = m' ((c.tc : Thread Cert.PrepFwdRefIdeal.nD Cert.PrepFwdRefIdeal.τ).loc Cert.PrepFwdRefIdeal.main_arg4)
          ∧ r.2.mem ((c.tc : Thread Cert.PrepFwdRefIdeal.nD Cert.PrepFwdRefIdeal.τ).loc Cert.PrepFwdRefIdeal.main_arg5) = m' ((c.tc : Thread Cert.PrepFwdRefIdeal.nD Cert.PrepFwdRefIdeal.τ).loc Cert.PrepFwdRefIdeal.main_arg5)
          ∧ r.2.mem ((c.tc : Thread Cert.PrepFwdRefIdeal.nD Cert.PrepFwdRefIdeal.τ).loc Cert.PrepFwdRefIdeal.main_arg6) = m' ((c.tc : Thread Cert.PrepFwdRefIdeal.nD Cert.PrepFwdRefIdeal.τ).loc Cert.PrepFwdRefIdeal.main_arg6))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v2) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_DYcat_DYcatIdeal : Prop :=
  True

def algebraic_DYcatIdeal_DYcatRefIdeal [hDYcatIdeal : Cert.DYcatIdeal.Facts] [hDYcatRefIdeal : Cert.DYcatRefIdeal.Facts] : Prop :=
  ∀ (m : (ℓ : Loc Cert.DYcatIdeal.nD Cert.DYcatIdeal.τ Cert.DYcatIdeal.sig) → Buf (Elt Ideal) ℓ) (g : Dev Cert.DYcatIdeal.nD → PrngReg)
    (m' : (ℓ : Loc Cert.DYcatRefIdeal.nD Cert.DYcatRefIdeal.τ Cert.DYcatRefIdeal.sig) → Buf (Elt Ideal) ℓ) (g' : Dev Cert.DYcatRefIdeal.nD → PrngReg), Pre_DYcatIdeal m →
    (∀ c : Dev Cert.DYcatIdeal.nD,
      m' ((c.tc : Thread Cert.DYcatRefIdeal.nD Cert.DYcatRefIdeal.τ).loc Cert.DYcatRefIdeal.main_arg0) = m ((c.tc : Thread Cert.DYcatIdeal.nD Cert.DYcatIdeal.τ).loc Cert.DYcatIdeal.main_arg0)
      ∧ m' ((c.tc : Thread Cert.DYcatRefIdeal.nD Cert.DYcatRefIdeal.τ).loc Cert.DYcatRefIdeal.main_arg1) = m ((c.tc : Thread Cert.DYcatIdeal.nD Cert.DYcatIdeal.τ).loc Cert.DYcatIdeal.main_arg1)) →
    ∃ (v0 : (c : Dev Cert.DYcatIdeal.nD) → Buf (Elt Ideal) ((c.tc : Thread Cert.DYcatIdeal.nD Cert.DYcatIdeal.τ).loc Cert.DYcatIdeal.main_v0)),
      θ_run (Cert.DYcatIdeal.defs (F := Ideal)) (onTc (τ := Cert.DYcatIdeal.τ) (Cert.DYcatIdeal.main (F := Ideal))) ⟨m, fun _ => 0, g⟩ (fun r => ∀ c : Dev Cert.DYcatIdeal.nD,
          r.2.mem ((c.tc : Thread Cert.DYcatIdeal.nD Cert.DYcatIdeal.τ).loc Cert.DYcatIdeal.main_v0) = v0 c
          ∧ r.2.mem ((c.tc : Thread Cert.DYcatIdeal.nD Cert.DYcatIdeal.τ).loc Cert.DYcatIdeal.main_arg0) = m ((c.tc : Thread Cert.DYcatIdeal.nD Cert.DYcatIdeal.τ).loc Cert.DYcatIdeal.main_arg0)
          ∧ r.2.mem ((c.tc : Thread Cert.DYcatIdeal.nD Cert.DYcatIdeal.τ).loc Cert.DYcatIdeal.main_arg1) = m ((c.tc : Thread Cert.DYcatIdeal.nD Cert.DYcatIdeal.τ).loc Cert.DYcatIdeal.main_arg1))
      ∧ θ_run (Cert.DYcatRefIdeal.defs (F := Ideal)) (onTc (τ := Cert.DYcatRefIdeal.τ) (Cert.DYcatRefIdeal.main (F := Ideal))) ⟨m', fun _ => 0, g'⟩ (fun r => ∀ c : Dev Cert.DYcatRefIdeal.nD,
          r.2.mem ((c.tc : Thread Cert.DYcatRefIdeal.nD Cert.DYcatRefIdeal.τ).loc Cert.DYcatRefIdeal.main_v4) = v0 c
          ∧ r.2.mem ((c.tc : Thread Cert.DYcatRefIdeal.nD Cert.DYcatRefIdeal.τ).loc Cert.DYcatRefIdeal.main_arg0) = m' ((c.tc : Thread Cert.DYcatRefIdeal.nD Cert.DYcatRefIdeal.τ).loc Cert.DYcatRefIdeal.main_arg0)
          ∧ r.2.mem ((c.tc : Thread Cert.DYcatRefIdeal.nD Cert.DYcatRefIdeal.τ).loc Cert.DYcatRefIdeal.main_arg1) = m' ((c.tc : Thread Cert.DYcatRefIdeal.nD Cert.DYcatRefIdeal.τ).loc Cert.DYcatRefIdeal.main_arg1))

def preserves_DWDown_DWDownIdeal : Prop :=
  True

def algebraic_DWDownIdeal_DWDownRefIdeal [hDWDownIdeal : Cert.DWDownIdeal.Facts] [hDWDownRefIdeal : Cert.DWDownRefIdeal.Facts] : Prop :=
  ∀ (m : (ℓ : Loc Cert.DWDownIdeal.nD Cert.DWDownIdeal.τ Cert.DWDownIdeal.sig) → Buf (Elt Ideal) ℓ) (g : Dev Cert.DWDownIdeal.nD → PrngReg)
    (m' : (ℓ : Loc Cert.DWDownRefIdeal.nD Cert.DWDownRefIdeal.τ Cert.DWDownRefIdeal.sig) → Buf (Elt Ideal) ℓ) (g' : Dev Cert.DWDownRefIdeal.nD → PrngReg), Pre_DWDownIdeal m →
    (∀ c : Dev Cert.DWDownIdeal.nD,
      m' ((c.tc : Thread Cert.DWDownRefIdeal.nD Cert.DWDownRefIdeal.τ).loc Cert.DWDownRefIdeal.main_arg0) = m ((c.tc : Thread Cert.DWDownIdeal.nD Cert.DWDownIdeal.τ).loc Cert.DWDownIdeal.main_arg0)
      ∧ m' ((c.tc : Thread Cert.DWDownRefIdeal.nD Cert.DWDownRefIdeal.τ).loc Cert.DWDownRefIdeal.main_arg1) = m ((c.tc : Thread Cert.DWDownIdeal.nD Cert.DWDownIdeal.τ).loc Cert.DWDownIdeal.main_arg1)) →
    ∃ (v0 : (c : Dev Cert.DWDownIdeal.nD) → Buf (Elt Ideal) ((c.tc : Thread Cert.DWDownIdeal.nD Cert.DWDownIdeal.τ).loc Cert.DWDownIdeal.main_v0)),
      θ_run (Cert.DWDownIdeal.defs (F := Ideal)) (onTc (τ := Cert.DWDownIdeal.τ) (Cert.DWDownIdeal.main (F := Ideal))) ⟨m, fun _ => 0, g⟩ (fun r => ∀ c : Dev Cert.DWDownIdeal.nD,
          r.2.mem ((c.tc : Thread Cert.DWDownIdeal.nD Cert.DWDownIdeal.τ).loc Cert.DWDownIdeal.main_v0) = v0 c
          ∧ r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
          ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ θ_run (Cert.DWDownRefIdeal.defs (F := Ideal)) (onTc (τ := Cert.DWDownRefIdeal.τ) (Cert.DWDownRefIdeal.main (F := Ideal))) ⟨m', fun _ => 0, g'⟩ (fun r => ∀ c : Dev Cert.DWDownRefIdeal.nD,
          r.2.mem ((c.tc : Thread Cert.DWDownRefIdeal.nD Cert.DWDownRefIdeal.τ).loc Cert.DWDownRefIdeal.main_v6) = v0 c
          ∧ r.2.mem ((c.tc : Thread Cert.DWDownRefIdeal.nD Cert.DWDownRefIdeal.τ).loc Cert.DWDownRefIdeal.main_arg0) = m' ((c.tc : Thread Cert.DWDownRefIdeal.nD Cert.DWDownRefIdeal.τ).loc Cert.DWDownRefIdeal.main_arg0)
          ∧ r.2.mem ((c.tc : Thread Cert.DWDownRefIdeal.nD Cert.DWDownRefIdeal.τ).loc Cert.DWDownRefIdeal.main_arg1) = m' ((c.tc : Thread Cert.DWDownRefIdeal.nD Cert.DWDownRefIdeal.τ).loc Cert.DWDownRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hDAct : Cert.DAct.Facts) (hDActIdeal : Cert.DActIdeal.Facts) (hDActRefIdeal : Cert.DActRefIdeal.Facts) (hDH2 : Cert.DH2.Facts) (hDH2Ideal : Cert.DH2Ideal.Facts) (hDH2RefIdeal : Cert.DH2RefIdeal.Facts) (hLoss : Cert.Loss.Facts) (hLossIdeal : Cert.LossIdeal.Facts) (hLossRefIdeal : Cert.LossRefIdeal.Facts) (hDH1 : Cert.DH1.Facts) (hDH1Ideal : Cert.DH1Ideal.Facts) (hDH1RefIdeal : Cert.DH1RefIdeal.Facts) (hSb : Cert.Sb.Facts) (hSbIdeal : Cert.SbIdeal.Facts) (hSbRefIdeal : Cert.SbRefIdeal.Facts) (hPrep : Cert.Prep.Facts) (hPrepIdeal : Cert.PrepIdeal.Facts) (hPrepRefIdeal : Cert.PrepRefIdeal.Facts) (hUp : Cert.Up.Facts) (hUpIdeal : Cert.UpIdeal.Facts) (hUpRefIdeal : Cert.UpRefIdeal.Facts) (hProjOut : Cert.ProjOut.Facts) (hProjOutIdeal : Cert.ProjOutIdeal.Facts) (hProjOutRefIdeal : Cert.ProjOutRefIdeal.Facts) (hMix : Cert.Mix.Facts) (hMixIdeal : Cert.MixIdeal.Facts) (hMixRefIdeal : Cert.MixRefIdeal.Facts) (hNorm1 : Cert.Norm1.Facts) (hNorm1Ideal : Cert.Norm1Ideal.Facts) (hNorm1RefIdeal : Cert.Norm1RefIdeal.Facts) (hPrepFwd : Cert.PrepFwd.Facts) (hPrepFwdIdeal : Cert.PrepFwdIdeal.Facts) (hPrepFwdRefIdeal : Cert.PrepFwdRefIdeal.Facts) (hProjIn : Cert.ProjIn.Facts) (hProjInIdeal : Cert.ProjInIdeal.Facts) (hProjInRefIdeal : Cert.ProjInRefIdeal.Facts) (hDYcat : Cert.DYcat.Facts) (hDYcatIdeal : Cert.DYcatIdeal.Facts) (hDYcatRefIdeal : Cert.DYcatRefIdeal.Facts) (hDWDown : Cert.DWDown.Facts) (hDWDownIdeal : Cert.DWDownIdeal.Facts) (hDWDownRefIdeal : Cert.DWDownRefIdeal.Facts) (hAdam : Cert.Adam.Facts) (hAdamIdeal : Cert.AdamIdeal.Facts) (hAdamRefIdeal : Cert.AdamRefIdeal.Facts) (hPre_sb_finite : Cert.Pre_sb_finite.Facts) (hPre_prep_finite : Cert.Pre_prep_finite.Facts),
    quiescent_DAct (hDAct := hDAct)
    ∧ quiescent_DActIdeal (hDActIdeal := hDActIdeal)
    ∧ quiescent_DActRefIdeal (hDActRefIdeal := hDActRefIdeal)
    ∧ quiescent_DH2 (hDH2 := hDH2)
    ∧ quiescent_DH2Ideal (hDH2Ideal := hDH2Ideal)
    ∧ quiescent_DH2RefIdeal (hDH2RefIdeal := hDH2RefIdeal)
    ∧ quiescent_Loss (hLoss := hLoss)
    ∧ quiescent_LossIdeal (hLossIdeal := hLossIdeal)
    ∧ quiescent_LossRefIdeal (hLossRefIdeal := hLossRefIdeal)
    ∧ quiescent_DH1 (hDH1 := hDH1)
    ∧ quiescent_DH1Ideal (hDH1Ideal := hDH1Ideal)
    ∧ quiescent_DH1RefIdeal (hDH1RefIdeal := hDH1RefIdeal)
    ∧ quiescent_Sb (hSb := hSb)
    ∧ quiescent_SbIdeal (hSbIdeal := hSbIdeal)
    ∧ quiescent_SbIdeal_pre_sb_finite (hSbIdeal := hSbIdeal) (hPre_sb_finite := hPre_sb_finite)
    ∧ quiescent_SbRefIdeal (hSbRefIdeal := hSbRefIdeal)
    ∧ quiescent_SbRefIdeal_pre_sb_finite (hSbRefIdeal := hSbRefIdeal) (hPre_sb_finite := hPre_sb_finite)
    ∧ quiescent_Prep (hPrep := hPrep)
    ∧ quiescent_PrepIdeal (hPrepIdeal := hPrepIdeal)
    ∧ quiescent_PrepIdeal_pre_prep_finite (hPrepIdeal := hPrepIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ quiescent_Up (hUp := hUp)
    ∧ quiescent_UpIdeal (hUpIdeal := hUpIdeal)
    ∧ quiescent_UpRefIdeal (hUpRefIdeal := hUpRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_Mix (hMix := hMix)
    ∧ quiescent_MixIdeal (hMixIdeal := hMixIdeal)
    ∧ quiescent_MixRefIdeal (hMixRefIdeal := hMixRefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_DYcat (hDYcat := hDYcat)
    ∧ quiescent_DYcatIdeal (hDYcatIdeal := hDYcatIdeal)
    ∧ quiescent_DYcatRefIdeal (hDYcatRefIdeal := hDYcatRefIdeal)
    ∧ quiescent_DWDown (hDWDown := hDWDown)
    ∧ quiescent_DWDownIdeal (hDWDownIdeal := hDWDownIdeal)
    ∧ quiescent_DWDownRefIdeal (hDWDownRefIdeal := hDWDownRefIdeal)
    ∧ quiescent_Adam (hAdam := hAdam)
    ∧ quiescent_AdamIdeal (hAdamIdeal := hAdamIdeal)
    ∧ quiescent_AdamRefIdeal (hAdamRefIdeal := hAdamRefIdeal)
    ∧ preserves_DAct_DActIdeal
    ∧ algebraic_DActIdeal_DActRefIdeal (hDActIdeal := hDActIdeal) (hDActRefIdeal := hDActRefIdeal)
    ∧ preserves_DH2_DH2Ideal
    ∧ algebraic_DH2Ideal_DH2RefIdeal (hDH2Ideal := hDH2Ideal) (hDH2RefIdeal := hDH2RefIdeal)
    ∧ preserves_Loss_LossIdeal
    ∧ algebraic_LossIdeal_LossRefIdeal (hLossIdeal := hLossIdeal) (hLossRefIdeal := hLossRefIdeal)
    ∧ preserves_DH1_DH1Ideal
    ∧ algebraic_DH1Ideal_DH1RefIdeal (hDH1Ideal := hDH1Ideal) (hDH1RefIdeal := hDH1RefIdeal)
    ∧ preserves_Sb_SbIdeal
    ∧ algebraic_SbIdeal_SbRefIdeal_pre_sb_finite (hSbIdeal := hSbIdeal) (hSbRefIdeal := hSbRefIdeal) (hPre_sb_finite := hPre_sb_finite)
    ∧ preserves_Prep_PrepIdeal
    ∧ algebraic_PrepIdeal_PrepRefIdeal_pre_prep_finite (hPrepIdeal := hPrepIdeal) (hPrepRefIdeal := hPrepRefIdeal) (hPre_prep_finite := hPre_prep_finite)
    ∧ preserves_Up_UpIdeal
    ∧ algebraic_UpIdeal_UpRefIdeal (hUpIdeal := hUpIdeal) (hUpRefIdeal := hUpRefIdeal)
    ∧ preserves_ProjOut_ProjOutIdeal
    ∧ algebraic_ProjOutIdeal_ProjOutRefIdeal (hProjOutIdeal := hProjOutIdeal) (hProjOutRefIdeal := hProjOutRefIdeal)
    ∧ preserves_Mix_MixIdeal
    ∧ algebraic_MixIdeal_MixRefIdeal (hMixIdeal := hMixIdeal) (hMixRefIdeal := hMixRefIdeal)
    ∧ preserves_Norm1_Norm1Ideal
    ∧ algebraic_Norm1Ideal_Norm1RefIdeal (hNorm1Ideal := hNorm1Ideal) (hNorm1RefIdeal := hNorm1RefIdeal)
    ∧ preserves_PrepFwd_PrepFwdIdeal
    ∧ algebraic_PrepFwdIdeal_PrepFwdRefIdeal (hPrepFwdIdeal := hPrepFwdIdeal) (hPrepFwdRefIdeal := hPrepFwdRefIdeal)
    ∧ preserves_ProjIn_ProjInIdeal
    ∧ algebraic_ProjInIdeal_ProjInRefIdeal (hProjInIdeal := hProjInIdeal) (hProjInRefIdeal := hProjInRefIdeal)
    ∧ preserves_DYcat_DYcatIdeal
    ∧ algebraic_DYcatIdeal_DYcatRefIdeal (hDYcatIdeal := hDYcatIdeal) (hDYcatRefIdeal := hDYcatRefIdeal)
    ∧ preserves_DWDown_DWDownIdeal
    ∧ algebraic_DWDownIdeal_DWDownRefIdeal (hDWDownIdeal := hDWDownIdeal) (hDWDownRefIdeal := hDWDownRefIdeal)
    ∧ preserves_Adam_AdamIdeal
    ∧ algebraic_AdamIdeal_AdamRefIdeal (hAdamIdeal := hAdamIdeal) (hAdamRefIdeal := hAdamRefIdeal)
-- ==== Pre_prep_finite.lean ====
abbrev S4x2048x3328 : Shape := ⟨3, ![4, 2048, 3328]⟩
abbrev S4x2048x512 : Shape := ⟨3, ![4, 2048, 512]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S4x2048x1024 : Shape := ⟨3, ![4, 2048, 1024]⟩
abbrev S_ : Shape := ⟨0, ![]⟩

class Facts : Prop where
  bcast_S_S4x2048x3328 : S_.BroadcastsInDim S4x2048x3328 (![] : Fin 0 → Fin S4x2048x3328.rank)
  reducesTo_S4x2048x3328_S_d0_1_2 : S4x2048x3328.ReducesTo [0, 1, 2] S_
  h_S_ : 0 < S_.numel
  bcast_S_S4x2048x512 : S_.BroadcastsInDim S4x2048x512 (![] : Fin 0 → Fin S4x2048x512.rank)
  reducesTo_S4x2048x512_S_d0_1_2 : S4x2048x512.ReducesTo [0, 1, 2] S_
  bcast_S_S1792 : S_.BroadcastsInDim S1792 (![] : Fin 0 → Fin S1792.rank)
  reducesTo_S1792_S_d0 : S1792.ReducesTo [0] S_
  bcast_S_S512 : S_.BroadcastsInDim S512 (![] : Fin 0 → Fin S512.rank)
  reducesTo_S512_S_d0 : S512.ReducesTo [0] S_
  bcast_S_S64x512 : S_.BroadcastsInDim S64x512 (![] : Fin 0 → Fin S64x512.rank)
  reducesTo_S64x512_S_d0_1 : S64x512.ReducesTo [0, 1] S_
  bcast_S_S128x512 : S_.BroadcastsInDim S128x512 (![] : Fin 0 → Fin S128x512.rank)
  reducesTo_S128x512_S_d0_1 : S128x512.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S4x2048x512 .f32) (main_arg12 : FVec F S4x2048x512 .f32) (main_arg13 : FVec F S4x2048x1024 .f32) (main_v48 : IVec S_ 1) (main_v49 : FVec F S4x2048x512 .f32) (main_v50 : FVec F S4x2048x512 .f32) : IVec S_ 1 :=
  let main_v51 : IVec S4x2048x512 1 := cmpf .olt main_v49 main_v50
  let main_c_19 : IVec S_ 1 := constantI S_ 1 1#1
  let main_v52 : IVec S_ 1 := (fun x v => Host.reduce IntOp.andi x v reducesTo_S4x2048x512_S_d0_1_2 h_S_) main_v51 main_c_19
  let main_v53 : IVec S_ 1 := andi main_v48 main_v52
  let main_v54 : FVec F S4x2048x512 .f32 := Host.absf main_arg11
  let main_cst_20 : FVec F S_ .f32 := constant S_ .f32 0x7F800000#32
  let main_v55 : FVec F S4x2048x512 .f32 := broadcastInDim S4x2048x512 ![] bcast_S_S4x2048x512 main_cst_20
  let main_v56 : IVec S4x2048x512 1 := cmpf .olt main_v54 main_v55
  let main_c_21 : IVec S_ 1 := constantI S_ 1 1#1
  let main_v57 : IVec S_ 1 := (fun x v => Host.reduce IntOp.andi x v reducesTo_S4x2048x512_S_d0_1_2 h_S_) main_v56 main_c_21
  let main_v58 : IVec S_ 1 := andi main_v53 main_v57
  let main_v59 : FVec F S4x2048x512 .f32 := Host.absf main_arg12
  let main_cst_22 : FVec F S_ .f32 := constant S_ .f32 0x7F800000#32
  let main_v60 : FVec F S4x2048x512 .f32 := broadcastInDim S4x2048x512 ![] bcast_S_S4x2048x512 main_cst_22
  let main_v61 : IVec S4x2048x512 1 := cmpf .olt main_v59 main_v60
  let main_c_23 : IVec S_ 1 := constantI S_ 1 1#1
  let main_v62 : IVec S_ 1 := (fun x v => Host.reduce IntOp.andi x v reducesTo_S4x2048x512_S_d0_1_2 h_S_) main_v61 main_c_23
  let main_v63 : IVec S_ 1 := andi main_v58 main_v62
  let main_v64 : FVec F S4x2048x1024 .f32 := Host.absf main_arg13
  let main_cst_24 : FVec F S_ .f32 := constant S_ .f32 0x7F800000#32
  let main_v65 : FVec F S4x2048x1024 .f32 := broadcastInDim S4x2048x1024 ![] bcast_S_S4x2048x1024 main_cst_24
  let main_v66 : IVec S4x2048x1024 1 := cmpf .olt main_v64 main_v65
  let main_c_25 : IVec S_ 1 := constantI S_ 1 1#1
  let main_v67 : IVec S_ 1 := (fun x v => Host.reduce IntOp.andi x v reducesTo_S4x2048x1024_S_d0_1_2 h_S_) main_v66 main_c_25
  fn_part4 (F := F) main_v63 main_v67

def fn_part2 {F : FTy → Type} [FloatOps F] (main_arg7 : FVec F S128x512 .f32) (main_arg8 : FVec F S4x2048x512 .f32) (main_arg9 : FVec F S4x2048x512 .f32) (main_arg10 : FVec F S4x2048x512 .f32) (main_arg11 : FVec F S4x2048x512 .f32) (main_arg12 : FVec F S4x2048x512 .f32) (main_arg13 : FVec F S4x2048x1024 .f32) (main_v33 : IVec S_ 1) : IVec S_ 1 :=
  let main_v34 : FVec F S128x512 .f32 := Host.absf main_arg7
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S4x2048x512 .f32 := Host.absf main_arg8
  let main_cst_14 : FVec F S_ .f32 := constant S_ .f32 0x7F800000#32
  let main_v40 : FVec F S4x2048x512 .f32 := broadcastInDim S4x2048x512 ![] bcast_S_S4x2048x512 main_cst_14
  let main_v41 : IVec S4x2048x512 1 := cmpf .olt main_v39 main_v40
  let main_c_15 : IVec S_ 1 := constantI S_ 1 1#1
  let main_v42 : IVec S_ 1 := (fun x v => Host.reduce IntOp.andi x v reducesTo_S4x2048x512_S_d0_1_2 h_S_) main_v41 main_c_15
  let main_v43 : IVec S_ 1 := andi main_v38 main_v42
  let main_v44 : FVec F S4x2048x512 .f32 := Host.absf main_arg9
  let main_cst_16 : FVec F S_ .f32 := constant S_ .f32 0x7F800000#32
  let main_v45 : FVec F S4x2048x512 .f32 := broadcastInDim S4x2048x512 ![] bcast_S_S4x2048x512 main_cst_16
  let main_v46 : IVec S4x2048x512 1 := cmpf .olt main_v44 main_v45
  let main_c_17 : IVec S_ 1 := constantI S_ 1 1#1
  let main_v47 : IVec S_ 1 := (fun x v => Host.reduce IntOp.andi x v reducesTo_S4x2048x512_S_d0_1_2 h_S_) main_v46 main_c_17
  let main_v48 : IVec S_ 1 := andi main_v43 main_v47
  let main_v49 : FVec F S4x2048x512 .f32 := Host.absf main_arg10
  let main_cst_18 : FVec F S_ .f32 := constant S_ .f32 0x7F800000#32
  let main_v50 : FVec F S4x2048x512 .f32 := broadcastInDim S4x2048x512 ![] bcast_S_S4x2048x512 main_cst_18
  fn_part3 (F := F) main_arg11 main_arg12 main_arg13 main_v48 main_v49 main_v50

def fn_part1 {F : FTy → Type} [FloatOps F] (main_arg4 : FVec F S64x512 .f32) (main_arg5 : FVec F S512 .f32) (main_arg6 : FVec F S64x512 .f32) (main_arg7 : FVec F S128x512 .f32) (main_arg8 : FVec F S4x2048x512 .f32) (main_arg9 : FVec F S4x2048x512 .f32) (main_arg10 : FVec F S4x2048x512 .f32) (main_arg11 : FVec F S4x2048x512 .f32) (main_arg12 : FVec F S4x2048x512 .f32) (main_arg13 : FVec F S4x2048x1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S64x512 .f32 := Host.absf main_arg4
  let main_cst_6 : FVec F S_ .f32 := constant S_ .f32 0x7F800000#32
  let main_v20 : FVec F S64x512 .f32 := broadcastInDim S64x512 ![] bcast_S_S64x512 main_cst_6
  let main_v21 : IVec S64x512 1 := cmpf .olt main_v19 main_v20
  let main_c_7 : IVec S_ 1 := constantI S_ 1 1#1
  let main_v22 : IVec S_ 1 := (fun x v => Host.reduce IntOp.andi x v reducesTo_S64x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S64x512 .f32 := Host.absf main_arg6
  let main_cst_10 : FVec F S_ .f32 := constant S_ .f32 0x7F800000#32
  let main_v30 : FVec F S64x512 .f32 := broadcastInDim S64x512 ![] bcast_S_S64x512 main_cst_10
  let main_v31 : IVec S64x512 1 := cmpf .olt main_v29 main_v30
  let main_c_11 : IVec S_ 1 := constantI S_ 1 1#1
  let main_v32 : IVec S_ 1 := (fun x v => Host.reduce IntOp.andi x v reducesTo_S64x512_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4x2048x3328 .f32) (main_arg1 : FVec F S4x2048x512 .f32) (main_arg2 : FVec F S1792 .f32) (main_arg3 : FVec F S512 .f32) (main_arg4 : FVec F S64x512 .f32) (main_arg5 : FVec F S512 .f32) (main_arg6 : FVec F S64x512 .f32) (main_arg7 : FVec F S128x512 .f32) (main_arg8 : FVec F S4x2048x512 .f32) (main_arg9 : FVec F S4x2048x512 .f32) (main_arg10 : FVec F S4x2048x512 .f32) (main_arg11 : FVec F S4x2048x512 .f32) (main_arg12 : FVec F S4x2048x512 .f32) (main_arg13 : FVec F S4x2048x1024 .f32) (main_arg14 : FVec F S4x2048x512 .f32) (main_arg15 : FVec F S4x2048x512 .f32) (main_arg16 : FVec F S4x2048x512 .f32) : IVec S_ 1 :=
  let main_v0 : FVec F S4x2048x3328 .f32 := Host.absf main_arg0
  let main_cst : FVec F S_ .f32 := constant S_ .f32 0x7F800000#32
  let main_v1 : FVec F S4x2048x3328 .f32 := broadcastInDim S4x2048x3328 ![] bcast_S_S4x2048x3328 main_cst
  let main_v2 : IVec S4x2048x3328 1 := cmpf .olt main_v0 main_v1
  let main_c : IVec S_ 1 := constantI S_ 1 1#1
  let main_v3 : IVec S_ 1 := (fun x v => Host.reduce IntOp.andi x v reducesTo_S4x2048x3328_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S1792 .f32 := Host.absf main_arg2
  let main_cst_2 : FVec F S_ .f32 := constant S_ .f32 0x7F800000#32
  let main_v10 : FVec F S1792 .f32 := broadcastInDim S1792 ![] bcast_S_S1792 main_cst_2
  let main_v11 : IVec S1792 1 := cmpf .olt main_v9 main_v10
  let main_c_3 : IVec S_ 1 := constantI S_ 1 1#1
  let main_v12 : IVec S_ 1 := (fun x v => Host.reduce IntOp.andi x v reducesTo_S1792_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_v13 main_v16
-- ==== Pre_sb_finite.lean ====
abbrev S4x2048x3328 : Shape := ⟨3, ![4, 2048, 3328]⟩
abbrev S512 : Shape := ⟨1, ![512]⟩
abbrev S4x2048x1024 : Shape := ⟨3, ![4, 2048, 1024]⟩
abbrev S_ : Shape := ⟨0, ![]⟩

class Facts : Prop where
  bcast_S_S4x2048x3328 : S_.BroadcastsInDim S4x2048x3328 (![] : Fin 0 → Fin S4x2048x3328.rank)
  reducesTo_S4x2048x3328_S_d0_1_2 : S4x2048x3328.ReducesTo [0, 1, 2] S_
  h_S_ : 0 < S_.numel
  bcast_S_S512 : S_.BroadcastsInDim S512 (![] : Fin 0 → Fin S512.rank)
  reducesTo_S512_S_d0 : S512.ReducesTo [0] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn {F : FTy → Type} [FloatOps F] (main_arg0 : FVec F S4x2048x3328 .f32) (main_arg1 : FVec F S512 .f32) (main_arg2 : FVec F S4x2048x1024 .f32) : IVec S_ 1 :=
  let main_v0 : FVec F S4x2048x3328 .f32 := Host.absf main_arg0
  let main_cst : FVec F S_ .f32 := constant S_ .f32 0x7F800000#32
  let main_v1 : FVec F S4x2048x3328 .f32 := broadcastInDim S4x2048x3328 ![] bcast_S_S4x2048x3328 main_cst
  let main_v2 : IVec S4x2048x3328 1 := cmpf .olt main_v0 main_v1
  let main_c : IVec S_ 1 := constantI S_ 1 1#1
  let main_v3 : IVec S_ 1 := (fun x v => Host.reduce IntOp.andi x v reducesTo_S4x2048x3328_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  main_v13
-- ==== DAct.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .f32⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DActRefIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DH2.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let arg1 : BitVec 32 := BitVec.ofNat 32 (i 1).val
  let c0_i32_21 : BitVec 32 := 0#32
  let v45 : BitVec 1 := Scalar.cmpi .eq arg1 c0_i32_21
  let v46 : BitVec 1 := Scalar.andi v44 v45
  let v47 : BitVec 32 := Scalar.extui v46
  let c0_i32_22 : BitVec 32 := 0#32
  let v48 : BitVec 1 := Scalar.cmpi .ne v47 c0_i32_22
  v48

def k0_cond2 (i : grid0.Coords) : BitVec 1 :=
  let arg0 : BitVec 32 := BitVec.ofNat 32 (i 0).val
  let c0_i32 : BitVec 32 := 0#32
  let v44 : BitVec 1 := Scalar.cmpi .eq arg0 c0_i32
  let arg1 : BitVec 32 := BitVec.ofNat 32 (i 1).val
  let c0_i32_21 : BitVec 32 := 0#32
  let v45 : BitVec 1 := Scalar.cmpi .eq arg1 c0_i32_21
  let v46 : BitVec 1 := Scalar.andi v44 v45
  let v_true : BitVec 1 := 1#1
  let v49 : BitVec 1 := Scalar.xori v46 v_true
  let v50 : BitVec 32 := Scalar.extui v49
  let c0_i32_23 : BitVec 32 := 0#32
  let v51 : BitVec 1 := Scalar.cmpi .ne v50 c0_i32_23
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== DH2RefIdeal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x4096, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x4096, .f32⟩
  | .hbm, ⟨28, _⟩ => ⟨S8192x4096, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Loss.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x128, .f32⟩
  | .hbm, ⟨9, _⟩ => ⟨S1x1024, .f32⟩
  | .hbm, ⟨10, _⟩ => ⟨S1x1, .f32⟩
  | .hbm, ⟨11, _⟩ => ⟨S_, .f32⟩
  | .hbm, ⟨12, _⟩ => ⟨S1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v70 : BitVec 1 := Scalar.cmpi .eq arg0 c0_i32
  let arg1 : BitVec 32 := BitVec.ofNat 32 (i 1).val
  let c0_i32_29 : BitVec 32 := 0#32
  let v71 : BitVec 1 := Scalar.cmpi .eq arg1 c0_i32_29
  let v72 : BitVec 1 := Scalar.andi v70 v71
  let v73 : BitVec 32 := Scalar.extui v72
  let c0_i32_30 : BitVec 32 := 0#32
  let v74 : BitVec 1 := Scalar.cmpi .ne v73 c0_i32_30
  v74

def k0_cond2 (i : grid0.Coords) : BitVec 1 :=
  let arg0 : BitVec 32 := BitVec.ofNat 32 (i 0).val
  let c0_i32 : BitVec 32 := 0#32
  let v70 : BitVec 1 := Scalar.cmpi .eq arg0 c0_i32
  let arg1 : BitVec 32 := BitVec.ofNat 32 (i 1).val
  let c0_i32_29 : BitVec 32 := 0#32
  let v71 : BitVec 1 := Scalar.cmpi .eq arg1 c0_i32_29
  let v72 : BitVec 1 := Scalar.andi v70 v71
  let v_true : BitVec 1 := 1#1
  let v75 : BitVec 1 := Scalar.xori v72 v_true
  let v76 : BitVec 32 := Scalar.extui v75
  let c0_i32_31 : BitVec 32 := 0#32
  let v77 : BitVec 1 := Scalar.cmpi .ne v76 c0_i32_31
  v77

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== LossRefIdeal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x4096, .f32⟩
  | .hbm, ⟨6, _⟩ => ⟨S4096x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== DH1.lean ====
abbrev S8192x3328 : Shape := ⟨2, ![8192, 3328]⟩
abbrev S1024x3328 : Shape := ⟨2, ![1024, 3328]⟩
abbrev S8192x1024 : Shape := ⟨2, ![8192, 1024]⟩
abbrev S1x1024 : Shape := ⟨2, ![1, 1024]⟩
abbrev S512x3328 : Shape := ⟨2, ![512, 3328]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x3328, .bf16⟩
  | .hbm, ⟨1, _⟩ => ⟨S1024x3328, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x3328, .bf16⟩
  | .local _ .vmem, ⟨1, _⟩ => ⟨S512x3328, .bf16⟩
  | .local _ .vmem, ⟨2, _⟩ => ⟨S1024x3328, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let arg1 : BitVec 32 := BitVec.ofNat 32 (i 1).val
  let c0_i32_19 : BitVec 32 := 0#32
  let v42 : BitVec 1 := Scalar.cmpi .eq arg1 c0_i32_19
  let v43 : BitVec 1 := Scalar.andi v41 v42
  let v44 : BitVec 32 := Scalar.extui v43
  let c0_i32_20 : BitVec 32 := 0#32
  let v45 : BitVec 1 := Scalar.cmpi .ne v44 c0_i32_20
  v45

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let arg1 : BitVec 32 := BitVec.ofNat 32 (i 1).val
  let c0_i32_19 : BitVec 32 := 0#32
  let v42 : BitVec 1 := Scalar.cmpi .eq arg1 c0_i32_19
  let v43 : BitVec 1 := Scalar.andi v41 v42
  let v_true : BitVec 1 := 1#1
  let v46 : BitVec 1 := Scalar.xori v43 v_true
  let v47 : BitVec 32 := Scalar.extui v46
  let c0_i32_21 : BitVec 32 := 0#32
  let v48 : BitVec 1 := Scalar.cmpi .ne v47 c0_i32_21
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== DH1RefIdeal.lean ====
abbrev S8192x3328 : Shape := ⟨2, ![8192, 3328]⟩
abbrev S1024x3328 : Shape := ⟨2, ![1024, 3328]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x3328, .bf16⟩
  | .hbm, ⟨1, _⟩ => ⟨S1024x3328, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x3328, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x3328, .f32⟩
  | .hbm, ⟨28, _⟩ => ⟨S8192x3328, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Sb.lean ====
abbrev S4x2048x3328 : Shape := ⟨3, ![4, 2048, 3328]⟩
abbrev S512 : Shape := ⟨1, ![512]⟩
abbrev S4x2048x1024 : Shape := ⟨3, ![4, 2048, 1024]⟩
abbrev S4x2048x1536 : Shape := ⟨3, ![4, 2048, 1536]⟩
abbrev S4x2048x512 : Shape := ⟨3, ![4, 2048, 512]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x2048x8 : Shape := ⟨3, ![4, 2048, 8]⟩
abbrev S4x2048x8x1 : Shape := ⟨4, ![4, 2048, 8, 1]⟩
abbrev S2x4x8 : Shape := ⟨3, ![2, 4, 8]⟩
abbrev S1x512 : Shape := ⟨2, ![1, 512]⟩
abbrev S2x2048x128 : Shape := ⟨3, ![2, 2048, 128]⟩
abbrev S1x128 : Shape := ⟨2, ![1, 128]⟩
abbrev S256x1 : Shape := ⟨2, ![256, 1]⟩
abbrev S1x256x128 : Shape := ⟨3, ![1, 256, 128]⟩
abbrev S256x128 : Shape := ⟨2, ![256, 128]⟩
abbrev S256 : Shape := ⟨1, ![256]⟩
abbrev S128 : Shape := ⟨1, ![128]⟩
abbrev S1x1x1 : Shape := ⟨3, ![1, 1, 1]⟩
abbrev S256x256 : Shape := ⟨2, ![256, 256]⟩

abbrev nBuf : Space → Nat
  | .hbm => 74
  | .vmem => 11
  | .smem => 1
  | _ => 0

abbrev bufTy : (tb : Table) → Fin (tcTables nBuf tb) → BufTy
  | .hbm, ⟨0, _⟩ => ⟨S4x2048x3328, .f32⟩
  | .hbm, ⟨1, _⟩ => ⟨S512, .f32⟩
  | .hbm, ⟨2, _⟩ => ⟨S4x2048x1024, .f32⟩
  | .hbm, ⟨3, _⟩ => ⟨S4x2048x1536, .f32⟩
  | .hbm, ⟨4, _⟩ => ⟨S4x2048x512, .f32⟩
  | .hbm, ⟨5, _⟩ => ⟨S4x2048x512, .f32⟩
  | .hbm, ⟨6, _⟩ => ⟨S4x2048x512, .f32⟩
  | .hbm, ⟨7, _⟩ => ⟨S4x2048x8x64, .f32⟩
  | .hbm, ⟨8, _⟩ => ⟨S4x8x2048x64, .f32⟩
  | .hbm, ⟨9, _⟩ => ⟨S4x2048x8x64, .f32⟩
  | .hbm, ⟨10, _⟩ => ⟨S4x8x2048x64, .f32⟩
  | .hbm, ⟨11, _⟩ => ⟨S4x2048x8x64, .f32⟩
  | .hbm, ⟨12, _⟩ => ⟨S4x8x2048x64, .f32⟩
  | .hbm, ⟨13, _⟩ => ⟨S4x8x2048x2048, .f32⟩
  | .hbm, ⟨14, _⟩ => ⟨S_, .f32⟩
  | .hbm, ⟨15, _⟩ => ⟨S4x8x2048x2048, .f32⟩
  | .hbm, ⟨16, _⟩ => ⟨S4x8x2048x2048, .f32⟩
  | .hbm, ⟨17, _⟩ => ⟨S2048, .i32⟩
  | .hbm, ⟨18, _⟩ => ⟨S1x2048, .i32⟩
  | .hbm, ⟨19, _⟩ => ⟨S2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S4x8x2048x2048, .f32⟩
  | .hbm, ⟨25, _⟩ => ⟨S_, .f32⟩
  | .hbm, ⟨26, _⟩ => ⟨S4x8x2048x2048, .f32⟩
  | .hbm, ⟨27, _⟩ => ⟨S4x8x2048x2048, .f32⟩
  | .hbm, ⟨28, _⟩ => ⟨S4x8x2048x2048, .f32⟩
  | .hbm, ⟨29, _⟩ => ⟨S4x8x2048x2048, .f32⟩
  | .hbm, ⟨30, _⟩ => ⟨S4x8x2048x2048, .i1⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S4x8x2048x2048, .f32⟩
  | .hbm, ⟨35, _⟩ => ⟨S4x8x2048x2048, .f32⟩
  | .hbm, ⟨36, _⟩ => ⟨S4x8x2048x2048, .f32⟩
  | .hbm, ⟨37, _⟩ => ⟨S4x8x2048x2048, .f32⟩
  | .hbm, ⟨38, _⟩ => ⟨S4x8x2048x2048, .f32⟩
  | .hbm, ⟨39, _⟩ => ⟨S4x8x2048x2048, .f32⟩
  | .hbm, ⟨40, _⟩ => ⟨S4x8x2048x2048, .f32⟩
  | .hbm, ⟨41, _⟩ => ⟨S_, .f32⟩
  | .hbm, ⟨42, _⟩ => ⟨S_, .f32⟩
  | .hbm, ⟨43, _⟩ => ⟨S4x8x2048x2048, .i1⟩
  | .hbm, ⟨44, _⟩ => ⟨S4x8x2048x2048, .f32⟩
  | .hbm, ⟨45, _⟩ => ⟨S4x8x2048x2048, .f32⟩
  | .hbm, ⟨46, _⟩ => ⟨S_, .f32⟩
  | .hbm, ⟨47, _⟩ => ⟨S_, .f32⟩
  | .hbm, ⟨48, _⟩ => ⟨S4x8x2048x2048, .f32⟩
  | .hbm, ⟨49, _⟩ => ⟨S4x8x2048x2048, .f32⟩
  | .hbm, ⟨50, _⟩ => ⟨S4x8x2048x2048, .f32⟩
  | .hbm, ⟨51, _⟩ => ⟨S4x8x2048x2048, .f32⟩
  | .hbm, ⟨52, _⟩ => ⟨S_, .f32⟩
  | .hbm, ⟨53, _⟩ => ⟨S_, .f32⟩
  | .hbm, ⟨54, _⟩ => ⟨S4x8x2048x2048, .i1⟩
  | .hbm, ⟨55, _⟩ => ⟨S4x8x2048x2048, .f32⟩
  | .hbm, ⟨56, _⟩ => ⟨S4x8x2048x2048, .f32⟩
  | .hbm, ⟨57, _⟩ => ⟨S4x8x2048x64, .f32⟩
  | .hbm, ⟨58, _⟩ => ⟨S4x2048x8x64, .f32⟩
  | .hbm, ⟨59, _⟩ => ⟨S_, .f32⟩
  | .hbm, ⟨60, _⟩ => ⟨S4x8x2048, .f32⟩
  | .hbm, ⟨61, _⟩ => ⟨S4x2048x8, .f32⟩
  | .hbm, ⟨62, _⟩ => ⟨S4x2048x8x1, .f32⟩
  | .hbm, ⟨63, _⟩ => ⟨S4x2048x8x64, .f32⟩
  | .hbm, ⟨64, _⟩ => ⟨S4x2048x512, .f32⟩
  | .hbm, ⟨65, _⟩ => ⟨S_, .i32⟩
  | .hbm, ⟨66, _⟩ => ⟨S2x4x8, .i32⟩
  | .hbm, ⟨67, _⟩ => ⟨S1x512, .f32⟩
  | .hbm, ⟨68, _⟩ => ⟨S4x2048x512, .f32⟩
  | .hbm, ⟨69, _⟩ => ⟨S4x2048x512, .f32⟩
  | .hbm, ⟨70, _⟩ => ⟨S4x2048x512, .f32⟩
  | .hbm, ⟨71, _⟩ => ⟨S4x2048x512, .f32⟩
  | .hbm, ⟨72, _⟩ => ⟨S1x512, .f32⟩
  | .hbm, ⟨73, _⟩ => ⟨S512, .f32⟩
  | .local _ .vmem, ⟨0, _⟩ => ⟨S2x2048x128, .f32⟩
  | .local _ .vmem, ⟨1, _⟩ => ⟨S2x2048x128, .f32⟩
  | .local _ .vmem, ⟨2, _⟩ => ⟨S2x2048x128, .f32⟩
  | .local _ .vmem, ⟨3, _⟩ => ⟨S1x128, .f32⟩
  | .local _ .vmem, ⟨4, _⟩ => ⟨S2x2048x128, .f32⟩
  | .local _ .vmem, ⟨5, _⟩ => ⟨S2x2048x128, .f32⟩
  | .local _ .vmem, ⟨6, _⟩ => ⟨S2x2048x128, .f32⟩
  | .local _ .vmem, ⟨7, _⟩ => ⟨S2x2048x128, .f32⟩
  | .local _ .vmem, ⟨8, _⟩ => ⟨S2x2048x128, .f32⟩
  | .local _ .vmem, ⟨9, _⟩ => ⟨S2x2048x128, .f32⟩
  | .local _ .vmem, ⟨10, _⟩ => ⟨S1x128, .f32⟩
  | .local _ .smem, ⟨0, _⟩ => ⟨S2x4x8, .i32⟩
  | _, _ => ⟨S4x2048x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v20 : Ref sig .tc := ⟨.hbm, 39, rfl⟩
abbrev main_v21 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_call2_cst : Ref sig .tc := ⟨.hbm, 46, rfl⟩
abbrev main_call2_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_1 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_2 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38_0 : Ref sig .tc := ⟨.hbm, 69, rfl⟩
abbrev main_v38_1 : Ref sig .tc := ⟨.hbm, 70, rfl⟩
abbrev main_v38_2 : Ref sig .tc := ⟨.hbm, 71, rfl⟩
abbrev main_v38_3 : Ref sig .tc := ⟨.hbm, 72, rfl⟩
abbrev main_v39 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg7_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32 : BitVec 32 := 256#32
  let v18 : BitVec 32 := Scalar.muli arg14 c256_i32
  v18
def k0_off1 (k0_t1 : Fin k0_t1_loop.trips) : Fin 3 → Nat :=
  let c0_14 : Index := 0#32
  let c0_i32 : BitVec 32 := 0#32
  let c1_i32 : BitVec 32 := 1#32
  let arg14 : BitVec 32 := Scf.iv c0_i32 c1_i32 k0_t1
  let c256_i32 : BitVec 32 := 256#32
  let v18 : BitVec 32 := Scalar.muli arg14 c256_i32
  let v19 : BitVec 32 := v18
  let v21 : Index := Scalar.indexCast v19
  let c0_15 : Index := 0#32
  ![0, v21.toNat, 0]
def k0_off2 (k0_t1 : Fin k0_t1_loop.trips) : Fin 3 → Nat :=
  let c1 : Index := 1#32
  let c0_i32 : BitVec 32 := 0#32
  let c1_i32 : BitVec 32 := 1#32
  let arg14 : BitVec 32 := Scf.iv c0_i32 c1_i32 k0_t1
  let c256_i32 : BitVec 32 := 256#32
  let v18 : BitVec 32 := Scalar.muli arg14 c256_i32
  let v19 : BitVec 32 := v18
  let v117 : Index := Scalar.indexCast v19
  let c0_47 : Index := 0#32
  ![1, v117.toNat, 0]
def k0_off3 (i : grid0.Coords) (k0_t1 : Fin k0_t1_loop.trips) : Fin 3 → Nat :=
  let arg1 : BitVec 32 := BitVec.ofNat 32 (i 1).val
  let v214 : Index := Scalar.indexCast arg1
  let arg0 : BitVec 32 := BitVec.ofNat 32 (i 0).val
  let v215 : Index := Scalar.indexCast arg0
  let c0_i32 : BitVec 32 := 0#32
  let c1_i32 : BitVec 32 := 1#32
  let arg14 : BitVec 32 := Scf.iv c0_i32 c1_i32 k0_t1
  let v216 : Index := Scalar.indexCast arg14
  ![v214.toNat, v215.toNat, v216.toNat]
@[reducible] def k0_t2_loop (k0_t1 : Fin k0_t1_loop.trips) (v217 : BitVec 32) : Scf.Loop 32 :=
  let c0_i32 : BitVec 32 := 0#32
  let c1_i32 : BitVec 32 := 1#32
  let arg14 : BitVec 32 := Scf.iv c0_i32 c1_i32 k0_t1
  let v218 : BitVec 32 := Scalar.subi arg14 v217
  let c1_i32_80 : BitVec 32 := 1#32
  let v220 : BitVec 32 := Scalar.divsi v218 c1_i32_80
  let v221 : BitVec 32 := Scalar.muli v220 c1_i32_80
  let v222 : BitVec 32 := Scalar.addi v217 v221
  let c1_i32_81 : BitVec 32 := 1#32
  ⟨v217, v222, c1_i32_81⟩

def k0_mult2 (k0_t1 : Fin k0_t1_loop.trips) (v217 : BitVec 32) (k0_t2 : Fin (k0_t2_loop k0_t1 v217).trips) : BitVec 32 :=
  let c1_i32_81 : BitVec 32 := 1#32
  let arg16 : BitVec 32 := Scf.iv v217 c1_i32_81 k0_t2
  let c256_i32_192 : BitVec 32 := 256#32
  let v574 : BitVec 32 := Scalar.muli arg16 c256_i32_192
  v574
def k0_off4 (k0_t1 : Fin k0_t1_loop.trips) (v217 : BitVec 32) (k0_t2 : Fin (k0_t2_loop k0_t1 v217).trips) : Fin 3 → Nat :=
  let c0_193 : Index := 0#32
  let c1_i32_81 : BitVec 32 := 1#32
  let arg16 : BitVec 32 := Scf.iv v217 c1_i32_81 k0_t2
  let c256_i32_192 : BitVec 32 := 256#32
  let v574 : BitVec 32 := Scalar.muli arg16 c256_i32_192
  let v575 : BitVec 32 := v574
  let v576 : Index := Scalar.indexCast v575
  let c0_194 : Index := 0#32
  ![0, v576.toNat, 0]
def k0_off5 (k0_t1 : Fin k0_t1_loop.trips) (v217 : BitVec 32) (k0_t2 : Fin (k0_t2_loop k0_t1 v217).trips) : Fin 3 → Nat :=
  let c1_195 : Index := 1#32
  let c1_i32_81 : BitVec 32 := 1#32
  let arg16 : BitVec 32 := Scf.iv v217 c1_i32_81 k0_t2
  let c256_i32_192 : BitVec 32 := 256#32
  let v574 : BitVec 32 := Scalar.muli arg16 c256_i32_192
  let v575 : BitVec 32 := v574
  let v579 : Index := Scalar.indexCast v575
  let c0_196 : Index := 0#32
  ![1, v579.toNat, 0]
@[reducible] def k0_t3_loop (k0_t1 : Fin k0_t1_loop.trips) (v217 : BitVec 32) : Scf.Loop 32 :=
  let c0_i32 : BitVec 32 := 0#32
  let c1_i32 : BitVec 32 := 1#32
  let arg14 : BitVec 32 := Scf.iv c0_i32 c1_i32 k0_t1
  let v218 : BitVec 32 := Scalar.subi arg14 v217
  let c1_i32_80 : BitVec 32 := 1#32
  let v220 : BitVec 32 := Scalar.divsi v218 c1_i32_80
  let v221 : BitVec 32 := Scalar.muli v220 c1_i32_80
  let v222 : BitVec 32 := Scalar.addi v217 v221
  let v219 : BitVec 32 := Scalar.addi v217 v218
  let c1_i32_82 : BitVec 32 := 1#32
  ⟨v222, v219, c1_i32_82⟩
def k0_mult3 (k0_t1 : Fin k0_t1_loop.trips) (v217 : BitVec 32) (k0_t3 : Fin (k0_t3_loop k0_t1 v217).trips) : BitVec 32 :=
  let c0_i32 : BitVec 32 := 0#32
  let c1_i32 : BitVec 32 := 1#32
  let arg14 : BitVec 32 := Scf.iv c0_i32 c1_i32 k0_t1
  let v218 : BitVec 32 := Scalar.subi arg14 v217
  let c1_i32_80 : BitVec 32 := 1#32
  let v220 : BitVec 32 := Scalar.divsi v218 c1_i32_80
  let v221 : BitVec 32 := Scalar.muli v220 c1_i32_80
  let v222 : BitVec 32 := Scalar.addi v217 v221
  let c1_i32_82 : BitVec 32 := 1#32
  let arg16 : BitVec 32 := Scf.iv v222 c1_i32_82 k0_t3
  let c256_i32_192 : BitVec 32 := 256#32
  let v574 : BitVec 32 := Scalar.muli arg16 c256_i32_192
  v574
def k0_off6 (k0_t1 : Fin k0_t1_loop.trips) (v217 : BitVec 32) (k0_t3 : Fin (k0_t3_loop k0_t1 v217).trips) : Fin 3 → Nat :=
  let c0_193 : Index := 0#32
  let c0_i32 : BitVec 32 := 0#32
  let c1_i32 : BitVec 32 := 1#32
  let arg14 : BitVec 32 := Scf.iv c0_i32 c1_i32 k0_t1
  let v218 : BitVec 32 := Scalar.subi arg14 v217
  let c1_i32_80 : BitVec 32 := 1#32
  let v220 : BitVec 32 := Scalar.divsi v218 c1_i32_80
  let v221 : BitVec 32 := Scalar.muli v220 c1_i32_80
  let v222 : BitVec 32 := Scalar.addi v217 v221
  let c1_i32_82 : BitVec 32 := 1#32
  let arg16 : BitVec 32 := Scf.iv v222 c1_i32_82 k0_t3
  let c256_i32_192 : BitVec 32 := 256#32
  let v574 : BitVec 32 := Scalar.muli arg16 c256_i32_192
  let v575 : BitVec 32 := v574
  let v576 : Index := Scalar.indexCast v575
  let c0_194 : Index := 0#32
  ![0, v576.toNat, 0]
def k0_off7 (k0_t1 : Fin k0_t1_loop.trips) (v217 : BitVec 32) (k0_t3 : Fin (k0_t3_loop k0_t1 v217).trips) : Fin 3 → Nat :=
  let c1_195 : Index := 1#32
  let c0_i32 : BitVec 32 := 0#32
  let c1_i32 : BitVec 32 := 1#32
  let arg14 : BitVec 32 := Scf.iv c0_i32 c1_i32 k0_t1
  let v218 : BitVec 32 := Scalar.subi arg14 v217
  let c1_i32_80 : BitVec 32 := 1#32
  let v220 : BitVec 32 := Scalar.divsi v218 c1_i32_80
  let v221 : BitVec 32 := Scalar.muli v220 c1_i32_80
  let v222 : BitVec 32 := Scalar.addi v217 v221
  let c1_i32_82 : BitVec 32 := 1#32
  let arg16 : BitVec 32 := Scf.iv v222 c1_i32_82 k0_t3
  let c256_i32_192 : BitVec 32 := 256#32
  let v574 : BitVec 32 := Scalar.muli arg16 c256_i32_192
  let v575 : BitVec 32 := v574
  let v579 : Index := Scalar.indexCast v575
  let c0_196 : Index := 0#32
  ![1, v579.toNat, 0]

def k0_chk1 (k0_t1 : Fin k0_t1_loop.trips) (v217 : BitVec 32) : Prop :=
  ((k0_t2_loop k0_t1 v217).OK) ∧
  (∀ k0_t2 : Fin (k0_t2_loop k0_t1 v217).trips, 256 ∣ (k0_mult2 k0_t1 v217 k0_t2).toNat) ∧
  (∀ k0_t2 : Fin (k0_t2_loop k0_t1 v217).trips, ∀ a, (k0_off4 k0_t1 v217 k0_t2) a + S1x256x128.size a ≤ S2x2048x128.size a) ∧
  (∀ k0_t2 : Fin (k0_t2_loop k0_t1 v217).trips, ∀ a, (k0_off5 k0_t1 v217 k0_t2) a + S1x256x128.size a ≤ S2x2048x128.size a) ∧
  ((k0_t3_loop k0_t1 v217).OK) ∧
  (∀ k0_t3 : Fin (k0_t3_loop k0_t1 v217).trips, 256 ∣ (k0_mult3 k0_t1 v217 k0_t3).toNat) ∧
  (∀ k0_t3 : Fin (k0_t3_loop k0_t1 v217).trips, ∀ a, (k0_off6 k0_t1 v217 k0_t3) a + S1x256x128.size a ≤ S2x2048x128.size a) ∧
  (∀ k0_t3 : Fin (k0_t3_loop k0_t1 v217).trips, ∀ a, (k0_off7 k0_t1 v217 k0_t3) a + S1x256x128.size a ≤ S2x2048x128.size a)
theorem k0_t2_ok : ∀ (k0_t1 : Fin k0_t1_loop.trips) (v217 : BitVec 32) (k0_hw1 : k0_chk1 k0_t1 v217), (k0_t2_loop k0_t1 v217).OK := fun k0_t1 v217 k0_hw1 => k0_hw1.1
theorem k0_mult2_dvd : ∀ (k0_t1 : Fin k0_t1_loop.trips) (v217 : BitVec 32) (k0_hw1 : k0_chk1 k0_t1 v217) (k0_t2 : Fin (k0_t2_loop k0_t1 v217).trips), 256 ∣ (k0_mult2 k0_t1 v217 k0_t2).toNat := fun k0_t1 v217 k0_hw1 k0_t2 => k0_hw1.2.1 k0_t2
theorem k0_off4_inb : ∀ (k0_t1 : Fin k0_t1_loop.trips) (v217 : BitVec 32) (k0_hw1 : k0_chk1 k0_t1 v217) (k0_t2 : Fin (k0_t2_loop k0_t1 v217).trips), ∀ a, (k0_off4 k0_t1 v217 k0_t2) a + S1x256x128.size a ≤ S2x2048x128.size a := fun k0_t1 v217 k0_hw1 k0_t2 => k0_hw1.2.2.1 k0_t2
theorem k0_off5_inb : ∀ (k0_t1 : Fin k0_t1_loop.trips) (v217 : BitVec 32) (k0_hw1 : k0_chk1 k0_t1 v217) (k0_t2 : Fin (k0_t2_loop k0_t1 v217).trips), ∀ a, (k0_off5 k0_t1 v217 k0_t2) a + S1x256x128.size a ≤ S2x2048x128.size a := fun k0_t1 v217 k0_hw1 k0_t2 => k0_hw1.2.2.2.1 k0_t2
theorem k0_t3_ok : ∀ (k0_t1 : Fin k0_t1_loop.trips) (v217 : BitVec 32) (k0_hw1 : k0_chk1 k0_t1 v217), (k0_t3_loop k0_t1 v217).OK := fun k0_t1 v217 k0_hw1 => k0_hw1.2.2.2.2.1
theorem k0_mult3_dvd : ∀ (k0_t1 : Fin k0_t1_loop.trips) (v217 : BitVec 32) (k0_hw1 : k0_chk1 k0_t1 v217) (k0_t3 : Fin (k0_t3_loop k0_t1 v217).trips), 256 ∣ (k0_mult3 k0_t1 v217 k0_t3).toNat := fun k0_t1 v217 k0_hw1 k0_t3 => k0_hw1.2.2.2.2.2.1 k0_t3
theorem k0_off6_inb : ∀ (k0_t1 : Fin k0_t1_loop.trips) (v217 : BitVec 32) (k0_hw1 : k0_chk1 k0_t1 v217) (k0_t3 : Fin (k0_t3_loop k0_t1 v217).trips), ∀ a, (k0_off6 k0_t1 v217 k0_t3) a + S1x256x128.size a ≤ S2x2048x128.size a := fun k0_t1 v217 k0_hw1 k0_t3 => k0_hw1.2.2.2.2.2.2.1 k0_t3
theorem k0_off7_inb : ∀ (k0_t1 : Fin k0_t1_loop.trips) (v217 : BitVec 32) (k0_hw1 : k0_chk1 k0_t1 v217) (k0_t3 : Fin (k0_t3_loop k0_t1 v217).trips), ∀ a, (k0_off7 k0_t1 v217 k0_t3) a + S1x256x128.size a ≤ S2x2048x128.size a := fun k0_t1 v217 k0_hw1 k0_t3 => k0_hw1.2.2.2.2.2.2.2 k0_t3

def k0_off8 (k0_t1 : Fin k0_t1_loop.trips) : Fin 3 → Nat :=
  let c0_83 : Index := 0#32
  let c0_i32 : BitVec 32 := 0#32
  let c1_i32 : BitVec 32 := 1#32
  let arg14 : BitVec 32 := Scf.iv c0_i32 c1_i32 k0_t1
  let c256_i32 : BitVec 32 := 256#32
  let v18 : BitVec 32 := Scalar.muli arg14 c256_i32
  let v19 : BitVec 32 := v18
  let v225 : Index := Scalar.indexCast v19
  let c0_84 : Index := 0#32
  ![0, v225.toNat, 0]
def k0_off9 (k0_t1 : Fin k0_t1_loop.trips) : Fin 3 → Nat :=
  let c1_85 : Index := 1#32
  let c0_i32 : BitVec 32 := 0#32
  let c1_i32 : BitVec 32 := 1#32
  let arg14 : BitVec 32 := Scf.iv c0_i32 c1_i32 k0_t1
  let c256_i32 : BitVec 32 := 256#32
  let v18 : BitVec 32 := Scalar.muli arg14 c256_i32
  let v19 : BitVec 32 := v18
  let v228 : Index := Scalar.indexCast v19
  let c0_86 : Index := 0#32
  ![1, v228.toNat, 0]
def k0_cond1 (i : grid0.Coords) : BitVec 1 :=
  let arg1 : BitVec 32 := BitVec.ofNat 32 (i 1).val
  let c0_i32_10 : BitVec 32 := 0#32
  let v12 : BitVec 1 := Scalar.cmpi .eq arg1 c0_i32_10
  let v13 : BitVec 32 := Scalar.extui v12
  let c0_i32_11 : BitVec 32 := 0#32
  let v14 : BitVec 1 := Scalar.cmpi .ne v13 c0_i32_11
  v14

def k0_cond2 (i : grid0.Coords) : BitVec 1 :=
  let arg1 : BitVec 32 := BitVec.ofNat 32 (i 1).val
  let c0_i32_10 : BitVec 32 := 0#32
  let v12 : BitVec 1 := Scalar.cmpi .eq arg1 c0_i32_10
  let v_true : BitVec 1 := 1#1
  let v15 : BitVec 1 := Scalar.xori v12 v_true
  let v16 : BitVec 32 := Scalar.extui v15
  let c0_i32_12 : BitVec 32 := 0#32
  let v17 : BitVec 1 := Scalar.cmpi .ne v16 c0_i32_12
  v17

def cc0_transform_0 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  let c0_i32_0 : BitVec 32 := 0#32
  ![arg1.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![arg1.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S2x2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S2x2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S2x2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .smem S2x4x8 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S2x2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S2x2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== SbIdeal.lean ====
variable {F : FTy → Type} [FloatOps F] [Named F]
def κ : String → Option EReal := fun
  | "mask" => some ⊥
  | _ => none
-- ==== SbRefIdeal.lean ====
abbrev S4x2048x3328 : Shape := ⟨3, ![4, 2048, 3328]⟩
abbrev S512 : Shape := ⟨1, ![512]⟩
abbrev S4x2048x1024 : Shape := ⟨3, ![4, 2048, 1024]⟩
abbrev S4x2048x1536 : Shape := ⟨3, ![4, 2048, 1536]⟩
abbrev S4x2048x512 : Shape := ⟨3, ![4, 2048, 512]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x2048x8 : Shape := ⟨3, ![4, 2048, 8]⟩
abbrev S4x2048x8x1 : Shape := ⟨4, ![4, 2048, 8, 1]⟩
abbrev S8x64 : Shape := ⟨2, ![8, 64]⟩
abbrev S1x1x8x64 : Shape := ⟨4, ![1, 1, 8, 64]⟩
abbrev S4x8x64x2048 : Shape := ⟨4, ![4, 8, 64, 2048]⟩

abbrev nBuf : Space → Nat
  | .hbm => 178
  | .vmem => 0
  | .smem => 0
  | _ => 0

abbrev hbmTy0_0 (i : Nat) : BufTy := match i % 128 with
  | 0 => ⟨S4x2048x3328, .f32⟩
  | 1 => ⟨S512, .f32⟩
  | 2 => ⟨S4x2048x1024, .f32⟩
  | 3 => ⟨S4x2048x1536, .f32⟩
  | 4 => ⟨S4x2048x512, .f32⟩
  | 5 => ⟨S4x2048x512, .f32⟩
  | 6 => ⟨S4x2048x512, .f32⟩
  | 7 => ⟨S4x2048x8x64, .f32⟩
  | 8 => ⟨S4x8x2048x64, .f32⟩
  | 9 => ⟨S4x2048x8x64, .f32⟩
  | 10 => ⟨S4x8x2048x64, .f32⟩
  | 11 => ⟨S4x2048x8x64, .f32⟩
  | 12 => ⟨S4x8x2048x64, .f32⟩
  | 13 => ⟨S4x8x2048x2048, .f32⟩
  | 14 => ⟨S_, .f32⟩
  | 15 => ⟨S4x8x2048x2048, .f32⟩
  | 16 => ⟨S4x8x2048x2048, .f32⟩
  | 17 => ⟨S2048, .i32⟩
  | 18 => ⟨S1x2048, .i32⟩
  | 19 => ⟨S2048, .i32⟩
  | 20 => ⟨S2048x1, .i32⟩
  | 21 => ⟨S2048x2048, .i32⟩
  | 22 => ⟨S2048x2048, .i32⟩
  | 23 => ⟨S2048x2048, .i1⟩
  | 24 => ⟨S4x8x2048x2048, .f32⟩
  | 25 => ⟨S_, .f32⟩
  | 26 => ⟨S4x8x2048x2048, .f32⟩
  | 27 => ⟨S4x8x2048x2048, .f32⟩
  | 28 => ⟨S4x8x2048x2048, .f32⟩
  | 29 => ⟨S4x8x2048x2048, .f32⟩
  | 30 => ⟨S4x8x2048x2048, .i1⟩
  | 31 => ⟨S4x8x2048x2048, .f32⟩
  | 32 => ⟨S4x8x2048x2048, .f32⟩
  | 33 => ⟨S4x8x2048x2048, .f32⟩
  | 34 => ⟨S4x8x2048x2048, .f32⟩
  | 35 => ⟨S4x8x2048x2048, .f32⟩
  | 36 => ⟨S4x8x2048x2048, .f32⟩
  | 37 => ⟨S4x8x2048x2048, .f32⟩
  | 38 => ⟨S4x8x2048x2048, .f32⟩
  | 39 => ⟨S_, .f32⟩
  | 40 => ⟨S4x8x2048x2048, .f32⟩
  | 41 => ⟨S4x8x2048x2048, .i1⟩
  | 42 => ⟨S_, .f32⟩
  | 43 => ⟨S4x8x2048x2048, .f32⟩
  | 44 => ⟨S4x8x2048x2048, .f32⟩
  | 45 => ⟨S_, .f32⟩
  | 46 => ⟨S4x8x2048x2048, .f32⟩
  | 47 => ⟨S4x8x2048x2048, .i1⟩
  | 48 => ⟨S_, .f32⟩
  | 49 => ⟨S4x8x2048x2048, .f32⟩
  | 50 => ⟨S4x8x2048x2048, .f32⟩
  | 51 => ⟨S4x8x2048x2048, .f32⟩
  | 52 => ⟨S4x8x2048x2048, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S4x8x2048x2048, .f32⟩
  | 61 => ⟨S4x8x2048x2048, .i1⟩
  | 62 => ⟨S_, .f32⟩
  | 63 => ⟨S4x8x2048x2048, .f32⟩
  | 64 => ⟨S4x8x2048x2048, .f32⟩
  | 65 => ⟨S4x8x2048x2048, .f32⟩
  | 66 => ⟨S4x8x2048x2048, .f32⟩
  | 67 => ⟨S4x8x2048x2048, .f32⟩
  | 68 => ⟨S_, .f32⟩
  | 69 => ⟨S4x8x2048x2048, .f32⟩
  | 70 => ⟨S4x8x2048x2048, .f32⟩
  | 71 => ⟨S4x8x2048x2048, .f32⟩
  | 72 => ⟨S4x8x2048x2048, .f32⟩
  | 73 => ⟨S_, .f32⟩
  | 74 => ⟨S_, .f32⟩
  | 75 => ⟨S4x8x2048x2048, .i1⟩
  | 76 => ⟨S4x8x2048x2048, .f32⟩
  | 77 => ⟨S4x8x2048x2048, .f32⟩
  | 78 => ⟨S_, .f32⟩
  | 79 => ⟨S4x8x2048x2048, .f32⟩
  | 80 => ⟨S_, .f32⟩
  | 81 => ⟨S_, .f32⟩
  | 82 => ⟨S4x8x2048x2048, .f32⟩
  | 83 => ⟨S4x8x2048x2048, .f32⟩
  | 84 => ⟨S4x8x2048x2048, .f32⟩
  | 85 => ⟨S4x8x2048x2048, .f32⟩
  | 86 => ⟨S_, .f32⟩
  | 87 => ⟨S_, .f32⟩
  | 88 => ⟨S4x8x2048x2048, .i1⟩
  | 89 => ⟨S4x8x2048x2048, .f32⟩
  | 90 => ⟨S4x8x2048x2048, .f32⟩
  | 91 => ⟨S_, .f32⟩
  | 92 => ⟨S4x8x2048x2048, .f32⟩
  | 93 => ⟨S4x8x2048x64, .f32⟩
  | 94 => ⟨S4x2048x8x64, .f32⟩
  | 95 => ⟨S4x2048x8x64, .f32⟩
  | 96 => ⟨S_, .f32⟩
  | 97 => ⟨S4x2048x8, .f32⟩
  | 98 => ⟨S4x2048x8x1, .f32⟩
  | 99 => ⟨S_, .f32⟩
  | 100 => ⟨S4x2048x8x1, .f32⟩
  | 101 => ⟨S4x2048x8x1, .f32⟩
  | 102 => ⟨S_, .f32⟩
  | 103 => ⟨S4x2048x8x1, .f32⟩
  | 104 => ⟨S4x2048x8x1, .f32⟩
  | 105 => ⟨S4x2048x8x1, .f32⟩
  | 106 => ⟨S4x2048x8x1, .f32⟩
  | 107 => ⟨S_, .f32⟩
  | 108 => ⟨S4x2048x8x1, .f32⟩
  | 109 => ⟨S4x2048x8x1, .f32⟩
  | 110 => ⟨S4x2048x8x64, .f32⟩
  | 111 => ⟨S4x2048x8x64, .f32⟩
  | 112 => ⟨S8x64, .f32⟩
  | 113 => ⟨S1x1x8x64, .f32⟩
  | 114 => ⟨S4x2048x8x64, .f32⟩
  | 115 => ⟨S4x2048x8x64, .f32⟩
  | 116 => ⟨S4x2048x512, .f32⟩
  | 117 => ⟨S4x2048x512, .f32⟩
  | 118 => ⟨S4x2048x8x64, .f32⟩
  | 119 => ⟨S4x2048x8x64, .f32⟩
  | 120 => ⟨S_, .f32⟩
  | 121 => ⟨S8x64, .f32⟩
  | 122 => ⟨S1x1x8x64, .f32⟩
  | 123 => ⟨S4x2048x8x64, .f32⟩
  | 124 => ⟨S4x2048x8x64, .f32⟩
  | 125 => ⟨S_, .f32⟩
  | 126 => ⟨S8x64, .f32⟩
  | 127 => ⟨S512, .f32⟩
  | _ => ⟨S4x2048x3328, .f32⟩

abbrev hbmTy0_1 (i : Nat) : BufTy := match i % 128 with
  | 0 => ⟨S4x2048x8x64, .f32⟩
  | 1 => ⟨S_, .f32⟩
  | 2 => ⟨S4x2048x8, .f32⟩
  | 3 => ⟨S4x2048x8x1, .f32⟩
  | 4 => ⟨S4x2048x8x64, .f32⟩
  | 5 => ⟨S4x2048x8x64, .f32⟩
  | 6 => ⟨S4x2048x8x1, .f32⟩
  | 7 => ⟨S_, .f32⟩
  | 8 => ⟨S4x2048x8x1, .f32⟩
  | 9 => ⟨S4x2048x8x1, .f32⟩
  | 10 => ⟨S_, .f32⟩
  | 11 => ⟨S4x2048x8, .f32⟩
  | 12 => ⟨S4x2048x8x64, .f32⟩
  | 13 => ⟨S4x2048x8x64, .f32⟩
  | 14 => ⟨S4x2048x8x64, .f32⟩
  | 15 => ⟨S4x2048x8x64, .f32⟩
  | 16 => ⟨S4x2048x8x64, .f32⟩
  | 17 => ⟨S4x8x2048x64, .f32⟩
  | 18 => ⟨S4x8x64x2048, .f32⟩
  | 19 => ⟨S4x8x2048x64, .f32⟩
  | 20 => ⟨S4x8x2048x2048, .f32⟩
  | 21 => ⟨S_, .f32⟩
  | 22 => ⟨S4x8x2048x2048, .f32⟩
  | 23 => ⟨S4x8x2048x2048, .f32⟩
  | 24 => ⟨S4x8x2048x2048, .f32⟩
  | 25 => ⟨S4x8x2048x2048, .f32⟩
  | 26 => ⟨S_, .f32⟩
  | 27 => ⟨S_, .f32⟩
  | 28 => ⟨S4x8x2048x2048, .f32⟩
  | 29 => ⟨S4x8x2048x2048, .f32⟩
  | 30 => ⟨S_, .f32⟩
  | 31 => ⟨S4x8x2048x2048, .f32⟩
  | 32 => ⟨S4x8x2048x2048, .f32⟩
  | 33 => ⟨S4x8x2048x2048, .f32⟩
  | 34 => ⟨S4x8x2048x2048, .f32⟩
  | 35 => ⟨S4x8x2048x2048, .f32⟩
  | 36 => ⟨S4x8x2048x2048, .f32⟩
  | 37 => ⟨S4x8x2048x2048, .f32⟩
  | 38 => ⟨S4x8x2048x2048, .f32⟩
  | 39 => ⟨S_, .f32⟩
  | 40 => ⟨S4x8x2048x2048, .f32⟩
  | 41 => ⟨S4x8x2048x2048, .f32⟩
  | 42 => ⟨S4x8x2048x64, .f32⟩
  | 43 => ⟨S4x8x2048x64, .f32⟩
  | 44 => ⟨S4x2048x8x64, .f32⟩
  | 45 => ⟨S4x2048x512, .f32⟩
  | 46 => ⟨S4x2048x8x64, .f32⟩
  | 47 => ⟨S4x2048x512, .f32⟩
  | 48 => ⟨S4x2048x8x64, .f32⟩
  | 49 => ⟨S4x2048x512, .f32⟩
  | _ => ⟨S4x2048x3328, .f32⟩

abbrev hbmTy (i : Nat) : BufTy := match i / 128 with
  | 0 => hbmTy0_0 i
  | 1 => hbmTy0_1 i
  | _ => ⟨S4x2048x3328, .f32⟩

abbrev bufTy : (tb : Table) → Fin (tcTables nBuf tb) → BufTy
  | .hbm, ⟨i, _⟩ => hbmTy i
  | _, _ => ⟨S4x2048x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v20_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v20_2 : Ref sig .tc := ⟨.hbm, 70, rfl⟩
abbrev main_v20_0 : Ref sig .tc := ⟨.hbm, 71, rfl⟩
abbrev main_v21 : Ref sig .tc := ⟨.hbm, 72, rfl⟩
abbrev main_cst_0 : Ref sig .tc := ⟨.hbm, 73, rfl⟩
abbrev main_call1_v0 : Ref sig .tc := ⟨.hbm, 74, rfl⟩
abbrev main_v22_1 : Ref sig .tc := ⟨.hbm, 75, rfl⟩
abbrev main_call1_v2 : Ref sig .tc := ⟨.hbm, 76, rfl⟩
abbrev main_v22_0 : Ref sig .tc := ⟨.hbm, 77, rfl⟩
abbrev main_call1_cst : Ref sig .tc := ⟨.hbm, 78, rfl⟩
abbrev main_v22_2 : Ref sig .tc := ⟨.hbm, 79, rfl⟩
abbrev main_call2_cst : Ref sig .tc := ⟨.hbm, 80, rfl⟩
abbrev main_call2_v0 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_cst_1 : Ref sig .tc := ⟨.hbm, 86, rfl⟩
abbrev main_call3_v0 : Ref sig .tc := ⟨.hbm, 87, rfl⟩
abbrev main_v27_1 : Ref sig .tc := ⟨.hbm, 88, rfl⟩
abbrev main_call3_v2 : Ref sig .tc := ⟨.hbm, 89, rfl⟩
abbrev main_v27_0 : Ref sig .tc := ⟨.hbm, 90, rfl⟩
abbrev main_call3_cst : Ref sig .tc := ⟨.hbm, 91, rfl⟩
abbrev main_v27_2 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_cst_2 : Ref sig .tc := ⟨.hbm, 96, rfl⟩
abbrev main_v31 : Ref sig .tc := ⟨.hbm, 97, rfl⟩
abbrev main_v32 : Ref sig .tc := ⟨.hbm, 98, rfl⟩
abbrev main_cst_3 : Ref sig .tc := ⟨.hbm, 99, rfl⟩
abbrev main_v33 : Ref sig .tc := ⟨.hbm, 100, rfl⟩
abbrev main_v34 : Ref sig .tc := ⟨.hbm, 101, rfl⟩
abbrev main_cst_4 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_cst_5 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_cst_6 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_cst_7 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_cst_8 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_cst_9 : Ref sig .tc := ⟨.hbm, 135, rfl⟩
abbrev main_v63 : Ref sig .tc := ⟨.hbm, 136, rfl⟩
abbrev main_v64 : Ref sig .tc := ⟨.hbm, 137, rfl⟩
abbrev main_cst_10 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_call4_cst : Ref sig .tc := ⟨.hbm, 149, rfl⟩
abbrev main_call4_v0 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_call5_cst : Ref sig .tc := ⟨.hbm, 154, rfl⟩
abbrev main_call5_v0 : Ref sig .tc := ⟨.hbm, 155, rfl⟩
abbrev main_v78 : Ref sig .tc := ⟨.hbm, 156, rfl⟩
abbrev main_v79 : Ref sig .tc := ⟨.hbm, 157, rfl⟩
abbrev main_call6_cst : Ref sig .tc := ⟨.hbm, 158, rfl⟩
abbrev main_call6_v0 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_call7_v0 : Ref sig .tc := ⟨.hbm, 163, rfl⟩
abbrev main_call7_v1 : Ref sig .tc := ⟨.hbm, 164, rfl⟩
abbrev main_v83 : Ref sig .tc := ⟨.hbm, 165, rfl⟩
abbrev main_v84 : Ref sig .tc := ⟨.hbm, 166, rfl⟩
abbrev main_cst_11 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩

abbrev nD : Nat := 1
abbrev τ : Topo := Topo.v7x

variable {F : FTy → Type} [FloatOps F]
-- ==== Prep.lean ====
abbrev S4x2048x3328 : Shape := ⟨3, ![4, 2048, 3328]⟩
abbrev S4x2048x512 : Shape := ⟨3, ![4, 2048, 512]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S4x2048x1024 : Shape := ⟨3, ![4, 2048, 1024]⟩
abbrev S_ : Shape := ⟨0, ![]⟩
abbrev S4x2048x1792 : Shape := ⟨3, ![4, 2048, 1792]⟩
abbrev S4x1x1792 : Shape := ⟨3, ![4, 1, 1792]⟩
abbrev S4x2047x1792 : Shape := ⟨3, ![4, 2047, 1792]⟩
abbrev S32x256x1792 : Shape := ⟨3, ![32, 256, 1792]⟩
abbrev S32x8x1792 : Shape := ⟨3, ![32, 8, 1792]⟩
abbrev S1x1792 : Shape := ⟨2, ![1, 1792]⟩
abbrev S1x512 : Shape := ⟨2, ![1, 512]⟩
abbrev S8192x512 : Shape := ⟨2, ![8192, 512]⟩
abbrev S8192x1024 : Shape := ⟨2, ![8192, 1024]⟩
abbrev S8192x3328 : Shape := ⟨2, ![8192, 3328]⟩
abbrev S256x1792 : Shape := ⟨2, ![256, 1792]⟩
abbrev S1x8x1792 : Shape := ⟨3, ![1, 8, 1792]⟩
abbrev S256x512 : Shape := ⟨2, ![256, 512]⟩
abbrev S256x3328 : Shape := ⟨2, ![256, 3328]⟩
abbrev S8x1792 : Shape := ⟨2, ![8, 1792]⟩
abbrev S248x1792 : Shape := ⟨2, ![248, 1792]⟩
abbrev S256x128 : Shape := ⟨2, ![256, 128]⟩
abbrev S256x1664 : Shape := ⟨2, ![256, 1664]⟩
abbrev S256x1536 : Shape := ⟨2, ![256, 1536]⟩
abbrev S256x1024 : Shape := ⟨2, ![256, 1024]⟩
abbrev S256x256 : Shape := ⟨2, ![256, 256]⟩
abbrev S256x768 : Shape := ⟨2, ![256, 768]⟩
abbrev S256x1280 : Shape := ⟨2, ![256, 1280]⟩

abbrev nBuf : Space → Nat
  | .hbm => 58
  | .vmem => 39
  | .smem => 0
  | _ => 0

abbrev bufTy : (tb : Table) → Fin (tcTables nBuf tb) → BufTy
  | .hbm, ⟨0, _⟩ => ⟨S4x2048x3328, .f32⟩
  | .hbm, ⟨1, _⟩ => ⟨S4x2048x512, .f32⟩
  | .hbm, ⟨2, _⟩ => ⟨S1792, .f32⟩
  | .hbm, ⟨3, _⟩ => ⟨S512, .f32⟩
  | .hbm, ⟨4, _⟩ => ⟨S64x512, .f32⟩
  | .hbm, ⟨5, _⟩ => ⟨S512, .f32⟩
  | .hbm, ⟨6, _⟩ => ⟨S64x512, .f32⟩
  | .hbm, ⟨7, _⟩ => ⟨S128x512, .f32⟩
  | .hbm, ⟨8, _⟩ => ⟨S4x2048x512, .f32⟩
  | .hbm, ⟨9, _⟩ => ⟨S4x2048x512, .f32⟩
  | .hbm, ⟨10, _⟩ => ⟨S4x2048x512, .f32⟩
  | .hbm, ⟨11, _⟩ => ⟨S4x2048x512, .f32⟩
  | .hbm, ⟨12, _⟩ => ⟨S4x2048x512, .f32⟩
  | .hbm, ⟨13, _⟩ => ⟨S4x2048x1024, .f32⟩
  | .hbm, ⟨14, _⟩ => ⟨S4x2048x512, .f32⟩
  | .hbm, ⟨15, _⟩ => ⟨S4x2048x512, .f32⟩
  | .hbm, ⟨16, _⟩ => ⟨S4x2048x512, .f32⟩
  | .hbm, ⟨17, _⟩ => ⟨S_, .bf16⟩
  | .hbm, ⟨18, _⟩ => ⟨S64x512, .bf16⟩
  | .hbm, ⟨19, _⟩ => ⟨S64x512, .bf16⟩
  | .hbm, ⟨20, _⟩ => ⟨S128x512, .bf16⟩
  | .hbm, ⟨21, _⟩ => ⟨S64x512, .bf16⟩
  | .hbm, ⟨22, _⟩ => ⟨S128x512, .bf16⟩
  | .hbm, ⟨23, _⟩ => ⟨S4x2048x1792, .f32⟩
  | .hbm, ⟨24, _⟩ => ⟨S4x1x1792, .f32⟩
  | .hbm, ⟨25, _⟩ => ⟨S_, .f32⟩
  | .hbm, ⟨26, _⟩ => ⟨S4x1x1792, .f32⟩
  | .hbm, ⟨27, _⟩ => ⟨S4x2047x1792, .f32⟩
  | .hbm, ⟨28, _⟩ => ⟨S4x2048x1792, .f32⟩
  | .hbm, ⟨29, _⟩ => ⟨S32x256x1792, .f32⟩
  | .hbm, ⟨30, _⟩ => ⟨S32x8x1792, .f32⟩
  | .hbm, ⟨31, _⟩ => ⟨S1x1792, .f32⟩
  | .hbm, ⟨32, _⟩ => ⟨S1x512, .f32⟩
  | .hbm, ⟨33, _⟩ => ⟨S1x512, .f32⟩
  | .hbm, ⟨34, _⟩ => ⟨S128x512, .bf16⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x1024, .f32⟩
  | .hbm, ⟨41, _⟩ => ⟨S8192x512, .f32⟩
  | .hbm, ⟨42, _⟩ => ⟨S8192x3328, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x3328, .bf16⟩
  | .hbm, ⟨47, _⟩ => ⟨S1x1792, .f32⟩
  | .hbm, ⟨48, _⟩ => ⟨S1x512, .f32⟩
  | .hbm, ⟨49, _⟩ => ⟨S128x512, .f32⟩
  | .hbm, ⟨50, _⟩ => ⟨S1x512, .f32⟩
  | .hbm, ⟨51, _⟩ => ⟨S128x512, .f32⟩
  | .hbm, ⟨52, _⟩ => ⟨S128x512, .f32⟩
  | .hbm, ⟨53, _⟩ => ⟨S1792, .f32⟩
  | .hbm, ⟨54, _⟩ => ⟨S512, .f32⟩
  | .hbm, ⟨55, _⟩ => ⟨S64x512, .f32⟩
  | .hbm, ⟨56, _⟩ => ⟨S512, .f32⟩
  | .hbm, ⟨57, _⟩ => ⟨S64x512, .f32⟩
  | .local _ .vmem, ⟨0, _⟩ => ⟨S256x1792, .f32⟩
  | .local _ .vmem, ⟨1, _⟩ => ⟨S256x1792, .f32⟩
  | .local _ .vmem, ⟨2, _⟩ => ⟨S1x8x1792, .f32⟩
  | .local _ .vmem, ⟨3, _⟩ => ⟨S1x8x1792, .f32⟩
  | .local _ .vmem, ⟨4, _⟩ => ⟨S1x1792, .f32⟩
  | .local _ .vmem, ⟨5, _⟩ => ⟨S1x512, .f32⟩
  | .local _ .vmem, ⟨6, _⟩ => ⟨S128x512, .bf16⟩
  | .local _ .vmem, ⟨7, _⟩ => ⟨S1x512, .f32⟩
  | .local _ .vmem, ⟨8, _⟩ => ⟨S128x512, .bf16⟩
  | .local _ .vmem, ⟨9, _⟩ => ⟨S128x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x3328, .bf16⟩
  | .local _ .vmem, ⟨31, _⟩ => ⟨S256x3328, .bf16⟩
  | .local _ .vmem, ⟨32, _⟩ => ⟨S1x1792, .f32⟩
  | .local _ .vmem, ⟨33, _⟩ => ⟨S1x512, .f32⟩
  | .local _ .vmem, ⟨34, _⟩ => ⟨S128x512, .f32⟩
  | .local _ .vmem, ⟨35, _⟩ => ⟨S1x512, .f32⟩
  | .local _ .vmem, ⟨36, _⟩ => ⟨S128x512, .f32⟩
  | .local _ .vmem, ⟨37, _⟩ => ⟨S128x512, .f32⟩
  | .local _ .vmem, ⟨38, _⟩ => ⟨S8x1792, .f32⟩
  | _, _ => ⟨S4x2048x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_v27_2 : Ref sig .tc := ⟨.hbm, 48, rfl⟩
abbrev main_v27_3 : Ref sig .tc := ⟨.hbm, 49, rfl⟩
abbrev main_v27_4 : Ref sig .tc := ⟨.hbm, 50, rfl⟩
abbrev main_v27_5 : Ref sig .tc := ⟨.hbm, 51, rfl⟩
abbrev main_v27_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg24_0 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem23_0 : DmaSem sig := 36
abbrev cc0_sem24_0 : DmaSem sig := 37

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v214 : BitVec 32 := Scalar.extui v0
  let c0_i32_91 : BitVec 32 := 0#32
  let v215 : BitVec 1 := Scalar.cmpi .ne v214 c0_i32_91
  v215

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v216 : BitVec 1 := Scalar.xori v0 v_true
  let v217 : BitVec 32 := Scalar.extui v216
  let c0_i32_92 : BitVec 32 := 0#32
  let v218 : BitVec 1 := Scalar.cmpi .ne v217 c0_i32_92
  v218

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x3328 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1792 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== PrepRefIdeal.lean ====
abbrev S4x2048x3328 : Shape := ⟨3, ![4, 2048, 3328]⟩
abbrev S4x2048x512 : Shape := ⟨3, ![4, 2048, 512]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S4x2048x1024 : Shape := ⟨3, ![4, 2048, 1024]⟩
abbrev S4x2048x1792 : Shape := ⟨3, ![4, 2048, 1792]⟩
abbrev S4x1x1792 : Shape := ⟨3, ![4, 1, 1792]⟩
abbrev S_ : Shape := ⟨0, ![]⟩
abbrev S4x2047x1792 : Shape := ⟨3, ![4, 2047, 1792]⟩
abbrev S1x1x1792 : Shape := ⟨3, ![1, 1, 1792]⟩
abbrev S4x2048x64 : Shape := ⟨3, ![4, 2048, 64]⟩
abbrev S4x2048x128 : Shape := ⟨3, ![4, 2048, 128]⟩
abbrev S1x1x512 : Shape := ⟨3, ![1, 1, 512]⟩
abbrev S4x2048x1536 : Shape := ⟨3, ![4, 2048, 1536]⟩
abbrev S512x128 : Shape := ⟨2, ![512, 128]⟩
abbrev S512x64 : Shape := ⟨2, ![512, 64]⟩
abbrev S8192x3328 : Shape := ⟨2, ![8192, 3328]⟩

abbrev nBuf : Space → Nat
  | .hbm => 188
  | .vmem => 0
  | .smem => 0
  | _ => 0

abbrev hbmTy0_0 (i : Nat) : BufTy := match i % 128 with
  | 0 => ⟨S4x2048x3328, .f32⟩
  | 1 => ⟨S4x2048x512, .f32⟩
  | 2 => ⟨S1792, .f32⟩
  | 3 => ⟨S512, .f32⟩
  | 4 => ⟨S64x512, .f32⟩
  | 5 => ⟨S512, .f32⟩
  | 6 => ⟨S64x512, .f32⟩
  | 7 => ⟨S128x512, .f32⟩
  | 8 => ⟨S4x2048x512, .f32⟩
  | 9 => ⟨S4x2048x512, .f32⟩
  | 10 => ⟨S4x2048x512, .f32⟩
  | 11 => ⟨S4x2048x512, .f32⟩
  | 12 => ⟨S4x2048x512, .f32⟩
  | 13 => ⟨S4x2048x1024, .f32⟩
  | 14 => ⟨S4x2048x512, .f32⟩
  | 15 => ⟨S4x2048x512, .f32⟩
  | 16 => ⟨S4x2048x512, .f32⟩
  | 17 => ⟨S4x2048x1792, .f32⟩
  | 18 => ⟨S4x1x1792, .f32⟩
  | 19 => ⟨S_, .f32⟩
  | 20 => ⟨S4x1x1792, .f32⟩
  | 21 => ⟨S4x2047x1792, .f32⟩
  | 22 => ⟨S4x2048x1792, .f32⟩
  | 23 => ⟨S_, .f32⟩
  | 24 => ⟨S4x1x1792, .f32⟩
  | 25 => ⟨S4x2048x1792, .f32⟩
  | 26 => ⟨S1x1x1792, .f32⟩
  | 27 => ⟨S4x2048x1792, .f32⟩
  | 28 => ⟨S4x2048x1792, .f32⟩
  | 29 => ⟨S4x2048x1792, .f32⟩
  | 30 => ⟨S4x2048x512, .f32⟩
  | 31 => ⟨S4x2048x512, .f32⟩
  | 32 => ⟨S4x2048x512, .f32⟩
  | 33 => ⟨S4x2048x64, .f32⟩
  | 34 => ⟨S4x2048x64, .f32⟩
  | 35 => ⟨S4x2048x128, .f32⟩
  | 36 => ⟨S4x2048x64, .f32⟩
  | 37 => ⟨S_, .f32⟩
  | 38 => ⟨S4x2048x64, .f32⟩
  | 39 => ⟨S4x2048x64, .f32⟩
  | 40 => ⟨S_, .f32⟩
  | 41 => ⟨S4x2048x64, .f32⟩
  | 42 => ⟨S4x2048x64, .f32⟩
  | 43 => ⟨S4x2048x64, .f32⟩
  | 44 => ⟨S4x2048x512, .f32⟩
  | 45 => ⟨S1x1x512, .f32⟩
  | 46 => ⟨S4x2048x512, .f32⟩
  | 47 => ⟨S4x2048x512, .f32⟩
  | 48 => ⟨S4x2048x512, .f32⟩
  | 49 => ⟨S_, .f32⟩
  | 50 => ⟨S4x2048x512, .f32⟩
  | 51 => ⟨S4x2048x512, .f32⟩
  | 52 => ⟨S4x2048x512, .f32⟩
  | 53 => ⟨S4x2048x512, .f32⟩
  | 54 => ⟨S4x2048x512, .i1⟩
  | 55 => ⟨S4x2048x512, .f32⟩
  | 56 => ⟨S4x2048x512, .f32⟩
  | 57 => ⟨S4x2048x512, .f32⟩
  | 58 => ⟨S4x2048x512, .f32⟩
  | 59 => ⟨S4x2048x512, .f32⟩
  | 60 => ⟨S4x2048x512, .f32⟩
  | 61 => ⟨S4x2048x512, .f32⟩
  | 62 => ⟨S4x2048x512, .f32⟩
  | 63 => ⟨S_, .f32⟩
  | 64 => ⟨S4x2048x512, .f32⟩
  | 65 => ⟨S4x2048x512, .i1⟩
  | 66 => ⟨S_, .f32⟩
  | 67 => ⟨S4x2048x512, .f32⟩
  | 68 => ⟨S4x2048x512, .f32⟩
  | 69 => ⟨S_, .f32⟩
  | 70 => ⟨S4x2048x512, .f32⟩
  | 71 => ⟨S4x2048x512, .i1⟩
  | 72 => ⟨S_, .f32⟩
  | 73 => ⟨S4x2048x512, .f32⟩
  | 74 => ⟨S4x2048x512, .f32⟩
  | 75 => ⟨S4x2048x512, .f32⟩
  | 76 => ⟨S4x2048x512, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S_, .f32⟩
  | 84 => ⟨S4x2048x512, .f32⟩
  | 85 => ⟨S4x2048x512, .i1⟩
  | 86 => ⟨S_, .f32⟩
  | 87 => ⟨S4x2048x512, .f32⟩
  | 88 => ⟨S4x2048x512, .f32⟩
  | 89 => ⟨S4x2048x512, .f32⟩
  | 90 => ⟨S4x2048x512, .f32⟩
  | 91 => ⟨S4x2048x512, .f32⟩
  | 92 => ⟨S_, .f32⟩
  | 93 => ⟨S4x2048x512, .f32⟩
  | 94 => ⟨S4x2048x512, .f32⟩
  | 95 => ⟨S4x2048x512, .f32⟩
  | 96 => ⟨S_, .f32⟩
  | 97 => ⟨S4x2048x512, .f32⟩
  | 98 => ⟨S4x2048x512, .f32⟩
  | 99 => ⟨S4x2048x512, .f32⟩
  | 100 => ⟨S1x1x512, .f32⟩
  | 101 => ⟨S4x2048x512, .f32⟩
  | 102 => ⟨S4x2048x512, .f32⟩
  | 103 => ⟨S4x2048x512, .f32⟩
  | 104 => ⟨S4x2048x512, .f32⟩
  | 105 => ⟨S_, .f32⟩
  | 106 => ⟨S4x2048x512, .f32⟩
  | 107 => ⟨S4x2048x512, .f32⟩
  | 108 => ⟨S_, .f32⟩
  | 109 => ⟨S4x2048x512, .f32⟩
  | 110 => ⟨S4x2048x512, .f32⟩
  | 111 => ⟨S_, .f32⟩
  | 112 => ⟨S4x2048x512, .f32⟩
  | 113 => ⟨S4x2048x512, .f32⟩
  | 114 => ⟨S4x2048x512, .f32⟩
  | 115 => ⟨S4x2048x128, .f32⟩
  | 116 => ⟨S4x2048x128, .f32⟩
  | 117 => ⟨S_, .f32⟩
  | 118 => ⟨S4x2048x128, .f32⟩
  | 119 => ⟨S4x2048x128, .f32⟩
  | 120 => ⟨S_, .f32⟩
  | 121 => ⟨S4x2048x128, .f32⟩
  | 122 => ⟨S4x2048x128, .f32⟩
  | 123 => ⟨S_, .f32⟩
  | 124 => ⟨S4x2048x128, .f32⟩
  | 125 => ⟨S4x2048x128, .f32⟩
  | 126 => ⟨S4x2048x128, .f32⟩
  | 127 => ⟨S4x2048x512, .f32⟩
  | _ => ⟨S4x2048x3328, .f32⟩

abbrev hbmTy0_1 (i : Nat) : BufTy := match i % 128 with
  | 0 => ⟨S4x2048x1536, .f32⟩
  | 1 => ⟨S4x2048x512, .f32⟩
  | 2 => ⟨S4x2048x512, .f32⟩
  | 3 => ⟨S4x2048x512, .f32⟩
  | 4 => ⟨S4x2048x512, .f32⟩
  | 5 => ⟨S4x2048x512, .f32⟩
  | 6 => ⟨S4x2048x512, .f32⟩
  | 7 => ⟨S4x2048x512, .f32⟩
  | 8 => ⟨S4x2048x512, .f32⟩
  | 9 => ⟨S4x2048x512, .f32⟩
  | 10 => ⟨S4x2048x512, .f32⟩
  | 11 => ⟨S4x2048x1536, .f32⟩
  | 12 => ⟨S_, .f32⟩
  | 13 => ⟨S4x2048x3328, .f32⟩
  | 14 => ⟨S512x128, .f32⟩
  | 15 => ⟨S128x512, .f32⟩
  | 16 => ⟨S4x2048x128, .f32⟩
  | 17 => ⟨S4x2048x128, .f32⟩
  | 18 => ⟨S4x2048x512, .f32⟩
  | 19 => ⟨S_, .f32⟩
  | 20 => ⟨S512, .f32⟩
  | 21 => ⟨S1x1x512, .f32⟩
  | 22 => ⟨S_, .f32⟩
  | 23 => ⟨S512, .f32⟩
  | 24 => ⟨S512x64, .f32⟩
  | 25 => ⟨S64x512, .f32⟩
  | 26 => ⟨S4x2048x64, .f32⟩
  | 27 => ⟨S4x2048x512, .f32⟩
  | 28 => ⟨S4x2048x512, .f32⟩
  | 29 => ⟨S4x2048x512, .f32⟩
  | 30 => ⟨S_, .f32⟩
  | 31 => ⟨S512, .f32⟩
  | 32 => ⟨S1x1x512, .f32⟩
  | 33 => ⟨S_, .f32⟩
  | 34 => ⟨S512, .f32⟩
  | 35 => ⟨S512x64, .f32⟩
  | 36 => ⟨S64x512, .f32⟩
  | 37 => ⟨S4x2048x64, .f32⟩
  | 38 => ⟨S4x2048x64, .f32⟩
  | 39 => ⟨S4x2048x1792, .f32⟩
  | 40 => ⟨S4x2048x1792, .f32⟩
  | 41 => ⟨S4x2048x1792, .f32⟩
  | 42 => ⟨S4x2048x1792, .f32⟩
  | 43 => ⟨S_, .f32⟩
  | 44 => ⟨S1792, .f32⟩
  | 45 => ⟨S1x1x1792, .f32⟩
  | 46 => ⟨S_, .f32⟩
  | 47 => ⟨S1792, .f32⟩
  | 48 => ⟨S4x2048x1792, .f32⟩
  | 49 => ⟨S4x2048x1792, .f32⟩
  | 50 => ⟨S4x1x1792, .f32⟩
  | 51 => ⟨S4x2047x1792, .f32⟩
  | 52 => ⟨S_, .f32⟩
  | 53 => ⟨S4x2048x1792, .f32⟩
  | 54 => ⟨S4x2048x1792, .f32⟩
  | 55 => ⟨S_, .f32⟩
  | 56 => ⟨S4x2048x3328, .f32⟩
  | 57 => ⟨S4x2048x3328, .f32⟩
  | 58 => ⟨S8192x3328, .f32⟩
  | 59 => ⟨S8192x3328, .bf16⟩
  | _ => ⟨S4x2048x3328, .f32⟩

abbrev hbmTy (i : Nat) : BufTy := match i / 128 with
  | 0 => hbmTy0_0 i
  | 1 => hbmTy0_1 i
  | _ => ⟨S4x2048x3328, .f32⟩

abbrev bufTy : (tb : Table) → Fin (tcTables nBuf tb) → BufTy
  | .hbm, ⟨i, _⟩ => hbmTy i
  | _, _ => ⟨S4x2048x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_v28_0 : Ref sig .tc := ⟨.hbm, 62, rfl⟩
abbrev main_call0_cst_0 : Ref sig .tc := ⟨.hbm, 63, rfl⟩
abbrev main_call0_v13 : Ref sig .tc := ⟨.hbm, 64, rfl⟩
abbrev main_call0_v14 : Ref sig .tc := ⟨.hbm, 65, rfl⟩
abbrev main_call0_cst_1 : Ref sig .tc := ⟨.hbm, 66, rfl⟩
abbrev main_call0_v15 : Ref sig .tc := ⟨.hbm, 67, rfl⟩
abbrev main_call0_v16 : Ref sig .tc := ⟨.hbm, 68, rfl⟩
abbrev main_call0_cst_2 : Ref sig .tc := ⟨.hbm, 69, rfl⟩
abbrev main_call0_v17 : Ref sig .tc := ⟨.hbm, 70, rfl⟩
abbrev main_call0_v18 : Ref sig .tc := ⟨.hbm, 71, rfl⟩
abbrev main_call0_cst_3 : Ref sig .tc := ⟨.hbm, 72, rfl⟩
abbrev main_call0_v19 : Ref sig .tc := ⟨.hbm, 73, rfl⟩
abbrev main_call0_v20 : Ref sig .tc := ⟨.hbm, 74, rfl⟩
abbrev main_call0_v21 : Ref sig .tc := ⟨.hbm, 75, rfl⟩
abbrev main_v28_1 : Ref sig .tc := ⟨.hbm, 76, rfl⟩
abbrev main_call0_cst_4 : Ref sig .tc := ⟨.hbm, 77, rfl⟩
abbrev main_call0_cst_5 : Ref sig .tc := ⟨.hbm, 78, rfl⟩
abbrev main_call0_v23 : Ref sig .tc := ⟨.hbm, 79, rfl⟩
abbrev main_call0_cst_6 : Ref sig .tc := ⟨.hbm, 80, rfl⟩
abbrev main_call0_cst_7 : Ref sig .tc := ⟨.hbm, 81, rfl⟩
abbrev main_call0_v24 : Ref sig .tc := ⟨.hbm, 82, rfl⟩
abbrev main_call0_cst_8 : Ref sig .tc := ⟨.hbm, 83, rfl⟩
abbrev main_call0_v25 : Ref sig .tc := ⟨.hbm, 84, rfl⟩
abbrev main_call0_v26 : Ref sig .tc := ⟨.hbm, 85, rfl⟩
abbrev main_call0_cst_9 : Ref sig .tc := ⟨.hbm, 86, rfl⟩
abbrev main_call0_v27 : Ref sig .tc := ⟨.hbm, 87, rfl⟩
abbrev main_call0_v28 : Ref sig .tc := ⟨.hbm, 88, rfl⟩
abbrev main_call0_v29 : Ref sig .tc := ⟨.hbm, 89, rfl⟩
abbrev main_call0_v30 : Ref sig .tc := ⟨.hbm, 90, rfl⟩
abbrev main_call0_v31 : Ref sig .tc := ⟨.hbm, 91, rfl⟩
abbrev main_call0_cst_10 : Ref sig .tc := ⟨.hbm, 92, rfl⟩
abbrev main_call0_v32 : Ref sig .tc := ⟨.hbm, 93, rfl⟩
abbrev main_v28_2 : Ref sig .tc := ⟨.hbm, 94, rfl⟩
abbrev main_v29 : Ref sig .tc := ⟨.hbm, 95, rfl⟩
abbrev main_cst_3 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_cst_4 : Ref sig .tc := ⟨.hbm, 105, rfl⟩
abbrev main_v38 : Ref sig .tc := ⟨.hbm, 106, rfl⟩
abbrev main_v39 : Ref sig .tc := ⟨.hbm, 107, rfl⟩
abbrev main_cst_5 : Ref sig .tc := ⟨.hbm, 108, rfl⟩
abbrev main_v40 : Ref sig .tc := ⟨.hbm, 109, rfl⟩
abbrev main_v41 : Ref sig .tc := ⟨.hbm, 110, rfl⟩
abbrev main_cst_6 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_cst_7 : Ref sig .tc := ⟨.hbm, 117, rfl⟩
abbrev main_v47 : Ref sig .tc := ⟨.hbm, 118, rfl⟩
abbrev main_v48 : Ref sig .tc := ⟨.hbm, 119, rfl⟩
abbrev main_cst_8 : Ref sig .tc := ⟨.hbm, 120, rfl⟩
abbrev main_v49 : Ref sig .tc := ⟨.hbm, 121, rfl⟩
abbrev main_v50 : Ref sig .tc := ⟨.hbm, 122, rfl⟩
abbrev main_cst_9 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_10 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_cst_11 : Ref sig .tc := ⟨.hbm, 147, rfl⟩
abbrev main_v73 : Ref sig .tc := ⟨.hbm, 148, rfl⟩
abbrev main_v74 : Ref sig .tc := ⟨.hbm, 149, rfl⟩
abbrev main_cst_12 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_cst_13 : Ref sig .tc := ⟨.hbm, 158, rfl⟩
abbrev main_v82 : Ref sig .tc := ⟨.hbm, 159, rfl⟩
abbrev main_v83 : Ref sig .tc := ⟨.hbm, 160, rfl⟩
abbrev main_cst_14 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_cst_15 : Ref sig .tc := ⟨.hbm, 171, rfl⟩
abbrev main_v93 : Ref sig .tc := ⟨.hbm, 172, rfl⟩
abbrev main_v94 : Ref sig .tc := ⟨.hbm, 173, rfl⟩
abbrev main_cst_16 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_cst_17 : Ref sig .tc := ⟨.hbm, 180, rfl⟩
abbrev main_v100 : Ref sig .tc := ⟨.hbm, 181, rfl⟩
abbrev main_v101 : Ref sig .tc := ⟨.hbm, 182, rfl⟩
abbrev main_cst_18 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩

abbrev nD : Nat := 1
abbrev τ : Topo := Topo.v7x

variable {F : FTy → Type} [FloatOps F]
-- ==== Up.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .bf16⟩
  | .local _ .vmem, ⟨7, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ProjOut.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ProjOutRefIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Mix.lean ====
abbrev S8192x512 : Shape := ⟨2, ![8192, 512]⟩
abbrev S8192x1024 : Shape := ⟨2, ![8192, 1024]⟩
abbrev S512x512 : Shape := ⟨2, ![512, 512]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixRefIdeal.lean ====
abbrev S8192x512 : Shape := ⟨2, ![8192, 512]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x1024, .f32⟩
  | .hbm, ⟨5, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Norm1.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Norm1RefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== PrepFwd.lean ====
abbrev S4x2048x3328 : Shape := ⟨3, ![4, 2048, 3328]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S_ : Shape := ⟨0, ![]⟩
abbrev S1x1792 : Shape := ⟨2, ![1, 1792]⟩
abbrev S1x512 : Shape := ⟨2, ![1, 512]⟩
abbrev S8192x3328 : Shape := ⟨2, ![8192, 3328]⟩
abbrev S8192x512 : Shape := ⟨2, ![8192, 512]⟩
abbrev S32x8x1792 : Shape := ⟨3, ![32, 8, 1792]⟩
abbrev S512x1792 : Shape := ⟨2, ![512, 1792]⟩
abbrev S512x512 : Shape := ⟨2, ![512, 512]⟩
abbrev S2x8x1792 : Shape := ⟨3, ![2, 8, 1792]⟩
abbrev S8x1792 : Shape := ⟨2, ![8, 1792]⟩
abbrev S504x1792 : Shape := ⟨2, ![504, 1792]⟩
abbrev S1x8x1792 : Shape := ⟨3, ![1, 8, 1792]⟩
abbrev S512x128 : Shape := ⟨2, ![512, 128]⟩

abbrev nBuf : Space → Nat
  | .hbm => 25
  | .vmem => 23
  | .smem => 0
  | _ => 0

abbrev bufTy : (tb : Table) → Fin (tcTables nBuf tb) → BufTy
  | .hbm, ⟨0, _⟩ => ⟨S4x2048x3328, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S_, .bf16⟩
  | .hbm, ⟨8, _⟩ => ⟨S64x512, .bf16⟩
  | .hbm, ⟨9, _⟩ => ⟨S64x512, .bf16⟩
  | .hbm, ⟨10, _⟩ => ⟨S128x512, .bf16⟩
  | .hbm, ⟨11, _⟩ => ⟨S64x512, .bf16⟩
  | .hbm, ⟨12, _⟩ => ⟨S128x512, .bf16⟩
  | .hbm, ⟨13, _⟩ => ⟨S1x1792, .f32⟩
  | .hbm, ⟨14, _⟩ => ⟨S1x512, .f32⟩
  | .hbm, ⟨15, _⟩ => ⟨S1x512, .f32⟩
  | .hbm, ⟨16, _⟩ => ⟨S128x512, .bf16⟩
  | .hbm, ⟨17, _⟩ => ⟨S8192x3328, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S32x8x1792, .f32⟩
  | .local _ .vmem, ⟨0, _⟩ => ⟨S512x1792, .f32⟩
  | .local _ .vmem, ⟨1, _⟩ => ⟨S512x1792, .f32⟩
  | .local _ .vmem, ⟨2, _⟩ => ⟨S1x1792, .f32⟩
  | .local _ .vmem, ⟨3, _⟩ => ⟨S1x512, .f32⟩
  | .local _ .vmem, ⟨4, _⟩ => ⟨S128x512, .bf16⟩
  | .local _ .vmem, ⟨5, _⟩ => ⟨S1x512, .f32⟩
  | .local _ .vmem, ⟨6, _⟩ => ⟨S128x512, .bf16⟩
  | .local _ .vmem, ⟨7, _⟩ => ⟨S128x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S2x8x1792, .f32⟩
  | .local _ .vmem, ⟨21, _⟩ => ⟨S2x8x1792, .f32⟩
  | .local _ .vmem, ⟨22, _⟩ => ⟨S8x1792, .f32⟩
  | _, _ => ⟨S4x2048x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev main_v10_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x8x1792 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PrepFwdRefIdeal.lean ====
abbrev S4x2048x3328 : Shape := ⟨3, ![4, 2048, 3328]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S_ : Shape := ⟨0, ![]⟩
abbrev S4x2048x512 : Shape := ⟨3, ![4, 2048, 512]⟩
abbrev S4x2048x1792 : Shape := ⟨3, ![4, 2048, 1792]⟩
abbrev S4x1x1792 : Shape := ⟨3, ![4, 1, 1792]⟩
abbrev S4x2047x1792 : Shape := ⟨3, ![4, 2047, 1792]⟩
abbrev S1x1x1792 : Shape := ⟨3, ![1, 1, 1792]⟩
abbrev S4x2048x64 : Shape := ⟨3, ![4, 2048, 64]⟩
abbrev S4x2048x128 : Shape := ⟨3, ![4, 2048, 128]⟩
abbrev S1x1x512 : Shape := ⟨3, ![1, 1, 512]⟩
abbrev S4x2048x1536 : Shape := ⟨3, ![4, 2048, 1536]⟩
abbrev S32x256x1792 : Shape := ⟨3, ![32, 256, 1792]⟩
abbrev S32x8x1792 : Shape := ⟨3, ![32, 8, 1792]⟩
abbrev S8192x512 : Shape := ⟨2, ![8192, 512]⟩

abbrev nBuf : Space → Nat
  | .hbm => 92
  | .vmem => 0
  | .smem => 0
  | _ => 0

abbrev bufTy : (tb : Table) → Fin (tcTables nBuf tb) → BufTy
  | .hbm, ⟨0, _⟩ => ⟨S4x2048x3328, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S_, .f32⟩
  | .hbm, ⟨8, _⟩ => ⟨S4x2048x512, .f32⟩
  | .hbm, ⟨9, _⟩ => ⟨S4x2048x1792, .f32⟩
  | .hbm, ⟨10, _⟩ => ⟨S4x1x1792, .f32⟩
  | .hbm, ⟨11, _⟩ => ⟨S_, .f32⟩
  | .hbm, ⟨12, _⟩ => ⟨S4x1x1792, .f32⟩
  | .hbm, ⟨13, _⟩ => ⟨S4x2047x1792, .f32⟩
  | .hbm, ⟨14, _⟩ => ⟨S4x2048x1792, .f32⟩
  | .hbm, ⟨15, _⟩ => ⟨S4x2048x1792, .f32⟩
  | .hbm, ⟨16, _⟩ => ⟨S1x1x1792, .f32⟩
  | .hbm, ⟨17, _⟩ => ⟨S4x2048x1792, .f32⟩
  | .hbm, ⟨18, _⟩ => ⟨S4x2048x1792, .f32⟩
  | .hbm, ⟨19, _⟩ => ⟨S4x2048x1792, .f32⟩
  | .hbm, ⟨20, _⟩ => ⟨S4x2048x512, .f32⟩
  | .hbm, ⟨21, _⟩ => ⟨S4x2048x512, .f32⟩
  | .hbm, ⟨22, _⟩ => ⟨S4x2048x512, .f32⟩
  | .hbm, ⟨23, _⟩ => ⟨S4x2048x64, .f32⟩
  | .hbm, ⟨24, _⟩ => ⟨S4x2048x64, .f32⟩
  | .hbm, ⟨25, _⟩ => ⟨S4x2048x128, .f32⟩
  | .hbm, ⟨26, _⟩ => ⟨S4x2048x64, .f32⟩
  | .hbm, ⟨27, _⟩ => ⟨S4x2048x512, .f32⟩
  | .hbm, ⟨28, _⟩ => ⟨S1x1x512, .f32⟩
  | .hbm, ⟨29, _⟩ => ⟨S4x2048x512, .f32⟩
  | .hbm, ⟨30, _⟩ => ⟨S4x2048x512, .f32⟩
  | .hbm, ⟨31, _⟩ => ⟨S4x2048x512, .f32⟩
  | .hbm, ⟨32, _⟩ => ⟨S_, .f32⟩
  | .hbm, ⟨33, _⟩ => ⟨S4x2048x512, .f32⟩
  | .hbm, ⟨34, _⟩ => ⟨S4x2048x512, .f32⟩
  | .hbm, ⟨35, _⟩ => ⟨S4x2048x512, .f32⟩
  | .hbm, ⟨36, _⟩ => ⟨S4x2048x512, .f32⟩
  | .hbm, ⟨37, _⟩ => ⟨S4x2048x512, .i1⟩
  | .hbm, ⟨38, _⟩ => ⟨S4x2048x512, .f32⟩
  | .hbm, ⟨39, _⟩ => ⟨S4x2048x512, .f32⟩
  | .hbm, ⟨40, _⟩ => ⟨S4x2048x512, .f32⟩
  | .hbm, ⟨41, _⟩ => ⟨S4x2048x512, .f32⟩
  | .hbm, ⟨42, _⟩ => ⟨S4x2048x512, .f32⟩
  | .hbm, ⟨43, _⟩ => ⟨S4x2048x512, .f32⟩
  | .hbm, ⟨44, _⟩ => ⟨S4x2048x512, .f32⟩
  | .hbm, ⟨45, _⟩ => ⟨S4x2048x512, .f32⟩
  | .hbm, ⟨46, _⟩ => ⟨S4x2048x512, .f32⟩
  | .hbm, ⟨47, _⟩ => ⟨S_, .f32⟩
  | .hbm, ⟨48, _⟩ => ⟨S4x2048x512, .f32⟩
  | .hbm, ⟨49, _⟩ => ⟨S4x2048x512, .f32⟩
  | .hbm, ⟨50, _⟩ => ⟨S4x2048x512, .f32⟩
  | .hbm, ⟨51, _⟩ => ⟨S1x1x512, .f32⟩
  | .hbm, ⟨52, _⟩ => ⟨S4x2048x512, .f32⟩
  | .hbm, ⟨53, _⟩ => ⟨S4x2048x512, .f32⟩
  | .hbm, ⟨54, _⟩ => ⟨S4x2048x512, .f32⟩
  | .hbm, ⟨55, _⟩ => ⟨S4x2048x512, .f32⟩
  | .hbm, ⟨56, _⟩ => ⟨S_, .f32⟩
  | .hbm, ⟨57, _⟩ => ⟨S4x2048x512, .f32⟩
  | .hbm, ⟨58, _⟩ => ⟨S4x2048x512, .f32⟩
  | .hbm, ⟨59, _⟩ => ⟨S_, .f32⟩
  | .hbm, ⟨60, _⟩ => ⟨S4x2048x512, .f32⟩
  | .hbm, ⟨61, _⟩ => ⟨S4x2048x512, .f32⟩
  | .hbm, ⟨62, _⟩ => ⟨S4x2048x128, .f32⟩
  | .hbm, ⟨63, _⟩ => ⟨S4x2048x128, .f32⟩
  | .hbm, ⟨64, _⟩ => ⟨S_, .f32⟩
  | .hbm, ⟨65, _⟩ => ⟨S4x2048x128, .f32⟩
  | .hbm, ⟨66, _⟩ => ⟨S4x2048x128, .f32⟩
  | .hbm, ⟨67, _⟩ => ⟨S_, .f32⟩
  | .hbm, ⟨68, _⟩ => ⟨S4x2048x128, .f32⟩
  | .hbm, ⟨69, _⟩ => ⟨S4x2048x128, .f32⟩
  | .hbm, ⟨70, _⟩ => ⟨S4x2048x512, .f32⟩
  | .hbm, ⟨71, _⟩ => ⟨S4x2048x1536, .f32⟩
  | .hbm, ⟨72, _⟩ => ⟨S4x2048x512, .f32⟩
  | .hbm, ⟨73, _⟩ => ⟨S4x2048x512, .f32⟩
  | .hbm, ⟨74, _⟩ => ⟨S4x2048x512, .f32⟩
  | .hbm, ⟨75, _⟩ => ⟨S4x2048x512, .f32⟩
  | .hbm, ⟨76, _⟩ => ⟨S4x2048x512, .f32⟩
  | .hbm, ⟨77, _⟩ => ⟨S4x2048x512, .f32⟩
  | .hbm, ⟨78, _⟩ => ⟨S4x2048x1792, .f32⟩
  | .hbm, ⟨79, _⟩ => ⟨S4x1x1792, .f32⟩
  | .hbm, ⟨80, _⟩ => ⟨S_, .f32⟩
  | .hbm, ⟨81, _⟩ => ⟨S4x1x1792, .f32⟩
  | .hbm, ⟨82, _⟩ => ⟨S4x2047x1792, .f32⟩
  | .hbm, ⟨83, _⟩ => ⟨S4x2048x1792, .f32⟩
  | .hbm, ⟨84, _⟩ => ⟨S32x256x1792, .f32⟩
  | .hbm, ⟨85, _⟩ => ⟨S32x8x1792, .f32⟩
  | .hbm, ⟨86, _⟩ => ⟨S8192x512, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S8192x512, .f32⟩
  | _, _ => ⟨S4x2048x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_2 : Ref sig .tc := ⟨.hbm, 56, rfl⟩
abbrev main_v33 : Ref sig .tc := ⟨.hbm, 57, rfl⟩
abbrev main_v34 : Ref sig .tc := ⟨.hbm, 58, rfl⟩
abbrev main_cst_3 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_4 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_6 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]
-- ==== ProjIn.lean ====
abbrev S8192x1024 : Shape := ⟨2, ![8192, 1024]⟩
abbrev S1024x3328 : Shape := ⟨2, ![1024, 3328]⟩
abbrev S8192x3328 : Shape := ⟨2, ![8192, 3328]⟩
abbrev S2048x1024 : Shape := ⟨2, ![2048, 1024]⟩
abbrev S1024x1664 : Shape := ⟨2, ![1024, 1664]⟩
abbrev S2048x1664 : Shape := ⟨2, ![2048, 1664]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3328, .bf16⟩
  | .hbm, ⟨2, _⟩ => ⟨S8192x3328, .f32⟩
  | .local _ .vmem, ⟨0, _⟩ => ⟨S2048x1024, .bf16⟩
  | .local _ .vmem, ⟨1, _⟩ => ⟨S2048x1024, .bf16⟩
  | .local _ .vmem, ⟨2, _⟩ => ⟨S1024x1664, .bf16⟩
  | .local _ .vmem, ⟨3, _⟩ => ⟨S1024x1664, .bf16⟩
  | .local _ .vmem, ⟨4, _⟩ => ⟨S2048x1664, .f32⟩
  | .local _ .vmem, ⟨5, _⟩ => ⟨S2048x1664, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S8192x1024 : Shape := ⟨2, ![8192, 1024]⟩
abbrev S1024x3328 : Shape := ⟨2, ![1024, 3328]⟩
abbrev S8192x3328 : Shape := ⟨2, ![8192, 3328]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3328, .bf16⟩
  | .hbm, ⟨2, _⟩ => ⟨S8192x1024, .f32⟩
  | .hbm, ⟨3, _⟩ => ⟨S1024x3328, .f32⟩
  | .hbm, ⟨4, _⟩ => ⟨S8192x3328, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DYcat.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYcatRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWDown.lean ====
abbrev S8192x4096 : Shape := ⟨2, ![8192, 4096]⟩
abbrev S8192x1024 : Shape := ⟨2, ![8192, 1024]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWDownRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S_, .f32⟩
  | .hbm, ⟨4, _⟩ => ⟨S4096x1024, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Adam.lean ====
abbrev S1024x512 : Shape := ⟨2, ![1024, 512]⟩
abbrev S8x1024x512 : Shape := ⟨3, ![8, 1024, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S8x256x512, .bf16⟩
  | .local _ .vmem, ⟨3, _⟩ => ⟨S8x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S1024x512 : Shape := ⟨2, ![1024, 512]⟩
abbrev S8x1024x512 : Shape := ⟨3, ![8, 1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.PrepRow.lean ====
/- The gradient of the recurrence's prepared arguments on real numbers, one row at a time: what a row of the projection, the row before
   it and the row's cotangents make of the row's gradient, and the row's part of the gradients of the parameters. -/
module

public import Idealize.ShloMosaic.Lib.Pointwise
public import Idealize.ShloMosaic.PureOps.Ideal

@[expose] public section

noncomputable section

open Idealize.ShloMosaic
open scoped BigOperators

namespace Cert.Prep

/-- A two-axis array that holds the real numbers of `f`. -/
def Re {m n : ℕ} (x : (⟨2, ![m, n]⟩ : Shape).Idx → EReal) (f : ℕ → ℕ → ℝ) : Prop :=
  ∀ (a : Fin m) (b : Fin n), x (ix2 a b) = ((f a.val b.val : ℝ) : EReal)

/-- A three-axis array that holds the real numbers of `f`. -/
def Re3 {l m n : ℕ} (x : (⟨3, ![l, m, n]⟩ : Shape).Idx → EReal) (f : ℕ → ℕ → ℕ → ℝ) : Prop :=
  ∀ (a : Fin l) (b : Fin m) (c : Fin n), x (ix3 a b c) = ((f a.val b.val c.val : ℝ) : EReal)

theorem sum_re {n : ℕ} (f : ℕ → ℝ) : (∑ k : Fin n, ((f k.val : ℝ) : EReal)) = ((∑ k ∈ Finset.range n, f k : ℝ) : EReal) := by
  rw [Finset.sum_range]
  induction n with
  | zero => simp
  | succ n ih => rw [Fin.sum_univ_castSucc, Fin.sum_univ_castSucc, EReal.coe_add]; exact congrArg (· + _) ih

theorem coe_max (x y : ℝ) : ((max x y : ℝ) : EReal) = max (x : EReal) (y : EReal) := EReal.coe_strictMono.monotone.map_max

theorem abs_re (x : ℝ) : max (x : EReal) (-(x : EReal)) = ((|x| : ℝ) : EReal) := by
  rw [← EReal.coe_neg, ← coe_max]; rfl

/-- The float word 0.5. -/
theorem half_re : Ideal.ofBits FTy.f32 0x3F000000#32 = ((1 / 2 : ℝ) : EReal) := by
  simp [Ideal.ofBits, Ideal.ieee]
  norm_cast
  norm_num

/-- The float word 1. -/
theorem one_re : Ideal.ofBits FTy.f32 0x3F800000#32 = ((1 : ℝ) : EReal) := by
  simp [Ideal.ofBits, Ideal.ieee]
  norm_cast
  norm_num

/-- The float word of +∞. -/
theorem pinf : Ideal.ofBits .f32 0x7F800000#32 = (⊤ : EReal) := by
  simp [Ideal.ofBits, Ideal.ieee]

/-- The logistic function. -/
def sg (x : ℝ) : ℝ := 1 / (1 + Real.exp (-x))

theorem sg_tanh (x : ℝ) : 1 / 2 * (Real.tanh (1 / 2 * x) + 1) = sg x := by
  unfold sg
  rw [Real.tanh_eq_sinh_div_cosh, Real.sinh_eq, Real.cosh_eq, show -x = -(1 / 2 * x) + -(1 / 2 * x) by ring, Real.exp_add, Real.exp_neg]
  have h := Real.exp_pos (1 / 2 * x)
  generalize Real.exp (1 / 2 * x) = a at h ⊢
  have ha : a ≠ 0 := ne_of_gt h
  have h1 : a + a⁻¹ ≠ 0 := by positivity
  have h2 : 1 + a⁻¹ * a⁻¹ ≠ 0 := by positivity
  field_simp
  ring

theorem dsg_tanh (x : ℝ) : (1 + Real.tanh (1 / 2 * x)) * (1 - Real.tanh (1 / 2 * x)) = 4 * (sg x * (1 - sg x)) := by
  rw [← sg_tanh]; ring

/-- log (1 + exp z). -/
def sp (z : ℝ) : ℝ := max z 0 + Real.log (1 + Real.exp (-|z|))

theorem log_pos (z : ℝ) : Ideal.log (1 + Ideal.exp (((-|z| : ℝ)) : EReal)) = ((Real.log (1 + Real.exp (-|z|)) : ℝ) : EReal) := by
  have hp : ¬ (1 + Real.exp (-|z|) ≤ 0) := not_le.2 (by positivity)
  rw [Ideal.exp_coe, ← EReal.coe_one, ← EReal.coe_add, Ideal.log_coe, if_neg hp]

/-- The parameters. -/
structure Pars where
  mu : ℕ → ℝ
  w0 : ℕ → ℝ
  a0 : ℕ → ℝ
  wd : ℕ → ℕ → ℝ
  wa : ℕ → ℕ → ℝ
  wg : ℕ → ℕ → ℝ

/-- A row of the projection, the row before it, and the row's cotangents (the gate's is `dy * z`). -/
structure Row where
  p : ℕ → ℝ
  q : ℕ → ℝ
  dr : ℕ → ℝ
  dk : ℕ → ℝ
  dv : ℕ → ℝ
  dlw : ℕ → ℝ
  da : ℕ → ℝ
  dy : ℕ → ℝ
  z : ℕ → ℝ

variable (A : Pars) (R : Row)

/-- The row mixed with the row before it. -/
def pm (j : ℕ) : ℝ := R.p j + A.mu j * (R.q j - R.p j)
/-- The decay's inner activation. -/
def tw (i : ℕ) : ℝ := Real.tanh (pm A R (1536 + i))
/-- The decay's argument, negated. -/
def zz (d : ℕ) : ℝ := -(A.w0 d + ∑ i ∈ Finset.range 64, tw A R i * A.wd i d)
/-- The decay's rate. -/
def ew (d : ℕ) : ℝ := Real.exp (-sp (zz A R d) - 1 / 2)
/-- The cotangent of the decay's argument. -/
def gz (d : ℕ) : ℝ := -(R.dlw d * ew A R d * Real.exp (zz A R d - sp (zz A R d)))
/-- The learning rate's argument and the cotangent of it. -/
def aa (d : ℕ) : ℝ := A.a0 d + ∑ i ∈ Finset.range 64, pm A R (1600 + i) * A.wa i d
def ga (d : ℕ) : ℝ := R.da d * (sg (aa A R d) * (1 - sg (aa A R d)))
/-- The gate's cotangent. -/
def dg (d : ℕ) : ℝ := R.dy d * R.z d
/-- The gate's inner activation. -/
def sx (i : ℕ) : ℝ := sg (pm A R (1664 + i))
/-- The gradients of the three low-rank columns. -/
def tx (i : ℕ) : ℝ := (∑ d ∈ Finset.range 512, gz A R d * A.wd i d) * ((1 + tw A R i) * (1 - tw A R i))
def ax (i : ℕ) : ℝ := ∑ d ∈ Finset.range 512, ga A R d * A.wa i d
def gx (i : ℕ) : ℝ := (∑ d ∈ Finset.range 512, dg R d * A.wg i d) * (sx A R i * (1 - sx A R i))
/-- The cotangent of the mixed row. -/
def D (j : ℕ) : ℝ :=
  if j < 512 then R.dr j else if j < 1024 then R.dk (j - 512) else if j < 1536 then R.dv (j - 1024)
  else if j < 1600 then tx A R (j - 1536) else if j < 1664 then ax A R (j - 1600) else gx A R (j - 1664)

end Cert.Prep

end
-- ==== Proof.FwdPay.lean ====
/- What the body of the forward call `rwkv_prep` computes of a tile of 512 rows, element by element. -/
module

public import proofs.«01_k».proof.Proof.Gen.PrepFwdIdeal.Skeleton
public import proofs.«01_k».proof.Proof.PrepRow
public import Idealize.ShloMosaic.Lib.Pointwise
public import Idealize.ShloMosaic.Lib.KernelVsHost
public import Idealize.ShloMosaic.Lib.WordCmp

@[expose] public section

set_option maxRecDepth 16384

noncomputable section

open Idealize.ShloMosaic Idealize.ShloMosaic.TcCoe Idealize.SL.Sem
open scoped BigOperators

namespace Cert.PrepFwdIdeal.Pay

open Cert.PrepFwdIdeal Cert.PrepFwdIdeal.Gen Cert.Prep

theorem is_zero (a : Fin 8) : IntOp.cmpi .eq (BitVec.ofNat 32 a.val) 0#32 = if a.val = 0 then 1#1 else 0#1 := by
  split_ifs with h <;> word_cmp

/-- Whether a tile is the first of its sequence, as the body decides it. -/
def atStart (i : grid0.Coords) : BitVec 1 :=
  let arg0 : BitVec 32 := BitVec.ofNat 32 (i 0).val
  let v5 : BitVec 1 := Scalar.cmpi .eq 4#32 0#32
  let v6 : BitVec 32 := Scalar.select v5 1#32 4#32
  let v7 : BitVec 32 := Scalar.remsi arg0 v6
  let v8 : BitVec 1 := Scalar.cmpi .ne v7 0#32
  let v9 : BitVec 1 := Scalar.cmpi .slt v7 0#32
  let v10 : BitVec 1 := Scalar.cmpi .slt v6 0#32
  let v11 : BitVec 1 := Scalar.xori v9 v10
  let v12 : BitVec 1 := Scalar.andi v11 v8
  let v13 : BitVec 32 := Scalar.addi v7 v6
  let v14 : BitVec 32 := Scalar.select v12 v13 v7
  Scalar.cmpi .eq v14 0#32

theorem atStart_val : ∀ t : Fin cfg0.N, atStart (grid0.coords t) = if t.val % 4 = 0 then 1#1 else 0#1 :=
  (by decide +kernel : ∀ t : Fin grid0.N, _)

/-- The rows above the tile's rows: the first is `head`. -/
def shifted (head : FVec Ideal S8x1792 .f32) (v3 : Vec Ideal S512x1792 .f32) : FVec Ideal S512x1792 .f32 :=
  concatenate S512x1792 0 [⟨S8x1792, select (cmpi .eq (iota .tc S8x1792 32 [0] iota_S8x1792_d0_w32) (broadcast S8x1792 0#32)) head (extractStridedSlice S8x1792 ![0, 0] (k0_pay3 v3) slices_S512x1792_o0_0_S8x1792)⟩,
    ⟨S504x1792, extractStridedSlice S504x1792 ![8, 0] (k0_pay3 v3) slices_S512x1792_o8_0_S504x1792⟩] concatenates_S8x1792_S504x1792_S512x1792_d0

theorem shifted_val (head : FVec Ideal S8x1792 .f32) (v3 : Vec Ideal S512x1792 .f32) (s : Fin 512) (j : Fin 1792) :
    shifted head v3 (ix2 s j) = if s.val = 0 then head (ix2 (0 : Fin 8) j) else v3 (ix2 (⟨s.val - 1, by omega⟩ : Fin 512) j) := by
  unfold shifted k0_pay3
  rw [show k0_pay2 v3 = v3 from shapeCast_id v3 _]
  pointwise
  by_cases h : s.val < 8
  · refine (dif_pos h).trans ?_
    show Scalar.select (IntOp.cmpi .eq (BitVec.ofNat 32 ((⟨s.val, h⟩ : Fin 8)).val) 0#32) (head (ix2 ⟨s.val, _⟩ j)) (v3 (ix2 ⟨(s.val + 512 - 1) % 512, _⟩ j)) = _
    rw [is_zero]
    by_cases h0 : s.val = 0
    · rw [if_pos h0, if_pos h0]
      show head (ix2 ⟨s.val, _⟩ j) = _
      rw [show (⟨s.val, h⟩ : Fin 8) = 0 from Fin.ext h0]
    · rw [if_neg h0, if_neg h0]
      show v3 (ix2 ⟨(s.val + 512 - 1) % 512, _⟩ j) = _
      congr 2; apply Fin.ext; show (s.val + 512 - 1) % 512 = s.val - 1; omega
  · refine (dif_neg h).trans ?_
    rw [if_neg (show ¬ s.val = 0 by omega)]
    show v3 (ix2 ⟨(8 + (s.val - 8) + 512 - 1) % 512, _⟩ j) = _
    congr 2; apply Fin.ext; show (8 + (s.val - 8) + 512 - 1) % 512 = s.val - 1; omega

theorem pay4_eq (i : grid0.Coords) (b : BitVec 1) (hb : atStart i = b) (v3 : Vec Ideal S512x1792 .f32) (v16 : Vec Ideal S8x1792 .f32) :
    k0_pay4 i v3 v16 = shifted (Scalar.select b (broadcast S8x1792 (Scalar.ofBits .f32 0x00000000#32)) (dynamicRotate 0 1#32 none v16 rotates_S8x1792_d0)) v3 := by
  subst hb; rfl

/-- The row above: zero above a sequence's first row, the last row the tile before left above any other tile's first. -/
theorem pay4_val (t : Fin cfg0.N) (v3 : Vec Ideal S512x1792 .f32) (v16 : Vec Ideal S8x1792 .f32) (s : Fin 512) (j : Fin 1792) :
    k0_pay4 (grid0.coords t) v3 v16 (ix2 s j) = if s.val = 0 then (if t.val % 4 = 0 then (0 : EReal) else v16 (ix2 (7 : Fin 8) j)) else v3 (ix2 (⟨s.val - 1, by omega⟩ : Fin 512) j) := by
  by_cases h : t.val % 4 = 0
  · rw [pay4_eq _ 1#1 ((atStart_val t).trans (if_pos h)), shifted_val, if_pos h]
    by_cases h0 : s.val = 0
    · rw [if_pos h0, if_pos h0]
      show broadcast S8x1792 (Scalar.ofBits .f32 0x00000000#32) (ix2 (0 : Fin 8) j) = _
      pointwise
    · rw [if_neg h0, if_neg h0]
  · rw [pay4_eq _ 0#1 ((atStart_val t).trans (if_neg h)), shifted_val, if_neg h]
    by_cases h0 : s.val = 0
    · rw [if_pos h0, if_pos h0]
      show dynamicRotate 0 1#32 none v16 rotates_S8x1792_d0 (ix2 (0 : Fin 8) j) = _
      pointwise
    · rw [if_neg h0, if_neg h0]

theorem pay12_val (v4 v27 : FVec Ideal S512x1792 .f32) (v40 : Vec Ideal S1x1792 .f32) (s : Fin 512) (j : Fin 1792) :
    k0_pay12 v4 v27 v40 (ix2 s j) = v4 (ix2 s j) + v40 (ix2 (0 : Fin 1) j) * (v27 (ix2 s j) - v4 (ix2 s j)) := by
  pointwise [k0_pay12]

theorem pay13_val (v4 v27 : FVec Ideal S512x1792 .f32) (v40 : Vec Ideal S1x1792 .f32) (s : Fin 512) (d : Fin 512) :
    k0_pay13 v4 v27 v40 (ix2 s d) = k0_pay12 v4 v27 v40 (ix2 s (⟨d.val, by omega⟩ : Fin 1792)) := by
  unfold k0_pay13; generalize k0_pay12 v4 v27 v40 = X; pointwise
theorem pay14_val (v4 v27 : FVec Ideal S512x1792 .f32) (v40 : Vec Ideal S1x1792 .f32) (s : Fin 512) (d : Fin 512) :
    k0_pay14 v4 v27 v40 (ix2 s d) = k0_pay12 v4 v27 v40 (ix2 s (⟨512 + d.val, by omega⟩ : Fin 1792)) := by
  unfold k0_pay14; generalize k0_pay12 v4 v27 v40 = X; pointwise
theorem pay15_val (v4 v27 : FVec Ideal S512x1792 .f32) (v40 : Vec Ideal S1x1792 .f32) (s : Fin 512) (d : Fin 512) :
    k0_pay15 v4 v27 v40 (ix2 s d) = k0_pay12 v4 v27 v40 (ix2 s (⟨1024 + d.val, by omega⟩ : Fin 1792)) := by
  unfold k0_pay15; generalize k0_pay12 v4 v27 v40 = X; pointwise
theorem pay16_val (v4 v27 : FVec Ideal S512x1792 .f32) (v40 : Vec Ideal S1x1792 .f32) (s : Fin 512) (d : Fin 128) :
    k0_pay16 v4 v27 v40 (ix2 s d) = k0_pay12 v4 v27 v40 (ix2 s (⟨1536 + d.val, by omega⟩ : Fin 1792)) := by
  unfold k0_pay16; generalize k0_pay12 v4 v27 v40 = X; pointwise
theorem pay17_val (v4 v27 : FVec Ideal S512x1792 .f32) (v40 : Vec Ideal S1x1792 .f32) (s : Fin 512) (d : Fin 128) :
    k0_pay17 v4 v27 v40 (ix2 s d) = k0_pay12 v4 v27 v40 (ix2 s (⟨1664 + d.val, by omega⟩ : Fin 1792)) := by
  unfold k0_pay17; generalize k0_pay12 v4 v27 v40 = X; pointwise

/-- Minus the decay's argument. -/
theorem pay18_val (v4 v27 : FVec Ideal S512x1792 .f32) (v40 : Vec Ideal S1x1792 .f32) (v42 : Vec Ideal S1x512 .f32) (v44 : Vec Ideal S128x512 .bf16) (s d : Fin 512) :
    k0_pay18 v4 v27 v40 v42 v44 (ix2 s d) = -(v42 (ix2 (0 : Fin 1) d) + ∑ k : Fin 128, Ideal.tanh (k0_pay12 v4 v27 v40 (ix2 s (⟨1536 + k.val, by omega⟩ : Fin 1792))) * v44 (ix2 k d)) := by
  simp only [← pay16_val]
  unfold k0_pay18
  generalize k0_pay16 v4 v27 v40 = X
  pointwise
  try exact zero_sub _

/-- Minus the exponential of the log-decay. -/
theorem pay21_val (v4 v27 : FVec Ideal S512x1792 .f32) (v40 : Vec Ideal S1x1792 .f32) (v42 : Vec Ideal S1x512 .f32) (v44 : Vec Ideal S128x512 .bf16) (s d : Fin 512) (z : EReal)
    (hz : k0_pay18 v4 v27 v40 v42 v44 (ix2 s d) = z) :
    k0_pay21 (k0_pay19 v4 v27 v40 v42 v44) (k0_pay20 v4 v27 v40 v42 v44) (Scalar.ofBits .f32 0x00000000#32) (ix2 s d)
      = -(Ideal.exp (-(max z 0) - Ideal.log (1 + Ideal.exp (-(max z (-z)))) - Ideal.ofBits .f32 0x3F000000#32)) := by
  subst hz
  unfold k0_pay21 k0_pay19 k0_pay20
  generalize k0_pay18 v4 v27 v40 v42 v44 = X
  pointwise
  simp only [zero_sub]
  rfl

/-- The learning rate. -/
theorem pay22_val (v46 : Vec Ideal S1x512 .f32) (v48 : Vec Ideal S128x512 .bf16) (v59 : FVec Ideal S512x128 .f32) (s d : Fin 512) (x : EReal)
    (hx : v46 (ix2 (0 : Fin 1) d) + ∑ k : Fin 128, v59 (ix2 s k) * v48 (ix2 k d) = x) :
    k0_pay22 (k0_pay9 v46) (k0_pay10 v48) v59 (ix2 s d)
      = Ideal.ofBits .f32 0x3F000000#32 * (Ideal.tanh (Ideal.ofBits .f32 0x3F000000#32 * x) + 1) := by
  subst hx
  pointwise [k0_pay22, k0_pay9, k0_pay10]

/-- The gate. -/
theorem pay23_val (v50 : Vec Ideal S128x512 .bf16) (v60 : FVec Ideal S512x128 .f32) (s d : Fin 512) :
    k0_pay23 (k0_pay11 v50) v60 (ix2 s d)
      = ∑ k : Fin 128, (Ideal.ofBits .f32 0x3F000000#32 * (Ideal.tanh (Ideal.ofBits .f32 0x3F000000#32 * v60 (ix2 s k)) + 1)) * v50 (ix2 k d) := by
  pointwise [k0_pay23, k0_pay11]

/-! ### The same functions in the reference's form -/

/-- The logistic function by a hyperbolic tangent. -/
theorem logistic (x : EReal) : Ideal.ofBits .f32 0x3F000000#32 * (Ideal.tanh (Ideal.ofBits .f32 0x3F000000#32 * x) + 1) = Ideal.div 1 (1 + Ideal.exp (-x)) := by
  rw [half_re]
  induction x with
  | bot =>
    rw [EReal.coe_mul_bot_of_pos (by norm_num)]
    simp only [Ideal.tanh_bot, EReal.neg_bot, Ideal.exp_top]
    rw [show (-1 + 1 : EReal) = 0 from by rw [show (-1 : EReal) = ((-1 : ℝ) : EReal) by simp, ← EReal.coe_one, ← EReal.coe_add]; norm_num, mul_zero, show (1 + ⊤ : EReal) = ⊤ from rfl]
    simp [Ideal.div]
  | coe x =>
    rw [← EReal.coe_neg, Ideal.exp_coe, ← EReal.coe_one, ← EReal.coe_add, Ideal.div_coe (by positivity), ← EReal.coe_mul, ← EReal.coe_mul, one_mul, Ideal.tanh_coe, ← EReal.coe_add, ← EReal.coe_mul, sg_tanh]
    simp [sg]
  | top =>
    rw [EReal.coe_mul_top_of_pos (by norm_num)]
    simp only [Ideal.tanh_top, EReal.neg_top, Ideal.exp_bot, add_zero]
    rw [show (1 + 1 : EReal) = ((2 : ℝ) : EReal) by norm_cast, ← EReal.coe_mul, ← EReal.coe_one, Ideal.div_coe one_ne_zero]
    norm_num

theorem log_one : Ideal.log 1 = ((Real.log 1 : ℝ) : EReal) := by
  refine (show Ideal.log ((1 : ℝ) : EReal) = _ from ?_)
  unfold Ideal.log
  show (if (1 : ℝ) ≤ 0 then (⊥ : EReal) else ((Real.log 1 : ℝ) : EReal)) = _
  rw [if_neg (by norm_num)]

/-- The softplus with its minus sign distributed. -/
theorem softplus_neg (z : EReal) : -(max z 0) - Ideal.log (1 + Ideal.exp (-(max z (-z)))) = -(max z 0 + Ideal.log1p (Ideal.exp (-(max z (-z))))) := by
  have e : Ideal.log1p (Ideal.exp (-(max z (-z)))) = Ideal.log (1 + Ideal.exp (-(max z (-z)))) := rfl
  rw [e]
  have h : Ideal.log (1 + Ideal.exp (-(max z (-z)))) ≠ ⊥ ∧ Ideal.log (1 + Ideal.exp (-(max z (-z)))) ≠ ⊤ := by
    induction z with
    | bot => have h1 : Ideal.log (1 + Ideal.exp (-(max (⊥ : EReal) (-⊥)))) = ((Real.log 1 : ℝ) : EReal) := by
               rw [show -(max (⊥ : EReal) (-⊥)) = ⊥ by simp]; simp only [Ideal.exp_bot, add_zero]; exact log_one
             rw [h1]; exact ⟨EReal.coe_ne_bot _, EReal.coe_ne_top _⟩
    | coe x =>
      rw [abs_re, ← EReal.coe_neg, log_pos]
      exact ⟨EReal.coe_ne_bot _, EReal.coe_ne_top _⟩
    | top => have h1 : Ideal.log (1 + Ideal.exp (-(max (⊤ : EReal) (-⊤)))) = ((Real.log 1 : ℝ) : EReal) := by
               rw [show -(max (⊤ : EReal) (-⊤)) = ⊥ by simp]; simp only [Ideal.exp_bot, add_zero]; exact log_one
             rw [h1]; exact ⟨EReal.coe_ne_bot _, EReal.coe_ne_top _⟩
  rw [EReal.neg_add (Or.inr h.2) (Or.inr h.1)]

/-- A sum over 128 rows, the last 64 of which carry the factor zero. -/
theorem sum_low (f : Fin 128 → EReal) (g : Fin 64 → EReal) :
    ∑ k : Fin 128, f k * (if h : k.val < 64 then g ⟨k.val, h⟩ else 0) = ∑ k : Fin 64, f ⟨k.val, by omega⟩ * g k := by
  refine (Fin.sum_univ_add (a := 64) (b := 64) _).trans ?_
  rw [show (∑ i : Fin 64, f (Fin.natAdd 64 i) * (if h : (Fin.natAdd 64 i).val < 64 then g ⟨(Fin.natAdd 64 i).val, h⟩ else 0)) = 0 from
    Finset.sum_eq_zero fun i _ => by rw [dif_neg (by simp), mul_zero], add_zero]
  refine Finset.sum_congr rfl fun i _ => ?_
  rw [dif_pos (by simp)]
  rfl

/-- A sum over 128 rows, the first 64 of which carry the factor zero. -/
theorem sum_high (f : Fin 128 → EReal) (g : Fin 64 → EReal) :
    ∑ k : Fin 128, f k * (if h : k.val < 64 then 0 else g ⟨k.val - 64, by omega⟩) = ∑ k : Fin 64, f ⟨64 + k.val, by omega⟩ * g k := by
  refine (Fin.sum_univ_add (a := 64) (b := 64) _).trans ?_
  rw [show (∑ i : Fin 64, f (Fin.castAdd 64 i) * (if h : (Fin.castAdd 64 i).val < 64 then 0 else g ⟨(Fin.castAdd 64 i).val - 64, by omega⟩)) = 0 from
    Finset.sum_eq_zero fun i _ => by rw [dif_pos (by simp), mul_zero], zero_add]
  refine Finset.sum_congr rfl fun i _ => ?_
  rw [dif_neg (by simp)]
  congr 2
  apply Fin.ext; simp

end Cert.PrepFwdIdeal.Pay

end
-- ==== Proof.FwdRef.lean ====
/- What the reference of the forward call `rwkv_prep` computes, element by element. -/
module

public import proofs.«01_k».proof.Proof.Gen.PrepFwdRefIdeal.Read
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open scoped BigOperators

namespace Cert.PrepFwdRefIdeal.Val

open Cert.PrepFwdRefIdeal Cert.PrepFwdRefIdeal.Gen Cert.PrepFwdRefIdeal.Read

variable (x0 : (⟨S4x2048x3328, .f32⟩ : BufTy).Contents (Elt Ideal)) (x1 : (⟨S1792, .f32⟩ : BufTy).Contents (Elt Ideal))
  (x2 : (⟨S512, .f32⟩ : BufTy).Contents (Elt Ideal)) (x3 : (⟨S64x512, .f32⟩ : BufTy).Contents (Elt Ideal)) (x4 : (⟨S512, .f32⟩ : BufTy).Contents (Elt Ideal))
  (x5 : (⟨S64x512, .f32⟩ : BufTy).Contents (Elt Ideal)) (x6 : (⟨S128x512, .f32⟩ : BufTy).Contents (Elt Ideal))

/-- The row above, zero above a sequence's first row. -/
def above (b : Fin 4) (u : Fin 2048) (j : Fin 1792) : EReal :=
  if h : u.val < 1 then 0 else x0 (ix3 b (⟨u.val - 1, by omega⟩ : Fin 2048) (⟨j.val, by omega⟩ : Fin 3328))

theorem v5_val (b : Fin 4) (u : Fin 2048) (j : Fin 1792) : val_main_v5 (F := Ideal) x0 (ix3 b u j) = above x0 b u j := by
  unfold above
  pointwise [val_main_v5, val_main_v4, val_main_v3, val_main_v1, val_main_cst_0]

theorem v55_val (b : Fin 4) (u : Fin 2048) (j : Fin 1792) : val_main_v55 (F := Ideal) x0 (ix3 b u j) = above x0 b u j := by
  unfold above
  pointwise [val_main_v55, val_main_v54, val_main_v53, val_main_v51, val_main_cst_6]

/-- The edges: the rows above the first eight rows of every tile of 256. -/
theorem v57_val (k : Fin 32) (a : Fin 8) (j : Fin 1792) :
    val_main_v57 (F := Ideal) x0 (ix3 k a j) = above x0 (⟨(k.val * 256 + a.val) / 2048, by omega⟩ : Fin 4) (⟨(k.val * 256 + a.val) % 2048, by omega⟩ : Fin 2048) j := by
  rw [← v55_val]
  unfold val_main_v57 val_main_v56
  generalize val_main_v55 (F := Ideal) x0 = X
  pointwise
  congr 2 <;> apply Fin.ext <;> dsimp only <;> omega

/-- The mixed row. -/
def mixed (b : Fin 4) (u : Fin 2048) (j : Fin 1792) : EReal :=
  x0 (ix3 b u (⟨j.val, by omega⟩ : Fin 3328)) + x1 (ix1 j) * (above x0 b u j - x0 (ix3 b u (⟨j.val, by omega⟩ : Fin 3328)))

theorem v10_val (b : Fin 4) (u : Fin 2048) (j : Fin 1792) : val_main_v10 (F := Ideal) x0 x1 (ix3 b u j) = mixed x0 x1 b u j := by
  unfold mixed
  rw [← v5_val]
  unfold val_main_v10 val_main_v9 val_main_v6
  generalize val_main_v5 (F := Ideal) x0 = X
  pointwise [val_main_v8, val_main_v7, val_main_v1]

/-- The row of a sequence a row of the flat arrays is. -/
def sq (r : Fin 8192) : Fin 4 := ⟨r.val / 2048, by omega⟩
def ps (r : Fin 8192) : Fin 2048 := ⟨r.val % 2048, by omega⟩

theorem v58_val (r : Fin 8192) (d : Fin 512) : val_main_v58 (F := Ideal) x0 x1 (ix2 r d) = mixed x0 x1 (sq r) (ps r) ⟨d.val, by omega⟩ := by
  rw [← v10_val]
  unfold val_main_v58 val_main_v11
  generalize val_main_v10 (F := Ideal) x0 x1 = X
  pointwise [sq, ps]
theorem v59_val (r : Fin 8192) (d : Fin 512) : val_main_v59 (F := Ideal) x0 x1 (ix2 r d) = mixed x0 x1 (sq r) (ps r) ⟨512 + d.val, by omega⟩ := by
  rw [← v10_val]
  unfold val_main_v59 val_main_v12
  generalize val_main_v10 (F := Ideal) x0 x1 = X
  pointwise [sq, ps]
theorem v60_val (r : Fin 8192) (d : Fin 512) : val_main_v60 (F := Ideal) x0 x1 (ix2 r d) = mixed x0 x1 (sq r) (ps r) ⟨1024 + d.val, by omega⟩ := by
  rw [← v10_val]
  unfold val_main_v60 val_main_v13
  generalize val_main_v10 (F := Ideal) x0 x1 = X
  pointwise [sq, ps]

theorem v14_val (b : Fin 4) (u : Fin 2048) (k : Fin 64) : val_main_v14 (F := Ideal) x0 x1 (ix3 b u k) = mixed x0 x1 b u ⟨1536 + k.val, by omega⟩ := by
  rw [← v10_val]
  unfold val_main_v14
  generalize val_main_v10 (F := Ideal) x0 x1 = X
  pointwise
theorem v15_val (b : Fin 4) (u : Fin 2048) (k : Fin 64) : val_main_v15 (F := Ideal) x0 x1 (ix3 b u k) = mixed x0 x1 b u ⟨1600 + k.val, by omega⟩ := by
  rw [← v10_val]
  unfold val_main_v15
  generalize val_main_v10 (F := Ideal) x0 x1 = X
  pointwise
theorem v16_val (b : Fin 4) (u : Fin 2048) (k : Fin 128) : val_main_v16 (F := Ideal) x0 x1 (ix3 b u k) = mixed x0 x1 b u ⟨1664 + k.val, by omega⟩ := by
  rw [← v10_val]
  unfold val_main_v16
  generalize val_main_v10 (F := Ideal) x0 x1 = X
  pointwise

/-- Minus the decay's argument. -/
theorem v22_val (b : Fin 4) (u : Fin 2048) (d : Fin 512) : val_main_v22 (F := Ideal) x0 x1 x2 x3 (ix3 b u d)
    = -(x2 (ix1 d) + ∑ k : Fin 64, Ideal.tanh (mixed x0 x1 b u ⟨1536 + k.val, by omega⟩) * x3 (ix2 k d)) := by
  simp only [← v14_val]
  unfold val_main_v22 val_main_v21 val_main_v18 val_main_v17
  generalize val_main_v14 (F := Ideal) x0 x1 = X
  pointwise [val_main_v20, val_main_v19]

/-- Minus the exponential of the log-decay. -/
theorem v61_val (r : Fin 8192) (d : Fin 512) (z : EReal) (hz : val_main_v22 (F := Ideal) x0 x1 x2 x3 (ix3 (sq r) (ps r) d) = z) :
    val_main_v61 (F := Ideal) x0 x1 x2 x3 (ix2 r d)
      = -(Ideal.exp (-(max z 0 + Ideal.log1p (Ideal.exp (-(max z (-z))))) - Ideal.ofBits .f32 0x3F000000#32)) := by
  subst hz
  unfold val_main_v61 val_main_v49 val_main_v48 val_main_v26 val_main_v24 val_main_v23 val_main_call0_v11 val_main_call0_v10 val_main_call0_v9 val_main_call0_v8 val_main_call0_v7 val_main_call0_v6 val_main_call0_v4 val_main_call0_v3 val_main_call0_v1
  generalize val_main_v22 (F := Ideal) x0 x1 x2 x3 = X
  pointwise [val_main_v25, val_main_cst_1, val_main_call0_v5, val_main_call0_v2, val_main_call0_v0, val_main_call0_cst, sq, ps]
  first | rfl | (rw [if_neg (fun h => h rfl)]; rfl) | simp

/-- The learning rate. -/
theorem v62_val (r : Fin 8192) (d : Fin 512) : val_main_v62 (F := Ideal) x0 x1 x4 x5 (ix2 r d)
    = Ideal.div 1 (1 + Ideal.exp (-(x4 (ix1 d) + ∑ k : Fin 64, mixed x0 x1 (sq r) (ps r) ⟨1600 + k.val, by omega⟩ * x5 (ix2 k d)))) := by
  simp only [← v15_val]
  unfold val_main_v62 val_main_v36 val_main_v34 val_main_v32 val_main_v31 val_main_v30 val_main_v27
  generalize val_main_v15 (F := Ideal) x0 x1 = X
  pointwise [val_main_v35, val_main_v33, val_main_v29, val_main_v28, val_main_cst_2, val_main_cst_3, sq, ps]

/-- The gate. -/
theorem v63_val (r : Fin 8192) (d : Fin 512) : val_main_v63 (F := Ideal) x0 x1 x6 (ix2 r d)
    = ∑ k : Fin 128, Ideal.div 1 (1 + Ideal.exp (-(mixed x0 x1 (sq r) (ps r) ⟨1664 + k.val, by omega⟩))) * x6 (ix2 k d) := by
  simp only [← v16_val]
  unfold val_main_v63 val_main_v50 val_main_v43 val_main_v42 val_main_v40 val_main_v38 val_main_v37
  generalize val_main_v16 (F := Ideal) x0 x1 = X
  pointwise [val_main_v41, val_main_v39, val_main_v0, val_main_cst, val_main_cst_4, val_main_cst_5, sq, ps]
  try exact one_mul _

end Cert.PrepFwdRefIdeal.Val

end
-- ==== Proof.FwdVal.lean ====
/- What the forward call `rwkv_prep` writes, block by block, in the reference's values. -/
module

public import proofs.«01_k».proof.Proof.Gen.PrepFwdIdeal.Frame
public import proofs.«01_k».proof.Proof.FwdPay
public import proofs.«01_k».proof.Proof.FwdRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.PrepFwdIdeal.Value

open Cert.PrepFwdIdeal Cert.PrepFwdIdeal.Gen Cert.PrepFwdIdeal.Pay
open Cert.PrepFwdRefIdeal.Read Cert.PrepFwdRefIdeal.Val

variable (m : (ℓ : Loc nD τ sig) → Buf (Elt Ideal) ℓ)

/-- Every window's block index at every grid point. -/
theorem idx_val : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0, 0] :=
  (by decide +kernel : ∀ t : Fin grid0.N, _)

/-- The row of the whole array a tile's row is. -/
def row (t : Fin cfg0.N) (s : ℕ) (h : s < 512) : Fin 8192 :=
  ⟨t.val * 512 + s, by have := lt_of_lt_of_eq t.isLt N_0; omega⟩

section reads

variable (t : Fin cfg0.N) (X : BufTy.Contents (Elt Ideal) ⟨S8192x512, .f32⟩) (s d : Fin 512)

theorem read7 : ((cfg0.win 7).blk t).view.read (Elt Ideal) X (ix2 s d) = X (ix2 (row t s.val s.isLt) d) := by unfold row; blk_point [idx_val t]
theorem read8 : ((cfg0.win 8).blk t).view.read (Elt Ideal) X (ix2 s d) = X (ix2 (row t s.val s.isLt) d) := by unfold row; blk_point [idx_val t]
theorem read9 : ((cfg0.win 9).blk t).view.read (Elt Ideal) X (ix2 s d) = X (ix2 (row t s.val s.isLt) d) := by unfold row; blk_point [idx_val t]
theorem read10 : ((cfg0.win 10).blk t).view.read (Elt Ideal) X (ix2 s d) = X (ix2 (row t s.val s.isLt) d) := by unfold row; blk_point [idx_val t]
theorem read11 : ((cfg0.win 11).blk t).view.read (Elt Ideal) X (ix2 s d) = X (ix2 (row t s.val s.isLt) d) := by unfold row; blk_point [idx_val t]
theorem read12 : ((cfg0.win 12).blk t).view.read (Elt Ideal) X (ix2 s d) = X (ix2 (row t s.val s.isLt) d) := by unfold row; blk_point [idx_val t]
theorem read13 (X : BufTy.Contents (Elt Ideal) ⟨S32x8x1792, .f32⟩) (q : Fin 2) (a : Fin 8) (j : Fin 1792) :
    ((cfg0.win 13).blk t).view.read (Elt Ideal) X (ix3 q a j) = X (ix3 (⟨t.val * 2 + q.val, by have := lt_of_lt_of_eq t.isLt N_0; omega⟩ : Fin 32) a j) := by
  blk_point [idx_val t]

end reads

/-! ### What the host hands over -/

variable (c : Dev nD) (t : Fin cfg0.N)

def zeros : FVec Ideal S64x512 .bf16 := broadcastInDim S64x512 ![] bcast_S_S64x512 (constant S_ .bf16 0x0000#16 : FVec Ideal S_ .bf16)
theorem zeros_val (i : Fin 64) (d : Fin 512) : zeros (ix2 i d) = (0 : EReal) := by
  unfold zeros; pointwise

/-- Rows laid out one sequence after the other. -/
theorem flat (X : FVec Ideal S4x2048x3328 .f32) (r : Fin 8192) (j : Fin 3328) :
    shapeCast S8192x3328 X shapeCasts_S4x2048x3328_S8192x3328 (ix2 r j) = X (ix3 (⟨r.val / 2048, by omega⟩ : Fin 4) (⟨r.val % 2048, by omega⟩ : Fin 2048) j) := by
  pointwise

theorem v9_eq : V m c main_v9 = shapeCast S8192x3328 (m ((c : Thread nD τ).loc main_arg0)) shapeCasts_S4x2048x3328_S8192x3328 := by entry_read; rfl
theorem v5_eq : V m c main_v5 = shapeCast S1x1792 (m ((c : Thread nD τ).loc main_arg1)) shapeCasts_S1792_S1x1792 := by entry_read; rfl
theorem v6_eq : V m c main_v6 = shapeCast S1x512 (m ((c : Thread nD τ).loc main_arg2)) shapeCasts_S512_S1x512 := by entry_read; rfl
theorem v7_eq : V m c main_v7 = shapeCast S1x512 (m ((c : Thread nD τ).loc main_arg4)) shapeCasts_S512_S1x512 := by entry_read; rfl
theorem v8_eq : V m c main_v8 = (truncf .bf16 (m ((c : Thread nD τ).loc main_arg6) : FVec Ideal S128x512 .f32) bitsLt_bf16_f32 : FVec Ideal S128x512 .bf16) := by entry_read; rfl
theorem v2_eq : V m c main_v2 = (concatenate S128x512 0 [⟨S64x512, (truncf .bf16 (m ((c : Thread nD τ).loc main_arg3) : FVec Ideal S64x512 .f32) bitsLt_bf16_f32 : FVec Ideal S64x512 .bf16)⟩, ⟨S64x512, zeros⟩] concatenates_S64x512_S64x512_S128x512_d0 : FVec Ideal S128x512 .bf16) := by
  entry_read; rfl
theorem v4_eq : V m c main_v4 = (concatenate S128x512 0 [⟨S64x512, zeros⟩, ⟨S64x512, (truncf .bf16 (m ((c : Thread nD τ).loc main_arg5) : FVec Ideal S64x512 .f32) bitsLt_bf16_f32 : FVec Ideal S64x512 .bf16)⟩] concatenates_S64x512_S64x512_S128x512_d0 : FVec Ideal S128x512 .bf16) := by
  entry_read; rfl

theorem mu_val (j : Fin 1792) : (iblk m c 1 t : Vec Ideal S1x1792 .f32) (ix2 (0 : Fin 1) j) = m ((c : Thread nD τ).loc main_arg1) (ix1 j) := by
  show ((cfg0.win 1).blk t).view.read (Elt Ideal) (V m c main_v5) _ = _
  rw [v5_eq]
  refine Eq.trans (b := shapeCast S1x1792 (m ((c : Thread nD τ).loc main_arg1) : FVec Ideal S1792 .f32) shapeCasts_S1792_S1x1792 (ix2 (0 : Fin 1) j)) ?_ ?_
  · generalize shapeCast S1x1792 (m ((c : Thread nD τ).loc main_arg1) : FVec Ideal S1792 .f32) shapeCasts_S1792_S1x1792 = X
    blk_point [idx_val t]
  · generalize (m ((c : Thread nD τ).loc main_arg1) : FVec Ideal S1792 .f32) = X
    pointwise
theorem w0_val (d : Fin 512) : (iblk m c 2 t : Vec Ideal S1x512 .f32) (ix2 (0 : Fin 1) d) = m ((c : Thread nD τ).loc main_arg2) (ix1 d) := by
  show ((cfg0.win 2).blk t).view.read (Elt Ideal) (V m c main_v6) _ = _
  rw [v6_eq]
  refine Eq.trans (b := shapeCast S1x512 (m ((c : Thread nD τ).loc main_arg2) : FVec Ideal S512 .f32) shapeCasts_S512_S1x512 (ix2 (0 : Fin 1) d)) ?_ ?_
  · generalize shapeCast S1x512 (m ((c : Thread nD τ).loc main_arg2) : FVec Ideal S512 .f32) shapeCasts_S512_S1x512 = X
    blk_point [idx_val t]
  · generalize (m ((c : Thread nD τ).loc main_arg2) : FVec Ideal S512 .f32) = X
    pointwise
theorem a0_val (d : Fin 512) : (iblk m c 4 t : Vec Ideal S1x512 .f32) (ix2 (0 : Fin 1) d) = m ((c : Thread nD τ).loc main_arg4) (ix1 d) := by
  show ((cfg0.win 4).blk t).view.read (Elt Ideal) (V m c main_v7) _ = _
  rw [v7_eq]
  refine Eq.trans (b := shapeCast S1x512 (m ((c : Thread nD τ).loc main_arg4) : FVec Ideal S512 .f32) shapeCasts_S512_S1x512 (ix2 (0 : Fin 1) d)) ?_ ?_
  · generalize shapeCast S1x512 (m ((c : Thread nD τ).loc main_arg4) : FVec Ideal S512 .f32) shapeCasts_S512_S1x512 = X
    blk_point [idx_val t]
  · generalize (m ((c : Thread nD τ).loc main_arg4) : FVec Ideal S512 .f32) = X
    pointwise
theorem wg_val (k : Fin 128) (d : Fin 512) : (iblk m c 6 t : Vec Ideal S128x512 .bf16) (ix2 k d) = m ((c : Thread nD τ).loc main_arg6) (ix2 k d) := by
  show ((cfg0.win 6).blk t).view.read (Elt Ideal) (V m c main_v8) _ = _
  rw [v8_eq]
  show ((cfg0.win 6).blk t).view.read (Elt Ideal) (m ((c : Thread nD τ).loc main_arg6)) _ = _
  generalize m ((c : Thread nD τ).loc main_arg6) = X
  blk_point [idx_val t]
theorem wd_val (k : Fin 128) (d : Fin 512) : (iblk m c 3 t : Vec Ideal S128x512 .bf16) (ix2 k d)
    = if h : k.val < 64 then m ((c : Thread nD τ).loc main_arg3) (ix2 (⟨k.val, h⟩ : Fin 64) d) else (0 : EReal) := by
  refine Eq.trans (b := V m c main_v2 (ix2 k d)) ?_ ?_
  · show ((cfg0.win 3).blk t).view.read (Elt Ideal) (V m c main_v2) _ = _
    generalize V m c main_v2 = X
    blk_point [idx_val t]
  · rw [v2_eq]
    generalize (m ((c : Thread nD τ).loc main_arg3) : FVec Ideal S64x512 .f32) = X
    pointwise
    by_cases h : k.val < 64
    · rw [dif_pos h, dif_pos h]
    · rw [dif_neg h, dif_neg h]; exact zeros_val _ _
theorem wa_val (k : Fin 128) (d : Fin 512) : (iblk m c 5 t : Vec Ideal S128x512 .bf16) (ix2 k d)
    = if h : k.val < 64 then (0 : EReal) else m ((c : Thread nD τ).loc main_arg5) (ix2 (⟨k.val - 64, by omega⟩ : Fin 64) d) := by
  refine Eq.trans (b := V m c main_v4 (ix2 k d)) ?_ ?_
  · show ((cfg0.win 5).blk t).view.read (Elt Ideal) (V m c main_v4) _ = _
    generalize V m c main_v4 = X
    blk_point [idx_val t]
  · rw [v4_eq]
    generalize (m ((c : Thread nD τ).loc main_arg5) : FVec Ideal S64x512 .f32) = X
    pointwise
    by_cases h : k.val < 64
    · rw [dif_pos h, dif_pos h]; exact zeros_val _ _
    · rw [dif_neg h, dif_neg h]
theorem p_val (s : Fin 512) (j : Fin 1792) : X0_0 m c t (ix2 s j)
    = m ((c : Thread nD τ).loc main_arg0) (ix3 (sq (row t s.val s.isLt)) (ps (row t s.val s.isLt)) (⟨j.val, by omega⟩ : Fin 3328)) := by
  refine Eq.trans (b := V m c main_v9 (ix2 (row t s.val s.isLt) (⟨j.val, by omega⟩ : Fin 3328))) ?_ ?_
  · unfold X0_0 Pipeline.Window.fill
    rw [dif_pos (moved0_0 t _)]
    show ((cfg0.win 0).blk t).view.read (Elt Ideal) (V m c main_v9) _ = _
    generalize V m c main_v9 = X
    unfold row
    blk_point [idx_val t]
  · rw [v9_eq]
    generalize (m ((c : Thread nD τ).loc main_arg0) : FVec Ideal S4x2048x3328 .f32) = X
    exact flat X (row t s.val s.isLt) _

/-! ### The rows above -/

/-- What is left for the next tile: the last eight rows. -/
theorem scr : (outsAt0 m c t.val t.isLt).2.2.2.2.2.2.2 = k0_pay8 (k0_pay2 (X0_0 m c t)) := by
  funext y
  have ht : t.val < 16 := lt_of_lt_of_eq t.isLt N_0
  by_cases h : t.val % 16 = 0
  · rw [outsAt0_A m c t h]; dsimp only; frame_out
  · rw [outsAt0_B m c t h]; dsimp only; frame_out

theorem scr_val (h : 0 < t.val) (j : Fin 1792) : (outsAt0 m c (t.val - 1) (by omega)).2.2.2.2.2.2.2 (ix2 (7 : Fin 8) j)
    = m ((c : Thread nD τ).loc main_arg0) (ix3 (sq (⟨t.val * 512 - 1, by have := lt_of_lt_of_eq t.isLt N_0; omega⟩ : Fin 8192)) (ps (⟨t.val * 512 - 1, by have := lt_of_lt_of_eq t.isLt N_0; omega⟩ : Fin 8192)) (⟨j.val, by omega⟩ : Fin 3328)) := by
  have e := scr m c ⟨t.val - 1, by omega⟩
  refine (congrFun e _).trans ?_
  refine Eq.trans (b := X0_0 m c ⟨t.val - 1, by omega⟩ (ix2 (⟨511, by omega⟩ : Fin 512) j)) ?_ ?_
  · generalize X0_0 m c ⟨t.val - 1, by omega⟩ = X
    unfold k0_pay8 k0_pay2
    pointwise
  · rw [p_val]
    have hr : row ⟨t.val - 1, by omega⟩ 511 (by omega) = (⟨t.val * 512 - 1, by have := lt_of_lt_of_eq t.isLt N_0; omega⟩ : Fin 8192) := Fin.ext (by show (t.val - 1) * 512 + 511 = t.val * 512 - 1; omega)
    show m ((c : Thread nD τ).loc main_arg0) (ix3 (sq (row ⟨t.val - 1, by omega⟩ 511 (by omega))) (ps (row ⟨t.val - 1, by omega⟩ 511 (by omega))) _) = _
    rw [hr]

/-- The tile's rows above are the token shift's, if what is carried is the row before the tile. -/
def Above (v27 : FVec Ideal S512x1792 .f32) : Prop :=
  ∀ (s : Fin 512) (j : Fin 1792), v27 (ix2 s j) = above (m ((c : Thread nD τ).loc main_arg0)) (sq (row t s.val s.isLt)) (ps (row t s.val s.isLt)) j

theorem pay4_above (v16 : Vec Ideal S8x1792 .f32)
    (hv : ¬ t.val % 16 = 0 → v16 = (outsAt0 m c (t.val - 1) (by omega)).2.2.2.2.2.2.2) : Above m c t (k0_pay4 (grid0.coords t) (X0_0 m c t) v16) := by
  intro s j
  have ht : t.val < 16 := lt_of_lt_of_eq t.isLt N_0
  rw [pay4_val]
  unfold above
  by_cases h0 : s.val = 0
  · rw [if_pos h0]
    by_cases h4 : t.val % 4 = 0
    · rw [if_pos h4, dif_pos (show (ps (row t s.val s.isLt)).val < 1 by show (t.val * 512 + s.val) % 2048 < 1; omega)]
    · rw [if_neg h4, dif_neg (show ¬ (ps (row t s.val s.isLt)).val < 1 by show ¬ (t.val * 512 + s.val) % 2048 < 1; omega), hv (by omega), scr_val m c t (by omega)]
      congr 2 <;> apply Fin.ext
      · show (t.val * 512 - 1) / 2048 = (t.val * 512 + s.val) / 2048; omega
      · show (t.val * 512 - 1) % 2048 = (t.val * 512 + s.val) % 2048 - 1; omega
  · rw [if_neg h0, dif_neg (show ¬ (ps (row t s.val s.isLt)).val < 1 by show ¬ (t.val * 512 + s.val) % 2048 < 1; omega), p_val]
    congr 2 <;> apply Fin.ext
    · show (t.val * 512 + (s.val - 1)) / 2048 = (t.val * 512 + s.val) / 2048; omega
    · show (t.val * 512 + (s.val - 1)) % 2048 = (t.val * 512 + s.val) % 2048 - 1; omega

variable {m c t} in
/-- The mixed rows. -/
theorem mixed_val {v27 : FVec Ideal S512x1792 .f32} (h : Above m c t v27) (s : Fin 512) (j : Fin 1792) :
    k0_pay12 (k0_pay2 (X0_0 m c t)) v27 (iblk m c 1 t) (ix2 s j)
      = mixed (m ((c : Thread nD τ).loc main_arg0)) (m ((c : Thread nD τ).loc main_arg1)) (sq (row t s.val s.isLt)) (ps (row t s.val s.isLt)) j := by
  rw [pay12_val, h, mu_val, show k0_pay2 (X0_0 m c t) = X0_0 m c t from shapeCast_id _ _, p_val]
  rfl

/-! ### The blocks -/

section blocks

variable {m c t} {v27 : FVec Ideal S512x1792 .f32} (h : Above m c t v27) (s d : Fin 512)
include h

theorem block7 : k0_pay13 (k0_pay2 (X0_0 m c t)) v27 (iblk m c 1 t) (ix2 s d)
    = val_main_v58 (F := Ideal) (m ((c : Thread nD τ).loc main_arg0)) (m ((c : Thread nD τ).loc main_arg1)) (ix2 (row t s.val s.isLt) d) := by
  rw [pay13_val, mixed_val h, v58_val]
theorem block8 : k0_pay14 (k0_pay2 (X0_0 m c t)) v27 (iblk m c 1 t) (ix2 s d)
    = val_main_v59 (F := Ideal) (m ((c : Thread nD τ).loc main_arg0)) (m ((c : Thread nD τ).loc main_arg1)) (ix2 (row t s.val s.isLt) d) := by
  rw [pay14_val, mixed_val h, v59_val]
theorem block9 : k0_pay15 (k0_pay2 (X0_0 m c t)) v27 (iblk m c 1 t) (ix2 s d)
    = val_main_v60 (F := Ideal) (m ((c : Thread nD τ).loc main_arg0)) (m ((c : Thread nD τ).loc main_arg1)) (ix2 (row t s.val s.isLt) d) := by
  rw [pay15_val, mixed_val h, v60_val]

theorem decay_val : k0_pay18 (k0_pay2 (X0_0 m c t)) v27 (iblk m c 1 t) (iblk m c 2 t) (iblk m c 3 t) (ix2 s d)
    = val_main_v22 (F := Ideal) (m ((c : Thread nD τ).loc main_arg0)) (m ((c : Thread nD τ).loc main_arg1)) (m ((c : Thread nD τ).loc main_arg2)) (m ((c : Thread nD τ).loc main_arg3)) (ix3 (sq (row t s.val s.isLt)) (ps (row t s.val s.isLt)) d) := by
  rw [pay18_val, v22_val, w0_val]
  simp only [mixed_val h, wd_val]
  rw [sum_low (fun k => Ideal.tanh (mixed (m ((c : Thread nD τ).loc main_arg0)) (m ((c : Thread nD τ).loc main_arg1)) (sq (row t s.val s.isLt)) (ps (row t s.val s.isLt)) ⟨1536 + k.val, by omega⟩))
    (fun k => m ((c : Thread nD τ).loc main_arg3) (ix2 k d))]

theorem block10 : k0_pay21 (k0_pay19 (k0_pay2 (X0_0 m c t)) v27 (iblk m c 1 t) (iblk m c 2 t) (iblk m c 3 t)) (k0_pay20 (k0_pay2 (X0_0 m c t)) v27 (iblk m c 1 t) (iblk m c 2 t) (iblk m c 3 t)) (Scalar.ofBits .f32 0x00000000#32) (ix2 s d)
    = val_main_v61 (F := Ideal) (m ((c : Thread nD τ).loc main_arg0)) (m ((c : Thread nD τ).loc main_arg1)) (m ((c : Thread nD τ).loc main_arg2)) (m ((c : Thread nD τ).loc main_arg3)) (ix2 (row t s.val s.isLt) d) := by
  rw [pay21_val _ _ _ _ _ s d _ (decay_val h s d), v61_val _ _ _ _ _ d _ rfl, softplus_neg]

theorem block11 : k0_pay22 (k0_pay9 (iblk m c 4 t)) (k0_pay10 (iblk m c 5 t)) (k0_pay16 (k0_pay2 (X0_0 m c t)) v27 (iblk m c 1 t)) (ix2 s d)
    = val_main_v62 (F := Ideal) (m ((c : Thread nD τ).loc main_arg0)) (m ((c : Thread nD τ).loc main_arg1)) (m ((c : Thread nD τ).loc main_arg4)) (m ((c : Thread nD τ).loc main_arg5)) (ix2 (row t s.val s.isLt) d) := by
  rw [pay22_val _ _ _ s d _ rfl, logistic, v62_val, a0_val]
  simp only [pay16_val, mixed_val h, wa_val]
  rw [sum_high (fun k => mixed (m ((c : Thread nD τ).loc main_arg0)) (m ((c : Thread nD τ).loc main_arg1)) (sq (row t s.val s.isLt)) (ps (row t s.val s.isLt)) ⟨1536 + k.val, by omega⟩)
    (fun k => m ((c : Thread nD τ).loc main_arg5) (ix2 k d))]
  simp only [← Nat.add_assoc]

theorem block12 : k0_pay23 (k0_pay11 (iblk m c 6 t)) (k0_pay17 (k0_pay2 (X0_0 m c t)) v27 (iblk m c 1 t)) (ix2 s d)
    = val_main_v63 (F := Ideal) (m ((c : Thread nD τ).loc main_arg0)) (m ((c : Thread nD τ).loc main_arg1)) (m ((c : Thread nD τ).loc main_arg6)) (ix2 (row t s.val s.isLt) d) := by
  rw [pay23_val, v63_val]
  simp only [logistic, pay17_val, mixed_val h, wg_val]

end blocks

end Cert.PrepFwdIdeal.Value

end
-- ==== Proof.FwdArr.lean ====
/- What the result arrays of the forward call `rwkv_prep` hold after the run. -/
module

public import proofs.«01_k».proof.Proof.FwdVal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.PrepFwdIdeal.Value

open Cert.PrepFwdIdeal Cert.PrepFwdIdeal.Gen Cert.PrepFwdIdeal.Pay
open Cert.PrepFwdRefIdeal.Read Cert.PrepFwdRefIdeal.Val

variable (m : (ℓ : Loc nD τ sig) → Buf (Elt Ideal) ℓ) (c : Dev nD)

theorem ix2_of (y : S512x512.Idx) : ∃ s d : Fin 512, y = ix2 s d := ⟨_, _, eq_ix2 (n0 := 512) (n1 := 512) y⟩

theorem started (t : Fin cfg0.N) (h : t.val % 16 = 0) (v16 : Vec Ideal S8x1792 .f32) : Above m c t (k0_pay4 (grid0.coords t) (X0_0 m c t) v16) :=
  pay4_above m c t v16 fun q => absurd h q

/-- The carried rows as the body loads them. -/
theorem carried (t : Fin cfg0.N) (v16 : Vec Ideal S8x1792 .f32) (x : Vec Ideal S8x1792 .f32)
    (hx : x = (outsAt0 m c (t.val - 1) (Nat.lt_of_le_of_lt (Nat.sub_le _ _) t.isLt)).2.2.2.2.2.2.2)
    (e : v16 = (Memref.whole cc0_scratch0 : Memref sig .tc .vmem S8x1792 .f32).view.read (Elt Ideal) ((Memref.isWhole_whole cc0_scratch0 : (Memref.whole cc0_scratch0 : Memref sig .tc .vmem S8x1792 .f32).IsWhole).unread x)) :
    Above m c t (k0_pay4 (grid0.coords t) (X0_0 m c t) v16) :=
  pay4_above m c t v16 fun _ => (e.trans (Memref.IsWhole.read_unread _ _)).trans hx

/-- Two stores of eight rows, read back. -/
theorem two (w1 w0 : S1x8x1792.Idx → Ideal .f32) (q : Fin 2) (a : Fin 8) (j : Fin 1792) :
    View.canon (Val := Elt Ideal) (s := S2x8x1792) (e := .f32) [⟨Rect.unit ![1, 0, 0] ![1, 8, 1792] inb_S2x8x1792_S1x8x1792_1_0_0, w1⟩,
      ⟨Rect.unit ![0, 0, 0] ![1, 8, 1792] inb_S2x8x1792_S1x8x1792_0_0_0, w0⟩] (ix3 q a j)
      = if q.val = 1 then w1 (ix3 (0 : Fin 1) a j) else w0 (ix3 (0 : Fin 1) a j) := by
  by_cases h : q.val = 1
  · rw [if_pos h]
    have e : (ix3 q a j : S2x8x1792.Idx) = (Rect.unit ![1, 0, 0] ![1, 8, 1792] inb_S2x8x1792_S1x8x1792_1_0_0).emb (ix3 (0 : Fin 1) a j) := by
      funext b; apply Fin.ext
      rw [ValueKit.rect_emb_unit_val]
      fin_cases b
      · exact h
      · exact (Nat.zero_add _).symm
      · exact (Nat.zero_add _).symm
    rw [e]
    exact View.canon_cons_emb _ _ _ _
  · rw [if_neg h, View.canon_cons_of_not_mem]
    · have e : (ix3 q a j : S2x8x1792.Idx) = (Rect.unit ![0, 0, 0] ![1, 8, 1792] inb_S2x8x1792_S1x8x1792_0_0_0).emb (ix3 (0 : Fin 1) a j) := by
        funext b; apply Fin.ext
        rw [ValueKit.rect_emb_unit_val]
        fin_cases b
        · show q.val = 0; omega
        · exact (Nat.zero_add _).symm
        · exact (Nat.zero_add _).symm
      rw [e]
      exact View.canon_cons_emb _ _ _ _
    · intro hm
      have h0 := (Rect.mem_set_unit (inb := inb_S2x8x1792_S1x8x1792_1_0_0).1 hm 0).1
      have : 1 ≤ q.val := h0
      omega

variable {m c} in
/-- The two groups of rows above, as the reference has them. -/
theorem edges {t : Fin cfg0.N} {v16 : Vec Ideal S8x1792 .f32} (h : Above m c t (k0_pay4 (grid0.coords t) (X0_0 m c t) v16)) (q : Fin 2) (a : Fin 8) (j : Fin 1792) :
    (if q.val = 1 then k0_pay7 (k0_pay6 (X0_0 m c t)) (ix3 (0 : Fin 1) a j) else k0_pay5 (grid0.coords t) (X0_0 m c t) v16 (ix3 (0 : Fin 1) a j))
      = val_main_v57 (F := Ideal) (m ((c : Thread nD τ).loc main_arg0)) (ix3 (⟨t.val * 2 + q.val, by have := lt_of_lt_of_eq t.isLt N_0; omega⟩ : Fin 32) a j) := by
  have ht : t.val < 16 := lt_of_lt_of_eq t.isLt N_0
  rw [v57_val]
  by_cases hq : q.val = 1
  · rw [if_pos hq]
    refine Eq.trans (b := X0_0 m c t (ix2 (⟨255 + a.val, by omega⟩ : Fin 512) j)) ?_ ?_
    · generalize X0_0 m c t = X
      unfold k0_pay7 k0_pay6 k0_pay3
      rw [show k0_pay2 X = X from shapeCast_id X _]
      pointwise
      congr 2; apply Fin.ext; show (256 + a.val + 512 - 1) % 512 = 255 + a.val; omega
    · rw [p_val]
      unfold above
      rw [dif_neg (show ¬ ((t.val * 2 + q.val) * 256 + a.val) % 2048 < 1 by omega)]
      congr 2 <;> apply Fin.ext
      · show (t.val * 512 + (255 + a.val)) / 2048 = ((t.val * 2 + q.val) * 256 + a.val) / 2048; omega
      · show (t.val * 512 + (255 + a.val)) % 2048 = ((t.val * 2 + q.val) * 256 + a.val) % 2048 - 1; omega
  · rw [if_neg hq]
    refine Eq.trans (b := k0_pay4 (grid0.coords t) (X0_0 m c t) v16 (ix2 (⟨a.val, by omega⟩ : Fin 512) j)) ?_ ?_
    · unfold k0_pay5
      generalize k0_pay4 (grid0.coords t) (X0_0 m c t) v16 = X
      pointwise
    · rw [h]
      congr 1 <;> apply Fin.ext
      · show (t.val * 512 + a.val) / 2048 = ((t.val * 2 + q.val) * 256 + a.val) / 2048; omega
      · show (t.val * 512 + a.val) % 2048 = ((t.val * 2 + q.val) * 256 + a.val) % 2048; omega

/-- The receptances. -/
theorem final_7 : (dats m 0 c).arrAt 7 (cfgs 0).N
    = val_main_v58 (F := Ideal) (m ((c : Thread nD τ).loc main_arg0)) (m ((c : Thread nD τ).loc main_arg1)) := by
  refine (dats m 0 c).arrAt_eq_of_covers 7 _ (by decide +kernel) fun t hf y => ?_
  blk_simp; rw [after0_7]
  obtain ⟨s, d, rfl⟩ := ix2_of y
  refine Eq.trans ?_ (read7 t (val_main_v58 (F := Ideal) (m ((c : Thread nD τ).loc main_arg0)) (m ((c : Thread nD τ).loc main_arg1))) s d).symm
  by_cases h : t.val % 16 = 0
  · rw [outsAt0_A m c t h]; dsimp only; frame_out
    exact block7 (started m c t h _) s d
  · rw [outsAt0_B m c t h]; dsimp only; frame_out
    exact block7 (carried m c t _ _ rfl rfl) s d

/-- The keys. -/
theorem final_8 : (dats m 0 c).arrAt 8 (cfgs 0).N
    = val_main_v59 (F := Ideal) (m ((c : Thread nD τ).loc main_arg0)) (m ((c : Thread nD τ).loc main_arg1)) := by
  refine (dats m 0 c).arrAt_eq_of_covers 8 _ (by decide +kernel) fun t hf y => ?_
  blk_simp; rw [after0_8]
  obtain ⟨s, d, rfl⟩ := ix2_of y
  refine Eq.trans ?_ (read8 t (val_main_v59 (F := Ideal) (m ((c : Thread nD τ).loc main_arg0)) (m ((c : Thread nD τ).loc main_arg1))) s d).symm
  by_cases h : t.val % 16 = 0
  · rw [outsAt0_A m c t h]; dsimp only; frame_out
    exact block8 (started m c t h _) s d
  · rw [outsAt0_B m c t h]; dsimp only; frame_out
    exact block8 (carried m c t _ _ rfl rfl) s d

/-- The values. -/
theorem final_9 : (dats m 0 c).arrAt 9 (cfgs 0).N
    = val_main_v60 (F := Ideal) (m ((c : Thread nD τ).loc main_arg0)) (m ((c : Thread nD τ).loc main_arg1)) := by
  refine (dats m 0 c).arrAt_eq_of_covers 9 _ (by decide +kernel) fun t hf y => ?_
  blk_simp; rw [after0_9]
  obtain ⟨s, d, rfl⟩ := ix2_of y
  refine Eq.trans ?_ (read9 t (val_main_v60 (F := Ideal) (m ((c : Thread nD τ).loc main_arg0)) (m ((c : Thread nD τ).loc main_arg1))) s d).symm
  by_cases h : t.val % 16 = 0
  · rw [outsAt0_A m c t h]; dsimp only; frame_out
    exact block9 (started m c t h _) s d
  · rw [outsAt0_B m c t h]; dsimp only; frame_out
    exact block9 (carried m c t _ _ rfl rfl) s d

/-- The log-decays. -/
theorem final_10 : (dats m 0 c).arrAt 10 (cfgs 0).N
    = val_main_v61 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  blk_simp; rw [after0_10]
  obtain ⟨s, d, rfl⟩ := ix2_of y
  refine Eq.trans ?_ (read10 t (val_main_v61 (F := Ideal) (m ((c : Thread nD τ).loc main_arg0)) (m ((c : Thread nD τ).loc main_arg1)) (m ((c : Thread nD τ).loc main_arg2)) (m ((c : Thread nD τ).loc main_arg3))) s d).symm
  by_cases h : t.val % 16 = 0
  · rw [outsAt0_A m c t h]; dsimp only; frame_out
    exact block10 (started m c t h _) s d
  · rw [outsAt0_B m c t h]; dsimp only; frame_out
    exact block10 (carried m c t _ _ rfl rfl) s d

/-- The learning rates. -/
theorem final_11 : (dats m 0 c).arrAt 11 (cfgs 0).N
    = val_main_v62 (F := Ideal) (m ((c : Thread nD τ).loc main_arg0)) (m ((c : Thread nD τ).loc main_arg1)) (m ((c : Thread nD τ).loc main_arg4)) (m ((c : Thread nD τ).loc main_arg5)) := by
  refine (dats m 0 c).arrAt_eq_of_covers 11 _ (by decide +kernel) fun t hf y => ?_
  blk_simp; rw [after0_11]
  obtain ⟨s, d, rfl⟩ := ix2_of y
  refine Eq.trans ?_ (read11 t (val_main_v62 (F := Ideal) (m ((c : Thread nD τ).loc main_arg0)) (m ((c : Thread nD τ).loc main_arg1)) (m ((c : Thread nD τ).loc main_arg4)) (m ((c : Thread nD τ).loc main_arg5))) s d).symm
  by_cases h : t.val % 16 = 0
  · rw [outsAt0_A m c t h]; dsimp only; frame_out
    exact block11 (started m c t h _) s d
  · rw [outsAt0_B m c t h]; dsimp only; frame_out
    exact block11 (carried m c t _ _ rfl rfl) s d

/-- The gates. -/
theorem final_12 : (dats m 0 c).arrAt 12 (cfgs 0).N
    = val_main_v63 (F := Ideal) (m ((c : Thread nD τ).loc main_arg0)) (m ((c : Thread nD τ).loc main_arg1)) (m ((c : Thread nD τ).loc main_arg6)) := by
  refine (dats m 0 c).arrAt_eq_of_covers 12 _ (by decide +kernel) fun t hf y => ?_
  blk_simp; rw [after0_12]
  obtain ⟨s, d, rfl⟩ := ix2_of y
  refine Eq.trans ?_ (read12 t (val_main_v63 (F := Ideal) (m ((c : Thread nD τ).loc main_arg0)) (m ((c : Thread nD τ).loc main_arg1)) (m ((c : Thread nD τ).loc main_arg6))) s d).symm
  by_cases h : t.val % 16 = 0
  · rw [outsAt0_A m c t h]; dsimp only; frame_out
    exact block12 (started m c t h _) s d
  · rw [outsAt0_B m c t h]; dsimp only; frame_out
    exact block12 (carried m c t _ _ rfl rfl) s d

/-- The rows above the first rows of every tile of 256. -/
theorem final_13 : (dats m 0 c).arrAt 13 (cfgs 0).N
    = val_main_v57 (F := Ideal) (m ((c : Thread nD τ).loc main_arg0)) := by
  refine (dats m 0 c).arrAt_eq_of_covers 13 _ (by decide +kernel) fun t hf y => ?_
  blk_simp; rw [after0_13]
  obtain ⟨q, a, j, rfl⟩ : ∃ (q : Fin 2) (a : Fin 8) (j : Fin 1792), y = ix3 q a j := ⟨_, _, _, eq_ix3 (n0 := 2) (n1 := 8) (n2 := 1792) y⟩
  refine Eq.trans ?_ (read13 t (val_main_v57 (F := Ideal) (m ((c : Thread nD τ).loc main_arg0))) q a j).symm
  by_cases h : t.val % 16 = 0
  · rw [outsAt0_A m c t h]; dsimp only; frame_out
    exact (two _ _ q a j).trans (edges (started m c t h _) q a j)
  · rw [outsAt0_B m c t h]; dsimp only; frame_out
    exact (two _ _ q a j).trans (edges (carried m c t _ _ rfl rfl) q a j)

end Cert.PrepFwdIdeal.Value

end
-- ==== Proof.FwdClaim.lean ====
/- The forward call `rwkv_prep`: its seven results are the reference's. -/
module

public import proofs.«01_k».proof.Proof.FwdArr
public import proofs.«01_k».proof.Proof.Gen.PrepFwdRefIdeal.Run
public import proofs.«01_k».proof.Defs
public import Idealize.ShloMosaic.Adequacy
public import Idealize.ShloMosaic.Init
public import Idealize.ShloMosaic.Lib.Claim

@[expose] public section

set_option maxRecDepth 16384

noncomputable section

namespace Cert.PrepFwdClaim

open Idealize.ShloMosaic Idealize.SL.Sem

instance : Cert.PrepFwdIdeal.Facts := Cert.PrepFwdIdeal.Gen.facts
instance : Cert.PrepFwdRefIdeal.Facts := Cert.PrepFwdRefIdeal.Gen.facts

/-- The reference's frame: it runs to its end, keeps its arguments and leaves every semaphore at zero. -/
theorem frame_ref : Cert.quiescent_PrepFwdRefIdeal := by
  intro m ρ _
  exact (θ_run Cert.PrepFwdRefIdeal.defs _ _).mono (fun r h => ⟨fun c => (h c).2.2.2.2.2.2.2, sem_eq_zero_of_no_sems (by decide) r.2⟩)
    (Cert.PrepFwdRefIdeal.Value.run (F := Ideal) m ρ)

set_option maxHeartbeats 4000000 in
/-- Over the reals the kernel's results are the reference's. -/
theorem algebraic : Cert.algebraic_PrepFwdIdeal_PrepFwdRefIdeal := by
  pair_intro
  · run_from Cert.PrepFwdIdeal.Gen.run_main m g
  · run_from Cert.PrepFwdRefIdeal.Value.run m' g'
    · rw [Cert.PrepFwdRefIdeal.Read.val_main_v58_eq]; exact (Cert.PrepFwdIdeal.Value.final_7 m c).symm
    · rw [Cert.PrepFwdRefIdeal.Read.val_main_v59_eq]; exact (Cert.PrepFwdIdeal.Value.final_8 m c).symm
    · rw [Cert.PrepFwdRefIdeal.Read.val_main_v60_eq]; exact (Cert.PrepFwdIdeal.Value.final_9 m c).symm
    · rw [Cert.PrepFwdRefIdeal.Read.val_main_v61_eq]
      have a0 : m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0) := (hagree c).1
      have a1 : m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1) := (hagree c).2.1
      have a2 : m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2) := (hagree c).2.2.1
      have a3 : m' ((c.tc : Thread Cert.PrepFwdRefIdeal.nD Cert.PrepFwdRefIdeal.τ).loc Cert.PrepFwdRefIdeal.main_arg3) = m ((c.tc : Thread Cert.PrepFwdIdeal.nD Cert.PrepFwdIdeal.τ).loc Cert.PrepFwdIdeal.main_arg3) := (hagree c).2.2.2.1
      rw [a0, a1, a2, a3]
      exact (Cert.PrepFwdIdeal.Value.final_10 m c).symm
    · rw [Cert.PrepFwdRefIdeal.Read.val_main_v62_eq]; exact (Cert.PrepFwdIdeal.Value.final_11 m c).symm
    · rw [Cert.PrepFwdRefIdeal.Read.val_main_v63_eq]; exact (Cert.PrepFwdIdeal.Value.final_12 m c).symm
    · rw [Cert.PrepFwdRefIdeal.Read.val_main_v57_eq]; exact (Cert.PrepFwdIdeal.Value.final_13 m c).symm

end Cert.PrepFwdClaim

end
-- ==== Proof.ProjInClaim.lean ====
/- The first product of the layer (`proj_in`): its result is the reference's. -/
module

public import proofs.«01_k».proof.Proof.Gen.ProjInIdeal.Frame
public import proofs.«01_k».proof.Proof.Gen.ProjInRefIdeal.Run
public import proofs.«01_k».proof.Proof.Gen.ProjInRefIdeal.Read
public import proofs.«01_k».proof.Defs
public import Idealize.ShloMosaic.Adequacy
public import Idealize.ShloMosaic.Init
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ProjInIdeal.Value

open Cert.ProjInIdeal Cert.ProjInIdeal.Gen
open Cert.ProjInRefIdeal.Read

variable (m : (ℓ : Loc nD τ sig) → Buf (Elt Ideal) ℓ)

/-- Every window's block index at every grid point. -/
theorem idx_val : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- What one grid point computes is the block of the reference's result at that point. -/
theorem point (c : Dev nD) (t : Fin cfg0.N) (y) :
    k0_pay1 (iblk m c 0 t) (iblk m c 1 t) y
      = val_main_v2 (F := Ideal) (m ((c : Thread nD τ).loc main_arg0)) (m ((c : Thread nD τ).loc main_arg1))
        (((cfg0.win 2).blk t).view.emb y) := by
  pointwise [k0_pay1, val_main_v0, val_main_v1, val_main_v2]
  blk_point [iblk, V, idx_val t]

/-- The result array after the run. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.ProjInIdeal.Value

namespace Cert.ProjInClaim

open Idealize.ShloMosaic Idealize.SL.Sem

instance : Cert.ProjInIdeal.Facts := Cert.ProjInIdeal.Gen.facts
instance : Cert.ProjInRefIdeal.Facts := Cert.ProjInRefIdeal.Gen.facts

/-- The reference's frame: it runs to its end, keeps its arguments and leaves every semaphore at zero. -/
theorem frame_ref : Cert.quiescent_ProjInRefIdeal := by
  intro m ρ _
  exact (θ_run Cert.ProjInRefIdeal.defs _ _).mono (fun r h => ⟨fun c => (h c).2, sem_eq_zero_of_no_sems (by decide) r.2⟩)
    (Cert.ProjInRefIdeal.Value.run (F := Ideal) m ρ)

/-- Over the reals the kernel's results are the reference's. -/
theorem algebraic : Cert.algebraic_ProjInIdeal_ProjInRefIdeal := by
  pair_intro
  · run_from Cert.ProjInIdeal.Gen.run_main m g
  · run_from Cert.ProjInRefIdeal.Value.run m' g'
    exact (Cert.ProjInIdeal.Value.final m c).symm

end Cert.ProjInClaim

end
-- ==== Proof.DYcatClaim.lean ====
/- The gradient of the output projection with respect to its left factor (`d_ycat`): the kernel's result is the reference's. -/
module

public import proofs.«01_k».proof.Proof.Gen.DYcatIdeal.Frame
public import proofs.«01_k».proof.Proof.Gen.DYcatRefIdeal.Run
public import proofs.«01_k».proof.Proof.Gen.DYcatRefIdeal.Read
public import proofs.«01_k».proof.Defs
public import Idealize.ShloMosaic.Adequacy
public import Idealize.ShloMosaic.Init
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.DYcatIdeal.Value

open Cert.DYcatIdeal Cert.DYcatIdeal.Gen
open Cert.DYcatRefIdeal.Read

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![t.val, 0] :=
  (by decide +kernel : ∀ t : Fin grid0.N, _)

/-- What one grid point computes is the block of the reference's result at that point. -/
theorem point (c : Dev nD) (t : Fin cfg0.N) (y) :
    k0_pay1 (iblk m c 0 t) (iblk m c 1 t) y
      = val_main_v4 (F := Ideal) (m ((c : Thread nD τ).loc main_arg0)) (m ((c : Thread nD τ).loc main_arg1))
        (((cfg0.win 2).blk t).view.emb y) := by
  pointwise [k0_pay1, val_main_v0, val_main_v3, val_main_v4]
  blk_point [iblk, V, idx_val t]

/-- The result array after the run. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.DYcatIdeal.Value

namespace Cert.DYcatClaim

open Idealize.ShloMosaic Idealize.SL.Sem

instance : Cert.DYcatIdeal.Facts := Cert.DYcatIdeal.Gen.facts
instance : Cert.DYcatRefIdeal.Facts := Cert.DYcatRefIdeal.Gen.facts

/-- The reference's frame: it runs to its end, keeps its arguments and leaves every semaphore at zero. -/
theorem frame_ref : Cert.quiescent_DYcatRefIdeal := by
  intro m ρ _
  exact (θ_run Cert.DYcatRefIdeal.defs _ _).mono (fun r h => ⟨fun c => (h c).2, sem_eq_zero_of_no_sems (by decide) r.2⟩)
    (Cert.DYcatRefIdeal.Value.run (F := Ideal) m ρ)

/-- Over the reals the kernel's results are the reference's. -/
theorem algebraic : Cert.algebraic_DYcatIdeal_DYcatRefIdeal := by
  pair_intro
  · run_from Cert.DYcatIdeal.Gen.run_main m g
  · run_from Cert.DYcatRefIdeal.Value.run m' g'
    exact (Cert.DYcatIdeal.Value.final m c).symm

end Cert.DYcatClaim

end
-- ==== Proof.DWDownClaim.lean ====
/- The gradient of the second product of the MLP with respect to its weight (`dw_down`): the kernel adds the two halves of the rows one after the other. -/
module

public import proofs.«01_k».proof.Proof.Gen.DWDownIdeal.Frame
public import proofs.«01_k».proof.Proof.Gen.DWDownRefIdeal.Run
public import proofs.«01_k».proof.Proof.Gen.DWDownRefIdeal.Read
public import proofs.«01_k».proof.Defs
public import Idealize.ShloMosaic.Adequacy
public import Idealize.ShloMosaic.Init
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.DWDownIdeal.Value

open Cert.DWDownIdeal Cert.DWDownIdeal.Gen
open Cert.DWDownRefIdeal.Read

variable (m : (ℓ : Loc nD τ sig) → Buf (Elt Ideal) ℓ)

/-- Every window's block index at every grid point. -/
theorem idx_val : ∀ t : Fin cfg0.N, win0_0.index t = ![t.val % 2, t.val / 2]
    ∧ win0_1.index t = ![t.val % 2, 0]
    ∧ win0_2.index t = ![t.val / 2, 0] :=
  (by decide +kernel : ∀ t : Fin grid0.N, _)

/-- The result block goes out at the odd points. -/
theorem flush_odd : ∀ t : Fin cfg0.N, (cfg0.win 2).flush t = true → t.val % 2 = 1 :=
  (by decide +kernel : ∀ t : Fin grid0.N, _)

/-- The point before. -/
abbrev before (t : Fin cfg0.N) : Fin cfg0.N := ⟨t.val - 1, Nat.lt_of_le_of_lt (Nat.sub_le _ _) t.isLt⟩

/-- The two points' products added are the block of the reference's result. -/
theorem point (c : Dev nD) (t : Fin cfg0.N) (h : t.val % 2 = 1) (y) :
    k0_pay4 (iblk m c 0 t) (iblk m c 1 t) (k0_pay2 (iblk m c 0 (before t)) (iblk m c 1 (before t))) y
      = val_main_v6 (F := Ideal) (m ((c : Thread nD τ).loc main_arg0)) (m ((c : Thread nD τ).loc main_arg1))
        (((cfg0.win 2).blk t).view.emb y) := by
  pointwise [k0_pay1, k0_pay2, k0_pay4, val_main_v0, val_main_v3, val_main_v4, val_main_v5, val_main_v6]
  refine Eq.trans ?_ (Fin.sum_mul_add_congr (M := EReal) (S := 2) (n := 4096)
    (F := fun s k => @HMul.hMul EReal EReal EReal _
      (m (c.tc.loc main_arg0) (ix2 (⟨s.val * 4096 + k.val, by omega⟩ : Fin 8192) ((((cfg0.win 2).blk t).view.emb y) 0)))
      (m (c.tc.loc main_arg1) (ix2 (⟨s.val * 4096 + k.val, by omega⟩ : Fin 8192) ((((cfg0.win 2).blk t).view.emb y) 1))))
    (fun s k hl => mul_comm _ _) rfl)
  rw [Fin.sum_univ_two]
  have ht : t.val < 16 := lt_of_lt_of_eq t.isLt N_0
  have e0 : t.val % 2 = 1 := h
  have e1 : (t.val - 1) % 2 = 0 := by omega
  have e2 : (t.val - 1) / 2 = t.val / 2 := by omega
  blk_point [iblk, V, idx_val t, idx_val (before t)]

set_option maxHeartbeats 1000000 in
/-- The result array after the run. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  have h := flush_odd t hf
  blk_simp
  rw [after0_2, outsAt0_B m c t (by omega) h]; dsimp only; frame_out
  rw [outsAt0_A m c (before t) (by show (t.val - 1) % 2 = 0; omega) (by show ¬(t.val - 1) % 2 = 1; omega)]; dsimp only; frame_out
  refine Eq.trans ?_ (point m c t h y)
  exact congrArg (fun z => k0_pay4 (iblk m c 0 t) (iblk m c 1 t) z y) (Memref.IsWhole.read_unread _ _)

end Cert.DWDownIdeal.Value

namespace Cert.DWDownClaim

open Idealize.ShloMosaic Idealize.SL.Sem

instance : Cert.DWDownIdeal.Facts := Cert.DWDownIdeal.Gen.facts
instance : Cert.DWDownRefIdeal.Facts := Cert.DWDownRefIdeal.Gen.facts

/-- The reference's frame: it runs to its end, keeps its arguments and leaves every semaphore at zero. -/
theorem frame_ref : Cert.quiescent_DWDownRefIdeal := by
  intro m ρ _
  exact (θ_run Cert.DWDownRefIdeal.defs _ _).mono (fun r h => ⟨fun c => (h c).2, sem_eq_zero_of_no_sems (by decide) r.2⟩)
    (Cert.DWDownRefIdeal.Value.run (F := Ideal) m ρ)

/-- Over the reals the kernel's results are the reference's. -/
theorem algebraic : Cert.algebraic_DWDownIdeal_DWDownRefIdeal := by
  pair_intro
  · run_from Cert.DWDownIdeal.Gen.run_main m g
  · run_from Cert.DWDownRefIdeal.Value.run m' g'
    rw [Cert.DWDownRefIdeal.Read.val_main_v6_eq]
    exact (Cert.DWDownIdeal.Value.final m c).symm

end Cert.DWDownClaim

end
-- ==== Proof.AdamClaim.lean ====
/- The optimiser's step on one weight (`adamw`): the summed gradient, the step and the two moments are the reference's. -/
module

public import proofs.«01_k».proof.Proof.Gen.AdamIdeal.Frame
public import proofs.«01_k».proof.Proof.Gen.AdamRefIdeal.Run
public import proofs.«01_k».proof.Proof.Gen.AdamRefIdeal.Read
public import proofs.«01_k».proof.Defs
public import Idealize.ShloMosaic.Adequacy
public import Idealize.ShloMosaic.Init
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdamIdeal.Value

open Cert.AdamIdeal Cert.AdamIdeal.Gen
open Cert.AdamRefIdeal.Read

variable (m : (ℓ : Loc nD τ sig) → Buf (Elt Ideal) ℓ)

/-- Every window's block index at every grid point. -/
theorem idx_val : ∀ t : Fin cfg0.N, win0_0.index t = ![t.val, 0]
    ∧ win0_1.index t = ![0, t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The eight devices' parts added up. -/
theorem point_4 (c : Dev nD) (t : Fin cfg0.N) (y) :
    k0_pay5 (iblk m c 0 t) (iblk m c 1 t) (iblk m c 2 t) (iblk m c 3 t) y
      = val_main_v1 (F := Ideal) (m ((c : Thread nD τ).loc main_arg1)) (((cfg0.win 4).blk t).view.emb y) := by
  unfold k0_pay5
  pointwise [k0_pay4, val_main_v0, val_main_v1, val_main_cst]
  simp only [Fin.sum_univ_eight]
  blk_point [iblk, V, idx_val t]

/-- The result array after the run. -/
theorem final_4 (c : Dev nD) : (dats m 0 c).arrAt 4 (cfgs 0).N
    = val_main_v1 (F := Ideal) (m ((c : Thread nD τ).loc main_arg1)) := by
  refine (dats m 0 c).arrAt_eq_of_covers 4 _ (by decide +kernel) fun t hf y => ?_
  blk_simp; rw [after0_4]; frame_out
  exact point_4 m c t y

/-- The first moment. -/
theorem point_6 (c : Dev nD) (t : Fin cfg0.N) (y) :
    k0_pay1 (k0_pay5 (iblk m c 0 t) (iblk m c 1 t) (iblk m c 2 t) (iblk m c 3 t)) (iblk m c 2 t) (Scalar.ofBits .f32 0x3F666666#32) y
      = val_main_v6 (F := Ideal) (m ((c : Thread nD τ).loc main_arg1)) (m ((c : Thread nD τ).loc main_arg2)) (((cfg0.win 6).blk t).view.emb y) := by
  unfold k0_pay5
  pointwise [k0_pay1, k0_pay4, val_main_v0, val_main_v1, val_main_v2, val_main_v3, val_main_v4, val_main_v5, val_main_v6, val_main_cst, val_main_cst_0, val_main_cst_1, val_main_cst_2, val_main_cst_3, val_main_cst_4, val_main_cst_5, val_main_cst_6, val_main_cst_7, val_main_cst_8]
  simp only [Fin.sum_univ_eight]
  blk_point [iblk, V, idx_val t]

/-- The result array after the run. -/
theorem final_6 (c : Dev nD) : (dats m 0 c).arrAt 6 (cfgs 0).N
    = val_main_v6 (F := Ideal) (m ((c : Thread nD τ).loc main_arg1)) (m ((c : Thread nD τ).loc main_arg2)) := by
  refine (dats m 0 c).arrAt_eq_of_covers 6 _ (by decide +kernel) fun t hf y => ?_
  blk_simp; rw [after0_6]; frame_out
  exact point_6 m c t y

/-- The second moment. -/
theorem point_7 (c : Dev nD) (t : Fin cfg0.N) (y) :
    k0_pay2 (k0_pay5 (iblk m c 0 t) (iblk m c 1 t) (iblk m c 2 t) (iblk m c 3 t)) (iblk m c 3 t) y
      = val_main_v12 (F := Ideal) (m ((c : Thread nD τ).loc main_arg1)) (m ((c : Thread nD τ).loc main_arg3)) (((cfg0.win 7).blk t).view.emb y) := by
  unfold k0_pay5
  pointwise [k0_pay2, k0_pay4, val_main_v0, val_main_v1, val_main_v7, val_main_v8, val_main_v9, val_main_v10, val_main_v11, val_main_v12, val_main_cst, val_main_cst_0, val_main_cst_1, val_main_cst_2, val_main_cst_3, val_main_cst_4, val_main_cst_5, val_main_cst_6, val_main_cst_7, val_main_cst_8]
  simp only [Fin.sum_univ_eight]
  blk_point [iblk, V, idx_val t]

/-- The result array after the run. -/
theorem final_7 (c : Dev nD) : (dats m 0 c).arrAt 7 (cfgs 0).N
    = val_main_v12 (F := Ideal) (m ((c : Thread nD τ).loc main_arg1)) (m ((c : Thread nD τ).loc main_arg3)) := by
  refine (dats m 0 c).arrAt_eq_of_covers 7 _ (by decide +kernel) fun t hf y => ?_
  blk_simp; rw [after0_7]; frame_out
  exact point_7 m c t y

/-- The step. -/
theorem point_5 (c : Dev nD) (t : Fin cfg0.N) (y) :
    k0_pay3 (k0_pay5 (iblk m c 0 t) (iblk m c 1 t) (iblk m c 2 t) (iblk m c 3 t)) (iblk m c 2 t) (Scalar.ofBits .f32 0x3F666666#32) (iblk m c 3 t) (iblk m c 0 t) y
      = val_main_v25 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  unfold k0_pay5
  pointwise [k0_pay1, k0_pay2, k0_pay3, k0_pay4, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, val_main_cst_3, val_main_cst_4, val_main_cst_5, val_main_cst_6, val_main_cst_7, val_main_cst_8]
  simp only [Fin.sum_univ_eight]
  blk_point [iblk, V, idx_val t]

/-- The result array after the run. -/
theorem final_5 (c : Dev nD) : (dats m 0 c).arrAt 5 (cfgs 0).N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point_5 m c t y

end Cert.AdamIdeal.Value

namespace Cert.AdamClaim

open Idealize.ShloMosaic Idealize.SL.Sem

instance : Cert.AdamIdeal.Facts := Cert.AdamIdeal.Gen.facts
instance : Cert.AdamRefIdeal.Facts := Cert.AdamRefIdeal.Gen.facts

/-- The reference's frame: it runs to its end, keeps its arguments and leaves every semaphore at zero. -/
theorem frame_ref : Cert.quiescent_AdamRefIdeal := by
  intro m ρ _
  exact (θ_run Cert.AdamRefIdeal.defs _ _).mono (fun r h => ⟨fun c => (h c).2.2.2.2, sem_eq_zero_of_no_sems (by decide) r.2⟩)
    (Cert.AdamRefIdeal.Value.run (F := Ideal) m ρ)

set_option maxHeartbeats 4000000 in
/-- Over the reals the kernel's results are the reference's. -/
theorem algebraic : Cert.algebraic_AdamIdeal_AdamRefIdeal := by
  pair_intro
  · run_from Cert.AdamIdeal.Gen.run_main m g
  · run_from Cert.AdamRefIdeal.Value.run m' g'
    · exact (Cert.AdamIdeal.Value.final_4 m c).symm
    · rw [Cert.AdamRefIdeal.Read.val_main_v25_eq]
      exact (Cert.AdamIdeal.Value.final_5 m c).symm
    · rw [Cert.AdamRefIdeal.Read.val_main_v6_eq]
      exact (Cert.AdamIdeal.Value.final_6 m c).symm
    · rw [Cert.AdamRefIdeal.Read.val_main_v12_eq]
      exact (Cert.AdamIdeal.Value.final_7 m c).symm

end Cert.AdamClaim

end
-- ==== Proof.SbTile.lean ====
/- One tile of the stick-breaking backward pass, of one head: its operations as functions of the tile's blocks, and what
   they are on blocks of real numbers. -/
module

public import proofs.«01_k».proof.Proof.Gen.SbIdeal.Skeleton
public import Idealize.ShloMosaic.Lib.Claim
public import Idealize.ShloMosaic.Lib.Pointwise
public import Idealize.ShloMosaic.Lib.WordCmp

@[expose] public section

set_option maxRecDepth 16384

noncomputable section

namespace Cert.SbIdeal.Tile

open Idealize.ShloMosaic Idealize.ShloMosaic.TcCoe Idealize.SL.Sem
open Cert.SbIdeal.Gen Cert.SbIdeal

variable {F : FTy → Type} [FloatOps F] [Named F]

/-- The logits of a tile. -/
def zT (q k : FVec F S256x128 .f32) : FVec F S256x256 .f32 :=
  matmul dot_S256x128_S256x128_S256x256_1_1_0_0_n_n none (truncf .bf16 q bitsLt_bf16_f32) (truncf .bf16 k bitsLt_bf16_f32) (constant S256x256 .f32 0x00000000#32)

/-- log (1 − σ z). -/
def lmT (z : FVec F S256x256 .f32) : FVec F S256x256 .f32 :=
  subf (subf (broadcast S256x256 (Scalar.ofBits .f32 0x00000000#32)) (maximumf z (broadcast S256x256 (Scalar.ofBits .f32 0x00000000#32))))
    (log (addf (broadcast S256x256 (Scalar.ofBits .f32 0x3F800000#32)) (exp (subf (broadcast S256x256 (Scalar.ofBits .f32 0x00000000#32)) (absf z)))))

/-- A tile's row sums. -/
def ownT (x : FVec F S256x256 .f32) : FVec F S256x1 .f32 :=
  shapeCast S256x1 (multiReduction .add [1] S256 x 0x00000000#32 reduces_S256x256_S256 (.inl rfl) rfl) shapeCasts_S256_S256x1

/-- A tile's sums from a column to its right end, in two pieces. -/
def tailT (x tri : FVec F S256x256 .f32) : FVec F S256x256 .f32 :=
  addf (matmul dot_S256x256_S256x256_S256x256_1_0_0_1_n_n none (truncf .bf16 x bitsLt_bf16_f32) (truncf .bf16 tri bitsLt_bf16_f32) (constant S256x256 .f32 0x00000000#32))
    (matmul dot_S256x256_S256x256_S256x256_1_0_0_1_n_n none (truncf .bf16 (subf x (extf .f32 (truncf .bf16 x bitsLt_bf16_f32) bitsLt_bf16_f32)) bitsLt_bf16_f32) (truncf .bf16 tri bitsLt_bf16_f32) (constant S256x256 .f32 0x00000000#32))

/-- The log of the attention. -/
def laT (z kp tri : FVec F S256x256 .f32) (rem zero : FVec F S256x1 .f32) : FVec F S256x256 .f32 :=
  addf (addf z (tailT kp tri)) (broadcastTo S256x256 (addf (subf rem (ownT kp)) zero) broadcasts_S256x1_S256x256)

/-- The sums of a row up to a column. -/
def csT (g : FVec F S256x1 .f32) (G tri : FVec F S256x256 .f32) : FVec F S256x256 .f32 :=
  addf (matmul dot_S256x256_S256x256_S256x256_1_1_0_0_n_n none (truncf .bf16 G bitsLt_bf16_f32) (truncf .bf16 tri bitsLt_bf16_f32) (constant S256x256 .f32 0x00000000#32))
    (broadcastTo S256x256 (shapeCast S256x1 (multiReduction .add [1] S256 g 0x00000000#32 reduces_S256x1_S256 (.inl rfl) rfl) shapeCasts_S256_S256x1) broadcasts_S256x1_S256x256)

/-- The cotangent of the logits. -/
def dzOf (z lm G C : FVec F S256x256 .f32) : FVec F S256x256 .f32 :=
  addf G (mulf (subf (broadcast S256x256 (Scalar.ofBits .f32 0x00000000#32)) C) (exp (addf z lm)))

/-- A tile times a block of its columns' rows. -/
def mulN (d : FVec F S256x256 .f32) (k : FVec F S256x128 .f32) : FVec F S256x128 .f32 :=
  matmul dot_S256x256_S256x128_S256x128_1_0_0_1_n_n none (truncf .bf16 d bitsLt_bf16_f32) (truncf .bf16 k bitsLt_bf16_f32) (constant S256x128 .f32 0x00000000#32)

/-- A tile turned over, times a block of its rows. -/
def mulT (d : FVec F S256x256 .f32) (q : FVec F S256x128 .f32) : FVec F S256x128 .f32 :=
  matmul dot_S256x256_S256x128_S256x128_0_0_1_1_n_n none (truncf .bf16 d bitsLt_bf16_f32) (truncf .bf16 q bitsLt_bf16_f32) (constant S256x128 .f32 0x00000000#32)

/-- On the diagonal: what lies at or above it is 0. -/
def mkD (x : FVec F S256x256 .f32) : FVec F S256x256 .f32 :=
  select k0_pay216 x (broadcast S256x256 (Scalar.ofBits .f32 0x00000000#32))

/-- On the diagonal: what lies at or above it is the mask's number. -/
def mlD (x : FVec F S256x256 .f32) : FVec F S256x256 .f32 :=
  select k0_pay216 x (broadcast S256x256 (Named.named κ "mask" 0xF149F2CA#32))

/-- Lane masks of the two heads of a pair. -/
def lo128 : IVec S256x128 1 := broadcastTo S256x128 (shapeCast S1x128 (k0_pay2) shapeCasts_S1x128_S1x128) broadcasts_S1x128_S256x128

def mLo (x : FVec F S256x128 .f32) : FVec F S256x128 .f32 := select lo128 x (broadcast S256x128 (Scalar.ofBits .f32 0x00000000#32))
def mHi (x : FVec F S256x128 .f32) : FVec F S256x128 .f32 := select lo128 (broadcast S256x128 (Scalar.ofBits .f32 0x00000000#32)) x

variable (mk ml : FVec F S256x256 .f32 → FVec F S256x256 .f32) (q k v d : FVec F S256x128 .f32) (rem g : FVec F S256x1 .f32)

/-- The attention of a tile. -/
def attT : FVec F S256x256 .f32 := exp (ml (laT (zT q k) (mk (lmT (zT q k))) (k0_pay217 (F := F)) rem (k0_pay160 (F := F))))
/-- The cotangent of the log of the attention. -/
def gT : FVec F S256x256 .f32 := mk (mulf (zT d v) (attT mk ml q k rem))
/-- The cotangent of the logits. -/
def dzT : FVec F S256x256 .f32 :=
  dzOf (zT q k) (lmT (zT q k)) (gT mk ml q k v d rem) (mk (csT g (gT mk ml q k v d rem) (k0_pay217 (F := F))))
/-- The tile's part of what is still to the right. -/
def ownK : FVec F S256x1 .f32 := ownT (mk (lmT (zT q k)))
/-- The tile's part of the running sum of G. -/
def ownG : FVec F S256x1 .f32 := ownT (gT mk ml q k v d rem)

/-! On real numbers. -/

/-- A block that holds real numbers, the ones of `f`. -/
def Re {m n : ℕ} (x : (⟨2, ![m, n]⟩ : Shape).Idx → EReal) (f : ℕ → ℕ → ℝ) : Prop :=
  ∀ (a : Fin m) (b : Fin n), x (ix2 a b) = ((f a.val b.val : ℝ) : EReal)

theorem sum_re {n : ℕ} (f : ℕ → ℝ) : (∑ k : Fin n, ((f k.val : ℝ) : EReal)) = ((∑ k ∈ Finset.range n, f k : ℝ) : EReal) := by
  rw [Finset.sum_range]
  induction n with
  | zero => simp
  | succ n ih => rw [Fin.sum_univ_castSucc, Fin.sum_univ_castSucc, EReal.coe_add]; exact congrArg (· + _) ih

/-- log (1 − σ z) of a real number. -/
def lm (x : ℝ) : ℝ := 0 - max x 0 - Real.log (1 + Real.exp (0 - |x|))

theorem Re.congr {m n : ℕ} {x : (⟨2, ![m, n]⟩ : Shape).Idx → EReal} {f g : ℕ → ℕ → ℝ} (h : Re x f) (e : ∀ a < m, ∀ b < n, f a b = g a b) : Re x g :=
  fun a b => by rw [h a b, e a.val a.isLt b.val b.isLt]

theorem le_word (a b : Fin 256) : IntOp.cmpi .sge (BitVec.ofNat 32 a.val) (BitVec.ofNat 32 b.val) = if b.val ≤ a.val then 1#1 else 0#1 := by
  split_ifs with h <;> word_cmp

theorem lt_word (a b : Fin 256) : IntOp.cmpi .sgt (BitVec.ofNat 32 a.val) (BitVec.ofNat 32 b.val) = if b.val < a.val then 1#1 else 0#1 := by
  split_ifs with h <;> word_cmp

theorem zT_re {q k : FVec Ideal S256x128 .f32} {Q K : ℕ → ℕ → ℝ} (hq : Re q Q) (hk : Re k K) :
    Re (zT q k) (fun t s => ∑ d ∈ Finset.range 128, Q t d * K s d) := by
  intro a b
  pointwise [zT]
  simp only [hq _ _, hk _ _, ← EReal.coe_mul, sum_re (fun d => Q a.val d * K b.val d)]

theorem coe_max (x y : ℝ) : ((max x y : ℝ) : EReal) = max (x : EReal) (y : EReal) := EReal.coe_strictMono.monotone.map_max

theorem abs_re (x : ℝ) : max (x : EReal) (-(x : EReal)) = ((|x| : ℝ) : EReal) := by
  rw [← EReal.coe_neg, ← coe_max]; rfl

theorem lm_re (x : ℝ) : (0 : EReal) - max (x : EReal) 0 - Ideal.log (1 + Ideal.exp (0 - max (x : EReal) (-(x : EReal)))) = ((lm x : ℝ) : EReal) := by
  have hp : ¬ (1 + Real.exp (0 - |x|) ≤ 0) := not_le.2 (by positivity)
  rw [abs_re, ← EReal.coe_zero, ← coe_max, ← EReal.coe_sub, ← EReal.coe_sub, Ideal.exp_coe, ← EReal.coe_one, ← EReal.coe_add, Ideal.log_coe, if_neg hp, ← EReal.coe_sub]
  rfl

theorem lmT_re {z : FVec Ideal S256x256 .f32} {Z : ℕ → ℕ → ℝ} (h : Re z Z) : Re (lmT z) (fun t s => lm (Z t s)) := by
  intro a b
  pointwise [lmT]
  rw [h a b]
  exact lm_re _

theorem ownT_re {z : FVec Ideal S256x256 .f32} {Z : ℕ → ℕ → ℝ} (h : Re z Z) : Re (ownT z) (fun t _ => ∑ s ∈ Finset.range 256, Z t s) := by
  intro a b
  pointwise [ownT]
  simp only [h _ _, sum_re (fun s => Z a.val s)]

theorem tri_re : Re (k0_pay217 (F := Ideal)) (fun t s => if s ≤ t then 1 else 0) := by
  intro a b
  pointwise [k0_pay217]
  rw [le_word]
  by_cases h : b.val ≤ a.val
  · rw [if_pos h, if_pos h]; show (((BitVec.setWidth 32 1#1).toInt : ℝ) : EReal) = _; norm_num
  · rw [if_neg h, if_neg h]; show (((BitVec.setWidth 32 0#1).toInt : ℝ) : EReal) = _; norm_num

theorem tailT_re {z : FVec Ideal S256x256 .f32} {Z : ℕ → ℕ → ℝ} (h : Re z Z) :
   Re (tailT z k0_pay217) (fun t s => ∑ r ∈ Finset.range 256, Z t r * (if s ≤ r then 1 else 0)) := by
  intro a b
  pointwise [tailT]
  simp only [h _ _, tri_re _ _, ← EReal.coe_sub, ← EReal.coe_mul, sub_self, zero_mul, EReal.coe_zero, Finset.sum_const_zero, add_zero]
  exact sum_re (fun r => Z a.val r * (if b.val ≤ r then 1 else 0))

theorem laT_re {z kp : FVec Ideal S256x256 .f32} {rem : FVec Ideal S256x1 .f32} {Z KP : ℕ → ℕ → ℝ} {R : ℕ → ℕ → ℝ}
    (hz : Re z Z) (hk : Re kp KP) (hr : Re rem R) :
    Re (laT z kp k0_pay217 rem k0_pay160) (fun t s => Z t s + (∑ r ∈ Finset.range 256, KP t r * (if s ≤ r then 1 else 0)) + (R t 0 - ∑ r ∈ Finset.range 256, KP t r)) := by
  intro a b
  have e1 := tailT_re hk a b
  have e2 := ownT_re hk a 0
  have e3 := hr a 0
  pointwise [laT, k0_pay160]
  rw [e1, e2, hz a b, e3, ← EReal.coe_add, ← EReal.coe_sub, ← EReal.coe_add]
  rfl

theorem csT_re {g : FVec Ideal S256x1 .f32} {G : FVec Ideal S256x256 .f32} {g' G' : ℕ → ℕ → ℝ} (h : Re G G') (hg : Re g g') :
    Re (csT g G k0_pay217) (fun t s => ∑ r ∈ Finset.range 256, G' t r * (if r ≤ s then 1 else 0) + g' t 0) := by
  intro a b
  have e3 := hg a 0
  pointwise [csT]
  simp only [h _ _, tri_re _ _, ← EReal.coe_mul]
  rw [sum_re (fun r => G' a.val r * (if r ≤ b.val then 1 else 0)), Fin.sum_univ_one, e3, ← EReal.coe_add]
  rfl

theorem dzOf_re {z lm' G C : FVec Ideal S256x256 .f32} {Z L G' C' : ℕ → ℕ → ℝ} (hz : Re z Z) (hl : Re lm' L) (hG : Re G G') (hC : Re C C') :
    Re (dzOf z lm' G C) (fun t s => G' t s + (0 - C' t s) * Real.exp (Z t s + L t s)) := by
  intro a b
  pointwise [dzOf]
  rw [hz a b, hl a b, hG a b, hC a b, ← EReal.coe_add, Ideal.exp_coe, ← EReal.coe_zero, ← EReal.coe_sub, ← EReal.coe_mul, ← EReal.coe_add]

theorem mulN_re {d : FVec Ideal S256x256 .f32} {q : FVec Ideal S256x128 .f32} {D Q : ℕ → ℕ → ℝ} (hd : Re d D) (hq : Re q Q) :
    Re (mulN d q) (fun t e => ∑ s ∈ Finset.range 256, D t s * Q s e) := by
  intro a b
  pointwise [mulN]
  simp only [hd _ _, hq _ _, ← EReal.coe_mul, sum_re (fun t => D a.val t * Q t b.val)]

theorem mulT_re {d : FVec Ideal S256x256 .f32} {q : FVec Ideal S256x128 .f32} {D Q : ℕ → ℕ → ℝ} (hd : Re d D) (hq : Re q Q) :
    Re (mulT d q) (fun s e => ∑ t ∈ Finset.range 256, D t s * Q t e) := by
  intro a b
  pointwise [mulT]
  simp only [hd _ _, hq _ _, ← EReal.coe_mul, sum_re (fun t => D t a.val * Q t b.val)]

theorem mkD_re (z : FVec Ideal S256x256 .f32) (Z : ℕ → ℕ → ℝ) (h : Re z Z) : Re (mkD z) (fun t s => if s < t then Z t s else 0) := by
  intro a b
  pointwise [mkD, k0_pay216]
  rw [lt_word]
  by_cases hb : b.val < a.val
  · rw [if_pos hb, if_pos hb, h a b]; rfl
  · rw [if_neg hb, if_neg hb]; rfl

theorem mask_bot : Named.named (F := Ideal) κ "mask" (φ := .f32) 0xF149F2CA#32 = (⊥ : EReal) :=
  IdealRules.named_const.ideal_named_scalar _ _ _ _ rfl

theorem mlD_re (z : FVec Ideal S256x256 .f32) (Z : ℕ → ℕ → ℝ) (h : Re z Z) : Re (exp (mlD z)) (fun t s => if s < t then Real.exp (Z t s) else 0) := by
  intro a b
  pointwise [mlD, k0_pay216]
  rw [lt_word, mask_bot]
  by_cases hb : b.val < a.val
  · rw [if_pos hb, if_pos hb, h a b]; rfl
  · rw [if_neg hb, if_neg hb]; rfl

theorem mk_id_re (z : FVec Ideal S256x256 .f32) (Z : ℕ → ℕ → ℝ) (h : Re z Z) : Re (id z) (fun t s => if True then Z t s else 0) := by
  simpa using h

theorem ml_id_re (z : FVec Ideal S256x256 .f32) (Z : ℕ → ℕ → ℝ) (h : Re z Z) : Re (exp (id z)) (fun t s => if True then Real.exp (Z t s) else 0) := by
  intro a b
  pointwise [id]
  rw [h a b]; rfl

/-! One head of one sequence, over the reals. -/

section head
variable (Q K V D : ℕ → ℕ → ℝ)

def zz (t s : ℕ) : ℝ := ∑ d ∈ Finset.range 128, Q t d * K s d
def keep (t s : ℕ) : ℝ := if s < t then lm (zz Q K t s) else 0
def att (t s : ℕ) : ℝ := if s < t then Real.exp (zz Q K t s + ∑ r ∈ Finset.Ico s 2048, keep Q K t r) else 0
def gg (t s : ℕ) : ℝ := zz D V t s * att Q K t s
def cc (t s : ℕ) : ℝ := ∑ r ∈ Finset.range (s + 1), gg Q K V D t r
def dz (t s : ℕ) : ℝ := gg Q K V D t s + (0 - if s < t then cc Q K V D t s else 0) * Real.exp (zz Q K t s + lm (zz Q K t s))

/-- What is right of column `n`. -/
def remR (n t : ℕ) : ℝ := ∑ r ∈ Finset.Ico n 2048, keep Q K t r
/-- The running sum of G up to column `n`. -/
def sumG (n t : ℕ) : ℝ := ∑ r ∈ Finset.range n, gg Q K V D t r
end head

theorem sum_ico_shift (f : ℕ → ℝ) (n : ℕ) : ∑ s ∈ Finset.range 256, f (n + s) = ∑ r ∈ Finset.Ico n (n + 256), f r := by
  rw [Finset.sum_Ico_eq_sum_range]; simp

theorem sum_tail (f : ℕ → ℝ) (n s : ℕ) (hs : s < 256) :
    ∑ r ∈ Finset.range 256, f (n + r) * (if s ≤ r then 1 else 0) = ∑ r ∈ Finset.Ico (n + s) (n + 256), f r := by
  rw [Finset.sum_Ico_eq_sum_range, show n + 256 - (n + s) = 256 - s by omega, ← Finset.sum_range_add_sum_Ico _ (show s ≤ 256 by omega),
    Finset.sum_eq_zero, zero_add, Finset.sum_Ico_eq_sum_range]
  · exact Finset.sum_congr rfl fun x _ => by rw [if_pos (by omega), mul_one, add_assoc]
  · intro x hx; rw [if_neg (by simp at hx; omega), mul_zero]

theorem sum_head (f : ℕ → ℝ) (n s : ℕ) (hs : s < 256) :
    ∑ r ∈ Finset.range 256, f (n + r) * (if r ≤ s then 1 else 0) = ∑ r ∈ Finset.Ico n (n + s + 1), f r := by
  rw [Finset.sum_Ico_eq_sum_range, show n + s + 1 - n = s + 1 by omega, ← Finset.sum_range_add_sum_Ico _ (show s + 1 ≤ 256 by omega),
    Finset.sum_eq_zero (s := Finset.Ico _ _), add_zero]
  · exact Finset.sum_congr rfl fun x hx => by rw [if_pos (by simp at hx; omega), mul_one]
  · intro x hx; rw [if_neg (by simp at hx; omega), mul_zero]

section tile
variable {mk ml : FVec Ideal S256x256 .f32 → FVec Ideal S256x256 .f32} {q k v d : FVec Ideal S256x128 .f32} {rem g : FVec Ideal S256x1 .f32}
  {Q K V D : ℕ → ℕ → ℝ} {M : ℕ → ℕ → Prop} [∀ t s, Decidable (M t s)] {i j : ℕ}
  (hj : j < 8) (hM : ∀ t < 256, ∀ s < 256, M t s ↔ 256 * j + s < 256 * i + t)
  (hmk : ∀ x X, Re x X → Re (mk x) (fun t s => if M t s then X t s else 0))
  (hml : ∀ x X, Re x X → Re (exp (ml x)) (fun t s => if M t s then Real.exp (X t s) else 0))
  (hq : Re q (fun t e => Q (256 * i + t) e)) (hk : Re k (fun s e => K (256 * j + s) e))
  (hv : Re v (fun s e => V (256 * j + s) e)) (hd : Re d (fun t e => D (256 * i + t) e))
  (hr : Re rem (fun t _ => remR Q K (256 * j) (256 * i + t))) (hg : Re g (fun t _ => sumG Q K V D (256 * j) (256 * i + t)))

include hq hk in
theorem tile_z : Re (zT q k) (fun t s => zz Q K (256 * i + t) (256 * j + s)) := zT_re hq hk

include hM hmk hq hk in
theorem tile_keep : Re (mk (lmT (zT q k))) (fun t s => keep Q K (256 * i + t) (256 * j + s)) :=
  (hmk _ _ (lmT_re (tile_z hq hk))).congr fun a ha b hb => by simp only [hM a ha b hb, keep]

include hM hmk hq hk in
theorem tile_ownK : Re (ownK mk q k) (fun t _ => ∑ r ∈ Finset.Ico (256 * j) (256 * j + 256), keep Q K (256 * i + t) r) :=
  (ownT_re (tile_keep hM hmk hq hk)).congr fun a ha b hb => sum_ico_shift (fun r => keep Q K (256 * i + a) r) _

include hj hM hmk hq hk hr in
theorem tile_rem : Re (subf rem (ownK mk q k)) (fun t _ => remR Q K (256 * (j + 1)) (256 * i + t)) := by
  intro a b
  have e := tile_ownK hM hmk hq hk a b
  pointwise []
  rw [e, hr a b, ← EReal.coe_sub]
  refine congrArg _ ?_
  simp only [remR]
  rw [← Finset.sum_Ico_consecutive _ (show 256 * j ≤ 256 * j + 256 by omega) (show 256 * j + 256 ≤ 2048 by omega), add_sub_cancel_left, mul_add]

include hj hM hmk hml hq hk hr in
theorem tile_att : Re (attT mk ml q k rem) (fun t s => att Q K (256 * i + t) (256 * j + s)) :=
  (hml _ _ (laT_re (tile_z hq hk) (tile_keep hM hmk hq hk) hr)).congr fun a ha b hb => by
    simp only [hM a ha b hb, att]
    refine if_congr Iff.rfl (congrArg _ ?_) rfl
    rw [sum_tail (fun r => keep Q K (256 * i + a) r) _ _ hb, sum_ico_shift (fun r => keep Q K (256 * i + a) r), add_assoc, remR,
      ← Finset.sum_Ico_consecutive _ (show 256 * j ≤ 256 * j + 256 by omega) (show 256 * j + 256 ≤ 2048 by omega), add_sub_cancel_left,
      Finset.sum_Ico_consecutive _ (by omega) (by omega)]

include hj hM hmk hml hq hk hr hv hd in
theorem tile_g : Re (gT mk ml q k v d rem) (fun t s => gg Q K V D (256 * i + t) (256 * j + s)) := by
  have hx : Re (mulf (zT d v) (attT mk ml q k rem)) (fun t s => gg Q K V D (256 * i + t) (256 * j + s)) := by
    intro a b
    have e1 := tile_z hd hv a b
    have e2 := tile_att hj hM hmk hml hq hk hr a b
    pointwise []
    rw [e1, e2, ← EReal.coe_mul]
    rfl
  exact (hmk _ _ hx).congr fun a ha b hb => by
    simp only [hM a ha b hb]
    split_ifs with h
    · rfl
    · simp [gg, att, h]

include hj hM hmk hml hq hk hr hv hd in
theorem tile_ownG : Re (ownG mk ml q k v d rem) (fun t _ => ∑ r ∈ Finset.Ico (256 * j) (256 * j + 256), gg Q K V D (256 * i + t) r) :=
  (ownT_re (tile_g hj hM hmk hml hq hk hv hd hr)).congr fun a ha b hb => sum_ico_shift (fun r => gg Q K V D (256 * i + a) r) _

include hj hM hmk hml hq hk hr hv hd hg in
theorem tile_sumG : Re (addf g (ownG mk ml q k v d rem)) (fun t _ => sumG Q K V D (256 * (j + 1)) (256 * i + t)) := by
  intro a b
  have e := tile_ownG hj hM hmk hml hq hk hv hd hr a b
  pointwise []
  rw [e, hg a b, ← EReal.coe_add]
  refine congrArg _ ?_
  simp only [sumG, mul_add, mul_one]
  exact Finset.sum_range_add_sum_Ico _ (by omega)

include hj hM hmk hml hq hk hr hv hd hg in
theorem tile_dz : Re (dzT mk ml q k v d rem g) (fun t s => dz Q K V D (256 * i + t) (256 * j + s)) := by
  have hG := tile_g hj hM hmk hml hq hk hv hd hr
  refine (dzOf_re (tile_z hq hk) (lmT_re (tile_z hq hk)) hG (hmk _ _ (csT_re hG hg))).congr fun a ha b hb => ?_
  simp only [hM a ha b hb, dz]
  refine congrArg _ (congrArg (fun x : ℝ => (0 - x) * _) (if_congr Iff.rfl ?_ rfl))
  rw [sum_head (fun r => gg Q K V D (256 * i + a) r) _ _ hb, sumG, cc, add_comm, Finset.sum_range_add_sum_Ico _ (by omega)]

include hj hM hmk hml hq hk hr hv hd hg in
/-- The tile's part of the query's gradient. -/
theorem tile_dq : Re (mulN (dzT mk ml q k v d rem g) k) (fun t e => ∑ r ∈ Finset.Ico (256 * j) (256 * j + 256), dz Q K V D (256 * i + t) r * K r e) :=
  (mulN_re (tile_dz hj hM hmk hml hq hk hv hd hr hg) hk).congr fun a ha b hb => sum_ico_shift (fun r => dz Q K V D (256 * i + a) r * K r b) _

include hj hM hmk hml hq hk hr hv hd hg in
/-- The tile's part of the key's gradient. -/
theorem tile_dk : Re (mulT (dzT mk ml q k v d rem g) q) (fun s e => ∑ t ∈ Finset.Ico (256 * i) (256 * i + 256), dz Q K V D t (256 * j + s) * Q t e) :=
  (mulT_re (tile_dz hj hM hmk hml hq hk hv hd hr hg) hq).congr fun a ha b hb => sum_ico_shift (fun t => dz Q K V D t (256 * j + a) * Q t b) _

include hj hM hmk hml hq hk hr hd in
/-- The tile's part of the value's gradient. -/
theorem tile_dv : Re (mulT (attT mk ml q k rem) d) (fun s e => ∑ t ∈ Finset.Ico (256 * i) (256 * i + 256), att Q K t (256 * j + s) * D t e) :=
  (mulT_re (tile_att hj hM hmk hml hq hk hr) hd).congr fun a ha b hb => sum_ico_shift (fun t => att Q K t (256 * j + a) * D t b) _

end tile

end Cert.SbIdeal.Tile
-- ==== Proof.SbTrip.lean ====
/- One trip of the query-tile loop of the stick-breaking backward pass, and the loop by its invariant. -/
module

public import proofs.«01_k».proof.Proof.Gen.SbIdeal.Loops
public import proofs.«01_k».proof.Proof.Gen.SbIdeal.Frame
public import Idealize.ShloMosaic.Lib.LoopRemainder

@[expose] public section

set_option maxRecDepth 16384
set_option maxHeartbeats 4000000

noncomputable section

namespace Cert.SbIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SbIdeal.Gen

variable {F : FTy → Type} [FloatOps F] [Named F]

local notation "𝕄G" => MT nD τ sig Unit (Elt F) ℕ (UR sig nD τ) ℕ

/-- The starting block is 0 for every query tile: the word the loop reads is in range. -/
theorem chk_zero : ∀ k : Fin k0_t1_loop.trips, k0_chk1 k 0#32 := by decide +kernel

variable (𝒱 : Variants) (c : Dev nD) (bd : Option 𝒱.V) (i : grid0.Coords)
  (arg2 : Memref sig .tc .vmem S2x2048x128 .f32) (harg2 : arg2.IsWhole)
  (arg3 : Memref sig .tc .vmem S2x2048x128 .f32) (harg3 : arg3.IsWhole)
  (arg4 : Memref sig .tc .vmem S2x2048x128 .f32) (harg4 : arg4.IsWhole)
  (arg5 : Memref sig .tc .vmem S1x128 .f32) (harg5 : arg5.IsWhole)
  (arg6 : Memref sig .tc .vmem S2x2048x128 .f32) (harg6 : arg6.IsWhole)
  (arg7 : Memref sig .tc .vmem S2x2048x128 .f32) (harg7 : arg7.IsWhole)
  (arg8 : Memref sig .tc .vmem S2x2048x128 .f32) (harg8 : arg8.IsWhole)
  (arg9 : Memref sig .tc .smem S2x4x8 .i32) (harg9 : arg9.IsWhole)
  (arg10 : Memref sig .tc .vmem S2x2048x128 .f32) (harg10 : arg10.IsWhole)
  (arg11 : Memref sig .tc .vmem S2x2048x128 .f32) (harg11 : arg11.IsWhole)
  (arg12 : Memref sig .tc .vmem S2x2048x128 .f32) (harg12 : arg12.IsWhole)
  (arg13 : Memref sig .tc .vmem S1x128 .f32) (harg13 : arg13.IsWhole)
  (arg0 arg1 : BitVec 32) (v0 : Vec F S1x128 .f32)

/-- What one trip holds: the operands read at `X`, the three gradients written at `f`. -/
abbrev Trip
    (X2 : BufTy.Contents (Elt F) arg2.view.ty) (X3 : BufTy.Contents (Elt F) arg3.view.ty) (X4 : BufTy.Contents (Elt F) arg4.view.ty)
    (X6 : BufTy.Contents (Elt F) arg6.view.ty) (X7 : BufTy.Contents (Elt F) arg7.view.ty) (X8 : BufTy.Contents (Elt F) arg8.view.ty)
    (X9 : BufTy.Contents (Elt F) arg9.view.ty)
    (f10 : BufTy.Contents (Elt F) arg10.view.ty) (f11 : BufTy.Contents (Elt F) arg11.view.ty) (f12 : BufTy.Contents (Elt F) arg12.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

variable (X2 : BufTy.Contents (Elt F) arg2.view.ty) (X3 : BufTy.Contents (Elt F) arg3.view.ty) (X4 : BufTy.Contents (Elt F) arg4.view.ty)
  (X6 : BufTy.Contents (Elt F) arg6.view.ty) (X7 : BufTy.Contents (Elt F) arg7.view.ty) (X8 : BufTy.Contents (Elt F) arg8.view.ty)
  (X9 : BufTy.Contents (Elt F) arg9.view.ty)
  (hX9 : ∀ (k : Fin k0_t1_loop.trips) j, View.readAt (Elt F) arg9.view (Rect.unit (s := S2x4x8) (k0_off3 i k) S1x1x1.size (k0_off3_inb i k)).toLoadRect X9 j = (0#32 : Elt F .i32))

abbrev Acc (F : FTy → Type) [FloatOps F] := FVec F S1x128 .f32

@[irreducible] def trip (k : Fin k0_t1_loop.trips) :
    Σ' (R : FVec F S1x128 .f32 → BufTy.Contents (Elt F) arg11.view.ty → BufTy.Contents (Elt F) arg12.view.ty → FVec F S1x128 .f32)
      (L10 : FVec F S1x128 .f32 → BufTy.Contents (Elt F) arg11.view.ty → BufTy.Contents (Elt F) arg12.view.ty → List (View.Piece (Elt F) S2x2048x128 .f32))
      (L11 : FVec F S1x128 .f32 → BufTy.Contents (Elt F) arg11.view.ty → BufTy.Contents (Elt F) arg12.view.ty → List (View.Piece (Elt F) S2x2048x128 .f32)),
      { L12 : FVec F S1x128 .f32 → BufTy.Contents (Elt F) arg11.view.ty → BufTy.Contents (Elt F) arg12.view.ty → List (View.Piece (Elt F) S2x2048x128 .f32) //
        ∀ (E : Set ℕ) (acc : FVec F S1x128 .f32) (f10 : BufTy.Contents (Elt F) arg10.view.ty) (f11 : BufTy.Contents (Elt F) arg11.view.ty) (f12 : BufTy.Contents (Elt F) arg12.view.ty),
          Trip (F := F) c arg2 arg3 arg4 arg6 arg7 arg8 arg9 arg10 arg11 arg12 X2 X3 X4 X6 X7 X8 X9 f10 f11 f12
          ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg0 arg1 v0 k acc)
              (fun yld => iprop(⌜yld = R acc f11 f12⌝ ∗ Trip (F := F) c arg2 arg3 arg4 arg6 arg7 arg8 arg9 arg10 arg11 arg12 X2 X3 X4 X6 X7 X8 X9
                (arg10.view.writes (Elt F) f10 (L10 acc f11 f12)) (arg11.view.writes (Elt F) f11 (L11 acc f11 f12)) (arg12.view.writes (Elt F) f12 (L12 acc f11 f12)))) } := by
  have hw := chk_zero k
  refine ⟨?_, ?_, ?_, ?_, fun E acc f10 f11 f12 => ?run⟩
  case run =>
    unfold k0_t1_body
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    iintro ⟨H2, H3, H4, H6, H7, H8, H9, H10, H11, H12⟩
    sl_exec
    have hr : trip.sl.r_17 i arg9 X9 k = 0#32 := by
      unfold trip.sl.r_17
      exact hX9 k _
    rw [hr]
    sl_exec
    sl_step
    sl_close

/-- The state carried through the loop: the gain's gradient so far and, per gradient array, the pieces written
    so far (last first). -/
abbrev St (F : FTy → Type) [FloatOps F] : Type :=
  FVec F S1x128 .f32 × List (View.Piece (Elt F) S2x2048x128 .f32) × List (View.Piece (Elt F) S2x2048x128 .f32) × List (View.Piece (Elt F) S2x2048x128 .f32)

variable (G11 : BufTy.Contents (Elt F) arg11.view.ty) (G12 : BufTy.Contents (Elt F) arg12.view.ty)

/-- One trip's step of the state. -/
@[irreducible] def stStep (k : ℕ) (prev : St F) : St F :=
  if h : k < k0_t1_loop.trips then
    let T := trip (F := F) 𝒱 c bd i arg2 harg2 arg3 harg3 arg4 harg4 arg5 harg5 arg6 harg6 arg7 harg7 arg8 harg8 arg9 harg9 arg10 harg10 arg11 harg11 arg12 harg12 arg13 harg13 arg0 arg1 v0 X2 X3 X4 X6 X7 X8 X9 hX9 ⟨k, h⟩
    let g11 := arg11.view.writes (Elt F) G11 prev.2.2.1
    let g12 := arg12.view.writes (Elt F) G12 prev.2.2.2
    (T.1 prev.1 g11 g12, T.2.1 prev.1 g11 g12 ++ prev.2.1, T.2.2.1 prev.1 g11 g12 ++ prev.2.2.1, T.2.2.2.1 prev.1 g11 g12 ++ prev.2.2.2)
  else prev

/-- The state before trip `k`. -/
def st (init : FVec F S1x128 .f32) : ℕ → St F
  | 0 => (init, [], [], [])
  | k + 1 => stStep 𝒱 c bd i arg2 harg2 arg3 harg3 arg4 harg4 arg5 harg5 arg6 harg6 arg7 harg7 arg8 harg8 arg9 harg9 arg10 harg10 arg11 harg11 arg12 harg12 arg13 harg13 arg0 arg1 v0 X2 X3 X4 X6 X7 X8 X9 hX9 G11 G12 k (st init k)

theorem st_succ (init : FVec F S1x128 .f32) (k : Fin k0_t1_loop.trips) :
    st (F := F) 𝒱 c bd i arg2 harg2 arg3 harg3 arg4 harg4 arg5 harg5 arg6 harg6 arg7 harg7 arg8 harg8 arg9 harg9 arg10 harg10 arg11 harg11 arg12 harg12 arg13 harg13 arg0 arg1 v0 X2 X3 X4 X6 X7 X8 X9 hX9 G11 G12 init (k.val + 1) =
      (let T := trip (F := F) 𝒱 c bd i arg2 harg2 arg3 harg3 arg4 harg4 arg5 harg5 arg6 harg6 arg7 harg7 arg8 harg8 arg9 harg9 arg10 harg10 arg11 harg11 arg12 harg12 arg13 harg13 arg0 arg1 v0 X2 X3 X4 X6 X7 X8 X9 hX9 k
       let prev := st (F := F) 𝒱 c bd i arg2 harg2 arg3 harg3 arg4 harg4 arg5 harg5 arg6 harg6 arg7 harg7 arg8 harg8 arg9 harg9 arg10 harg10 arg11 harg11 arg12 harg12 arg13 harg13 arg0 arg1 v0 X2 X3 X4 X6 X7 X8 X9 hX9 G11 G12 init k.val
       let g11 := arg11.view.writes (Elt F) G11 prev.2.2.1
       let g12 := arg12.view.writes (Elt F) G12 prev.2.2.2
       (T.1 prev.1 g11 g12, T.2.1 prev.1 g11 g12 ++ prev.2.1, T.2.2.1 prev.1 g11 g12 ++ prev.2.2.1, T.2.2.2.1 prev.1 g11 g12 ++ prev.2.2.2)) := by
  rw [st.eq_2]; unfold stStep; exact dif_pos k.isLt

theorem st_zero (init : FVec F S1x128 .f32) : (st (F := F) 𝒱 c bd i arg2 harg2 arg3 harg3 arg4 harg4 arg5 harg5 arg6 harg6 arg7 harg7 arg8 harg8 arg9 harg9 arg10 harg10 arg11 harg11 arg12 harg12 arg13 harg13 arg0 arg1 v0 X2 X3 X4 X6 X7 X8 X9 hX9 G11 G12 init 0).1 = init := rfl

/-- The invariant before trip `k`. -/
abbrev inv (G10 : BufTy.Contents (Elt F) arg10.view.ty) (init : FVec F S1x128 .f32) (k : ℕ) (acc : FVec F S1x128 .f32) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗
    (∃ f, (arg10.view.loc (c : Thread nD τ) ↦[arg10.view.set]{fullShare} f) ∗ ⌜f = arg10.view.writes (Elt F) G10 (st (F := F) 𝒱 c bd i arg2 harg2 arg3 harg3 arg4 harg4 arg5 harg5 arg6 harg6 arg7 harg7 arg8 harg8 arg9 harg9 arg10 harg10 arg11 harg11 arg12 harg12 arg13 harg13 arg0 arg1 v0 X2 X3 X4 X6 X7 X8 X9 hX9 G11 G12 init k).2.1⌝) ∗
    (∃ f, (arg11.view.loc (c : Thread nD τ) ↦[arg11.view.set]{fullShare} f) ∗ ⌜f = arg11.view.writes (Elt F) G11 (st (F := F) 𝒱 c bd i arg2 harg2 arg3 harg3 arg4 harg4 arg5 harg5 arg6 harg6 arg7 harg7 arg8 harg8 arg9 harg9 arg10 harg10 arg11 harg11 arg12 harg12 arg13 harg13 arg0 arg1 v0 X2 X3 X4 X6 X7 X8 X9 hX9 G11 G12 init k).2.2.1⌝) ∗
    (∃ f, (arg12.view.loc (c : Thread nD τ) ↦[arg12.view.set]{fullShare} f) ∗ ⌜f = arg12.view.writes (Elt F) G12 (st (F := F) 𝒱 c bd i arg2 harg2 arg3 harg3 arg4 harg4 arg5 harg5 arg6 harg6 arg7 harg7 arg8 harg8 arg9 harg9 arg10 harg10 arg11 harg11 arg12 harg12 arg13 harg13 arg0 arg1 v0 X2 X3 X4 X6 X7 X8 X9 hX9 G11 G12 init k).2.2.2⌝) ∗
    ⌜acc = (st (F := F) 𝒱 c bd i arg2 harg2 arg3 harg3 arg4 harg4 arg5 harg5 arg6 harg6 arg7 harg7 arg8 harg8 arg9 harg9 arg10 harg10 arg11 harg11 arg12 harg12 arg13 harg13 arg0 arg1 v0 X2 X3 X4 X6 X7 X8 X9 hX9 G11 G12 init k).1⌝)

set_option warn.classDefReducibility false in
/-- The loop over the query tiles by its invariant. -/
@[sl_loop] def loopInv (E : Set ℕ) (G10 : BufTy.Contents (Elt F) arg10.view.ty) (init : FVec F S1x128 .f32) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg0 arg1 v0 init where
  inv := inv (F := F) 𝒱 c bd i arg2 harg2 arg3 harg3 arg4 harg4 arg5 harg5 arg6 harg6 arg7 harg7 arg8 harg8 arg9 harg9 arg10 harg10 arg11 harg11 arg12 harg12 arg13 harg13 arg0 arg1 v0 X2 X3 X4 X6 X7 X8 X9 hX9 G11 G12 G10 init
  step k acc := by
    iintro ⟨H2, H3, H4, H6, H7, H8, H9, ⟨%f10, H10, %h10⟩, ⟨%f11, H11, %h11⟩, ⟨%f12, H12, %h12⟩, %h_acc⟩
    subst h_acc
    iapply (wp_wand_r Idealize.ShloMosaic.frame (wpE (defs₀ (F := F)) 𝒱 (c : Thread nD τ) bd) E)
    isplitl [H2 H3 H4 H6 H7 H8 H9 H10 H11 H12]
    · iapply ((trip (F := F) 𝒱 c bd i arg2 harg2 arg3 harg3 arg4 harg4 arg5 harg5 arg6 harg6 arg7 harg7 arg8 harg8 arg9 harg9 arg10 harg10 arg11 harg11 arg12 harg12 arg13 harg13 arg0 arg1 v0 X2 X3 X4 X6 X7 X8 X9 hX9 k).2.2.2.2 E (st (F := F) 𝒱 c bd i arg2 harg2 arg3 harg3 arg4 harg4 arg5 harg5 arg6 harg6 arg7 harg7 arg8 harg8 arg9 harg9 arg10 harg10 arg11 harg11 arg12 harg12 arg13 harg13 arg0 arg1 v0 X2 X3 X4 X6 X7 X8 X9 hX9 G11 G12 init k).1 f10 f11 f12)
      isplitl [H2]; · iexact H2
      isplitl [H3]; · iexact H3
      isplitl [H4]; · iexact H4
      isplitl [H6]; · iexact H6
      isplitl [H7]; · iexact H7
      isplitl [H8]; · iexact H8
      isplitl [H9]; · iexact H9
      isplitl [H10]; · iexact H10
      isplitl [H11]; · iexact H11
      iexact H12
    · iintro %yld ⟨%h_res, H2, H3, H4, H6, H7, H8, H9, H10, H11, H12⟩
      isplitl [H2]; · iexact H2
      isplitl [H3]; · iexact H3
      isplitl [H4]; · iexact H4
      isplitl [H6]; · iexact H6
      isplitl [H7]; · iexact H7
      isplitl [H8]; · iexact H8
      isplitl [H9]; · iexact H9
      simp only [st_succ]
      isplitl [H10]
      · iexists _; isplitl [H10]; · iexact H10
        ipureintro; rw [h10, h11, h12, ← View.writes_append]
      isplitl [H11]
      · iexists _; isplitl [H11]; · iexact H11
        ipureintro; rw [h11, h12, ← View.writes_append]
      isplitl [H12]
      · iexists _; isplitl [H12]; · iexact H12
        ipureintro; rw [h11, h12, ← View.writes_append]
      ipureintro; rw [h_res, h11, h12]

end Cert.SbIdeal.Run
-- ==== Proof.SbBody.lean ====
/- The body of the stick-breaking backward pass at any grid point. -/
module

public import proofs.«01_k».proof.Proof.SbTrip
public import Idealize.ShloMosaic.Lib.VecWindow
public import Idealize.ShloMosaic.Lib.WholeRead
public import proofs.«01_k».proof.Proof.Gen.SbIdeal.Frame
public import Idealize.ShloMosaic.Lib.LoopRemainder

@[expose] public section

set_option maxRecDepth 16384
set_option maxHeartbeats 1000000

noncomputable section

namespace Cert.SbIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SbIdeal.Gen

variable {F : FTy → Type} [FloatOps F] [Named F]

local notation "𝕄G" => MT nD τ sig Unit (Elt F) ℕ (UR sig nD τ) ℕ

variable (c : Dev nD) (i : grid0.Coords)
  (arg2 : Memref sig .tc .vmem S2x2048x128 .f32) (harg2 : arg2.IsWhole)
  (arg3 : Memref sig .tc .vmem S2x2048x128 .f32) (harg3 : arg3.IsWhole)
  (arg4 : Memref sig .tc .vmem S2x2048x128 .f32) (harg4 : arg4.IsWhole)
  (arg5 : Memref sig .tc .vmem S1x128 .f32) (harg5 : arg5.IsWhole)
  (arg6 : Memref sig .tc .vmem S2x2048x128 .f32) (harg6 : arg6.IsWhole)
  (arg7 : Memref sig .tc .vmem S2x2048x128 .f32) (harg7 : arg7.IsWhole)
  (arg8 : Memref sig .tc .vmem S2x2048x128 .f32) (harg8 : arg8.IsWhole)
  (arg9 : Memref sig .tc .smem S2x4x8 .i32) (harg9 : arg9.IsWhole)
  (arg10 : Memref sig .tc .vmem S2x2048x128 .f32) (harg10 : arg10.IsWhole)
  (arg11 : Memref sig .tc .vmem S2x2048x128 .f32) (harg11 : arg11.IsWhole)
  (arg12 : Memref sig .tc .vmem S2x2048x128 .f32) (harg12 : arg12.IsWhole)
  (arg13 : Memref sig .tc .vmem S1x128 .f32) (harg13 : arg13.IsWhole)
  (x2 : Vec F S2x2048x128 .f32) (x3 : Vec F S2x2048x128 .f32) (x4 : Vec F S2x2048x128 .f32) (x5 : Vec F S1x128 .f32) (x6 : Vec F S2x2048x128 .f32) (x7 : Vec F S2x2048x128 .f32) (x8 : Vec F S2x2048x128 .f32) (x9 : Vec F S2x4x8 .i32) (hx9 : ∀ j, x9 j = 0#32)

/-- What the query loop leaves, started on the zeroed gradients: the gain's gradient and the pieces written into each array. -/
def fin : St F :=
  st (F := F) Variants.none c none i arg2 harg2 arg3 harg3 arg4 harg4 arg5 harg5 arg6 harg6 arg7 harg7 arg8 harg8 arg9 harg9 arg10 harg10 arg11 harg11 arg12 harg12 arg13 harg13 (BitVec.ofNat 32 (i 0).val) (BitVec.ofNat 32 (i 1).val) x5
    (harg2.unread x2) (harg3.unread x3) (harg4.unread x4) (harg6.unread x6) (harg7.unread x7) (harg8.unread x8) (harg9.unread x9)
    (fun k j => (harg9.readAt_unread x9 _ j).trans (hx9 _))
    (harg11.unread (k0_pay3 (F := F))) (harg12.unread (k0_pay4 (F := F))) (k0_pay5 (F := F)) k0_t1_loop.trips

/-- The key gradient's block. -/
def outK : Vec F S2x2048x128 .f32 := arg11.view.read (Elt F) (arg11.view.writes (Elt F) (harg11.unread (k0_pay3 (F := F))) (fin c i arg2 harg2 arg3 harg3 arg4 harg4 arg5 harg5 arg6 harg6 arg7 harg7 arg8 harg8 arg9 harg9 arg10 harg10 arg11 harg11 arg12 harg12 arg13 harg13 x2 x3 x4 x5 x6 x7 x8 x9 hx9).2.2.1)
/-- The value gradient's block. -/
def outV : Vec F S2x2048x128 .f32 := arg12.view.read (Elt F) (arg12.view.writes (Elt F) (harg12.unread (k0_pay4 (F := F))) (fin c i arg2 harg2 arg3 harg3 arg4 harg4 arg5 harg5 arg6 harg6 arg7 harg7 arg8 harg8 arg9 harg9 arg10 harg10 arg11 harg11 arg12 harg12 arg13 harg13 x2 x3 x4 x5 x6 x7 x8 x9 hx9).2.2.2)

theorem store_full (m : Memref sig .tc .vmem S2x2048x128 .f32) (h : m.IsWhole) (f : m.view.ty.Contents (Elt F)) (v : Vec F S2x2048x128 .f32) :
    m.view.writes (Elt F) f [⟨Rect.unit (s := S2x2048x128) ![0, 0, 0] S2x2048x128.size inb_S2x2048x128_S2x2048x128_0_0_0, v⟩] = h.unread v :=
  h.eq_unread (View.read_writes_full m.view f inb_S2x2048x128_S2x2048x128_0_0_0 v [])

theorem store_row (m : Memref sig .tc .vmem S1x128 .f32) (h : m.IsWhole) (f : m.view.ty.Contents (Elt F)) (v : Vec F S1x128 .f32) :
    m.view.writes (Elt F) f [⟨Rect.unit (s := S1x128) ![0, 0] S1x128.size inb_S1x128_S1x128_0_0, v⟩] = h.unread v :=
  h.eq_unread (View.read_writes_full m.view f inb_S1x128_S1x128_0_0 v [])

theorem load_row (m : Memref sig .tc .vmem S1x128 .f32) (h : m.IsWhole) (v : Vec F S1x128 .f32) :
    m.view.readAt (Elt F) (Rect.unit (s := S1x128) ![0, 0] S1x128.size inb_S1x128_S1x128_0_0).toLoadRect (h.unread v) = v :=
  (View.readAt_full m.view _ inb_S1x128_S1x128_0_0).trans (h.read_unread v)

/-- The body at a point that starts a new run of the gain gradient. -/
theorem bodyA (hc0 : k0_cond1 i = 1#1) (hc1 : ¬k0_cond2 i = 1#1) (E : Set ℕ) (K : PUnit → sProp 𝕄G) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f (fin c i arg2 harg2 arg3 harg3 arg4 harg4 arg5 harg5 arg6 harg6 arg7 harg7 arg8 harg8 arg9 harg9 arg10 harg10 arg11 harg11 arg12 harg12 arg13 harg13 x2 x3 x4 x5 x6 x7 x8 x9 hx9).2.1)
          ∗ owns (c : Thread nD τ) arg11 fullShare (outK c i arg2 harg2 arg3 harg3 arg4 harg4 arg5 harg5 arg6 harg6 arg7 harg7 arg8 harg8 arg9 harg9 arg10 harg10 arg11 harg11 arg12 harg12 arg13 harg13 x2 x3 x4 x5 x6 x7 x8 x9 hx9) ∗ owns (c : Thread nD τ) arg12 fullShare (outV c i arg2 harg2 arg3 harg3 arg4 harg4 arg5 harg5 arg6 harg6 arg7 harg7 arg8 harg8 arg9 harg9 arg10 harg10 arg11 harg11 arg12 harg12 arg13 harg13 x2 x3 x4 x5 x6 x7 x8 x9 hx9) ∗ owns (c : Thread nD τ) arg13 fullShare (fin c i arg2 harg2 arg3 harg3 arg4 harg4 arg5 harg5 arg6 harg6 arg7 harg7 arg8 harg8 arg9 harg9 arg10 harg10 arg11 harg11 arg12 harg12 arg13 harg13 x2 x3 x4 x5 x6 x7 x8 x9 hx9).1) -∗ K ⟨⟩))
    ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12 arg13 harg13) K := by
  simp only [cc0_sb_bwd_eq_skeleton]; unfold cc0_sb_bwd_skel
  unfold owns outK outV fin
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  have hX9 : ∀ (k : Fin k0_t1_loop.trips) j, View.readAt (Elt F) arg9.view (Rect.unit (s := S2x4x8) (k0_off3 i k) S1x1x1.size (k0_off3_inb i k)).toLoadRect (harg9.unread x9) j = (0#32 : Elt F .i32) :=
    fun k j => (harg9.readAt_unread x9 _ j).trans (hx9 _)
  sl_exec (disch := first | sl_exact hc0 | sl_exact hc1)
  have e11 : arg11.view.writes (Elt F) arg11.view.junk bodyA.sl.H11_1 = harg11.unread (k0_pay3 (F := F)) := store_full arg11 harg11 _ _
  have e12 : arg12.view.writes (Elt F) arg12.view.junk bodyA.sl.H12_1 = harg12.unread (k0_pay4 (F := F)) := store_full arg12 harg12 _ _
  rw [View.writes_append, View.writes_append, e11, e12, load_row arg5 harg5 x5]
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]; · iexists _; iexact H10
  isplitl [H11]
  · iexists _; isplitr
    · ipureintro; rfl
    iexact H11
  isplitl [H12]
  · iexists _; isplitr
    · ipureintro; rfl
    iexact H12
  iexists _; isplitr
  swap; · iexact H13
  ipureintro
  rw [store_row _ harg13]; exact harg13.read_unread _

/-- The body at a point that adds to the gain gradient. -/
theorem bodyB (hc0 : ¬k0_cond1 i = 1#1) (hc1 : k0_cond2 i = 1#1) (x13 : Vec F S1x128 .f32) (E : Set ℕ) (K : PUnit → sProp 𝕄G) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x13
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f (fin c i arg2 harg2 arg3 harg3 arg4 harg4 arg5 harg5 arg6 harg6 arg7 harg7 arg8 harg8 arg9 harg9 arg10 harg10 arg11 harg11 arg12 harg12 arg13 harg13 x2 x3 x4 x5 x6 x7 x8 x9 hx9).2.1)
          ∗ owns (c : Thread nD τ) arg11 fullShare (outK c i arg2 harg2 arg3 harg3 arg4 harg4 arg5 harg5 arg6 harg6 arg7 harg7 arg8 harg8 arg9 harg9 arg10 harg10 arg11 harg11 arg12 harg12 arg13 harg13 x2 x3 x4 x5 x6 x7 x8 x9 hx9) ∗ owns (c : Thread nD τ) arg12 fullShare (outV c i arg2 harg2 arg3 harg3 arg4 harg4 arg5 harg5 arg6 harg6 arg7 harg7 arg8 harg8 arg9 harg9 arg10 harg10 arg11 harg11 arg12 harg12 arg13 harg13 x2 x3 x4 x5 x6 x7 x8 x9 hx9) ∗ owns (c : Thread nD τ) arg13 fullShare (k0_pay9 (fin c i arg2 harg2 arg3 harg3 arg4 harg4 arg5 harg5 arg6 harg6 arg7 harg7 arg8 harg8 arg9 harg9 arg10 harg10 arg11 harg11 arg12 harg12 arg13 harg13 x2 x3 x4 x5 x6 x7 x8 x9 hx9).1 x13)) -∗ K ⟨⟩))
    ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12 arg13 harg13) K := by
  simp only [cc0_sb_bwd_eq_skeleton]; unfold cc0_sb_bwd_skel
  unfold owns outK outV fin
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13
  have hX9 : ∀ (k : Fin k0_t1_loop.trips) j, View.readAt (Elt F) arg9.view (Rect.unit (s := S2x4x8) (k0_off3 i k) S1x1x1.size (k0_off3_inb i k)).toLoadRect (harg9.unread x9) j = (0#32 : Elt F .i32) :=
    fun k j => (harg9.readAt_unread x9 _ j).trans (hx9 _)
  sl_exec (disch := first | sl_exact hc0 | sl_exact hc1)
  have e11 : arg11.view.writes (Elt F) arg11.view.junk bodyB.sl.H11_1 = harg11.unread (k0_pay3 (F := F)) := store_full arg11 harg11 _ _
  have e12 : arg12.view.writes (Elt F) arg12.view.junk bodyB.sl.H12_1 = harg12.unread (k0_pay4 (F := F)) := store_full arg12 harg12 _ _
  rw [View.writes_append, View.writes_append, e11, e12, load_row arg5 harg5 x5]
  rw [load_row arg13 harg13 x13]
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]; · iexists _; iexact H10
  isplitl [H11]
  · iexists _; isplitr
    · ipureintro; rfl
    iexact H11
  isplitl [H12]
  · iexists _; isplitr
    · ipureintro; rfl
    iexact H12
  iexists _; isplitr
  swap; · iexact H13
  ipureintro
  rw [store_row _ harg13]; exact harg13.read_unread _

end Cert.SbIdeal.Run
-- ==== Proof.SbInner.lean ====
/- One trip of the inner loop (a tile below the diagonal), in terms of the tile's functions. -/
module

public import proofs.«01_k».proof.Proof.SbTile
public import proofs.«01_k».proof.Proof.SbBody

@[expose] public section

set_option maxRecDepth 16384
set_option maxHeartbeats 1000000

noncomputable section

namespace Cert.SbIdeal.Tile

open Idealize.ShloMosaic Idealize.ShloMosaic.TcCoe Idealize.SL.Sem
open Cert.SbIdeal.Gen Cert.SbIdeal

variable {F : FTy → Type} [FloatOps F] [Named F]

/-- A block of 256 rows of one sequence, read from a memref. -/
abbrev blk (m : Memref sig .tc .vmem S2x2048x128 .f32) (o : Fin 3 → ℕ) (h : ∀ a, o a + S1x256x128.size a ≤ S2x2048x128.size a) (X : BufTy.Contents (Elt F) m.view.ty) : FVec F S256x128 .f32 :=
  shapeCast S256x128 (View.readAt (Elt F) m.view (Rect.unit (s := S2x2048x128) o S1x256x128.size h).toLoadRect X) shapeCasts_S1x256x128_S256x128

/-- A block to be stored. -/
abbrev unblk (x : FVec F S256x128 .f32) : FVec F S1x256x128 .f32 := shapeCast S1x256x128 x shapeCasts_S256x128_S1x256x128

/-- The pieces a trip stores into a gradient array: one block of each of the two sequences, added to what was there. -/
def pcs (m : Memref sig .tc .vmem S2x2048x128 .f32) (o : Fin 3 → ℕ) (h : ∀ a, o a + S1x256x128.size a ≤ S2x2048x128.size a) (o' : Fin 3 → ℕ) (h' : ∀ a, o' a + S1x256x128.size a ≤ S2x2048x128.size a) (x x' : FVec F S256x128 .f32) (f : BufTy.Contents (Elt F) m.view.ty) : List (View.Piece (Elt F) S2x2048x128 .f32) :=
  [⟨Rect.unit (s := S2x2048x128) o' S1x256x128.size h', unblk (addf (blk m o' h' (m.view.writes (Elt F) f [⟨Rect.unit (s := S2x2048x128) o S1x256x128.size h, unblk (addf (blk m o h f) x)⟩])) x')⟩, ⟨Rect.unit (s := S2x2048x128) o S1x256x128.size h, unblk (addf (blk m o h f) x)⟩]

section
variable (𝒱 : Variants) (c : Dev nD) (bd : Option 𝒱.V) (i : grid0.Coords) (arg2 : Memref sig .tc .vmem S2x2048x128 .f32) (harg2 : arg2.IsWhole) (arg3 : Memref sig .tc .vmem S2x2048x128 .f32) (harg3 : arg3.IsWhole) (arg4 : Memref sig .tc .vmem S2x2048x128 .f32) (harg4 : arg4.IsWhole) (arg5 : Memref sig .tc .vmem S1x128 .f32) (harg5 : arg5.IsWhole) (arg6 : Memref sig .tc .vmem S2x2048x128 .f32) (harg6 : arg6.IsWhole) (arg7 : Memref sig .tc .vmem S2x2048x128 .f32) (harg7 : arg7.IsWhole) (arg8 : Memref sig .tc .vmem S2x2048x128 .f32) (harg8 : arg8.IsWhole) (arg9 : Memref sig .tc .smem S2x4x8 .i32) (harg9 : arg9.IsWhole) (arg10 : Memref sig .tc .vmem S2x2048x128 .f32) (harg10 : arg10.IsWhole) (arg11 : Memref sig .tc .vmem S2x2048x128 .f32) (harg11 : arg11.IsWhole) (arg12 : Memref sig .tc .vmem S2x2048x128 .f32) (harg12 : arg12.IsWhole) (arg13 : Memref sig .tc .vmem S1x128 .f32) (harg13 : arg13.IsWhole) (arg0 : BitVec 32) (arg1 : BitVec 32) (k0_t1 : Fin k0_t1_loop.trips) (arg14 : BitVec 32) (v19 : BitVec 32) (v32 : FVec F S256x128 .f32) (v36 : FVec F S256x128 .f32) (v100 : FVec F S256x128 .f32) (v101 : FVec F S1x128 .f32) (v110 : FVec F S256x1 .f32) (v116 : FVec F S256x1 .f32) (v128 : FVec F S256x128 .f32) (v132 : FVec F S256x128 .f32) (v135 : FVec F S256x128 .f32) (v167 : FVec F S1x128 .f32) (v192 : FVec F S256x128 .f32) (v194 : FVec F S256x128 .f32) (v217 : Elt F .i32) (k0_hw1 : k0_chk1 k0_t1 v217) (X_arg3 : BufTy.Contents (Elt F) arg3.view.ty) (X_arg4 : BufTy.Contents (Elt F) arg4.view.ty) (k : Fin (k0_t2_loop k0_t1 v217).trips)
  (acc : FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32) (f11 : BufTy.Contents (Elt F) arg11.view.ty) (f12 : BufTy.Contents (Elt F) arg12.view.ty)

theorem tripR_eq : tripR_k0_t2 (F := F) 𝒱 c bd i arg2 harg2 arg3 harg3 arg4 harg4 arg5 harg5 arg6 harg6 arg7 harg7 arg8 harg8 arg9 harg9 arg10 harg10 arg11 harg11 arg12 harg12 arg13 harg13 arg0 arg1 k0_pay2 k0_t1 arg14 v19 k0_pay160 v32 v36 v100 v101 v110 v116 v128 v132 v135 v167 v192 v194 v217 k0_hw1 X_arg3 X_arg4 k acc f11 f12 =
    (addf acc.1 (select lo128 (mulN (dzT id id v32 (blk arg3 (k0_off4 k0_t1 v217 k) (k0_off4_inb k0_t1 v217 k0_hw1 k) X_arg3) (blk arg4 (k0_off4 k0_t1 v217 k) (k0_off4_inb k0_t1 v217 k0_hw1 k) X_arg4) (mLo v100) acc.2.2.1 acc.2.2.2.2.2.2.1) (blk arg3 (k0_off4 k0_t1 v217 k) (k0_off4_inb k0_t1 v217 k0_hw1 k) X_arg3)) (mulN (dzT id id v36 (blk arg3 (k0_off4 k0_t1 v217 k) (k0_off4_inb k0_t1 v217 k0_hw1 k) X_arg3) (blk arg4 (k0_off4 k0_t1 v217 k) (k0_off4_inb k0_t1 v217 k0_hw1 k) X_arg4) (mHi v100) acc.2.2.2.2.1 acc.2.2.2.2.2.2.2.2.1) (blk arg3 (k0_off4 k0_t1 v217 k) (k0_off4_inb k0_t1 v217 k0_hw1 k) X_arg3))),
     addf acc.2.1 (select lo128 (mulN (dzT id id v128 (blk arg3 (k0_off5 k0_t1 v217 k) (k0_off5_inb k0_t1 v217 k0_hw1 k) X_arg3) (blk arg4 (k0_off5 k0_t1 v217 k) (k0_off5_inb k0_t1 v217 k0_hw1 k) X_arg4) (mLo (k0_pay193 v135 v192 v194)) acc.2.2.2.1 acc.2.2.2.2.2.2.2.1) (blk arg3 (k0_off5 k0_t1 v217 k) (k0_off5_inb k0_t1 v217 k0_hw1 k) X_arg3)) (mulN (dzT id id v132 (blk arg3 (k0_off5 k0_t1 v217 k) (k0_off5_inb k0_t1 v217 k0_hw1 k) X_arg3) (blk arg4 (k0_off5 k0_t1 v217 k) (k0_off5_inb k0_t1 v217 k0_hw1 k) X_arg4) (mHi (k0_pay193 v135 v192 v194)) acc.2.2.2.2.2.1 acc.2.2.2.2.2.2.2.2.2) (blk arg3 (k0_off5 k0_t1 v217 k) (k0_off5_inb k0_t1 v217 k0_hw1 k) X_arg3))),
     subf acc.2.2.1 (ownK id v32 (blk arg3 (k0_off4 k0_t1 v217 k) (k0_off4_inb k0_t1 v217 k0_hw1 k) X_arg3)),
     subf acc.2.2.2.1 (ownK id v128 (blk arg3 (k0_off5 k0_t1 v217 k) (k0_off5_inb k0_t1 v217 k0_hw1 k) X_arg3)),
     subf acc.2.2.2.2.1 (ownK id v36 (blk arg3 (k0_off4 k0_t1 v217 k) (k0_off4_inb k0_t1 v217 k0_hw1 k) X_arg3)),
     subf acc.2.2.2.2.2.1 (ownK id v132 (blk arg3 (k0_off5 k0_t1 v217 k) (k0_off5_inb k0_t1 v217 k0_hw1 k) X_arg3)),
     addf acc.2.2.2.2.2.2.1 (ownG id id v32 (blk arg3 (k0_off4 k0_t1 v217 k) (k0_off4_inb k0_t1 v217 k0_hw1 k) X_arg3) (blk arg4 (k0_off4 k0_t1 v217 k) (k0_off4_inb k0_t1 v217 k0_hw1 k) X_arg4) (mLo v100) acc.2.2.1),
     addf acc.2.2.2.2.2.2.2.1 (ownG id id v128 (blk arg3 (k0_off5 k0_t1 v217 k) (k0_off5_inb k0_t1 v217 k0_hw1 k) X_arg3) (blk arg4 (k0_off5 k0_t1 v217 k) (k0_off5_inb k0_t1 v217 k0_hw1 k) X_arg4) (mLo (k0_pay193 v135 v192 v194)) acc.2.2.2.1),
     addf acc.2.2.2.2.2.2.2.2.1 (ownG id id v36 (blk arg3 (k0_off4 k0_t1 v217 k) (k0_off4_inb k0_t1 v217 k0_hw1 k) X_arg3) (blk arg4 (k0_off4 k0_t1 v217 k) (k0_off4_inb k0_t1 v217 k0_hw1 k) X_arg4) (mHi v100) acc.2.2.2.2.1),
     addf acc.2.2.2.2.2.2.2.2.2 (ownG id id v132 (blk arg3 (k0_off5 k0_t1 v217 k) (k0_off5_inb k0_t1 v217 k0_hw1 k) X_arg3) (blk arg4 (k0_off5 k0_t1 v217 k) (k0_off5_inb k0_t1 v217 k0_hw1 k) X_arg4) (mHi (k0_pay193 v135 v192 v194)) acc.2.2.2.2.2.1)) := by
  unfold tripR_k0_t2 trip_k0_t2
  rfl

theorem tripL11_eq : (tripL_k0_t2 (F := F) 𝒱 c bd i arg2 harg2 arg3 harg3 arg4 harg4 arg5 harg5 arg6 harg6 arg7 harg7 arg8 harg8 arg9 harg9 arg10 harg10 arg11 harg11 arg12 harg12 arg13 harg13 arg0 arg1 k0_pay2 k0_t1 arg14 v19 k0_pay160 v32 v36 v100 v101 v110 v116 v128 v132 v135 v167 v192 v194 v217 k0_hw1 X_arg3 X_arg4 k acc f11 f12).1 =
    pcs arg11 (k0_off4 k0_t1 v217 k) (k0_off4_inb k0_t1 v217 k0_hw1 k) (k0_off5 k0_t1 v217 k) (k0_off5_inb k0_t1 v217 k0_hw1 k) (addf (mulT (dzT id id v36 (blk arg3 (k0_off4 k0_t1 v217 k) (k0_off4_inb k0_t1 v217 k0_hw1 k) X_arg3) (blk arg4 (k0_off4 k0_t1 v217 k) (k0_off4_inb k0_t1 v217 k0_hw1 k) X_arg4) (mHi v100) acc.2.2.2.2.1 acc.2.2.2.2.2.2.2.2.1) v36) (mulT (dzT id id v32 (blk arg3 (k0_off4 k0_t1 v217 k) (k0_off4_inb k0_t1 v217 k0_hw1 k) X_arg3) (blk arg4 (k0_off4 k0_t1 v217 k) (k0_off4_inb k0_t1 v217 k0_hw1 k) X_arg4) (mLo v100) acc.2.2.1 acc.2.2.2.2.2.2.1) v32)) (addf (mulT (dzT id id v132 (blk arg3 (k0_off5 k0_t1 v217 k) (k0_off5_inb k0_t1 v217 k0_hw1 k) X_arg3) (blk arg4 (k0_off5 k0_t1 v217 k) (k0_off5_inb k0_t1 v217 k0_hw1 k) X_arg4) (mHi (k0_pay193 v135 v192 v194)) acc.2.2.2.2.2.1 acc.2.2.2.2.2.2.2.2.2) v132) (mulT (dzT id id v128 (blk arg3 (k0_off5 k0_t1 v217 k) (k0_off5_inb k0_t1 v217 k0_hw1 k) X_arg3) (blk arg4 (k0_off5 k0_t1 v217 k) (k0_off5_inb k0_t1 v217 k0_hw1 k) X_arg4) (mLo (k0_pay193 v135 v192 v194)) acc.2.2.2.1 acc.2.2.2.2.2.2.2.1) v128)) f11 := by
  unfold tripL_k0_t2 trip_k0_t2
  rfl

theorem tripL12_eq : (tripL_k0_t2 (F := F) 𝒱 c bd i arg2 harg2 arg3 harg3 arg4 harg4 arg5 harg5 arg6 harg6 arg7 harg7 arg8 harg8 arg9 harg9 arg10 harg10 arg11 harg11 arg12 harg12 arg13 harg13 arg0 arg1 k0_pay2 k0_t1 arg14 v19 k0_pay160 v32 v36 v100 v101 v110 v116 v128 v132 v135 v167 v192 v194 v217 k0_hw1 X_arg3 X_arg4 k acc f11 f12).2 =
    pcs arg12 (k0_off4 k0_t1 v217 k) (k0_off4_inb k0_t1 v217 k0_hw1 k) (k0_off5 k0_t1 v217 k) (k0_off5_inb k0_t1 v217 k0_hw1 k) (addf (mulT (attT id id v36 (blk arg3 (k0_off4 k0_t1 v217 k) (k0_off4_inb k0_t1 v217 k0_hw1 k) X_arg3) acc.2.2.2.2.1) (mHi v100)) (mulT (attT id id v32 (blk arg3 (k0_off4 k0_t1 v217 k) (k0_off4_inb k0_t1 v217 k0_hw1 k) X_arg3) acc.2.2.1) (mLo v100))) (addf (mulT (attT id id v132 (blk arg3 (k0_off5 k0_t1 v217 k) (k0_off5_inb k0_t1 v217 k0_hw1 k) X_arg3) acc.2.2.2.2.2.1) (mHi (k0_pay193 v135 v192 v194))) (mulT (attT id id v128 (blk arg3 (k0_off5 k0_t1 v217 k) (k0_off5_inb k0_t1 v217 k0_hw1 k) X_arg3) acc.2.2.2.1) (mLo (k0_pay193 v135 v192 v194)))) f12 := by
  unfold tripL_k0_t2 trip_k0_t2
  rfl

end

end Cert.SbIdeal.Tile
-- ==== Proof.SbOuter.lean ====
/- One trip of the outer loop (a tile of queries), in terms of the tile's functions. -/
module

public import proofs.«01_k».proof.Proof.SbInner

@[expose] public section

set_option maxRecDepth 16384
set_option maxHeartbeats 1000000

noncomputable section

namespace Cert.SbIdeal.Tile

open Idealize.ShloMosaic Idealize.ShloMosaic.TcCoe Idealize.SL.Sem
open Cert.SbIdeal.Gen Cert.SbIdeal Cert.SbIdeal.Run

variable {F : FTy → Type} [FloatOps F] [Named F]

/-- What the body at a grid point finds: its memrefs, and the values of its operands. -/
structure Env (F : FTy → Type) [FloatOps F] [Named F] where
  c : Dev nD
  i : grid0.Coords
  arg2 : Memref sig .tc .vmem S2x2048x128 .f32
  harg2 : arg2.IsWhole
  arg3 : Memref sig .tc .vmem S2x2048x128 .f32
  harg3 : arg3.IsWhole
  arg4 : Memref sig .tc .vmem S2x2048x128 .f32
  harg4 : arg4.IsWhole
  arg5 : Memref sig .tc .vmem S1x128 .f32
  harg5 : arg5.IsWhole
  arg6 : Memref sig .tc .vmem S2x2048x128 .f32
  harg6 : arg6.IsWhole
  arg7 : Memref sig .tc .vmem S2x2048x128 .f32
  harg7 : arg7.IsWhole
  arg8 : Memref sig .tc .vmem S2x2048x128 .f32
  harg8 : arg8.IsWhole
  arg9 : Memref sig .tc .smem S2x4x8 .i32
  harg9 : arg9.IsWhole
  arg10 : Memref sig .tc .vmem S2x2048x128 .f32
  harg10 : arg10.IsWhole
  arg11 : Memref sig .tc .vmem S2x2048x128 .f32
  harg11 : arg11.IsWhole
  arg12 : Memref sig .tc .vmem S2x2048x128 .f32
  harg12 : arg12.IsWhole
  arg13 : Memref sig .tc .vmem S1x128 .f32
  harg13 : arg13.IsWhole
  x2 : Vec F S2x2048x128 .f32
  x3 : Vec F S2x2048x128 .f32
  x4 : Vec F S2x2048x128 .f32
  x5 : Vec F S1x128 .f32
  x6 : Vec F S2x2048x128 .f32
  x7 : Vec F S2x2048x128 .f32
  x8 : Vec F S2x2048x128 .f32
  x9 : Vec F S2x4x8 .i32
  hx9 : ∀ j, x9 j = 0#32

/-- The output's inverse root mean square, of each row's two heads. -/
def rT (v : Vec F S1x256x128 .f32) : FVec F S256x128 .f32 := k0_pay170 (k0_pay167 v) k0_pay168
/-- The cotangent of the attention's output before its norm. -/
def doT (g : Vec F S1x128 .f32) (v w : Vec F S1x256x128 .f32) : FVec F S256x128 .f32 := k0_pay172 (k0_pay1 g) (k0_pay165 v) k0_pay166 (k0_pay167 v) k0_pay168 w
/-- A block's part of the gain's gradient. -/
def dgT (v w : Vec F S1x256x128 .f32) : FVec F S1x128 .f32 :=
  shapeCast S1x128 (multiReduction .add [0] S128 (mulf (mulf (k0_pay165 v) (rT v)) (k0_pay171 w)) 0x00000000#32 reduces_S256x128_S128 (.inl rfl) rfl) shapeCasts_S128_S1x128
/-- The row totals of the two heads. -/
def totLo (v : Vec F S1x256x128 .f32) : FVec F S256x1 .f32 := k0_pay196 k0_pay2 v
def totHi (v : Vec F S1x256x128 .f32) : FVec F S256x1 .f32 := k0_pay197 k0_pay2 v

variable (e : Env F)

abbrev Env.ld2 (o : Fin 3 → ℕ) (h : ∀ a, o a + S1x256x128.size a ≤ S2x2048x128.size a) : Vec F S1x256x128 .f32 :=
  View.readAt (Elt F) e.arg2.view (Rect.unit (s := S2x2048x128) o S1x256x128.size h).toLoadRect (e.harg2.unread e.x2)
abbrev Env.ld3 (o : Fin 3 → ℕ) (h : ∀ a, o a + S1x256x128.size a ≤ S2x2048x128.size a) : Vec F S1x256x128 .f32 :=
  View.readAt (Elt F) e.arg3.view (Rect.unit (s := S2x2048x128) o S1x256x128.size h).toLoadRect (e.harg3.unread e.x3)
abbrev Env.ld4 (o : Fin 3 → ℕ) (h : ∀ a, o a + S1x256x128.size a ≤ S2x2048x128.size a) : Vec F S1x256x128 .f32 :=
  View.readAt (Elt F) e.arg4.view (Rect.unit (s := S2x2048x128) o S1x256x128.size h).toLoadRect (e.harg4.unread e.x4)
abbrev Env.ld6 (o : Fin 3 → ℕ) (h : ∀ a, o a + S1x256x128.size a ≤ S2x2048x128.size a) : Vec F S1x256x128 .f32 :=
  View.readAt (Elt F) e.arg6.view (Rect.unit (s := S2x2048x128) o S1x256x128.size h).toLoadRect (e.harg6.unread e.x6)
abbrev Env.ld7 (o : Fin 3 → ℕ) (h : ∀ a, o a + S1x256x128.size a ≤ S2x2048x128.size a) : Vec F S1x256x128 .f32 :=
  View.readAt (Elt F) e.arg7.view (Rect.unit (s := S2x2048x128) o S1x256x128.size h).toLoadRect (e.harg7.unread e.x7)
abbrev Env.ld8 (o : Fin 3 → ℕ) (h : ∀ a, o a + S1x256x128.size a ≤ S2x2048x128.size a) : Vec F S1x256x128 .f32 :=
  View.readAt (Elt F) e.arg8.view (Rect.unit (s := S2x2048x128) o S1x256x128.size h).toLoadRect (e.harg8.unread e.x8)

variable (k : Fin k0_t1_loop.trips)

/-- Sequence 0 of the pair: the two heads' queries (scaled), the output's cotangent, the totals, the diagonal tile's keys and values. -/
def Env.qLo0 : FVec F S256x128 .f32 := k0_pay163 (e.ld2 (k0_off1 k) (k0_off1_inb k))
def Env.qHi0 : FVec F S256x128 .f32 := k0_pay164 (e.ld2 (k0_off1 k) (k0_off1_inb k))
def Env.do0 : FVec F S256x128 .f32 := doT e.x5 (e.ld6 (k0_off1 k) (k0_off1_inb k)) (e.ld8 (k0_off1 k) (k0_off1_inb k))
def Env.dg0 : FVec F S1x128 .f32 := dgT (e.ld6 (k0_off1 k) (k0_off1_inb k)) (e.ld8 (k0_off1 k) (k0_off1_inb k))
def Env.totLo0 : FVec F S256x1 .f32 := totLo (e.ld7 (k0_off1 k) (k0_off1_inb k))
def Env.totHi0 : FVec F S256x1 .f32 := totHi (e.ld7 (k0_off1 k) (k0_off1_inb k))
def Env.kD0 : FVec F S256x128 .f32 := blk e.arg3 (k0_off8 k) (k0_off8_inb k) (e.harg3.unread e.x3)
def Env.vD0 : FVec F S256x128 .f32 := blk e.arg4 (k0_off8 k) (k0_off8_inb k) (e.harg4.unread e.x4)
/-- Sequence 1 of the pair: the two heads' queries (scaled), the output's cotangent, the totals, the diagonal tile's keys and values. -/
def Env.qLo1 : FVec F S256x128 .f32 := k0_pay163 (e.ld2 (k0_off2 k) (k0_off2_inb k))
def Env.qHi1 : FVec F S256x128 .f32 := k0_pay164 (e.ld2 (k0_off2 k) (k0_off2_inb k))
def Env.do1 : FVec F S256x128 .f32 := doT e.x5 (e.ld6 (k0_off2 k) (k0_off2_inb k)) (e.ld8 (k0_off2 k) (k0_off2_inb k))
def Env.dg1 : FVec F S1x128 .f32 := dgT (e.ld6 (k0_off2 k) (k0_off2_inb k)) (e.ld8 (k0_off2 k) (k0_off2_inb k))
def Env.totLo1 : FVec F S256x1 .f32 := totLo (e.ld7 (k0_off2 k) (k0_off2_inb k))
def Env.totHi1 : FVec F S256x1 .f32 := totHi (e.ld7 (k0_off2 k) (k0_off2_inb k))
def Env.kD1 : FVec F S256x128 .f32 := blk e.arg3 (k0_off9 k) (k0_off9_inb k) (e.harg3.unread e.x3)
def Env.vD1 : FVec F S256x128 .f32 := blk e.arg4 (k0_off9 k) (k0_off9_inb k) (e.harg4.unread e.x4)

/-- What the inner loop carries: the two sequences' dq, and per sequence and head what is still to the right, and the running sum. -/
abbrev Carry (F : FTy → Type) [FloatOps F] : Type :=
  FVec F S256x128 .f32 × FVec F S256x128 .f32 × FVec F S256x1 .f32 × FVec F S256x1 .f32 × FVec F S256x1 .f32 × FVec F S256x1 .f32 × FVec F S256x1 .f32 × FVec F S256x1 .f32 × FVec F S256x1 .f32 × FVec F S256x1 .f32

section
variable (acc : FVec F S1x128 .f32) (f11 : BufTy.Contents (Elt F) e.arg11.view.ty) (f12 : BufTy.Contents (Elt F) e.arg12.view.ty)

/-- The inner loop's state before its trip `j`. -/
def Env.inn (j : ℕ) : Carry F × List (View.Piece (Elt F) S2x2048x128 .f32) × List (View.Piece (Elt F) S2x2048x128 .f32) :=
  st_k0_t2 (F := F) Variants.none e.c none e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 (BitVec.ofNat 32 (e.i 0).val) (BitVec.ofNat 32 (e.i 1).val) k0_pay2 k (trip.sl.arg14 k) (trip.sl.v18 k) k0_pay160
    (e.qLo0 k) (e.qHi0 k) (e.do0 k) (addf acc (e.dg0 k)) (e.totLo0 k) (e.totHi0 k) (e.qLo1 k) (e.qHi1 k)
    (k0_pay181 (e.ld6 (k0_off2 k) (k0_off2_inb k))) (k0_pay189 (k0_pay181 (e.ld6 (k0_off2 k) (k0_off2_inb k))) k0_pay183 (k0_pay184 (e.ld6 (k0_off2 k) (k0_off2_inb k))) (k0_pay185 (e.ld6 (k0_off2 k) (k0_off2_inb k))) (e.ld8 (k0_off2 k) (k0_off2_inb k)))
    (k0_pay191 (k0_pay1 e.x5) (k0_pay181 (e.ld6 (k0_off2 k) (k0_off2_inb k))) k0_pay183 (k0_pay184 (e.ld6 (k0_off2 k) (k0_off2_inb k))) (k0_pay185 (e.ld6 (k0_off2 k) (k0_off2_inb k))) (e.ld8 (k0_off2 k) (k0_off2_inb k)))
    (k0_pay192 (k0_pay1 e.x5) (k0_pay181 (e.ld6 (k0_off2 k) (k0_off2_inb k))) k0_pay183 (k0_pay184 (e.ld6 (k0_off2 k) (k0_off2_inb k))) (k0_pay185 (e.ld6 (k0_off2 k) (k0_off2_inb k))) (e.ld8 (k0_off2 k) (k0_off2_inb k)))
    0#32 (chk_zero k) (e.harg3.unread e.x3) (e.harg4.unread e.x4) f11 f12
    (k0_pay198, k0_pay198, e.totLo0 k, e.totLo1 k, e.totHi0 k, e.totHi1 k, k0_pay160, k0_pay160, k0_pay160, k0_pay160) j

/-- The inner loop's state at its end. -/
def Env.innEnd : Carry F × List (View.Piece (Elt F) S2x2048x128 .f32) × List (View.Piece (Elt F) S2x2048x128 .f32) :=
  e.inn k acc f11 f12 (k0_t2_loop k 0#32).trips

theorem trip_gain : (trip (F := F) Variants.none e.c none e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 (BitVec.ofNat 32 (e.i 0).val) (BitVec.ofNat 32 (e.i 1).val) e.x5 (e.harg2.unread e.x2) (e.harg3.unread e.x3) (e.harg4.unread e.x4) (e.harg6.unread e.x6) (e.harg7.unread e.x7) (e.harg8.unread e.x8) (e.harg9.unread e.x9) (fun k j => (e.harg9.readAt_unread e.x9 _ j).trans (e.hx9 _)) k).1 acc f11 f12 = addf (addf acc (e.dg0 k)) (e.dg1 k) := by
  unfold trip
  rfl

theorem trip_10 : (trip (F := F) Variants.none e.c none e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 (BitVec.ofNat 32 (e.i 0).val) (BitVec.ofNat 32 (e.i 1).val) e.x5 (e.harg2.unread e.x2) (e.harg3.unread e.x3) (e.harg4.unread e.x4) (e.harg6.unread e.x6) (e.harg7.unread e.x7) (e.harg8.unread e.x8) (e.harg9.unread e.x9) (fun k j => (e.harg9.readAt_unread e.x9 _ j).trans (e.hx9 _)) k).2.1 acc f11 f12 =
    [⟨Rect.unit (s := S2x2048x128) (k0_off9 k) S1x256x128.size (k0_off9_inb k), unblk (mulf (addf (e.innEnd k acc f11 f12).1.2.1 (select lo128 (mulN (dzT mkD mlD (e.qLo1 k) (e.kD1 k) (e.vD1 k) (mLo (e.do1 k)) (e.innEnd k acc f11 f12).1.2.2.2.1 (e.innEnd k acc f11 f12).1.2.2.2.2.2.2.2.1) (e.kD1 k)) (mulN (dzT mkD mlD (e.qHi1 k) (e.kD1 k) (e.vD1 k) (mHi (e.do1 k)) (e.innEnd k acc f11 f12).1.2.2.2.2.2.1 (e.innEnd k acc f11 f12).1.2.2.2.2.2.2.2.2.2) (e.kD1 k)))) (broadcast S256x128 (Scalar.ofBits .f32 0x3E000000#32)))⟩,
     ⟨Rect.unit (s := S2x2048x128) (k0_off8 k) S1x256x128.size (k0_off8_inb k), unblk (mulf (addf (e.innEnd k acc f11 f12).1.1 (select lo128 (mulN (dzT mkD mlD (e.qLo0 k) (e.kD0 k) (e.vD0 k) (mLo (e.do0 k)) (e.innEnd k acc f11 f12).1.2.2.1 (e.innEnd k acc f11 f12).1.2.2.2.2.2.2.1) (e.kD0 k)) (mulN (dzT mkD mlD (e.qHi0 k) (e.kD0 k) (e.vD0 k) (mHi (e.do0 k)) (e.innEnd k acc f11 f12).1.2.2.2.2.1 (e.innEnd k acc f11 f12).1.2.2.2.2.2.2.2.2.1) (e.kD0 k)))) (broadcast S256x128 (Scalar.ofBits .f32 0x3E000000#32)))⟩] := by
  unfold trip
  rfl

theorem trip_11 : (trip (F := F) Variants.none e.c none e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 (BitVec.ofNat 32 (e.i 0).val) (BitVec.ofNat 32 (e.i 1).val) e.x5 (e.harg2.unread e.x2) (e.harg3.unread e.x3) (e.harg4.unread e.x4) (e.harg6.unread e.x6) (e.harg7.unread e.x7) (e.harg8.unread e.x8) (e.harg9.unread e.x9) (fun k j => (e.harg9.readAt_unread e.x9 _ j).trans (e.hx9 _)) k).2.2.1 acc f11 f12 =
    pcs e.arg11 (k0_off8 k) (k0_off8_inb k) (k0_off9 k) (k0_off9_inb k) (addf (mulT (dzT mkD mlD (e.qHi0 k) (e.kD0 k) (e.vD0 k) (mHi (e.do0 k)) (e.innEnd k acc f11 f12).1.2.2.2.2.1 (e.innEnd k acc f11 f12).1.2.2.2.2.2.2.2.2.1) (e.qHi0 k)) (mulT (dzT mkD mlD (e.qLo0 k) (e.kD0 k) (e.vD0 k) (mLo (e.do0 k)) (e.innEnd k acc f11 f12).1.2.2.1 (e.innEnd k acc f11 f12).1.2.2.2.2.2.2.1) (e.qLo0 k))) (addf (mulT (dzT mkD mlD (e.qHi1 k) (e.kD1 k) (e.vD1 k) (mHi (e.do1 k)) (e.innEnd k acc f11 f12).1.2.2.2.2.2.1 (e.innEnd k acc f11 f12).1.2.2.2.2.2.2.2.2.2) (e.qHi1 k)) (mulT (dzT mkD mlD (e.qLo1 k) (e.kD1 k) (e.vD1 k) (mLo (e.do1 k)) (e.innEnd k acc f11 f12).1.2.2.2.1 (e.innEnd k acc f11 f12).1.2.2.2.2.2.2.2.1) (e.qLo1 k))) (e.arg11.view.writes (Elt F) f11 (e.innEnd k acc f11 f12).2.1) ++ (e.innEnd k acc f11 f12).2.1 := by
  unfold trip
  rfl

theorem trip_12 : (trip (F := F) Variants.none e.c none e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 (BitVec.ofNat 32 (e.i 0).val) (BitVec.ofNat 32 (e.i 1).val) e.x5 (e.harg2.unread e.x2) (e.harg3.unread e.x3) (e.harg4.unread e.x4) (e.harg6.unread e.x6) (e.harg7.unread e.x7) (e.harg8.unread e.x8) (e.harg9.unread e.x9) (fun k j => (e.harg9.readAt_unread e.x9 _ j).trans (e.hx9 _)) k).2.2.2.1 acc f11 f12 =
    pcs e.arg12 (k0_off8 k) (k0_off8_inb k) (k0_off9 k) (k0_off9_inb k) (addf (mulT (attT mkD mlD (e.qHi0 k) (e.kD0 k) (e.innEnd k acc f11 f12).1.2.2.2.2.1) (mHi (e.do0 k))) (mulT (attT mkD mlD (e.qLo0 k) (e.kD0 k) (e.innEnd k acc f11 f12).1.2.2.1) (mLo (e.do0 k)))) (addf (mulT (attT mkD mlD (e.qHi1 k) (e.kD1 k) (e.innEnd k acc f11 f12).1.2.2.2.2.2.1) (mHi (e.do1 k))) (mulT (attT mkD mlD (e.qLo1 k) (e.kD1 k) (e.innEnd k acc f11 f12).1.2.2.2.1) (mLo (e.do1 k)))) (e.arg12.view.writes (Elt F) f12 (e.innEnd k acc f11 f12).2.2) ++ (e.innEnd k acc f11 f12).2.2 := by
  unfold trip
  rfl
end

/-- The outer loop's state before its trip `n`. -/
def Env.st (n : ℕ) : St F := Run.st (F := F) Variants.none e.c none e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 (BitVec.ofNat 32 (e.i 0).val) (BitVec.ofNat 32 (e.i 1).val) e.x5 (e.harg2.unread e.x2) (e.harg3.unread e.x3) (e.harg4.unread e.x4) (e.harg6.unread e.x6) (e.harg7.unread e.x7) (e.harg8.unread e.x8) (e.harg9.unread e.x9) (fun k j => (e.harg9.readAt_unread e.x9 _ j).trans (e.hx9 _)) (e.harg11.unread (k0_pay3 (F := F))) (e.harg12.unread (k0_pay4 (F := F))) (k0_pay5 (F := F)) n

section
variable (j : Fin (k0_t2_loop k 0#32).trips)
def Env.kT0 : FVec F S256x128 .f32 := blk e.arg3 (k0_off4 k 0#32 j) (k0_off4_inb k 0#32 (chk_zero k) j) (e.harg3.unread e.x3)
def Env.vT0 : FVec F S256x128 .f32 := blk e.arg4 (k0_off4 k 0#32 j) (k0_off4_inb k 0#32 (chk_zero k) j) (e.harg4.unread e.x4)
def Env.kT1 : FVec F S256x128 .f32 := blk e.arg3 (k0_off5 k 0#32 j) (k0_off5_inb k 0#32 (chk_zero k) j) (e.harg3.unread e.x3)
def Env.vT1 : FVec F S256x128 .f32 := blk e.arg4 (k0_off5 k 0#32 j) (k0_off5_inb k 0#32 (chk_zero k) j) (e.harg4.unread e.x4)

variable (acc : FVec F S1x128 .f32) (f11 : BufTy.Contents (Elt F) e.arg11.view.ty) (f12 : BufTy.Contents (Elt F) e.arg12.view.ty)

theorem inn_succ : e.inn k acc f11 f12 (j.val + 1) =
    ((addf (e.inn k acc f11 f12 j.val).1.1 (select lo128 (mulN (dzT id id (e.qLo0 k) (e.kT0 k j) (e.vT0 k j) (mLo (e.do0 k)) (e.inn k acc f11 f12 j.val).1.2.2.1 (e.inn k acc f11 f12 j.val).1.2.2.2.2.2.2.1) (e.kT0 k j)) (mulN (dzT id id (e.qHi0 k) (e.kT0 k j) (e.vT0 k j) (mHi (e.do0 k)) (e.inn k acc f11 f12 j.val).1.2.2.2.2.1 (e.inn k acc f11 f12 j.val).1.2.2.2.2.2.2.2.2.1) (e.kT0 k j))),
      addf (e.inn k acc f11 f12 j.val).1.2.1 (select lo128 (mulN (dzT id id (e.qLo1 k) (e.kT1 k j) (e.vT1 k j) (mLo (e.do1 k)) (e.inn k acc f11 f12 j.val).1.2.2.2.1 (e.inn k acc f11 f12 j.val).1.2.2.2.2.2.2.2.1) (e.kT1 k j)) (mulN (dzT id id (e.qHi1 k) (e.kT1 k j) (e.vT1 k j) (mHi (e.do1 k)) (e.inn k acc f11 f12 j.val).1.2.2.2.2.2.1 (e.inn k acc f11 f12 j.val).1.2.2.2.2.2.2.2.2.2) (e.kT1 k j))),
      subf (e.inn k acc f11 f12 j.val).1.2.2.1 (ownK id (e.qLo0 k) (e.kT0 k j)),
      subf (e.inn k acc f11 f12 j.val).1.2.2.2.1 (ownK id (e.qLo1 k) (e.kT1 k j)),
      subf (e.inn k acc f11 f12 j.val).1.2.2.2.2.1 (ownK id (e.qHi0 k) (e.kT0 k j)),
      subf (e.inn k acc f11 f12 j.val).1.2.2.2.2.2.1 (ownK id (e.qHi1 k) (e.kT1 k j)),
      addf (e.inn k acc f11 f12 j.val).1.2.2.2.2.2.2.1 (ownG id id (e.qLo0 k) (e.kT0 k j) (e.vT0 k j) (mLo (e.do0 k)) (e.inn k acc f11 f12 j.val).1.2.2.1),
      addf (e.inn k acc f11 f12 j.val).1.2.2.2.2.2.2.2.1 (ownG id id (e.qLo1 k) (e.kT1 k j) (e.vT1 k j) (mLo (e.do1 k)) (e.inn k acc f11 f12 j.val).1.2.2.2.1),
      addf (e.inn k acc f11 f12 j.val).1.2.2.2.2.2.2.2.2.1 (ownG id id (e.qHi0 k) (e.kT0 k j) (e.vT0 k j) (mHi (e.do0 k)) (e.inn k acc f11 f12 j.val).1.2.2.2.2.1),
      addf (e.inn k acc f11 f12 j.val).1.2.2.2.2.2.2.2.2.2 (ownG id id (e.qHi1 k) (e.kT1 k j) (e.vT1 k j) (mHi (e.do1 k)) (e.inn k acc f11 f12 j.val).1.2.2.2.2.2.1)),
     pcs e.arg11 (k0_off4 k 0#32 j) (k0_off4_inb k 0#32 (chk_zero k) j) (k0_off5 k 0#32 j) (k0_off5_inb k 0#32 (chk_zero k) j) (addf (mulT (dzT id id (e.qHi0 k) (e.kT0 k j) (e.vT0 k j) (mHi (e.do0 k)) (e.inn k acc f11 f12 j.val).1.2.2.2.2.1 (e.inn k acc f11 f12 j.val).1.2.2.2.2.2.2.2.2.1) (e.qHi0 k)) (mulT (dzT id id (e.qLo0 k) (e.kT0 k j) (e.vT0 k j) (mLo (e.do0 k)) (e.inn k acc f11 f12 j.val).1.2.2.1 (e.inn k acc f11 f12 j.val).1.2.2.2.2.2.2.1) (e.qLo0 k))) (addf (mulT (dzT id id (e.qHi1 k) (e.kT1 k j) (e.vT1 k j) (mHi (e.do1 k)) (e.inn k acc f11 f12 j.val).1.2.2.2.2.2.1 (e.inn k acc f11 f12 j.val).1.2.2.2.2.2.2.2.2.2) (e.qHi1 k)) (mulT (dzT id id (e.qLo1 k) (e.kT1 k j) (e.vT1 k j) (mLo (e.do1 k)) (e.inn k acc f11 f12 j.val).1.2.2.2.1 (e.inn k acc f11 f12 j.val).1.2.2.2.2.2.2.2.1) (e.qLo1 k))) (e.arg11.view.writes (Elt F) f11 (e.inn k acc f11 f12 j.val).2.1) ++ (e.inn k acc f11 f12 j.val).2.1,
     pcs e.arg12 (k0_off4 k 0#32 j) (k0_off4_inb k 0#32 (chk_zero k) j) (k0_off5 k 0#32 j) (k0_off5_inb k 0#32 (chk_zero k) j) (addf (mulT (attT id id (e.qHi0 k) (e.kT0 k j) (e.inn k acc f11 f12 j.val).1.2.2.2.2.1) (mHi (e.do0 k))) (mulT (attT id id (e.qLo0 k) (e.kT0 k j) (e.inn k acc f11 f12 j.val).1.2.2.1) (mLo (e.do0 k)))) (addf (mulT (attT id id (e.qHi1 k) (e.kT1 k j) (e.inn k acc f11 f12 j.val).1.2.2.2.2.2.1) (mHi (e.do1 k))) (mulT (attT id id (e.qLo1 k) (e.kT1 k j) (e.inn k acc f11 f12 j.val).1.2.2.2.1) (mLo (e.do1 k)))) (e.arg12.view.writes (Elt F) f12 (e.inn k acc f11 f12 j.val).2.2) ++ (e.inn k acc f11 f12 j.val).2.2) := by
  have h := st_k0_t2_succ (F := F) Variants.none e.c none e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 (BitVec.ofNat 32 (e.i 0).val) (BitVec.ofNat 32 (e.i 1).val) k0_pay2 k (trip.sl.arg14 k) (trip.sl.v18 k) k0_pay160
    (e.qLo0 k) (e.qHi0 k) (e.do0 k) (addf acc (e.dg0 k)) (e.totLo0 k) (e.totHi0 k) (e.qLo1 k) (e.qHi1 k)
    (k0_pay181 (e.ld6 (k0_off2 k) (k0_off2_inb k))) (k0_pay189 (k0_pay181 (e.ld6 (k0_off2 k) (k0_off2_inb k))) k0_pay183 (k0_pay184 (e.ld6 (k0_off2 k) (k0_off2_inb k))) (k0_pay185 (e.ld6 (k0_off2 k) (k0_off2_inb k))) (e.ld8 (k0_off2 k) (k0_off2_inb k)))
    (k0_pay191 (k0_pay1 e.x5) (k0_pay181 (e.ld6 (k0_off2 k) (k0_off2_inb k))) k0_pay183 (k0_pay184 (e.ld6 (k0_off2 k) (k0_off2_inb k))) (k0_pay185 (e.ld6 (k0_off2 k) (k0_off2_inb k))) (e.ld8 (k0_off2 k) (k0_off2_inb k)))
    (k0_pay192 (k0_pay1 e.x5) (k0_pay181 (e.ld6 (k0_off2 k) (k0_off2_inb k))) k0_pay183 (k0_pay184 (e.ld6 (k0_off2 k) (k0_off2_inb k))) (k0_pay185 (e.ld6 (k0_off2 k) (k0_off2_inb k))) (e.ld8 (k0_off2 k) (k0_off2_inb k)))
    0#32 (chk_zero k) (e.harg3.unread e.x3) (e.harg4.unread e.x4) f11 f12
    (k0_pay198, k0_pay198, e.totLo0 k, e.totLo1 k, e.totHi0 k, e.totHi1 k, k0_pay160, k0_pay160, k0_pay160, k0_pay160) j
  refine h.trans (Prod.ext ?_ (Prod.ext ?_ ?_))
  · exact tripR_eq ..
  · exact congrArg (· ++ _) (tripL11_eq ..)
  · exact congrArg (· ++ _) (tripL12_eq ..)
end

end Cert.SbIdeal.Tile
-- ==== Proof.SbRow.lean ====
/- The outer loop's tile-wise preparations on real numbers: queries, the output norm's gradient, the totals. -/
module

public import proofs.«01_k».proof.Proof.SbOuter

@[expose] public section

set_option maxRecDepth 16384

noncomputable section

namespace Cert.SbIdeal.Tile

open Idealize.ShloMosaic Idealize.ShloMosaic.TcCoe Idealize.SL.Sem
open Cert.SbIdeal.Gen Cert.SbIdeal Cert.SbIdeal.Run

/-- A loaded block that holds the real numbers of `f`. -/
def Re3 (x : Vec Ideal S1x256x128 .f32) (f : ℕ → ℕ → ℝ) : Prop :=
  ∀ (a : Fin 256) (b : Fin 128), x (ix3 0 a b) = ((f a.val b.val : ℝ) : EReal)

theorem sel_lo {α : Type} (a : Fin 128) (x y : α) : Scalar.select (IntOp.cmpi .slt (BitVec.ofNat 32 a.val) 64#32) x y = if a.val < 64 then x else y := by
  have e : IntOp.cmpi .slt (BitVec.ofNat 32 a.val) 64#32 = if a.val < 64 then 1#1 else 0#1 := by
    split_ifs with h <;> word_cmp
  rw [e]
  by_cases h : a.val < 64
  · rw [if_pos h, if_pos h]; rfl
  · rw [if_neg h, if_neg h]; rfl

theorem eighth : Ideal.ofBits .f32 0x3E000000#32 = (((1 / 8 : ℝ)) : EReal) := by
  simp [Ideal.ofBits, Ideal.ieee]; rw [← EReal.coe_mul]; norm_num

theorem inv64 : Ideal.ofBits .f32 0x3C800000#32 = (((1 / 64 : ℝ)) : EReal) := by
  simp [Ideal.ofBits, Ideal.ieee]; rw [← EReal.coe_mul]; norm_num

theorem mhalf : Ideal.ofBits .f32 0xBF000000#32 = (((-1 / 2 : ℝ)) : EReal) := by
  simp [Ideal.ofBits, Ideal.ieee]; rw [← EReal.coe_mul]; norm_num

/-- The norm's epsilon. -/
def EPS : ℝ := 10995116 / 2 ^ 40

theorem eps : Ideal.ofBits .f32 0x3727C5AC#32 = ((EPS : ℝ) : EReal) := by
  simp only [Ideal.ofBits, Ideal.ieee, EPS]
  simp
  rw [← EReal.coe_mul]
  norm_num

theorem eps_pos : 0 < EPS := by unfold EPS; positivity

theorem ninf : Ideal.ofBits .f32 0xFF800000#32 = (⊥ : EReal) := by
  simp [Ideal.ofBits, Ideal.ieee]

theorem qLo_re {x : Vec Ideal S1x256x128 .f32} {f : ℕ → ℕ → ℝ} (h : Re3 x f) :
    Re (k0_pay163 x) (fun t d => if d < 64 then f t d * (1 / 8) else 0) := by
  intro a b
  pointwise [k0_pay163, k0_pay162, k0_pay161]
  rw [sel_lo, eighth, h a b]
  split_ifs <;> simp only [EReal.coe_mul, EReal.coe_zero]

theorem qHi_re {x : Vec Ideal S1x256x128 .f32} {f : ℕ → ℕ → ℝ} (h : Re3 x f) :
    Re (k0_pay164 x) (fun t d => if d < 64 then 0 else f t d * (1 / 8)) := by
  intro a b
  pointwise [k0_pay164, k0_pay162, k0_pay161]
  rw [sel_lo, eighth, h a b]
  split_ifs <;> simp only [EReal.coe_mul, EReal.coe_zero]

theorem mLo_re {x : FVec Ideal S256x128 .f32} {f : ℕ → ℕ → ℝ} (h : Re x f) :
    Re (mLo x) (fun t d => if d < 64 then f t d else 0) := by
  intro a b
  pointwise [mLo, lo128, k0_pay2]
  rw [sel_lo, h a b]
  split_ifs <;> simp only [EReal.coe_zero]

theorem mHi_re {x : FVec Ideal S256x128 .f32} {f : ℕ → ℕ → ℝ} (h : Re x f) :
    Re (mHi x) (fun t d => if d < 64 then 0 else f t d) := by
  intro a b
  pointwise [mHi, lo128, k0_pay2]
  rw [sel_lo, h a b]
  split_ifs <;> simp only [EReal.coe_zero]

/-- The mean of squares over a lane's own head, with the epsilon. -/
def mse (f : ℕ → ℕ → ℝ) (t d : ℕ) : ℝ :=
  (∑ x ∈ Finset.range 128, if (x < 64 ↔ d < 64) then f t x * f t x else 0) * (1 / 64) + EPS

theorem mse_pos (f : ℕ → ℕ → ℝ) (t d : ℕ) : 0 < mse f t d := by
  unfold mse
  have : 0 ≤ ∑ x ∈ Finset.range 128, if (x < 64 ↔ d < 64) then f t x * f t x else 0 :=
    Finset.sum_nonneg fun x _ => by split_ifs <;> first | exact mul_self_nonneg _ | exact le_rfl
  have := eps_pos
  positivity

theorem mse_re {x : Vec Ideal S1x256x128 .f32} {f : ℕ → ℕ → ℝ} (h : Re3 x f) : Re (k0_pay169 (k0_pay167 x) k0_pay168) (mse f) := by
  intro a b
  pointwise [k0_pay169, k0_pay167, k0_pay168, k0_pay166, k0_pay165]
  simp only [sel_lo, eps, inv64, h _ _, mse, ← EReal.coe_mul]
  by_cases hb : b.val < 64 <;> simp only [hb, if_true, if_false, iff_true, iff_false]
  · rw [EReal.coe_add, EReal.coe_mul, ← sum_re]
    congr 2
  · rw [EReal.coe_add, EReal.coe_mul, ← sum_re]
    congr 2

/-- The reciprocal root of the mean square. -/
def rr (f : ℕ → ℕ → ℝ) (t d : ℕ) : ℝ := (Real.sqrt (mse f t d))⁻¹

theorem rr_re {x : Vec Ideal S1x256x128 .f32} {f : ℕ → ℕ → ℝ} (h : Re3 x f) : Re (k0_pay170 (k0_pay167 x) k0_pay168) (rr f) := by
  intro a b
  have e := mse_re h a b
  have hp := mse_pos f a.val b.val
  show Ideal.rsqrt (k0_pay169 (k0_pay167 x) k0_pay168 (ix2 a b)) = _
  rw [e, Ideal.rsqrt_coe, if_neg (not_lt.2 hp.le), if_neg hp.ne']
  rfl

/-- The sum over a lane's own head that the output norm's gradient needs. -/
def SS (f y : ℕ → ℕ → ℝ) (γ : ℕ → ℝ) (t d : ℕ) : ℝ :=
  ∑ x ∈ Finset.range 128, if (x < 64 ↔ d < 64) then f t x * (y t x * γ x) * (-1 / 2 * (rr f t x * (1 / mse f t x))) * (1 / 64) else 0

/-- The cotangent of the attention's raw output. -/
def doR (f y : ℕ → ℕ → ℝ) (γ : ℕ → ℝ) (t d : ℕ) : ℝ :=
  y t d * γ d * rr f t d + f t d * SS f y γ t d + SS f y γ t d * f t d

theorem do_re {x y : Vec Ideal S1x256x128 .f32} {g : Vec Ideal S1x128 .f32} {f w : ℕ → ℕ → ℝ} {γ : ℕ → ℝ} (h : Re3 x f) (hy : Re3 y w)
    (hg : ∀ b : Fin 128, g (ix2 0 b) = ((γ b.val : ℝ) : EReal)) : Re (doT g x y) (doR f w γ) := by
  intro a b
  pointwise [doT, k0_pay172, k0_pay165, k0_pay166, k0_pay1, k0_pay171]
  have hdiv : ∀ d : Fin 128, Ideal.div ((rr f a.val d.val : ℝ) : EReal) ((mse f a.val d.val : ℝ) : EReal) = ((rr f a.val d.val * (1 / mse f a.val d.val) : ℝ) : EReal) :=
    fun d => (Ideal.div_coe (mse_pos f _ _).ne' _).trans (EReal.coe_mul _ _).symm
  simp only [sel_lo, h _ _, hy _ _, hg _, rr_re h _ _, mse_re h _ _, hdiv, inv64, mhalf, ← EReal.coe_mul]
  have e : ∀ p : Prop, ∀ _ : Decidable p, ∀ r : ℝ, (if p then ((r : ℝ) : EReal) else 0) = (((if p then r else 0 : ℝ)) : EReal) := fun p _ r => by split_ifs <;> rfl
  have e' : ∀ p : Prop, ∀ _ : Decidable p, ∀ r : ℝ, (if p then 0 else ((r : ℝ) : EReal)) = (((if p then 0 else r : ℝ)) : EReal) := fun p _ r => by split_ifs <;> rfl
  have s : ∀ F : ℕ → ℝ, (∑ x : Fin 128, ((F x.val : ℝ) : EReal)) = ((∑ x ∈ Finset.range 128, F x : ℝ) : EReal) := fun F => sum_re F
  simp only [e, e', doR, SS, Finset.univ_unique, Finset.sum_singleton]
  by_cases hb : b.val < 64 <;> simp only [hb, if_true, if_false, iff_true, iff_false, zero_add, add_zero]
  · rw [s fun x => if x < 64 then f a.val x * (w a.val x * γ x) * (-1 / 2 * (rr f a.val x * (1 / mse f a.val x))) * (1 / 64) else 0,
      ← EReal.coe_mul, ← EReal.coe_mul, ← EReal.coe_add, ← EReal.coe_add]
  · rw [s fun x => if x < 64 then 0 else f a.val x * (w a.val x * γ x) * (-1 / 2 * (rr f a.val x * (1 / mse f a.val x))) * (1 / 64),
      ← EReal.coe_mul, ← EReal.coe_mul, ← EReal.coe_add, ← EReal.coe_add]
    simp only [ite_not]

/-- A tile's part of the gain's gradient: the sum over its rows of the normalised output times the cotangent. -/
theorem dg_re {x y : Vec Ideal S1x256x128 .f32} {f w : ℕ → ℕ → ℝ} (h : Re3 x f) (hy : Re3 y w) (b : Fin 128) :
    dgT x y (ix2 0 b) = ((∑ t ∈ Finset.range 256, f t b.val * rr f t b.val * w t b.val : ℝ) : EReal) := by
  pointwise [dgT, rT, k0_pay165, k0_pay171]
  simp only [h _ _, hy _ _, rr_re h _ _, ← EReal.coe_mul]
  exact sum_re fun t => f t b.val * rr f t b.val * w t b.val

theorem fold_max_const {ι : Type} [Fintype ι] (u : ι → EReal) (c : EReal) (h : ∀ x, u x ≤ c) (x0 : ι) (h0 : u x0 = c) :
    Finset.fold max (⊥ : EReal) u Finset.univ = c :=
  le_antisymm ((Finset.fold_max_le c).2 ⟨bot_le, fun x _ => h x⟩) ((Finset.le_fold_max c).2 (.inr ⟨x0, Finset.mem_univ _, h0.ge⟩))

theorem totLo_re {x : Vec Ideal S1x256x128 .f32} {f : ℕ → ℕ → ℝ} {T : ℕ → ℝ} (h : Re3 x f) (hT : ∀ t d, d < 64 → f t d = T t) :
    Re (totLo x) (fun t _ => T t) := by
  intro a b
  pointwise [totLo, k0_pay196, k0_pay195, k0_pay2]
  simp only [sel_lo, h _ _, ninf]
  refine fold_max_const _ _ (fun d => ?_) (0 : Fin 128) ?_
  · split_ifs with hd
    · rw [hT _ _ hd]
    · exact bot_le
  · rw [if_pos (by decide), hT _ _ (by decide)]

theorem totHi_re {x : Vec Ideal S1x256x128 .f32} {f : ℕ → ℕ → ℝ} {T : ℕ → ℝ} (h : Re3 x f) (hT : ∀ t d, 64 ≤ d → f t d = T t) :
    Re (totHi x) (fun t _ => T t) := by
  intro a b
  pointwise [totHi, k0_pay197, k0_pay195, k0_pay2]
  simp only [sel_lo, h _ _, ninf]
  refine fold_max_const _ _ (fun d => ?_) (64 : Fin 128) ?_
  · split_ifs with hd
    · exact bot_le
    · rw [hT _ _ (not_lt.1 hd)]
  · rw [if_neg (by decide), hT _ _ (by decide)]

end Cert.SbIdeal.Tile
-- ==== Proof.SbMem.lean ====
/- Reading and storing the tiles: what a memref holds after one trip's stores, on real numbers. -/
module

public import proofs.«01_k».proof.Proof.SbRow
public import Idealize.ShloMosaic.Lib.WritesUnit
public import Idealize.ShloMosaic.Lib.VecWindow

@[expose] public section

set_option maxRecDepth 16384

noncomputable section

namespace Cert.SbIdeal.Tile

open Idealize.ShloMosaic Idealize.ShloMosaic.TcCoe Idealize.SL.Sem
open Cert.SbIdeal.Gen Cert.SbIdeal Cert.SbIdeal.Run

theorem trips1 : k0_t1_loop.trips = 8 := by decide +kernel
theorem trips2 : ∀ k : Fin k0_t1_loop.trips, (k0_t2_loop k 0#32).trips = k.val := by decide +kernel
theorem off1_eq : ∀ k : Fin k0_t1_loop.trips, k0_off1 k = ![0, 256 * k.val, 0] := by decide +kernel
theorem off2_eq : ∀ k : Fin k0_t1_loop.trips, k0_off2 k = ![1, 256 * k.val, 0] := by decide +kernel
theorem off8_eq : ∀ k : Fin k0_t1_loop.trips, k0_off8 k = ![0, 256 * k.val, 0] := by decide +kernel
theorem off9_eq : ∀ k : Fin k0_t1_loop.trips, k0_off9 k = ![1, 256 * k.val, 0] := by decide +kernel
theorem off4_eq : ∀ (k : Fin k0_t1_loop.trips) (j : Fin (k0_t2_loop k 0#32).trips), k0_off4 k 0#32 j = ![0, 256 * j.val, 0] := by decide +kernel
theorem off5_eq : ∀ (k : Fin k0_t1_loop.trips) (j : Fin (k0_t2_loop k 0#32).trips), k0_off5 k 0#32 j = ![1, 256 * j.val, 0] := by decide +kernel

/-- An array of two sequences that holds the real numbers of `W0` and `W1`. -/
def Re2 (x : Vec Ideal S2x2048x128 .f32) (W0 W1 : ℕ → ℕ → ℝ) : Prop :=
  ∀ (t : Fin 2048) (d : Fin 128), x (ix3 0 t d) = ((W0 t.val d.val : ℝ) : EReal) ∧ x (ix3 1 t d) = ((W1 t.val d.val : ℝ) : EReal)

theorem Re2.congr {x : Vec Ideal S2x2048x128 .f32} {W0 W1 W0' W1' : ℕ → ℕ → ℝ} (h : Re2 x W0 W1)
    (h0 : ∀ t < 2048, ∀ d < 128, W0 t d = W0' t d) (h1 : ∀ t < 2048, ∀ d < 128, W1 t d = W1' t d) : Re2 x W0' W1' :=
  fun t d => ⟨by rw [(h t d).1, h0 _ t.isLt _ d.isLt], by rw [(h t d).2, h1 _ t.isLt _ d.isLt]⟩

variable {m : Memref sig .tc .vmem S2x2048x128 .f32}

theorem window0 {x : Vec Ideal S2x2048x128 .f32} {W0 W1 : ℕ → ℕ → ℝ} {f : BufTy.Contents (Elt Ideal) m.view.ty} (hf : m.view.read (Elt Ideal) f = x) (h : Re2 x W0 W1)
    {o : Fin 3 → ℕ} (ho : ∀ a, o a + S1x256x128.size a ≤ S2x2048x128.size a) {n : ℕ} (e : o = ![0, 256 * n, 0]) :
    Re3 (View.readAt (Elt Ideal) m.view (Rect.unit (s := S2x2048x128) o S1x256x128.size ho).toLoadRect f) (fun t d => W0 (256 * n + t) d) := by
  subst e
  intro a b
  have hn : 256 * n + 256 ≤ 2048 := ho 1
  rw [View.readAt_unit m.view f ho rfl ho, hf]
  have e : (Rect.unit (s := S2x2048x128) ![0, 256 * n, 0] S1x256x128.size ho).emb (ix3 (0 : Fin 1) a b) = ix3 (0 : Fin 2) (⟨256 * n + a.val, by omega⟩ : Fin 2048) b := by
    funext i; apply Fin.ext
    fin_cases i
    · show 0 + 1 * 0 = 0; rfl
    · show 256 * n + 1 * a.val = 256 * n + a.val; omega
    · show 0 + 1 * b.val = b.val; omega
  exact (congrArg x e).trans (h _ _).1

theorem window1 {x : Vec Ideal S2x2048x128 .f32} {W0 W1 : ℕ → ℕ → ℝ} {f : BufTy.Contents (Elt Ideal) m.view.ty} (hf : m.view.read (Elt Ideal) f = x) (h : Re2 x W0 W1)
    {o : Fin 3 → ℕ} (ho : ∀ a, o a + S1x256x128.size a ≤ S2x2048x128.size a) {n : ℕ} (e : o = ![1, 256 * n, 0]) :
    Re3 (View.readAt (Elt Ideal) m.view (Rect.unit (s := S2x2048x128) o S1x256x128.size ho).toLoadRect f) (fun t d => W1 (256 * n + t) d) := by
  subst e
  intro a b
  have hn : 256 * n + 256 ≤ 2048 := ho 1
  rw [View.readAt_unit m.view f ho rfl ho, hf]
  have e : (Rect.unit (s := S2x2048x128) ![1, 256 * n, 0] S1x256x128.size ho).emb (ix3 (0 : Fin 1) a b) = ix3 (1 : Fin 2) (⟨256 * n + a.val, by omega⟩ : Fin 2048) b := by
    funext i; apply Fin.ext
    fin_cases i
    · show 1 + 1 * 0 = 1; rfl
    · show 256 * n + 1 * a.val = 256 * n + a.val; omega
    · show 0 + 1 * b.val = b.val; omega
  exact (congrArg x e).trans (h _ _).2

theorem Re3.blk {x : Vec Ideal S1x256x128 .f32} {f : ℕ → ℕ → ℝ} (h : Re3 x f) : Re (shapeCast S256x128 x shapeCasts_S1x256x128_S256x128) f := by
  intro a b
  have e := h a b
  pointwise []
  exact e

/-- Storing one tile of sequence 0. -/
theorem store0 {W0 W1 X : ℕ → ℕ → ℝ} {f : BufTy.Contents (Elt Ideal) m.view.ty} {L : List (View.Piece (Elt Ideal) S2x2048x128 .f32)} (h : Re2 (m.view.read (Elt Ideal) (m.view.writes (Elt Ideal) f L)) W0 W1) {x : FVec Ideal S256x128 .f32} (hx : Re x X)
    {o : Fin 3 → ℕ} (ho : ∀ a, o a + S1x256x128.size a ≤ S2x2048x128.size a) {n : ℕ} (e : o = ![0, 256 * n, 0]) :
    Re2 (m.view.read (Elt Ideal) (m.view.writes (Elt Ideal) f (⟨Rect.unit (s := S2x2048x128) o S1x256x128.size ho, unblk x⟩ :: L)))
      (fun t d => if 256 * n ≤ t ∧ t < 256 * n + 256 then X (t - 256 * n) d else W0 t d) W1 := by
  intro t d
  constructor
  · beta_reduce; split_ifs with c
    · have e1 := View.read_writes_cons_unit_of_mem m.view f ho (unblk x) L (ix3 (0 : Fin 2) t d) (ix3 (0 : Fin 1) (⟨t.val - 256 * n, by omega⟩ : Fin 256) d) e
        (fun a => by
          fin_cases a
          · show 0 = 0 + 0; rfl
          · show t.val = 256 * n + (t.val - 256 * n); omega
          · show d.val = 0 + d.val; omega)
      refine e1.trans ?_
      have e2 := hx (⟨t.val - 256 * n, by omega⟩ : Fin 256) d
      pointwise [unblk]
      exact e2
    · refine (View.read_writes_cons_unit_of_not_mem m.view f ho (unblk x) L (ix3 (0 : Fin 2) t d) e 1 ?_).trans (h t d).1
      show t.val < 256 * n ∨ 256 * n + 256 ≤ t.val
      omega
  · refine (View.read_writes_cons_unit_of_not_mem m.view f ho (unblk x) L (ix3 (1 : Fin 2) t d) e 0 ?_).trans (h t d).2
    show 1 < 0 ∨ 0 + 1 ≤ 1
    omega

/-- Storing one tile of sequence 1. -/
theorem store1 {W0 W1 X : ℕ → ℕ → ℝ} {f : BufTy.Contents (Elt Ideal) m.view.ty} {L : List (View.Piece (Elt Ideal) S2x2048x128 .f32)} (h : Re2 (m.view.read (Elt Ideal) (m.view.writes (Elt Ideal) f L)) W0 W1) {x : FVec Ideal S256x128 .f32} (hx : Re x X)
    {o : Fin 3 → ℕ} (ho : ∀ a, o a + S1x256x128.size a ≤ S2x2048x128.size a) {n : ℕ} (e : o = ![1, 256 * n, 0]) :
    Re2 (m.view.read (Elt Ideal) (m.view.writes (Elt Ideal) f (⟨Rect.unit (s := S2x2048x128) o S1x256x128.size ho, unblk x⟩ :: L)))
      W0 (fun t d => if 256 * n ≤ t ∧ t < 256 * n + 256 then X (t - 256 * n) d else W1 t d) := by
  intro t d
  constructor
  · refine (View.read_writes_cons_unit_of_not_mem m.view f ho (unblk x) L (ix3 (0 : Fin 2) t d) e 0 ?_).trans (h t d).1
    show 0 < 1 ∨ 1 + 1 ≤ 0
    omega
  · beta_reduce; split_ifs with c
    · have e1 := View.read_writes_cons_unit_of_mem m.view f ho (unblk x) L (ix3 (1 : Fin 2) t d) (ix3 (0 : Fin 1) (⟨t.val - 256 * n, by omega⟩ : Fin 256) d) e
        (fun a => by
          fin_cases a
          · show 1 = 1 + 0; rfl
          · show t.val = 256 * n + (t.val - 256 * n); omega
          · show d.val = 0 + d.val; omega)
      refine e1.trans ?_
      have e2 := hx (⟨t.val - 256 * n, by omega⟩ : Fin 256) d
      pointwise [unblk]
      exact e2
    · refine (View.read_writes_cons_unit_of_not_mem m.view f ho (unblk x) L (ix3 (1 : Fin 2) t d) e 1 ?_).trans (h t d).2
      show t.val < 256 * n ∨ 256 * n + 256 ≤ t.val
      omega

theorem add_blk {x y : FVec Ideal S256x128 .f32} {X Y : ℕ → ℕ → ℝ} (hx : Re x X) (hy : Re y Y) : Re (addf x y) (fun t d => X t d + Y t d) := by
  intro a b
  have e1 := hx a b
  have e2 := hy a b
  pointwise []
  rw [e1, e2, EReal.coe_add]

/-- Storing both sequences' tiles, each added to what was there. -/
theorem store_pcs {W0 W1 X X' : ℕ → ℕ → ℝ} {f : BufTy.Contents (Elt Ideal) m.view.ty} {L : List (View.Piece (Elt Ideal) S2x2048x128 .f32)} (h : Re2 (m.view.read (Elt Ideal) (m.view.writes (Elt Ideal) f L)) W0 W1) {x x' : FVec Ideal S256x128 .f32} (hx : Re x X) (hx' : Re x' X')
    {o o' : Fin 3 → ℕ} (ho : ∀ a, o a + S1x256x128.size a ≤ S2x2048x128.size a) (ho' : ∀ a, o' a + S1x256x128.size a ≤ S2x2048x128.size a) {n : ℕ} (e : o = ![0, 256 * n, 0]) (e' : o' = ![1, 256 * n, 0]) :
    Re2 (m.view.read (Elt Ideal) (m.view.writes (Elt Ideal) f (pcs m o ho o' ho' x x' (m.view.writes (Elt Ideal) f L) ++ L)))
      (fun t d => if 256 * n ≤ t ∧ t < 256 * n + 256 then W0 t d + X (t - 256 * n) d else W0 t d)
      (fun t d => if 256 * n ≤ t ∧ t < 256 * n + 256 then W1 t d + X' (t - 256 * n) d else W1 t d) := by
  have s0 := store0 (L := []) (f := m.view.writes (Elt Ideal) f L) h (add_blk (window0 rfl h ho e).blk hx) ho e
  have s1 := store1 s0 (add_blk (window1 rfl s0 ho' e').blk hx') ho' e'
  rw [View.writes_append]
  refine Re2.congr s1 (fun t ht d hd => ?_) fun t ht d hd => ?_
  · beta_reduce; split_ifs with c
    · rw [show 256 * n + (t - 256 * n) = t by omega]
    · rfl
  · beta_reduce; split_ifs with c
    · rw [show 256 * n + (t - 256 * n) = t by omega]
    · rfl

end Cert.SbIdeal.Tile
-- ==== Proof.SbLoop.lean ====
/- The inner loop on real numbers: what it carries and what it has stored before each of its trips. -/
module

public import proofs.«01_k».proof.Proof.SbMem

@[expose] public section

set_option maxRecDepth 16384
set_option maxHeartbeats 1000000

noncomputable section

namespace Cert.SbIdeal.Tile

open Idealize.ShloMosaic Idealize.ShloMosaic.TcCoe Idealize.SL.Sem
open Cert.SbIdeal.Gen Cert.SbIdeal Cert.SbIdeal.Run

/-- One sequence's operands at a pair of heads: queries, keys, values, the raw output, its normalised output's cotangent, the gain. -/
structure Dat where
  q : ℕ → ℕ → ℝ
  k : ℕ → ℕ → ℝ
  v : ℕ → ℕ → ℝ
  o : ℕ → ℕ → ℝ
  w : ℕ → ℕ → ℝ
  γ : ℕ → ℝ

namespace Dat
variable (D : Dat)

/-- The scaled queries of either head, and the output's cotangent. -/
def Ql (t d : ℕ) : ℝ := if d < 64 then D.q t d * (1 / 8) else 0
def Qh (t d : ℕ) : ℝ := if d < 64 then 0 else D.q t d * (1 / 8)
def dout : ℕ → ℕ → ℝ := doR D.o D.w D.γ
def Dl (t d : ℕ) : ℝ := if d < 64 then D.dout t d else 0
def Dh (t d : ℕ) : ℝ := if d < 64 then 0 else D.dout t d
/-- Sums over the first `n` columns or rows: the gradients of queries, keys, values and the gain. -/
def dq (n t d : ℕ) : ℝ := ∑ r ∈ Finset.range n, if d < 64 then dz D.Ql D.k D.v D.Dl t r * D.k r d else dz D.Qh D.k D.v D.Dh t r * D.k r d
def dk (n s d : ℕ) : ℝ := ∑ t ∈ Finset.range n, (dz D.Qh D.k D.v D.Dh t s * D.Qh t d + dz D.Ql D.k D.v D.Dl t s * D.Ql t d)
def dv (n s d : ℕ) : ℝ := ∑ t ∈ Finset.range n, (att D.Qh D.k t s * D.Dh t d + att D.Ql D.k t s * D.Dl t d)
def dg (n d : ℕ) : ℝ := ∑ t ∈ Finset.range n, D.o t d * rr D.o t d * D.w t d
/-- The key's and the value's gradients while the tiles of row block `n` are under way. -/
def kW (n j s d : ℕ) : ℝ := if s < 256 * j then D.dk (256 * (n + 1)) s d else D.dk (256 * n) s d
def vW (n j s d : ℕ) : ℝ := if s < 256 * j then D.dv (256 * (n + 1)) s d else D.dv (256 * n) s d

theorem range_add (f : ℕ → ℝ) (n : ℕ) : ∑ t ∈ Finset.range (256 * (n + 1)), f t = ∑ t ∈ Finset.range (256 * n), f t + ∑ t ∈ Finset.Ico (256 * n) (256 * n + 256), f t := by
  rw [show 256 * (n + 1) = 256 * n + 256 by ring, Finset.range_eq_Ico, Finset.range_eq_Ico, Finset.sum_Ico_consecutive _ (by omega) (by omega)]

theorem dq_succ (n t d : ℕ) : D.dq (256 * (n + 1)) t d = D.dq (256 * n) t d +
    if d < 64 then ∑ r ∈ Finset.Ico (256 * n) (256 * n + 256), dz D.Ql D.k D.v D.Dl t r * D.k r d
    else ∑ r ∈ Finset.Ico (256 * n) (256 * n + 256), dz D.Qh D.k D.v D.Dh t r * D.k r d := by
  unfold dq
  rw [range_add]
  split_ifs <;> rfl

theorem dk_succ (n s d : ℕ) : D.dk (256 * (n + 1)) s d = D.dk (256 * n) s d +
    (∑ t ∈ Finset.Ico (256 * n) (256 * n + 256), dz D.Qh D.k D.v D.Dh t s * D.Qh t d + ∑ t ∈ Finset.Ico (256 * n) (256 * n + 256), dz D.Ql D.k D.v D.Dl t s * D.Ql t d) := by
  unfold dk
  rw [range_add, Finset.sum_add_distrib (s := Finset.Ico _ _)]

theorem dv_succ (n s d : ℕ) : D.dv (256 * (n + 1)) s d = D.dv (256 * n) s d +
    (∑ t ∈ Finset.Ico (256 * n) (256 * n + 256), att D.Qh D.k t s * D.Dh t d + ∑ t ∈ Finset.Ico (256 * n) (256 * n + 256), att D.Ql D.k t s * D.Dl t d) := by
  unfold dv
  rw [range_add, Finset.sum_add_distrib (s := Finset.Ico _ _)]

theorem kW_step (n j s d : ℕ) : (if 256 * j ≤ s ∧ s < 256 * j + 256 then D.kW n j s d +
      (∑ t ∈ Finset.Ico (256 * n) (256 * n + 256), dz D.Qh D.k D.v D.Dh t (256 * j + (s - 256 * j)) * D.Qh t d + ∑ t ∈ Finset.Ico (256 * n) (256 * n + 256), dz D.Ql D.k D.v D.Dl t (256 * j + (s - 256 * j)) * D.Ql t d) else D.kW n j s d) = D.kW n (j + 1) s d := by
  unfold kW
  by_cases c : 256 * j ≤ s ∧ s < 256 * j + 256
  · rw [if_pos c, if_neg (by omega), if_pos (by omega), show 256 * j + (s - 256 * j) = s by omega, dk_succ]
  · rw [if_neg c]
    by_cases c' : s < 256 * j
    · rw [if_pos c', if_pos (by omega)]
    · rw [if_neg c', if_neg (by omega)]

theorem vW_step (n j s d : ℕ) : (if 256 * j ≤ s ∧ s < 256 * j + 256 then D.vW n j s d +
      (∑ t ∈ Finset.Ico (256 * n) (256 * n + 256), att D.Qh D.k t (256 * j + (s - 256 * j)) * D.Dh t d + ∑ t ∈ Finset.Ico (256 * n) (256 * n + 256), att D.Ql D.k t (256 * j + (s - 256 * j)) * D.Dl t d) else D.vW n j s d) = D.vW n (j + 1) s d := by
  unfold vW
  by_cases c : 256 * j ≤ s ∧ s < 256 * j + 256
  · rw [if_pos c, if_neg (by omega), if_pos (by omega), show 256 * j + (s - 256 * j) = s by omega, dv_succ]
  · rw [if_neg c]
    by_cases c' : s < 256 * j
    · rw [if_pos c', if_pos (by omega)]
    · rw [if_neg c', if_neg (by omega)]

end Dat

/-- The operands at a grid point hold the real numbers of the two sequences. -/
structure Good (e : Env Ideal) (D0 D1 : Dat) : Prop where
  h2 : Re2 e.x2 D0.q D1.q
  h3 : Re2 e.x3 D0.k D1.k
  h4 : Re2 e.x4 D0.v D1.v
  h50 : ∀ d : Fin 128, e.x5 (ix2 0 d) = ((D0.γ d.val : ℝ) : EReal)
  h51 : ∀ d : Fin 128, e.x5 (ix2 0 d) = ((D1.γ d.val : ℝ) : EReal)
  h6 : Re2 e.x6 D0.o D1.o
  h7 : Re2 e.x7 (fun t d => if d < 64 then remR D0.Ql D0.k 0 t else remR D0.Qh D0.k 0 t) (fun t d => if d < 64 then remR D1.Ql D1.k 0 t else remR D1.Qh D1.k 0 t)
  h8 : Re2 e.x8 D0.w D1.w

namespace Good
variable {e : Env Ideal} {D0 D1 : Dat} (G : Good e D0 D1) (k : Fin k0_t1_loop.trips)
include G

theorem qLo0 : Re (e.qLo0 k) (fun t d => D0.Ql (256 * k.val + t) d) := qLo_re (window0 (e.harg2.read_unread _) G.h2 _ (off1_eq k))
theorem qHi0 : Re (e.qHi0 k) (fun t d => D0.Qh (256 * k.val + t) d) := qHi_re (window0 (e.harg2.read_unread _) G.h2 _ (off1_eq k))
theorem qLo1 : Re (e.qLo1 k) (fun t d => D1.Ql (256 * k.val + t) d) := qLo_re (window1 (e.harg2.read_unread _) G.h2 _ (off2_eq k))
theorem qHi1 : Re (e.qHi1 k) (fun t d => D1.Qh (256 * k.val + t) d) := qHi_re (window1 (e.harg2.read_unread _) G.h2 _ (off2_eq k))
theorem do0 : Re (e.do0 k) (fun t d => D0.dout (256 * k.val + t) d) :=
  do_re (window0 (e.harg6.read_unread _) G.h6 _ (off1_eq k)) (window0 (e.harg8.read_unread _) G.h8 _ (off1_eq k)) G.h50
theorem do1 : Re (e.do1 k) (fun t d => D1.dout (256 * k.val + t) d) :=
  do_re (window1 (e.harg6.read_unread _) G.h6 _ (off2_eq k)) (window1 (e.harg8.read_unread _) G.h8 _ (off2_eq k)) G.h51
theorem dl0 : Re (mLo (e.do0 k)) (fun t d => D0.Dl (256 * k.val + t) d) := mLo_re (G.do0 k)
theorem dh0 : Re (mHi (e.do0 k)) (fun t d => D0.Dh (256 * k.val + t) d) := mHi_re (G.do0 k)
theorem dl1 : Re (mLo (e.do1 k)) (fun t d => D1.Dl (256 * k.val + t) d) := mLo_re (G.do1 k)
theorem dh1 : Re (mHi (e.do1 k)) (fun t d => D1.Dh (256 * k.val + t) d) := mHi_re (G.do1 k)
theorem kD0 : Re (e.kD0 k) (fun t d => D0.k (256 * k.val + t) d) := (window0 (e.harg3.read_unread _) G.h3 _ (off8_eq k)).blk
theorem kD1 : Re (e.kD1 k) (fun t d => D1.k (256 * k.val + t) d) := (window1 (e.harg3.read_unread _) G.h3 _ (off9_eq k)).blk
theorem vD0 : Re (e.vD0 k) (fun t d => D0.v (256 * k.val + t) d) := (window0 (e.harg4.read_unread _) G.h4 _ (off8_eq k)).blk
theorem vD1 : Re (e.vD1 k) (fun t d => D1.v (256 * k.val + t) d) := (window1 (e.harg4.read_unread _) G.h4 _ (off9_eq k)).blk
theorem totLo0 : Re (e.totLo0 k) (fun t _ => remR D0.Ql D0.k 0 (256 * k.val + t)) :=
  totLo_re (window0 (e.harg7.read_unread _) G.h7 _ (off1_eq k)) (fun t d hd => by simp only [hd, if_true])
theorem totHi0 : Re (e.totHi0 k) (fun t _ => remR D0.Qh D0.k 0 (256 * k.val + t)) :=
  totHi_re (window0 (e.harg7.read_unread _) G.h7 _ (off1_eq k)) (fun t d hd => by simp only [not_lt.2 hd, if_false])
theorem totLo1 : Re (e.totLo1 k) (fun t _ => remR D1.Ql D1.k 0 (256 * k.val + t)) :=
  totLo_re (window1 (e.harg7.read_unread _) G.h7 _ (off2_eq k)) (fun t d hd => by simp only [hd, if_true])
theorem totHi1 : Re (e.totHi1 k) (fun t _ => remR D1.Qh D1.k 0 (256 * k.val + t)) :=
  totHi_re (window1 (e.harg7.read_unread _) G.h7 _ (off2_eq k)) (fun t d hd => by simp only [not_lt.2 hd, if_false])
variable (j : Fin (k0_t2_loop k 0#32).trips)
theorem kT0 : Re (e.kT0 k j) (fun t d => D0.k (256 * j.val + t) d) := (window0 (e.harg3.read_unread _) G.h3 _ (off4_eq k j)).blk
theorem kT1 : Re (e.kT1 k j) (fun t d => D1.k (256 * j.val + t) d) := (window1 (e.harg3.read_unread _) G.h3 _ (off5_eq k j)).blk
theorem vT0 : Re (e.vT0 k j) (fun t d => D0.v (256 * j.val + t) d) := (window0 (e.harg4.read_unread _) G.h4 _ (off4_eq k j)).blk
theorem vT1 : Re (e.vT1 k j) (fun t d => D1.v (256 * j.val + t) d) := (window1 (e.harg4.read_unread _) G.h4 _ (off5_eq k j)).blk
end Good

theorem sel_blk {x y : FVec Ideal S256x128 .f32} {X Y : ℕ → ℕ → ℝ} (hx : Re x X) (hy : Re y Y) : Re (select lo128 x y) (fun t d => if d < 64 then X t d else Y t d) := by
  intro a b
  have e1 := hx a b
  have e2 := hy a b
  pointwise [lo128, k0_pay2]
  rw [sel_lo, e1, e2]
  split_ifs <;> rfl

/-- The inner loop's state before trip `j`. -/
structure Inn (e : Env Ideal) (D0 D1 : Dat) (n j : ℕ) (f11 : BufTy.Contents (Elt Ideal) e.arg11.view.ty) (f12 : BufTy.Contents (Elt Ideal) e.arg12.view.ty)
    (S : Carry Ideal × List (View.Piece (Elt Ideal) S2x2048x128 .f32) × List (View.Piece (Elt Ideal) S2x2048x128 .f32)) : Prop where
  dq0 : Re S.1.1 (fun t d => D0.dq (256 * j) (256 * n + t) d)
  dq1 : Re S.1.2.1 (fun t d => D1.dq (256 * j) (256 * n + t) d)
  rl0 : Re S.1.2.2.1 (fun t _ => remR D0.Ql D0.k (256 * j) (256 * n + t))
  rl1 : Re S.1.2.2.2.1 (fun t _ => remR D1.Ql D1.k (256 * j) (256 * n + t))
  rh0 : Re S.1.2.2.2.2.1 (fun t _ => remR D0.Qh D0.k (256 * j) (256 * n + t))
  rh1 : Re S.1.2.2.2.2.2.1 (fun t _ => remR D1.Qh D1.k (256 * j) (256 * n + t))
  gl0 : Re S.1.2.2.2.2.2.2.1 (fun t _ => sumG D0.Ql D0.k D0.v D0.Dl (256 * j) (256 * n + t))
  gl1 : Re S.1.2.2.2.2.2.2.2.1 (fun t _ => sumG D1.Ql D1.k D1.v D1.Dl (256 * j) (256 * n + t))
  gh0 : Re S.1.2.2.2.2.2.2.2.2.1 (fun t _ => sumG D0.Qh D0.k D0.v D0.Dh (256 * j) (256 * n + t))
  gh1 : Re S.1.2.2.2.2.2.2.2.2.2 (fun t _ => sumG D1.Qh D1.k D1.v D1.Dh (256 * j) (256 * n + t))
  m11 : Re2 (e.arg11.view.read (Elt Ideal) (e.arg11.view.writes (Elt Ideal) f11 S.2.1)) (D0.kW n j) (D1.kW n j)
  m12 : Re2 (e.arg12.view.read (Elt Ideal) (e.arg12.view.writes (Elt Ideal) f12 S.2.2)) (D0.vW n j) (D1.vW n j)

theorem Inn.step {e : Env Ideal} {D0 D1 : Dat} (G : Good e D0 D1) (k : Fin k0_t1_loop.trips) {acc : FVec Ideal S1x128 .f32} {f11 : BufTy.Contents (Elt Ideal) e.arg11.view.ty} {f12 : BufTy.Contents (Elt Ideal) e.arg12.view.ty}
    (j : Fin (k0_t2_loop k 0#32).trips) (I : Inn e D0 D1 k.val j.val f11 f12 (e.inn k acc f11 f12 j.val)) :
    Inn e D0 D1 k.val (j.val + 1) f11 f12 (e.inn k acc f11 f12 (j.val + 1)) := by
  have hk8 : k.val < 8 := lt_of_lt_of_eq k.isLt trips1
  have hjk : j.val < k.val := lt_of_lt_of_eq j.isLt (trips2 k)
  have hj : j.val < 8 := by omega
  have hM : ∀ t < 256, ∀ s < 256, (fun _ _ => True : ℕ → ℕ → Prop) t s ↔ 256 * j.val + s < 256 * k.val + t := fun t ht s hs => by
    simp only [true_iff]; omega
  have hmk := mk_id_re
  have hml := ml_id_re
  rw [inn_succ e k j acc f11 f12]
  constructor
  · exact (add_blk I.dq0 (sel_blk (tile_dq hj hM hmk hml (G.qLo0 k) (G.kT0 k j) (G.vT0 k j) (G.dl0 k) I.rl0 I.gl0) (tile_dq hj hM hmk hml (G.qHi0 k) (G.kT0 k j) (G.vT0 k j) (G.dh0 k) I.rh0 I.gh0))).congr
      fun a _ b _ => (D0.dq_succ _ _ _).symm
  · exact (add_blk I.dq1 (sel_blk (tile_dq hj hM hmk hml (G.qLo1 k) (G.kT1 k j) (G.vT1 k j) (G.dl1 k) I.rl1 I.gl1) (tile_dq hj hM hmk hml (G.qHi1 k) (G.kT1 k j) (G.vT1 k j) (G.dh1 k) I.rh1 I.gh1))).congr
      fun a _ b _ => (D1.dq_succ _ _ _).symm
  · exact tile_rem hj hM hmk (G.qLo0 k) (G.kT0 k j) I.rl0
  · exact tile_rem hj hM hmk (G.qLo1 k) (G.kT1 k j) I.rl1
  · exact tile_rem hj hM hmk (G.qHi0 k) (G.kT0 k j) I.rh0
  · exact tile_rem hj hM hmk (G.qHi1 k) (G.kT1 k j) I.rh1
  · exact tile_sumG hj hM hmk hml (G.qLo0 k) (G.kT0 k j) (G.vT0 k j) (G.dl0 k) I.rl0 I.gl0
  · exact tile_sumG hj hM hmk hml (G.qLo1 k) (G.kT1 k j) (G.vT1 k j) (G.dl1 k) I.rl1 I.gl1
  · exact tile_sumG hj hM hmk hml (G.qHi0 k) (G.kT0 k j) (G.vT0 k j) (G.dh0 k) I.rh0 I.gh0
  · exact tile_sumG hj hM hmk hml (G.qHi1 k) (G.kT1 k j) (G.vT1 k j) (G.dh1 k) I.rh1 I.gh1
  · exact (store_pcs I.m11
      (add_blk (tile_dk hj hM hmk hml (G.qHi0 k) (G.kT0 k j) (G.vT0 k j) (G.dh0 k) I.rh0 I.gh0) (tile_dk hj hM hmk hml (G.qLo0 k) (G.kT0 k j) (G.vT0 k j) (G.dl0 k) I.rl0 I.gl0))
      (add_blk (tile_dk hj hM hmk hml (G.qHi1 k) (G.kT1 k j) (G.vT1 k j) (G.dh1 k) I.rh1 I.gh1) (tile_dk hj hM hmk hml (G.qLo1 k) (G.kT1 k j) (G.vT1 k j) (G.dl1 k) I.rl1 I.gl1))
      _ _ (off4_eq k j) (off5_eq k j)).congr (fun s _ d _ => D0.kW_step _ _ _ _) (fun s _ d _ => D1.kW_step _ _ _ _)
  · exact (store_pcs I.m12
      (add_blk (tile_dv hj hM hmk hml (G.qHi0 k) (G.kT0 k j) (G.dh0 k) I.rh0) (tile_dv hj hM hmk hml (G.qLo0 k) (G.kT0 k j) (G.dl0 k) I.rl0))
      (add_blk (tile_dv hj hM hmk hml (G.qHi1 k) (G.kT1 k j) (G.dh1 k) I.rh1) (tile_dv hj hM hmk hml (G.qLo1 k) (G.kT1 k j) (G.dl1 k) I.rl1))
      _ _ (off4_eq k j) (off5_eq k j)).congr (fun s _ d _ => D0.vW_step _ _ _ _) (fun s _ d _ => D1.vW_step _ _ _ _)

end Cert.SbIdeal.Tile
-- ==== Proof.SbRef.lean ====
/- The reference's values on real numbers, first part: the sums over windows, and the attention's forward lines. -/
module

public import proofs.«01_k».proof.Proof.SbLoop
public import proofs.«01_k».proof.Proof.Gen.SbRefIdeal
public import proofs.«01_k».proof.Proof.Gen.SbRefIdeal.Read

@[expose] public section

set_option maxRecDepth 16384

noncomputable section

namespace Cert.SbRefIdeal.Real

open Idealize.ShloMosaic Idealize.ShloMosaic.TcCoe Idealize.SL.Sem
open Cert.SbRefIdeal Cert.SbRefIdeal.Gen Cert.SbRefIdeal.Read Cert.SbIdeal.Tile

/-- One half of a pair of heads, zeros in the other half's lanes. -/
def hM (p : ℕ) (x : ℕ → ℕ → ℝ) (t d : ℕ) : ℝ := if p = 0 then (if d < 64 then x t d else 0) else (if d < 64 then 0 else x t d)

/-- One sequence at one pair of heads, from the arrays' real numbers. -/
def dat (P W : ℕ → ℕ → ℕ → ℝ) (Γ : ℕ → ℝ) (b h : ℕ) : Dat where
  q t d := P b t (1792 + 128 * h + d)
  k t d := P b t (2304 + 128 * h + d)
  v t d := P b t (2816 + 128 * h + d)
  o t d := ∑ s ∈ Finset.range 2048, att (hM (d / 64) (fun t e => P b t (1792 + 128 * h + e) * (1 / 8))) (fun t e => P b t (2304 + 128 * h + e)) t s * P b s (2816 + 128 * h + d)
  w t d := W b t (512 + 128 * h + d)
  γ d := Γ (128 * h + d)

/-- An array of four axes on real numbers. -/
def Re4 {n0 n1 n2 n3 : ℕ} (x : (⟨4, ![n0, n1, n2, n3]⟩ : Shape).Idx → EReal) (f : ℕ → ℕ → ℕ → ℕ → ℝ) : Prop :=
  ∀ (a : Fin n0) (b : Fin n1) (c : Fin n2) (d : Fin n3), x (ix4 a b c d) = ((f a.val b.val c.val d.val : ℝ) : EReal)

theorem head_sum {p : ℕ} (hp : p < 2) (x : ℕ → ℕ → ℝ) (y : ℕ → ℕ → ℝ) (t s : ℕ) :
    ∑ d ∈ Finset.range 128, hM p x t d * y s d = ∑ e ∈ Finset.range 64, x t (64 * p + e) * y s (64 * p + e) := by
  rw [show 128 = 64 + 64 from rfl, Finset.sum_range_add]
  obtain rfl | rfl : p = 0 ∨ p = 1 := by omega
  · rw [Finset.sum_eq_zero (s := Finset.range 64) (f := fun e => hM 0 x t (64 + e) * y s (64 + e)), add_zero]
    · refine Finset.sum_congr rfl fun e he => ?_
      simp only [Finset.mem_range] at he
      simp [hM, he]
    · intro e he
      simp [hM]
  · rw [Finset.sum_eq_zero (s := Finset.range 64) (f := fun e => hM 1 x t e * y s e), zero_add]
    · refine Finset.sum_congr rfl fun e he => ?_
      simp [hM]
    · intro e he
      simp only [Finset.mem_range] at he
      simp [hM, he]

/-- A window's fold of sums is the sum over the window's places. -/
theorem window_sum {s t : Shape} (window strides lo hi : Fin s.rank → Nat) (x : s.Idx → EReal) (h : s.ReduceWindows window strides lo hi t) (j : t.Idx) :
    Ideal.hostReduceWindowAdd window strides lo hi h x 0 j = ∑ k : (⟨s.rank, window⟩ : Shape).Idx,
      if hin : ∀ a, lo a ≤ (j (a.cast h.1.symm)).val * strides a + (k a).val ∧ (j (a.cast h.1.symm)).val * strides a + (k a).val - lo a < s.size a
      then x (fun a => ⟨(j (a.cast h.1.symm)).val * strides a + (k a).val - lo a, (hin a).2⟩) else 0 := by
  rw [sum_idx_eq_foldl]
  unfold Ideal.hostReduceWindowAdd Host.reduceWindow
  refine congrArg (fun F => List.foldl F (0 : EReal) _) (funext fun a => funext fun i => congrArg (a + ·) ?_)
  congr

/-- The sum over a window that starts at each place and runs to the right end. -/
theorem cumsum_right {x : Vec Ideal S4x8x2048x2048 .f32} {f : ℕ → ℕ → ℕ → ℕ → ℝ} (h : Re4 x f) (z : Vec Ideal S_ .f32) (hz : ∀ i, z i = 0) (hr) (hu) :
    Re4 (Host.reduceWindowAdd (F := Ideal) (φ := .f32) (t := S4x8x2048x2048) ![1, 1, 1, 2048] ![1, 1, 1, 1] ![0, 0, 0, 0] ![0, 0, 0, 2047] x z hr hu)
      (fun b g t s => ∑ r ∈ Finset.Ico s 2048, f b g t r) := by
  intro b g t s
  unfold Host.reduceWindowAdd
  rw [Ideal.hostReduceWindowAdd_def, hz, window_sum]
  refine (sum_idx4 (n0 := 1) (n1 := 1) (n2 := 1) (n3 := 2048) _).trans ?_
  simp only [Fin.sum_univ_one]
  have e : ∀ n : Fin 2048, ∀ (P : Prop) [Decidable P] (u : P → EReal), (P ↔ s.val + n.val < 2048) → (∀ hp : P, u hp = ((f b.val g.val t.val (s.val + n.val) : ℝ) : EReal)) →
      (if hp : P then u hp else 0) = (((if s.val + n.val < 2048 then f b.val g.val t.val (s.val + n.val) else 0 : ℝ)) : EReal) := by
    intro n P _ u hP hu'
    by_cases hp : P
    · rw [dif_pos hp, if_pos (hP.1 hp), hu']
    · rw [dif_neg hp, if_neg (fun q => hp (hP.2 q))]; rfl
  refine (Finset.sum_congr rfl fun n _ => e n _ _ ?_ ?_).trans ?_
  · constructor
    · intro q
      have := (q 3).2
      simpa [ix4] using this
    · intro q a
      fin_cases a <;> simp [ix4] <;> omega
  · intro hp
    refine Eq.trans (congrArg x ?_) (h b g t ⟨s.val + n.val, ?_⟩)
    · funext a
      fin_cases a <;> simp [ix4]
    · have := (hp 3).2
      simpa [ix4] using this
  · rw [sum_re (fun n => if s.val + n < 2048 then f b.val g.val t.val (s.val + n) else 0)]
    rw [← Finset.sum_filter]
    congr 1
    refine Finset.sum_bij (fun n _ => s.val + n) ?_ ?_ ?_ ?_
    · intro n hn
      simp only [Finset.mem_filter, Finset.mem_range, Finset.mem_Ico] at hn ⊢; omega
    · intro n _ m _ hnm
      omega
    · intro r hr
      simp only [Finset.mem_Ico] at hr
      exact ⟨r - s.val, by simp only [Finset.mem_filter, Finset.mem_range]; omega, by omega⟩
    · intro n _; rfl

/-- The sum over a window that ends at each place and starts at the left end. -/
theorem cumsum_left {x : Vec Ideal S4x8x2048x2048 .f32} {f : ℕ → ℕ → ℕ → ℕ → ℝ} (h : Re4 x f) (z : Vec Ideal S_ .f32) (hz : ∀ i, z i = 0) (hr) (hu) :
    Re4 (Host.reduceWindowAdd (F := Ideal) (φ := .f32) (t := S4x8x2048x2048) ![1, 1, 1, 2048] ![1, 1, 1, 1] ![0, 0, 0, 2047] ![0, 0, 0, 0] x z hr hu)
      (fun b g t s => ∑ r ∈ Finset.range (s + 1), f b g t r) := by
  intro b g t s
  unfold Host.reduceWindowAdd
  rw [Ideal.hostReduceWindowAdd_def, hz, window_sum]
  refine (sum_idx4 (n0 := 1) (n1 := 1) (n2 := 1) (n3 := 2048) _).trans ?_
  simp only [Fin.sum_univ_one]
  have e : ∀ n : Fin 2048, ∀ (P : Prop) [Decidable P] (u : P → EReal), (P ↔ 2047 ≤ s.val + n.val) → (∀ hp : P, u hp = ((f b.val g.val t.val (s.val + n.val - 2047) : ℝ) : EReal)) →
      (if hp : P then u hp else 0) = (((if 2047 ≤ s.val + n.val then f b.val g.val t.val (s.val + n.val - 2047) else 0 : ℝ)) : EReal) := by
    intro n P _ u hP hu'
    by_cases hp : P
    · rw [dif_pos hp, if_pos (hP.1 hp), hu']
    · rw [dif_neg hp, if_neg (fun q => hp (hP.2 q))]; rfl
  refine (Finset.sum_congr rfl fun n _ => e n _ _ ?_ ?_).trans ?_
  · constructor
    · intro q
      have := (q 3).1
      simpa [ix4] using this
    · intro q a
      fin_cases a <;> simp [ix4] <;> omega
  · intro hp
    refine Eq.trans (congrArg x ?_) (h b g t ⟨s.val + n.val - 2047, by omega⟩)
    funext a
    fin_cases a <;> simp [ix4]
  · rw [sum_re (fun n => if 2047 ≤ s.val + n then f b.val g.val t.val (s.val + n - 2047) else 0)]
    rw [← Finset.sum_filter]
    congr 1
    refine Finset.sum_bij (fun n _ => s.val + n - 2047) ?_ ?_ ?_ ?_
    · intro n hn
      simp only [Finset.mem_filter, Finset.mem_range] at hn ⊢; omega
    · intro n hn m hm hnm
      simp only [Finset.mem_filter, Finset.mem_range] at hn hm
      omega
    · intro r hr
      simp only [Finset.mem_range] at hr
      exact ⟨r + 2047 - s.val, by simp only [Finset.mem_filter, Finset.mem_range]; omega, by omega⟩
    · intro n _; rfl

/-- log σ z from log (1 − σ z). -/
theorem lsig (x : ℝ) : -(max (-x) 0) - Real.log (1 + Real.exp (-|x|)) = x + lm x := by
  unfold lm
  rw [zero_sub |x|]
  have : max x 0 - max (-x) 0 = x := by
    rcases le_total x 0 with h | h
    · rw [max_eq_right h, max_eq_left (neg_nonneg.2 h)]; ring
    · rw [max_eq_left h, max_eq_right (neg_nonpos.2 h)]; ring
  linarith

/-- The two halves of the sigmoid add to one. -/
theorem sig_add (x : ℝ) : Real.exp (x + lm x) + Real.exp (lm x) = 1 := by
  have hl : lm x = -Real.log (1 + Real.exp x) := by
    unfold lm
    rcases le_total x 0 with h | h
    · rw [max_eq_right h, abs_of_nonpos h]; ring_nf
    · rw [max_eq_left h, abs_of_nonneg h, zero_sub]
      have : Real.log (1 + Real.exp x) = x + Real.log (1 + Real.exp (-x)) := by
        rw [← Real.log_exp x, ← Real.log_mul (Real.exp_pos _).ne' (by positivity), Real.log_exp, mul_add, ← Real.exp_add, mul_one, add_neg_cancel, Real.exp_zero, add_comm]
      rw [this]; ring
  have hp : 0 < 1 + Real.exp x := by positivity
  rw [Real.exp_add, hl, Real.exp_neg, Real.exp_log hp]
  field_simp
  ring

end Cert.SbRefIdeal.Real
-- ==== Proof.SbRefF.lean ====
/- The reference's values on real numbers: the attention's forward lines. -/
module

public import proofs.«01_k».proof.Proof.SbRef

@[expose] public section

set_option maxRecDepth 16384

noncomputable section

namespace Cert.SbRefIdeal.Real

open Idealize.ShloMosaic Idealize.ShloMosaic.TcCoe Idealize.SL.Sem
open Cert.SbRefIdeal Cert.SbRefIdeal.Gen Cert.SbRefIdeal.Read Cert.SbIdeal.Tile

/-- A head's scaled queries, its keys and its values, in the lanes of its pair. -/
def Qf (P : ℕ → ℕ → ℕ → ℝ) (b g : ℕ) : ℕ → ℕ → ℝ := hM (g % 2) (fun t d => P b t (1792 + 128 * (g / 2) + d) * (1 / 8))
def Kf (P : ℕ → ℕ → ℕ → ℝ) (b g t d : ℕ) : ℝ := P b t (2304 + 128 * (g / 2) + d)
def Vf (P : ℕ → ℕ → ℕ → ℝ) (b g t d : ℕ) : ℝ := P b t (2816 + 128 * (g / 2) + d)

theorem lt_word32 (a b : Fin 2048) : IntOp.cmpi .slt (BitVec.ofNat 32 a.val) (BitVec.ofNat 32 b.val) = if a.val < b.val then 1#1 else 0#1 := by
  split_ifs with h <;> word_cmp

/-- The softplus of a negated real number. -/
theorem softplus (x : ℝ) : (if -(x : EReal) ≠ -(x : EReal) then -(x : EReal) else max (-(x : EReal)) 0 + Ideal.log1p (Ideal.exp (-FloatOps.absf (F := Ideal) (φ := .f32) (-(x : EReal))))) = ((-(x + lm x) : ℝ) : EReal) := by
  have hp : ¬ (1 + Real.exp (-|x|) ≤ 0) := not_le.2 (by positivity)
  rw [if_neg (fun h => h rfl)]
  show max (-(x : EReal)) 0 + Ideal.log (1 + Ideal.exp (-(max (-(x : EReal)) (-(-(x : EReal)))))) = _
  rw [← EReal.coe_neg, abs_re, abs_neg, ← EReal.coe_zero, ← coe_max, ← EReal.coe_neg, Ideal.exp_coe, ← EReal.coe_one, ← EReal.coe_add, Ideal.log_coe, if_neg hp, ← EReal.coe_add, ← lsig]
  congr 1
  ring

theorem pinf : Ideal.ofBits .f32 0x7F800000#32 = (⊤ : EReal) := by
  simp [Ideal.ofBits, Ideal.ieee]

theorem call2_zero (i : S_.Idx) : val_main_call2_v0 (F := Ideal) i = 0 := by
  show Ideal.ofBits .f32 0x00000000#32 = 0
  rw [Ideal.ofBits_zero]

section

variable (x0 : (⟨S4x2048x3328, .f32⟩ : BufTy).Contents (Elt Ideal)) (P : ℕ → ℕ → ℕ → ℝ)
  (h0 : ∀ (b : Fin 4) (t : Fin 2048) (c : Fin 3328), x0 (ix3 b t c) = ((P b.val t.val c.val : ℝ) : EReal))

include h0

theorem v5_re : Re4 (val_main_v5 (F := Ideal) x0) (fun b g t e => P b t (1792 + 64 * g + e)) := by
  intro b g t e
  pointwise [val_main_v0, val_main_v1, val_main_v4, val_main_v5]
  rw [h0]
  congr 2
  dsimp only; omega

theorem v7_re : Re4 (val_main_v7 (F := Ideal) x0) (fun b g t e => P b t (2304 + 64 * g + e)) := by
  intro b g t e
  pointwise [val_main_v0, val_main_v2, val_main_v6, val_main_v7]
  rw [h0]
  congr 2
  dsimp only; omega

theorem v9_re : Re4 (val_main_v9 (F := Ideal) x0) (fun b g t e => P b t (2816 + 64 * g + e)) := by
  intro b g t e
  pointwise [val_main_v0, val_main_v3, val_main_v8, val_main_v9]
  rw [h0]
  congr 2
  dsimp only; omega

theorem v12_re : Re4 (val_main_v12 (F := Ideal) x0) (fun b g t s => zz (Qf P b g) (Kf P b g) t s) := by
  intro b g t s
  pointwise [val_main_v10, val_main_v11, val_main_v12, val_main_cst]
  simp only [v5_re x0 P h0 b g t, v7_re x0 P h0 b g s, eighth, ← EReal.coe_mul]
  rw [sum_re (fun e => P b.val t.val (1792 + 64 * g.val + e) * P b.val s.val (2304 + 64 * g.val + e)), ← EReal.coe_mul]
  congr 1
  have e := head_sum (Nat.mod_lt g.val (by norm_num : 0 < 2)) (fun t d => P b.val t (1792 + 128 * (g.val / 2) + d) * (1 / 8)) (Kf P b.val g.val) t.val s.val
  refine Eq.trans ?_ e.symm
  rw [Finset.sum_mul]
  unfold Kf
  refine Finset.sum_congr rfl fun e _ => ?_
  rw [show 1792 + 128 * (g.val / 2) + (64 * (g.val % 2) + e) = 1792 + 64 * g.val + e by omega, show 2304 + 128 * (g.val / 2) + (64 * (g.val % 2) + e) = 2304 + 64 * g.val + e by omega]
  ring

/-- The log of the sigmoid of the logits. -/
theorem v20_re : Re4 (val_main_v20_0 (F := Ideal) x0) (fun b g t s => zz (Qf P b g) (Kf P b g) t s + lm (zz (Qf P b g) (Kf P b g) t s)) := by
  intro b g t s
  pointwise [val_main_v20_0, val_main_call0_v1_0, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11]
  rw [v12_re x0 P h0 b g t s, softplus, ← EReal.coe_neg, neg_neg]

/-- The logits' complementary sigmoid. -/
theorem sig_re : Re4 (val_main_v20_1 (F := Ideal) x0) (fun b g t s => Real.exp (lm (zz (Qf P b g) (Kf P b g) t s))) := by
  intro b g t s
  pointwise [val_main_v20_1, val_main_call0_v1_0, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_v13, val_main_call0_call0_v14, val_main_call0_call0_v15, val_main_call0_call0_v16, val_main_call0_call0_v17, val_main_call0_call0_v18, val_main_call0_call0_v19, val_main_call0_call0_v20, val_main_call0_call0_v21, val_main_call0_call0_cst_0, val_main_call0_call0_cst_1, val_main_call0_call0_cst_2, val_main_call0_call0_cst_3]
  rw [v12_re x0 P h0 b g t s, softplus, pinf, if_neg (EReal.coe_ne_top _), ← EReal.coe_neg, if_neg (EReal.coe_ne_top _), ← EReal.coe_sub, Ideal.exp_coe]
  congr 2
  ring

/-- The log of what is left, under the mask. -/
theorem v22_re : Re4 (val_main_v22_0 (F := Ideal) x0) (fun b g t s => keep (Qf P b g) (Kf P b g) t s) := by
  intro b g t s
  pointwise [val_main_v22_0, val_main_v22_1, val_main_v19, val_main_v18, val_main_v17, val_main_v16, val_main_v15, val_main_v14, val_main_v13, val_main_call1_v2, val_main_call1_v0, val_main_cst_0, val_main_v21]
  rw [lt_word32, v12_re x0 P h0 b g t s, v20_re x0 P h0 b g t s, ← EReal.coe_sub]
  unfold keep
  dsimp only
  by_cases h : s.val < t.val
  · rw [if_pos h, if_pos h]
    show ((_ : ℝ) : EReal) = _
    congr 1
    ring
  · rw [if_neg h, if_neg h]
    show Ideal.ofBits .f32 0x00000000#32 = _
    rw [Ideal.ofBits_zero]
    rfl

theorem v23_re : Re4 (val_main_v23 (F := Ideal) x0) (fun b g t s => ∑ r ∈ Finset.Ico s 2048, keep (Qf P b g) (Kf P b g) t r) := by
  unfold val_main_v23
  exact cumsum_right (v22_re x0 P h0) _ call2_zero _ _

/-- The attention before its mask. -/
theorem v26_re : Re4 (val_main_v26 (F := Ideal) x0) (fun b g t s => Real.exp (zz (Qf P b g) (Kf P b g) t s + lm (zz (Qf P b g) (Kf P b g) t s) + ∑ r ∈ Finset.Ico s 2048, keep (Qf P b g) (Kf P b g) t r - keep (Qf P b g) (Kf P b g) t s)) := by
  intro b g t s
  pointwise [val_main_v26, val_main_v25, val_main_v24]
  rw [v20_re x0 P h0 b g t s, v22_re x0 P h0 b g t s, v23_re x0 P h0 b g t s, ← EReal.coe_add, ← EReal.coe_sub]
  exact Ideal.exp_coe _

omit h0 in
theorem att_eq {Q K : ℕ → ℕ → ℝ} {t s : ℕ} (h : s < t) : Real.exp (zz Q K t s + lm (zz Q K t s) + ∑ r ∈ Finset.Ico s 2048, keep Q K t r - keep Q K t s) = att Q K t s := by
  unfold att
  rw [if_pos h]
  congr 1
  rw [show keep Q K t s = lm (zz Q K t s) from if_pos h]
  ring

theorem v27_re : Re4 (val_main_v27_0 (F := Ideal) x0) (fun b g t s => att (Qf P b g) (Kf P b g) t s) := by
  intro b g t s
  pointwise [val_main_v27_0, val_main_v27_1, val_main_v19, val_main_v18, val_main_v17, val_main_v16, val_main_v15, val_main_v14, val_main_v13, val_main_call3_v2, val_main_call3_v0, val_main_cst_1]
  rw [lt_word32, v26_re x0 P h0 b g t s]
  dsimp only
  by_cases h : s.val < t.val
  · rw [if_pos h, att_eq h]
    rfl
  · rw [if_neg h]
    unfold att
    rw [if_neg h]
    show Ideal.ofBits .f32 0x00000000#32 = _
    rw [Ideal.ofBits_zero]
    rfl

theorem v29_re : Re4 (val_main_v29 (F := Ideal) x0) (fun b t g e => ∑ s ∈ Finset.range 2048, att (Qf P b g) (Kf P b g) t s * Vf P b g s (64 * (g % 2) + e)) := by
  intro b t g e
  pointwise [val_main_v29, val_main_v28]
  simp only [v27_re x0 P h0 b g t, v9_re x0 P h0 b g _ e, ← EReal.coe_mul]
  rw [sum_re (fun s => att (Qf P b.val g.val) (Kf P b.val g.val) t.val s * P b.val s (2816 + 64 * g.val + e.val))]
  congr 1
  refine Finset.sum_congr rfl fun s _ => ?_
  unfold Vf
  rw [show 2816 + 128 * (g.val / 2) + (64 * (g.val % 2) + e.val) = 2816 + 64 * g.val + e.val by omega]

end

end Cert.SbRefIdeal.Real
-- ==== Proof.SbOut.lean ====
/- The outer loop on real numbers: what a grid point leaves. -/
module

public import proofs.«01_k».proof.Proof.SbLoop

@[expose] public section

set_option maxRecDepth 16384
set_option maxHeartbeats 1000000

noncomputable section

namespace Cert.SbIdeal.Tile

open Idealize.ShloMosaic Idealize.ShloMosaic.TcCoe Idealize.SL.Sem
open Cert.SbIdeal.Gen Cert.SbIdeal Cert.SbIdeal.Run

theorem zeros_re : Re (k0_pay198 (F := Ideal)) (fun _ _ => 0) := by
  intro a b
  pointwise [k0_pay198]
  simp

theorem zcol_re : Re (k0_pay160 (F := Ideal)) (fun _ _ => 0) := by
  intro a b
  pointwise [k0_pay160]
  simp

theorem Inn.start {e : Env Ideal} {D0 D1 : Dat} (G : Good e D0 D1) (k : Fin k0_t1_loop.trips) {acc : FVec Ideal S1x128 .f32} {f11 : BufTy.Contents (Elt Ideal) e.arg11.view.ty} {f12 : BufTy.Contents (Elt Ideal) e.arg12.view.ty}
    (h11 : Re2 (e.arg11.view.read (Elt Ideal) f11) (D0.dk (256 * k.val)) (D1.dk (256 * k.val)))
    (h12 : Re2 (e.arg12.view.read (Elt Ideal) f12) (D0.dv (256 * k.val)) (D1.dv (256 * k.val))) :
    Inn e D0 D1 k.val 0 f11 f12 (e.inn k acc f11 f12 0) := by
  have h : e.inn k acc f11 f12 0 = ((k0_pay198, k0_pay198, e.totLo0 k, e.totLo1 k, e.totHi0 k, e.totHi1 k, k0_pay160, k0_pay160, k0_pay160, k0_pay160), [], []) := rfl
  rw [h]
  constructor <;> dsimp only
  · exact zeros_re.congr fun _ _ _ _ => by simp [Dat.dq]
  · exact zeros_re.congr fun _ _ _ _ => by simp [Dat.dq]
  · rw [Nat.mul_zero]
    exact G.totLo0 k
  · rw [Nat.mul_zero]
    exact G.totLo1 k
  · rw [Nat.mul_zero]
    exact G.totHi0 k
  · rw [Nat.mul_zero]
    exact G.totHi1 k
  · exact zcol_re.congr fun _ _ _ _ => by simp [sumG]
  · exact zcol_re.congr fun _ _ _ _ => by simp [sumG]
  · exact zcol_re.congr fun _ _ _ _ => by simp [sumG]
  · exact zcol_re.congr fun _ _ _ _ => by simp [sumG]
  · exact h11.congr (fun s _ d _ => by simp [Dat.kW]) (fun s _ d _ => by simp [Dat.kW])
  · exact h12.congr (fun s _ d _ => by simp [Dat.vW]) (fun s _ d _ => by simp [Dat.vW])

theorem Inn.all {e : Env Ideal} {D0 D1 : Dat} (G : Good e D0 D1) (k : Fin k0_t1_loop.trips) {acc : FVec Ideal S1x128 .f32} {f11 : BufTy.Contents (Elt Ideal) e.arg11.view.ty} {f12 : BufTy.Contents (Elt Ideal) e.arg12.view.ty}
    (h11 : Re2 (e.arg11.view.read (Elt Ideal) f11) (D0.dk (256 * k.val)) (D1.dk (256 * k.val)))
    (h12 : Re2 (e.arg12.view.read (Elt Ideal) f12) (D0.dv (256 * k.val)) (D1.dv (256 * k.val))) :
    ∀ j ≤ (k0_t2_loop k 0#32).trips, Inn e D0 D1 k.val j f11 f12 (e.inn k acc f11 f12 j)
  | 0, _ => Inn.start G k h11 h12
  | j + 1, hj => Inn.step G k ⟨j, hj⟩ (Inn.all G k h11 h12 j (Nat.le_of_lt hj))

theorem Inn.last {e : Env Ideal} {D0 D1 : Dat} (G : Good e D0 D1) (k : Fin k0_t1_loop.trips) {acc : FVec Ideal S1x128 .f32} {f11 : BufTy.Contents (Elt Ideal) e.arg11.view.ty} {f12 : BufTy.Contents (Elt Ideal) e.arg12.view.ty}
    (h11 : Re2 (e.arg11.view.read (Elt Ideal) f11) (D0.dk (256 * k.val)) (D1.dk (256 * k.val)))
    (h12 : Re2 (e.arg12.view.read (Elt Ideal) f12) (D0.dv (256 * k.val)) (D1.dv (256 * k.val))) :
    Inn e D0 D1 k.val k.val f11 f12 (e.innEnd k acc f11 f12) := by
  have h := Inn.all (acc := acc) G k h11 h12 _ le_rfl
  have e1 := trips2 k
  generalize hn : (k0_t2_loop k 0#32).trips = n at h e1
  subst e1
  unfold Env.innEnd
  rw [hn]
  exact h

theorem scale_blk {x : FVec Ideal S256x128 .f32} {X : ℕ → ℕ → ℝ} (hx : Re x X) : Re (mulf x (broadcast S256x128 (Scalar.ofBits .f32 0x3E000000#32))) (fun t d => X t d * (1 / 8)) := by
  intro a b
  have e1 := hx a b
  pointwise []
  rw [e1, eighth, EReal.coe_mul]

/-- The outer loop's state before trip `n`. -/
structure Out (e : Env Ideal) (D0 D1 : Dat) (n : ℕ) (f10 : BufTy.Contents (Elt Ideal) e.arg10.view.ty) (S : St Ideal) : Prop where
  gain : ∀ d : Fin 128, S.1 (ix2 0 d) = ((D0.dg (256 * n) d.val + D1.dg (256 * n) d.val : ℝ) : EReal)
  m10 : Re2 (e.arg10.view.read (Elt Ideal) (e.arg10.view.writes (Elt Ideal) f10 S.2.1)) (fun t d => if t < 256 * n then D0.dq (256 * (t / 256 + 1)) t d * (1 / 8) else 0) (fun t d => if t < 256 * n then D1.dq (256 * (t / 256 + 1)) t d * (1 / 8) else 0)
  m11 : Re2 (e.arg11.view.read (Elt Ideal) (e.arg11.view.writes (Elt Ideal) (e.harg11.unread (k0_pay3 (F := Ideal))) S.2.2.1)) (D0.dk (256 * n)) (D1.dk (256 * n))
  m12 : Re2 (e.arg12.view.read (Elt Ideal) (e.arg12.view.writes (Elt Ideal) (e.harg12.unread (k0_pay4 (F := Ideal))) S.2.2.2)) (D0.dv (256 * n)) (D1.dv (256 * n))

/-- A row block's trip changes only what is at or above the diagonal, and what lies above it is zero. -/
theorem dz_zero (Q K V D : ℕ → ℕ → ℝ) {t s : ℕ} (h : ¬s < t) : dz Q K V D t s = 0 := by
  simp [dz, gg, att, h]
theorem att_zero (Q K : ℕ → ℕ → ℝ) {t s : ℕ} (h : ¬s < t) : att Q K t s = 0 := by
  simp [att, h]

theorem kW_end (D : Dat) (n s d : ℕ) : D.kW n (n + 1) s d = D.dk (256 * (n + 1)) s d := by
  unfold Dat.kW
  split_ifs with h
  · rfl
  · rw [D.dk_succ, Finset.sum_eq_zero (fun t ht => by rw [dz_zero _ _ _ _ (by rw [Finset.mem_Ico] at ht; omega), zero_mul]),
      Finset.sum_eq_zero (fun t ht => by rw [dz_zero _ _ _ _ (by rw [Finset.mem_Ico] at ht; omega), zero_mul]), add_zero, add_zero]

theorem vW_end (D : Dat) (n s d : ℕ) : D.vW n (n + 1) s d = D.dv (256 * (n + 1)) s d := by
  unfold Dat.vW
  split_ifs with h
  · rfl
  · rw [D.dv_succ, Finset.sum_eq_zero (fun t ht => by rw [att_zero _ _ (by rw [Finset.mem_Ico] at ht; omega), zero_mul]),
      Finset.sum_eq_zero (fun t ht => by rw [att_zero _ _ (by rw [Finset.mem_Ico] at ht; omega), zero_mul]), add_zero, add_zero]

theorem dg_succ (D : Dat) (n d : ℕ) : D.dg (256 * (n + 1)) d = D.dg (256 * n) d + ∑ t ∈ Finset.range 256, D.o (256 * n + t) d * rr D.o (256 * n + t) d * D.w (256 * n + t) d := by
  unfold Dat.dg
  rw [Dat.range_add, sum_ico_shift (fun t => D.o t d * rr D.o t d * D.w t d)]

theorem rr_shift (f : ℕ → ℕ → ℝ) (n t d : ℕ) : rr (fun t d => f (n + t) d) t d = rr f (n + t) d := by
  unfold rr mse
  rfl

theorem dg_tile {x y : Vec Ideal S1x256x128 .f32} {f w : ℕ → ℕ → ℝ} {n : ℕ} (h : Re3 x (fun t d => f (n + t) d)) (hy : Re3 y (fun t d => w (n + t) d)) (b : Fin 128) :
    dgT x y (ix2 0 b) = ((∑ t ∈ Finset.range 256, f (n + t) b.val * rr f (n + t) b.val * w (n + t) b.val : ℝ) : EReal) :=
  (dg_re h hy b).trans (congrArg _ (Finset.sum_congr rfl fun t _ => by rw [rr_shift]))

theorem Out.step {e : Env Ideal} {D0 D1 : Dat} (G : Good e D0 D1) (k : Fin k0_t1_loop.trips) {f10 : BufTy.Contents (Elt Ideal) e.arg10.view.ty} (I : Out e D0 D1 k.val f10 (e.st k.val)) :
    Out e D0 D1 (k.val + 1) f10 (e.st (k.val + 1)) := by
  have hk8 : k.val < 8 := lt_of_lt_of_eq k.isLt trips1
  have hM : ∀ t < 256, ∀ s < 256, (fun t s => s < t : ℕ → ℕ → Prop) t s ↔ 256 * k.val + s < 256 * k.val + t := fun t ht s hs => by
    show s < t ↔ _; omega
  have hmk := mkD_re
  have hml := mlD_re
  have h := st_succ (F := Ideal) Variants.none e.c none e.i e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 (BitVec.ofNat 32 (e.i 0).val) (BitVec.ofNat 32 (e.i 1).val) e.x5 (e.harg2.unread e.x2) (e.harg3.unread e.x3) (e.harg4.unread e.x4) (e.harg6.unread e.x6) (e.harg7.unread e.x7) (e.harg8.unread e.x8) (e.harg9.unread e.x9) (fun k j => (e.harg9.readAt_unread e.x9 _ j).trans (e.hx9 _)) (e.harg11.unread (k0_pay3 (F := Ideal))) (e.harg12.unread (k0_pay4 (F := Ideal))) (k0_pay5 (F := Ideal)) k
  have L := Inn.last (acc := (e.st k.val).1) G k I.m11 I.m12
  replace h : e.st (k.val + 1) = _ := h
  rw [h]
  constructor
  · intro d
    have g := I.gain d
    have h6 := window0 (e.harg6.read_unread _) G.h6 (k0_off1_inb k) (off1_eq k)
    have h8 := window0 (e.harg8.read_unread _) G.h8 (k0_off1_inb k) (off1_eq k)
    have h6' := window1 (e.harg6.read_unread _) G.h6 (k0_off2_inb k) (off2_eq k)
    have h8' := window1 (e.harg8.read_unread _) G.h8 (k0_off2_inb k) (off2_eq k)
    have d0 := dg_tile h6 h8 d
    have d1 := dg_tile h6' h8' d
    refine (congrFun (trip_gain e k _ _ _) (ix2 0 d)).trans ?_
    show (e.st k.val).1 (ix2 0 d) + dgT _ _ (ix2 0 d) + dgT _ _ (ix2 0 d) = _
    rw [g, d0, d1, ← EReal.coe_add, ← EReal.coe_add, dg_succ, dg_succ]
    congr 1
    ring
  · have A := I.m10
    show Re2 (View.read (Elt Ideal) e.arg10.view (e.arg10.view.writes (Elt Ideal) f10 (_ ++ _))) _ _
    rw [trip_10 e k]
    have s0 := store0 A (scale_blk (add_blk L.dq0 (sel_blk (tile_dq hk8 hM hmk hml (G.qLo0 k) (G.kD0 k) (G.vD0 k) (G.dl0 k) L.rl0 L.gl0) (tile_dq hk8 hM hmk hml (G.qHi0 k) (G.kD0 k) (G.vD0 k) (G.dh0 k) L.rh0 L.gh0)))) (k0_off8_inb k) (off8_eq k)
    have s1 := store1 s0 (scale_blk (add_blk L.dq1 (sel_blk (tile_dq hk8 hM hmk hml (G.qLo1 k) (G.kD1 k) (G.vD1 k) (G.dl1 k) L.rl1 L.gl1) (tile_dq hk8 hM hmk hml (G.qHi1 k) (G.kD1 k) (G.vD1 k) (G.dh1 k) L.rh1 L.gh1)))) (k0_off9_inb k) (off9_eq k)
    refine Re2.congr s1 (fun t ht d hd => ?_) fun t ht d hd => ?_
    · split_ifs with c c1 c1 c1 <;> first | omega | rfl | skip
      all_goals rw [show t / 256 = k.val by omega, D0.dq_succ, show 256 * k.val + (t - 256 * k.val) = t by omega]
      all_goals simp only [*, if_true, if_false]
    · split_ifs with c c1 c1 c1 <;> first | omega | rfl | skip
      all_goals rw [show t / 256 = k.val by omega, D1.dq_succ, show 256 * k.val + (t - 256 * k.val) = t by omega]
      all_goals simp only [*, if_true, if_false]
  · show Re2 (View.read (Elt Ideal) e.arg11.view (e.arg11.view.writes (Elt Ideal) (e.harg11.unread (k0_pay3 (F := Ideal))) (_ ++ (e.st k.val).2.2.1))) _ _
    rw [trip_11 e k, View.writes_append]
    exact (store_pcs L.m11
      (add_blk (tile_dk hk8 hM hmk hml (G.qHi0 k) (G.kD0 k) (G.vD0 k) (G.dh0 k) L.rh0 L.gh0) (tile_dk hk8 hM hmk hml (G.qLo0 k) (G.kD0 k) (G.vD0 k) (G.dl0 k) L.rl0 L.gl0))
      (add_blk (tile_dk hk8 hM hmk hml (G.qHi1 k) (G.kD1 k) (G.vD1 k) (G.dh1 k) L.rh1 L.gh1) (tile_dk hk8 hM hmk hml (G.qLo1 k) (G.kD1 k) (G.vD1 k) (G.dl1 k) L.rl1 L.gl1))
      _ _ (off8_eq k) (off9_eq k)).congr (fun s _ d _ => (D0.kW_step _ _ _ _).trans (kW_end _ _ _ _)) (fun s _ d _ => (D1.kW_step _ _ _ _).trans (kW_end _ _ _ _))
  · show Re2 (View.read (Elt Ideal) e.arg12.view (e.arg12.view.writes (Elt Ideal) (e.harg12.unread (k0_pay4 (F := Ideal))) (_ ++ (e.st k.val).2.2.2))) _ _
    rw [trip_12 e k, View.writes_append]
    exact (store_pcs L.m12
      (add_blk (tile_dv hk8 hM hmk hml (G.qHi0 k) (G.kD0 k) (G.dh0 k) L.rh0) (tile_dv hk8 hM hmk hml (G.qLo0 k) (G.kD0 k) (G.dl0 k) L.rl0))
      (add_blk (tile_dv hk8 hM hmk hml (G.qHi1 k) (G.kD1 k) (G.dh1 k) L.rh1) (tile_dv hk8 hM hmk hml (G.qLo1 k) (G.kD1 k) (G.dl1 k) L.rl1))
      _ _ (off8_eq k) (off9_eq k)).congr (fun s _ d _ => (D0.vW_step _ _ _ _).trans (vW_end _ _ _ _)) (fun s _ d _ => (D1.vW_step _ _ _ _).trans (vW_end _ _ _ _))

theorem Out.start {e : Env Ideal} {D0 D1 : Dat} (G : Good e D0 D1) {f10 : BufTy.Contents (Elt Ideal) e.arg10.view.ty} (h10 : Re2 (e.arg10.view.read (Elt Ideal) f10) (fun _ _ => 0) (fun _ _ => 0)) : Out e D0 D1 0 f10 (e.st 0) := by
  have h : e.st 0 = (k0_pay5 (F := Ideal), [], [], []) := rfl
  rw [h]
  constructor
  · intro d
    pointwise [k0_pay5]
    simp [Dat.dg]
  · exact h10.congr (fun _ _ _ _ => by simp) (fun _ _ _ _ => by simp)
  · show Re2 (e.arg11.view.read (Elt Ideal) (e.harg11.unread (k0_pay3 (F := Ideal)))) _ _
    rw [e.harg11.read_unread]
    intro t d
    constructor <;> (pointwise [k0_pay3]; simp [Dat.dk])
  · show Re2 (e.arg12.view.read (Elt Ideal) (e.harg12.unread (k0_pay4 (F := Ideal)))) _ _
    rw [e.harg12.read_unread]
    intro t d
    constructor <;> (pointwise [k0_pay4]; simp [Dat.dv])

theorem Out.all {e : Env Ideal} {D0 D1 : Dat} (G : Good e D0 D1) {f10 : BufTy.Contents (Elt Ideal) e.arg10.view.ty} (h10 : Re2 (e.arg10.view.read (Elt Ideal) f10) (fun _ _ => 0) (fun _ _ => 0)) :
    ∀ n ≤ k0_t1_loop.trips, Out e D0 D1 n f10 (e.st n)
  | 0, _ => Out.start G h10
  | n + 1, hn => Out.step G ⟨n, hn⟩ (Out.all G h10 n (Nat.le_of_lt hn))

theorem dq_full (D : Dat) {t d n : ℕ} (h : t ≤ n) (hn : n ≤ 2048) : D.dq n t d = D.dq 2048 t d := by
  unfold Dat.dq
  rw [← Finset.sum_subset (Finset.range_subset_range.2 hn)]
  intro r _ hr
  rw [Finset.mem_range] at hr
  simp only [dz_zero _ _ _ _ (show ¬r < t by omega), zero_mul, ite_self]

/-- What a grid point leaves: the gain's row, and the gradients of queries, keys and values of its two sequences. -/
theorem Out.fin {e : Env Ideal} {D0 D1 : Dat} (G : Good e D0 D1) {f10 : BufTy.Contents (Elt Ideal) e.arg10.view.ty} (h10 : Re2 (e.arg10.view.read (Elt Ideal) f10) (fun _ _ => 0) (fun _ _ => 0)) :
    Out e D0 D1 8 f10 (e.st k0_t1_loop.trips) := by
  have h := Out.all G h10 8 (by rw [trips1])
  rw [trips1]; exact h

end Cert.SbIdeal.Tile
-- ==== Proof.SbRefB.lean ====
/- The reference's values on real numbers: the output norm's gradient, and the attention's. -/
module

public import proofs.«01_k».proof.Proof.SbRefF
public import proofs.«01_k».proof.Proof.SbOut

@[expose] public section

set_option maxRecDepth 16384

noncomputable section

namespace Cert.SbRefIdeal.Real

open Idealize.ShloMosaic Idealize.ShloMosaic.TcCoe Idealize.SL.Sem
open Cert.SbRefIdeal Cert.SbRefIdeal.Gen Cert.SbRefIdeal.Read Cert.SbIdeal.Tile

theorem c64 : Ideal.ofBits .f32 0x42800000#32 = ((64 : ℝ) : EReal) := by
  simp [Ideal.ofBits, Ideal.ieee]
  rw [← EReal.coe_mul]
  norm_num

/-- A sum over a lane's own head. -/
theorem own_sum {p e : ℕ} (hp : p < 2) (he : e < 64) (F : ℕ → ℝ) :
    (∑ x ∈ Finset.range 128, if (x < 64 ↔ 64 * p + e < 64) then F x else 0) = ∑ x ∈ Finset.range 64, F (64 * p + x) := by
  rw [show 128 = 64 + 64 from rfl, Finset.sum_range_add]
  obtain rfl | rfl : p = 0 ∨ p = 1 := by omega
  · rw [Finset.sum_eq_zero (s := Finset.range 64) (f := fun x => if (64 + x < 64 ↔ 64 * 0 + e < 64) then F (64 + x) else 0), add_zero]
    · refine Finset.sum_congr rfl fun x hx => ?_
      simp only [Finset.mem_range] at hx
      rw [if_pos (by omega)]; congr 1; omega
    · intro x _
      rw [if_neg (by omega)]
  · rw [Finset.sum_eq_zero (s := Finset.range 64) (f := fun x => if (x < 64 ↔ 64 * 1 + e < 64) then F x else 0), zero_add]
    · refine Finset.sum_congr rfl fun x _ => ?_
      rw [if_pos (by omega)]
    · intro x hx
      simp only [Finset.mem_range] at hx
      rw [if_neg (by omega)]

theorem mse_lane {p e : ℕ} (hp : p < 2) (he : e < 64) (f : ℕ → ℕ → ℝ) (t : ℕ) : mse f t (64 * p + e) = (∑ x ∈ Finset.range 64, f t (64 * p + x) * f t (64 * p + x)) * (1 / 64) + EPS := by
  unfold mse
  rw [own_sum hp he (fun x => f t x * f t x)]

theorem mse_lane0 {p : ℕ} (hp : p < 2) (f : ℕ → ℕ → ℝ) (t : ℕ) : mse f t (64 * p) = (∑ x ∈ Finset.range 64, f t (64 * p + x) * f t (64 * p + x)) * (1 / 64) + EPS :=
  mse_lane hp (by norm_num : 0 < 64) f t

theorem rr_lane {p e : ℕ} (hp : p < 2) (he : e < 64) (f : ℕ → ℕ → ℝ) (t : ℕ) : rr f t (64 * p + e) = rr f t (64 * p) := by
  unfold rr
  rw [mse_lane hp he, mse_lane0 hp]

theorem SS_lane {p e : ℕ} (hp : p < 2) (he : e < 64) (f y : ℕ → ℕ → ℝ) (γ : ℕ → ℝ) (t : ℕ) :
    SS f y γ t (64 * p + e) = (∑ x ∈ Finset.range 64, f t (64 * p + x) * (y t (64 * p + x) * γ (64 * p + x))) * (-1 / 2 * (rr f t (64 * p) * (1 / mse f t (64 * p)))) * (1 / 64) := by
  unfold SS
  rw [own_sum hp he (fun x => f t x * (y t x * γ x) * (-1 / 2 * (rr f t x * (1 / mse f t x))) * (1 / 64)), Finset.sum_mul, Finset.sum_mul]
  refine Finset.sum_congr rfl fun x hx => ?_
  simp only [Finset.mem_range] at hx
  rw [rr_lane hp hx, mse_lane hp hx, mse_lane0 hp]

theorem o_lane (P W : ℕ → ℕ → ℕ → ℝ) (Γ : ℕ → ℝ) (b g t : ℕ) {e : ℕ} (he : e < 64) :
    (dat P W Γ b (g / 2)).o t (64 * (g % 2) + e) = ∑ s ∈ Finset.range 2048, att (Qf P b g) (Kf P b g) t s * Vf P b g s (64 * (g % 2) + e) := by
  unfold dat Qf Kf Vf
  dsimp only
  rw [show (64 * (g % 2) + e) / 64 = g % 2 by omega]

section

variable (x0 : (⟨S4x2048x3328, .f32⟩ : BufTy).Contents (Elt Ideal)) (x1 : (⟨S512, .f32⟩ : BufTy).Contents (Elt Ideal)) (x2 : (⟨S4x2048x1024, .f32⟩ : BufTy).Contents (Elt Ideal))
  (P W : ℕ → ℕ → ℕ → ℝ) (Γ : ℕ → ℝ)
  (h0 : ∀ (b : Fin 4) (t : Fin 2048) (c : Fin 3328), x0 (ix3 b t c) = ((P b.val t.val c.val : ℝ) : EReal))
  (h1 : ∀ c : Fin 512, x1 (ix1 c) = ((Γ c.val : ℝ) : EReal))
  (h2 : ∀ (b : Fin 4) (t : Fin 2048) (c : Fin 1024), x2 (ix3 b t c) = ((W b.val t.val c.val : ℝ) : EReal))

include h0

theorem v29_o : Re4 (val_main_v29 (F := Ideal) x0) (fun b t g e => (dat P W Γ b (g / 2)).o t (64 * (g % 2) + e)) := by
  intro b t g e
  rw [v29_re x0 P h0 b t g e]
  congr 1
  exact (o_lane P W Γ b.val g.val t.val e.isLt).symm

theorem v36_re (b : Fin 4) (t : Fin 2048) (g : Fin 8) : val_main_v36 (F := Ideal) x0 (ix4 b t g (0 : Fin 1)) = ((mse (dat P W Γ b.val (g.val / 2)).o t.val (64 * (g.val % 2)) : ℝ) : EReal) := by
  pointwise [val_main_v36, val_main_v35, val_main_v34, val_main_v33, val_main_v32, val_main_v31, val_main_v30, val_main_cst_2, val_main_cst_3, val_main_cst_4]
  simp only [v29_o x0 P W Γ h0 b t g, c64, eps, ← EReal.coe_mul]
  rw [sum_re (fun x => (dat P W Γ b.val (g.val / 2)).o t.val (64 * (g.val % 2) + x) * (dat P W Γ b.val (g.val / 2)).o t.val (64 * (g.val % 2) + x)),
    Ideal.div_coe (by norm_num : (64 : ℝ) ≠ 0), ← EReal.coe_mul, ← EReal.coe_add, mse_lane0 (Nat.mod_lt _ (by norm_num))]

theorem v37_re (b : Fin 4) (t : Fin 2048) (g : Fin 8) : val_main_v37 (F := Ideal) x0 (ix4 b t g (0 : Fin 1)) = ((rr (dat P W Γ b.val (g.val / 2)).o t.val (64 * (g.val % 2)) : ℝ) : EReal) := by
  pointwise [val_main_v37]
  have hp := mse_pos (dat P W Γ b.val (g.val / 2)).o t.val (64 * (g.val % 2))
  rw [v36_re x0 P W Γ h0, Ideal.rsqrt_coe, if_neg (not_lt.2 hp.le), if_neg hp.ne']
  rfl

theorem v40_re (b : Fin 4) (t : Fin 2048) (g : Fin 8) : val_main_v40 (F := Ideal) x0 (ix4 b t g (0 : Fin 1)) = ((-1 / 2 * (rr (dat P W Γ b.val (g.val / 2)).o t.val (64 * (g.val % 2)) * (1 / mse (dat P W Γ b.val (g.val / 2)).o t.val (64 * (g.val % 2)))) : ℝ) : EReal) := by
  pointwise [val_main_v40, val_main_v39, val_main_v38, val_main_cst_5]
  have hp := mse_pos (dat P W Γ b.val (g.val / 2)).o t.val (64 * (g.val % 2))
  rw [v36_re x0 P W Γ h0, v37_re x0 P W Γ h0, mhalf, Ideal.div_coe hp.ne', ← EReal.coe_mul, ← EReal.coe_mul]

omit h0 in
include h1 h2 in
theorem v54_re : Re4 (val_main_v54 (F := Ideal) x1 x2) (fun b t g e => (dat P W Γ b (g / 2)).w t (64 * (g % 2) + e) * (dat P W Γ b (g / 2)).γ (64 * (g % 2) + e)) := by
  intro b t g e
  pointwise [val_main_v54, val_main_v49, val_main_v48, val_main_v53, val_main_v44, val_main_v43]
  rw [h1, h2, ← EReal.coe_mul]
  unfold dat
  dsimp only
  rw [show 512 + 128 * (g.val / 2) + (64 * (g.val % 2) + e.val) = 512 + (g.val * 64 + e.val) by omega, show 128 * (g.val / 2) + (64 * (g.val % 2) + e.val) = g.val * 64 + e.val by omega]

include h1 h2 in
theorem v66_re : Re4 (val_main_v66 (F := Ideal) x0 x1 x2) (fun b t g e => SS (dat P W Γ b (g / 2)).o (dat P W Γ b (g / 2)).w (dat P W Γ b (g / 2)).γ t (64 * (g % 2) + e)) := by
  intro b t g e
  pointwise [val_main_v66, val_main_v65, val_main_v64, val_main_v63, val_main_v62, val_main_v59, val_main_v58, val_main_v57, val_main_cst_8, val_main_cst_9, val_main_cst_10]
  simp only [Fin.sum_univ_one]
  rw [show (0 : Fin 1) = 0 from rfl, v40_re x0 P W Γ h0]
  simp only [v29_o x0 P W Γ h0 b t g, v54_re x1 x2 P W Γ h1 h2 b t g, ← EReal.coe_mul, c64]
  rw [sum_re (fun x => (dat P W Γ b.val (g.val / 2)).o t.val (64 * (g.val % 2) + x) * ((dat P W Γ b.val (g.val / 2)).w t.val (64 * (g.val % 2) + x) * (dat P W Γ b.val (g.val / 2)).γ (64 * (g.val % 2) + x))),
    Ideal.div_coe (by norm_num : (64 : ℝ) ≠ 0), ← EReal.coe_mul, ← EReal.coe_mul, SS_lane (Nat.mod_lt _ (by norm_num)) e.isLt]

include h1 h2 in
/-- The cotangent of the attention's raw output. -/
theorem v71_re : Re4 (val_main_v71 (F := Ideal) x0 x1 x2) (fun b g t e => (dat P W Γ b (g / 2)).dout t (64 * (g % 2) + e)) := by
  intro b g t e
  pointwise [val_main_v71, val_main_v70, val_main_v69, val_main_v68, val_main_v67, val_main_v61, val_main_v60]
  rw [v29_o x0 P W Γ h0 b t g e, v66_re x0 x1 x2 P W Γ h0 h1 h2 b t g e, v54_re x1 x2 P W Γ h1 h2 b t g e, v37_re x0 P W Γ h0 b t g]
  simp only [← EReal.coe_mul, ← EReal.coe_add]
  congr 1
  unfold Dat.dout doR
  rw [rr_lane (Nat.mod_lt _ (by norm_num)) e.isLt]

omit h0 in
/-- A sum over the first two of four axes. -/
theorem sum_front {n0 n1 n2 n3 : ℕ} (hr : (⟨4, ![n0, n1, n2, n3]⟩ : Shape).ReducesTo [0, 1] ⟨2, ![n2, n3]⟩) (x : (⟨4, ![n0, n1, n2, n3]⟩ : Shape).Idx → EReal) (g : Fin n2) (e : Fin n3) :
    Ideal.hostReduceAdd hr x 0 (ix2 g e) = ∑ a : Fin n0, ∑ b : Fin n1, x (ix4 a b g e) := by
  unfold Ideal.hostReduceAdd
  rw [zero_add, Finset.sum_filter, sum_idx4]
  refine Finset.sum_congr rfl fun a _ => Finset.sum_congr rfl fun b _ => ?_
  have hd : ∀ (c : Fin n2) (d : Fin n3), hr.drop (ix4 a b c d) = ix2 c d := by
    intro c d
    funext i
    fin_cases i <;> rfl
  simp only [hd]
  rw [Finset.sum_eq_single g, Finset.sum_eq_single e]
  · rw [if_pos rfl]
  · intro d _ hde
    rw [if_neg]
    intro h
    exact hde (congrFun h 1)
  · intro h; exact absurd (Finset.mem_univ _) h
  · intro c _ hcg
    refine Finset.sum_eq_zero fun d _ => if_neg ?_
    intro h
    exact hcg (congrFun h 0)
  · intro h; exact absurd (Finset.mem_univ _) h

include h2 in
theorem v51_re (g : Fin 8) (e : Fin 64) : val_main_v51 (F := Ideal) x0 x2 (ix2 g e) = ((∑ b ∈ Finset.range 4, (dat P W Γ b (g.val / 2)).dg 2048 (64 * (g.val % 2) + e.val) : ℝ) : EReal) := by
  pointwise [val_main_v51, val_main_cst_6]
  refine (sum_front _ _ g e).trans ?_
  have hp : g.val % 2 < 2 := Nat.mod_lt _ (by norm_num)
  have e1 : ∀ (a : Fin 4) (b : Fin 2048), val_main_v50 (F := Ideal) x0 x2 (ix4 a b g e) = (((dat P W Γ a.val (g.val / 2)).o b.val (64 * (g.val % 2) + e.val) * rr (dat P W Γ a.val (g.val / 2)).o b.val (64 * (g.val % 2) + e.val) * (dat P W Γ a.val (g.val / 2)).w b.val (64 * (g.val % 2) + e.val) : ℝ) : EReal) := by
    intro a b
    pointwise [val_main_v50, val_main_v49, val_main_v48, val_main_v42, val_main_v41]
    rw [h2, v29_o x0 P W Γ h0 a b g e, v37_re x0 P W Γ h0 a b g, rr_lane hp e.isLt, ← EReal.coe_mul, ← EReal.coe_mul]
    unfold dat
    dsimp only
    rw [show 512 + 128 * (g.val / 2) + (64 * (g.val % 2) + e.val) = 512 + (g.val * 64 + e.val) by omega]
  simp only [e1]
  have e2 : ∀ a : Fin 4, (∑ b : Fin 2048, (((dat P W Γ a.val (g.val / 2)).o b.val (64 * (g.val % 2) + e.val) * rr (dat P W Γ a.val (g.val / 2)).o b.val (64 * (g.val % 2) + e.val) * (dat P W Γ a.val (g.val / 2)).w b.val (64 * (g.val % 2) + e.val) : ℝ) : EReal)) = (((dat P W Γ a.val (g.val / 2)).dg 2048 (64 * (g.val % 2) + e.val) : ℝ) : EReal) := fun a =>
    sum_re (fun b => (dat P W Γ a.val (g.val / 2)).o b (64 * (g.val % 2) + e.val) * rr (dat P W Γ a.val (g.val / 2)).o b (64 * (g.val % 2) + e.val) * (dat P W Γ a.val (g.val / 2)).w b (64 * (g.val % 2) + e.val))
  simp only [e2]
  exact sum_re (fun a => (dat P W Γ a (g.val / 2)).dg 2048 (64 * (g.val % 2) + e.val))

include h2 in
/-- The gain's gradient. -/
theorem v56_re (c : Fin 512) : val_main_v56 (F := Ideal) x0 x2 (ix1 c) = ((∑ b ∈ Finset.range 4, (dat P W Γ b (c.val / 128)).dg 2048 (c.val % 128) : ℝ) : EReal) := by
  pointwise [val_main_v56, val_main_v55, val_main_v52, val_main_cst_7]
  refine (sum_front _ _ _ _).trans ?_
  simp only [Fin.sum_univ_one]
  pointwise
  rw [v51_re x0 x2 P W Γ h0 h2]
  dsimp only
  rw [show c.val / 64 / 2 = c.val / 128 by omega, show 64 * (c.val / 64 % 2) + c.val % 64 = c.val % 128 by omega]

/-- A head's part of the cotangent of the attention's raw output. -/
def Df (P W : ℕ → ℕ → ℕ → ℝ) (Γ : ℕ → ℝ) (b g : ℕ) : ℕ → ℕ → ℝ := hM (g % 2) (dat P W Γ b (g / 2)).dout

include h1 h2 in
theorem v74_re : Re4 (val_main_v74 (F := Ideal) x0 x1 x2) (fun b g t s => zz (Df P W Γ b g) (Vf P b g) t s) := by
  intro b g t s
  pointwise [val_main_v74]
  simp only [v71_re x0 x1 x2 P W Γ h0 h1 h2 b g t, v9_re x0 P h0 b g s, ← EReal.coe_mul]
  rw [sum_re (fun e => (dat P W Γ b.val (g.val / 2)).dout t.val (64 * (g.val % 2) + e) * P b.val s.val (2816 + 64 * g.val + e))]
  congr 1
  have e := head_sum (Nat.mod_lt g.val (by norm_num : 0 < 2)) (dat P W Γ b.val (g.val / 2)).dout (Vf P b.val g.val) t.val s.val
  refine Eq.trans ?_ e.symm
  refine Finset.sum_congr rfl fun e _ => ?_
  unfold Vf
  rw [show 2816 + 128 * (g.val / 2) + (64 * (g.val % 2) + e) = 2816 + 64 * g.val + e by omega]

include h1 h2 in
theorem v76_re : Re4 (val_main_v76 (F := Ideal) x0 x1 x2) (fun b g t s => gg (Qf P b g) (Kf P b g) (Vf P b g) (Df P W Γ b g) t s) := by
  intro b g t s
  pointwise [val_main_v76, val_main_v75, val_main_v27_1, val_main_v19, val_main_v18, val_main_v17, val_main_v16, val_main_v15, val_main_v14, val_main_v13, val_main_call4_v0, val_main_call4_cst]
  rw [lt_word32, v26_re x0 P h0 b g t s, v74_re x0 x1 x2 P W Γ h0 h1 h2 b g t s]
  dsimp only
  unfold gg
  by_cases h : s.val < t.val
  · rw [if_pos h, att_eq h, EReal.coe_mul]
    rfl
  · rw [if_neg h, att_zero _ _ h]
    show (0 : EReal) = _
    rw [mul_zero, EReal.coe_zero]

omit h0 in
theorem call5_zero (i : S_.Idx) : val_main_call5_v0 (F := Ideal) i = 0 := by
  show Ideal.ofBits .f32 0x00000000#32 = 0
  rw [Ideal.ofBits_zero]

include h1 h2 in
theorem v78_re : Re4 (val_main_v78 (F := Ideal) x0 x1 x2) (fun b g t s => cc (Qf P b g) (Kf P b g) (Vf P b g) (Df P W Γ b g) t s) := by
  unfold val_main_v78
  exact cumsum_left (v76_re x0 x1 x2 P W Γ h0 h1 h2) _ call5_zero _ _

include h1 h2 in
/-- The cotangent of the logits, scaled. -/
theorem v86_re : Re4 (val_main_v86 (F := Ideal) x0 x1 x2) (fun b g t s => dz (Qf P b g) (Kf P b g) (Vf P b g) (Df P W Γ b g) t s * (1 / 8)) := by
  intro b g t s
  pointwise [val_main_v86, val_main_v85, val_main_cst_11, val_main_v84, val_main_v83, val_main_call7_v1, val_main_call7_v0, val_main_v82, val_main_v81, val_main_v80, val_main_v79, val_main_v77, val_main_v22_1, val_main_v19, val_main_v18, val_main_v17, val_main_v16, val_main_v15, val_main_v14, val_main_v13, val_main_call6_v0, val_main_call6_cst]
  rw [lt_word32, v76_re x0 x1 x2 P W Γ h0 h1 h2 b g t s, v78_re x0 x1 x2 P W Γ h0 h1 h2 b g t s, sig_re x0 P h0 b g t s, eighth]
  dsimp only
  have hs : Scalar.select (if s.val < t.val then 1#1 else 0#1)
      (-((gg (Qf P b.val g.val) (Kf P b.val g.val) (Vf P b.val g.val) (Df P W Γ b.val g.val) t.val s.val : ℝ) : EReal) +
        ((cc (Qf P b.val g.val) (Kf P b.val g.val) (Vf P b.val g.val) (Df P W Γ b.val g.val) t.val s.val : ℝ) : EReal)) (0 : EReal) =
      ((if s.val < t.val then -gg (Qf P b.val g.val) (Kf P b.val g.val) (Vf P b.val g.val) (Df P W Γ b.val g.val) t.val s.val +
        cc (Qf P b.val g.val) (Kf P b.val g.val) (Vf P b.val g.val) (Df P W Γ b.val g.val) t.val s.val else 0 : ℝ) : EReal) := by
    by_cases h : s.val < t.val
    · rw [if_pos h, if_pos h, EReal.coe_add, EReal.coe_neg]
      rfl
    · rw [if_neg h, if_neg h, EReal.coe_zero]
      rfl
  rw [hs, ← EReal.coe_neg, ← EReal.coe_add, ← EReal.coe_neg, ← EReal.coe_mul, ← EReal.coe_neg, ← EReal.coe_add, ← EReal.coe_mul]
  congr 2
  have e := sig_add (zz (Qf P b.val g.val) (Kf P b.val g.val) t.val s.val)
  unfold dz
  rw [eq_sub_of_add_eq e]
  by_cases h : s.val < t.val
  · rw [if_pos h, if_pos h]
    ring
  · rw [if_neg h, if_neg h]
    unfold gg
    rw [att_zero _ _ h]
    ring

omit h0 in
/-- A head's part of the arrays, where its pair holds the first or the second half. -/
theorem Qf_lane (b g : ℕ) : Qf P b g = if g % 2 = 0 then (dat P W Γ b (g / 2)).Ql else (dat P W Γ b (g / 2)).Qh := by
  split_ifs with h <;> funext t d <;> unfold Qf hM <;> simp only [h, if_true, if_false] <;> rfl
omit h0 in
theorem Df_lane (b g : ℕ) : Df P W Γ b g = if g % 2 = 0 then (dat P W Γ b (g / 2)).Dl else (dat P W Γ b (g / 2)).Dh := by
  split_ifs with h <;> funext t d <;> unfold Df hM <;> simp only [h, if_true, if_false] <;> rfl

omit h0 in
theorem dq_lane (b g t : ℕ) {e : ℕ} (he : e < 64) : (dat P W Γ b (g / 2)).dq 2048 t (64 * (g % 2) + e) =
    ∑ r ∈ Finset.range 2048, dz (Qf P b g) (Kf P b g) (Vf P b g) (Df P W Γ b g) t r * Kf P b g r (64 * (g % 2) + e) := by
  unfold Dat.dq
  refine Finset.sum_congr rfl fun r _ => ?_
  rw [Qf_lane P W Γ, Df_lane]
  by_cases h : g % 2 = 0
  · rw [if_pos h, if_pos h, if_pos (by omega)]; rfl
  · rw [if_neg h, if_neg h, if_neg (by omega)]; rfl

omit h0 in
theorem dk_lane (b g s : ℕ) {e : ℕ} (he : e < 64) : (dat P W Γ b (g / 2)).dk 2048 s (64 * (g % 2) + e) =
    ∑ t ∈ Finset.range 2048, dz (Qf P b g) (Kf P b g) (Vf P b g) (Df P W Γ b g) t s * ((dat P W Γ b (g / 2)).q t (64 * (g % 2) + e) * (1 / 8)) := by
  unfold Dat.dk
  refine Finset.sum_congr rfl fun t _ => ?_
  rw [Qf_lane P W Γ, Df_lane]
  by_cases h : g % 2 = 0
  · have : 64 * (g % 2) + e < 64 := by omega
    rw [if_pos h, if_pos h, Dat.Ql, Dat.Qh, if_pos this, if_pos this, mul_zero, zero_add]; rfl
  · have : ¬ 64 * (g % 2) + e < 64 := by omega
    rw [if_neg h, if_neg h, Dat.Ql, Dat.Qh, if_neg this, if_neg this, mul_zero, add_zero]; rfl

omit h0 in
theorem dv_lane (b g s : ℕ) {e : ℕ} (he : e < 64) : (dat P W Γ b (g / 2)).dv 2048 s (64 * (g % 2) + e) =
    ∑ t ∈ Finset.range 2048, att (Qf P b g) (Kf P b g) t s * (dat P W Γ b (g / 2)).dout t (64 * (g % 2) + e) := by
  unfold Dat.dv
  refine Finset.sum_congr rfl fun t _ => ?_
  rw [Qf_lane P W Γ]
  by_cases h : g % 2 = 0
  · have : 64 * (g % 2) + e < 64 := by omega
    rw [if_pos h, Dat.Dl, Dat.Dh, if_pos this, if_pos this, mul_zero, zero_add]; rfl
  · have : ¬ 64 * (g % 2) + e < 64 := by omega
    rw [if_neg h, Dat.Dl, Dat.Dh, if_neg this, if_neg this, mul_zero, add_zero]; rfl

include h1 h2 in
/-- The queries' gradient. -/
theorem v94_re (b : Fin 4) (t : Fin 2048) (c : Fin 512) : val_main_v94 (F := Ideal) x0 x1 x2 (ix3 b t c) = (((dat P W Γ b.val (c.val / 128)).dq 2048 t.val (c.val % 128) * (1 / 8) : ℝ) : EReal) := by
  pointwise [val_main_v94, val_main_v93, val_main_v88]
  have e1 := dq_lane P W Γ b.val (c.val / 64) t.val (Nat.mod_lt c.val (by norm_num : 0 < 64))
  rw [show c.val / 64 / 2 = c.val / 128 by omega, show 64 * (c.val / 64 % 2) + c.val % 64 = c.val % 128 by omega] at e1
  rw [e1]
  simp only [v86_re x0 x1 x2 P W Γ h0 h1 h2 b _ t, v7_re x0 P h0 b _ _ _, ← EReal.coe_mul]
  rw [sum_re (fun x => dz (Qf P b.val (c.val / 64)) (Kf P b.val (c.val / 64)) (Vf P b.val (c.val / 64)) (Df P W Γ b.val (c.val / 64)) t.val x * (1 / 8) * P b.val x (2304 + 64 * (c.val / 64) + c.val % 64))]
  congr 1
  rw [Finset.sum_mul]
  refine Finset.sum_congr rfl fun x _ => ?_
  unfold Kf
  rw [show 2304 + 128 * (c.val / 64 / 2) + c.val % 128 = 2304 + 64 * (c.val / 64) + c.val % 64 by omega]
  ring

include h1 h2 in
/-- The keys' gradient. -/
theorem v92_re (b : Fin 4) (t : Fin 2048) (c : Fin 512) : val_main_v92 (F := Ideal) x0 x1 x2 (ix3 b t c) = (((dat P W Γ b.val (c.val / 128)).dk 2048 t.val (c.val % 128) : ℝ) : EReal) := by
  pointwise [val_main_v92, val_main_v91, val_main_v87]
  have e1 := dk_lane P W Γ b.val (c.val / 64) t.val (Nat.mod_lt c.val (by norm_num : 0 < 64))
  rw [show c.val / 64 / 2 = c.val / 128 by omega, show 64 * (c.val / 64 % 2) + c.val % 64 = c.val % 128 by omega] at e1
  rw [e1]
  simp only [v86_re x0 x1 x2 P W Γ h0 h1 h2 b _ _ t, v5_re x0 P h0 b _ _ _, ← EReal.coe_mul]
  rw [sum_re (fun x => dz (Qf P b.val (c.val / 64)) (Kf P b.val (c.val / 64)) (Vf P b.val (c.val / 64)) (Df P W Γ b.val (c.val / 64)) x t.val * (1 / 8) * P b.val x (1792 + 64 * (c.val / 64) + c.val % 64))]
  congr 1
  refine Finset.sum_congr rfl fun x _ => ?_
  unfold dat
  dsimp only
  rw [show 1792 + 128 * (c.val / 128) + c.val % 128 = 1792 + 64 * (c.val / 64) + c.val % 64 by omega]
  ring

include h1 h2 in
/-- The values' gradient. -/
theorem v90_re (b : Fin 4) (t : Fin 2048) (c : Fin 512) : val_main_v90 (F := Ideal) x0 x1 x2 (ix3 b t c) = (((dat P W Γ b.val (c.val / 128)).dv 2048 t.val (c.val % 128) : ℝ) : EReal) := by
  pointwise [val_main_v90, val_main_v89, val_main_v73, val_main_v72]
  have e1 := dv_lane P W Γ b.val (c.val / 64) t.val (Nat.mod_lt c.val (by norm_num : 0 < 64))
  rw [show c.val / 64 / 2 = c.val / 128 by omega, show 64 * (c.val / 64 % 2) + c.val % 64 = c.val % 128 by omega] at e1
  rw [e1]
  simp only [v71_re x0 x1 x2 P W Γ h0 h1 h2 b _ _ _, v27_re x0 P h0 b _ _ t, ← EReal.coe_mul]
  rw [sum_re (fun x => (dat P W Γ b.val (c.val / 64 / 2)).dout x (64 * (c.val / 64 % 2) + c.val % 64) * att (Qf P b.val (c.val / 64)) (Kf P b.val (c.val / 64)) x t.val)]
  congr 1
  refine Finset.sum_congr rfl fun x _ => ?_
  rw [show c.val / 64 / 2 = c.val / 128 by omega, show 64 * (c.val / 64 % 2) + c.val % 64 = c.val % 128 by omega]
  ring

end

end Cert.SbRefIdeal.Real
-- ==== Proof.SbFrame.lean ====
/- The frame of the stick-breaking backward call: the proof data of its pipeline, the body at every grid point,
   the launch. -/
module

public import proofs.«01_k».proof.Proof.SbBody
public import Idealize.ShloMosaic.Lib.Claim
public import Idealize.ShloMosaic.Lib.Pipeline.TableIdle
public import Idealize.ShloMosaic.Lib.VecWindow
public import Idealize.ShloMosaic.Lib.WholeRead
public import proofs.«01_k».proof.Proof.Gen.SbIdeal.Frame
public import Idealize.ShloMosaic.Lib.LoopRemainder

@[expose] public section

set_option maxRecDepth 16384
set_option maxHeartbeats 1000000

noncomputable section

namespace Cert.SbIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SbIdeal.Gen

variable {F : FTy → Type} [FloatOps F] [Named F]

local notation "𝕄G" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-! ## The branch conditions and the gain gradient's window -/

theorem cond_first : ∀ t : Fin cfg0.N, k0_cond1 (grid0.coords t) = 1#1 ↔ t.val % 2 = 0 :=
  (by decide +kernel : ∀ t : Fin grid0.N, k0_cond1 (grid0.coords t) = 1#1 ↔ t.val % 2 = 0)
theorem cond_later : ∀ t : Fin cfg0.N, k0_cond2 (grid0.coords t) = 1#1 ↔ ¬t.val % 2 = 0 :=
  (by decide +kernel : ∀ t : Fin grid0.N, k0_cond2 (grid0.coords t) = 1#1 ↔ ¬t.val % 2 = 0)

theorem live : ∀ (w : Fin cfg0.W) (t : Fin cfg0.N), cfg0.idle w (grid0.coords t) = false := by decide +kernel

/-- Whether the gain gradient's buffer holds nothing yet: at the points with an even number. -/
def freshTab (n : ℕ) : Bool := n % 2 == 0
theorem freshTab_step : ∀ t : Fin cfg0.N,
    freshTab (t.val + 1) = ((cfg0.win 11).flush t || (cfg0.idle 11 (cfg0.grid.coords t) && freshTab t.val)) := by decide +kernel
theorem fresh_eq (t : Fin cfg0.N) : cfg0.fresh 11 t.val = freshTab t.val :=
  Pipeline.Cfg.fresh_tab cfg0 11 freshTab rfl freshTab_step t.val (Nat.le_of_lt t.isLt)
theorem not_fresh (t : Fin cfg0.N) (h : ¬t.val % 2 = 0) : cfg0.fresh 11 t.val = false := by
  rw [fresh_eq]; exact beq_false_of_ne h

/-! ## The memrefs of a point -/
abbrev ms0 (t : Fin cfg0.N) : Memref sig .tc .vmem S2x2048x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x2048x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x2048x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x2048x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x2048x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .smem S2x4x8 .i32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x2048x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2x2048x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2x2048x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128 .f32 := win0_11.stage (cfg0.slots t 11)
abbrev hs11 (t : Fin cfg0.N) : (ms11 t).IsWhole := hstage0_11 ((cfg0.slots t 11).cast nbuf0_11)

/-- The table of first blocks is all zero: no block of keys is skipped. -/
theorem first_zero (c : Dev nD) (t : Fin cfg0.N) (j : S2x4x8.Idx) : iblk m c 7 t j = 0#32 := by
  have e : V m c main_v35 = fun _ => (0#32 : Elt F .i32) := by entry_read; rfl
  unfold iblk
  have h := congrArg (fun f => ((cfg0.win 7).blk t).view.read (Elt F) f j) e
  exact h

/-- What the query loop leaves at a point. -/
def finAt (c : Dev nD) (t : Fin cfg0.N) : St F :=
  fin c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (iblk m c 0 t) (iblk m c 1 t) (iblk m c 2 t) (iblk m c 3 t) (iblk m c 4 t) (iblk m c 5 t) (iblk m c 6 t) (iblk m c 7 t) (first_zero m c t)

theorem cover (c : Dev nD) (t : Fin cfg0.N) (y : S2x2048x128.Idx) : ∃ p ∈ (finAt m c t).2.1, y ∈ p.1.set :=
  View.cover_of_tiledL (finAt m c t).2.1 S1x256x128.size (by sl_kernel_rfl) y

/-- The query gradient's block at a point. -/
def qAt (c : Dev nD) (t : Fin cfg0.N) : Vec F S2x2048x128 .f32 :=
  (ms8 t).view.read (Elt F) ((ms8 t).view.writes (Elt F) (ms8 t).view.junk (finAt m c t).2.1)
/-- The key gradient's block at a point. -/
def kAt (c : Dev nD) (t : Fin cfg0.N) : Vec F S2x2048x128 .f32 := outK c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (iblk m c 0 t) (iblk m c 1 t) (iblk m c 2 t) (iblk m c 3 t) (iblk m c 4 t) (iblk m c 5 t) (iblk m c 6 t) (iblk m c 7 t) (first_zero m c t)
/-- The value gradient's block at a point. -/
def vAt (c : Dev nD) (t : Fin cfg0.N) : Vec F S2x2048x128 .f32 := outV c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (iblk m c 0 t) (iblk m c 1 t) (iblk m c 2 t) (iblk m c 3 t) (iblk m c 4 t) (iblk m c 5 t) (iblk m c 6 t) (iblk m c 7 t) (first_zero m c t)

/-- The gain gradient's row after a point: at an even point what its loop leaves, at an odd one that added to the row before. -/
def gAt (c : Dev nD) : (n : ℕ) → n < cfg0.N → Vec F S1x128 .f32
  | 0, hn => (finAt m c ⟨0, hn⟩).1
  | n + 1, hn => if (n + 1) % 2 = 0 then (finAt m c ⟨n + 1, hn⟩).1 else k0_pay9 (finAt m c ⟨n + 1, hn⟩).1 (gAt c n (Nat.lt_of_succ_lt hn))

theorem gAt_even (c : Dev nD) (t : Fin cfg0.N) (h : t.val % 2 = 0) : gAt m c t.val t.isLt = (finAt m c t).1 := by
  obtain ⟨n, hn⟩ := t
  cases n with
  | zero => rfl
  | succ n => exact if_pos h
theorem gAt_odd (c : Dev nD) (t : Fin cfg0.N) (h : ¬t.val % 2 = 0) :
    gAt m c t.val t.isLt = k0_pay9 (finAt m c t).1 (gAt m c (t.val - 1) (Nat.lt_of_le_of_lt (Nat.sub_le _ _) t.isLt)) := by
  obtain ⟨n, hn⟩ := t
  cases n with
  | zero => exact absurd rfl h
  | succ n => exact if_neg h

/-! ## The proof data -/

/-- The arrays as the region finds them; each input's buffer at its block, each output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => qAt m c t
    | ⟨9, _⟩ => kAt m c t
    | ⟨10, _⟩ => vAt m c t
    | ⟨11, _⟩ => gAt m c t.val t.isLt
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = qAt m c t := by dsimp only [dats]
theorem after_9 (c : Dev nD) (t : Fin cfg0.N) : (dats m 0 c).after 9 t = kAt m c t := by dsimp only [dats]
theorem after_10 (c : Dev nD) (t : Fin cfg0.N) : (dats m 0 c).after 10 t = vAt m c t := by dsimp only [dats]
theorem after_11 (c : Dev nD) (t : Fin cfg0.N) : (dats m 0 c).after 11 t = gAt m c t.val t.isLt := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- At an odd point the gain gradient's buffer holds the row the point before left. -/
theorem before_11 (c : Dev nD) (t : Fin cfg0.N) (h : ¬t.val % 2 = 0) (d) :
    (dats m 0 c).before 11 t d = gAt m c (t.val - 1) (Nat.lt_of_le_of_lt (Nat.sub_le _ _) t.isLt) := by
  rw [Dat.before_out_traj _ 11 rfl (fun _ _ => rfl)
    (fun t _ hi _ => absurd ((live 11 t).symm.trans hi) Bool.false_ne_true) t.val t rfl d,
    if_neg (by rw [not_fresh t h]; exact Bool.false_ne_true)]
  dsimp only [dats]

/-! ## The body at a point -/

/-- What the body is called with. -/
def bodyPre (c : Dev nD) (t : Fin cfg0.N) : sProp 𝕄G :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))
/-- What it returns. -/
def bodyPost (c : Dev nD) (t : Fin cfg0.N) : sProp 𝕄G :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live 0 t], after_0]
  rw [show (dats m 0 c).leavesExact 1 t = owns (c : Thread nD τ) (ms1 t) fullShare ((dats m 0 c).after 1 t) from by
    unfold Dat.leavesExact; rw [live 1 t], after_1]
  rw [show (dats m 0 c).leavesExact 2 t = owns (c : Thread nD τ) (ms2 t) fullShare ((dats m 0 c).after 2 t) from by
    unfold Dat.leavesExact; rw [live 2 t], after_2]
  rw [show (dats m 0 c).leavesExact 3 t = owns (c : Thread nD τ) (ms3 t) fullShare ((dats m 0 c).after 3 t) from by
    unfold Dat.leavesExact; rw [live 3 t], after_3]
  rw [show (dats m 0 c).leavesExact 4 t = owns (c : Thread nD τ) (ms4 t) fullShare ((dats m 0 c).after 4 t) from by
    unfold Dat.leavesExact; rw [live 4 t], after_4]
  rw [show (dats m 0 c).leavesExact 5 t = owns (c : Thread nD τ) (ms5 t) fullShare ((dats m 0 c).after 5 t) from by
    unfold Dat.leavesExact; rw [live 5 t], after_5]
  rw [show (dats m 0 c).leavesExact 6 t = owns (c : Thread nD τ) (ms6 t) fullShare ((dats m 0 c).after 6 t) from by
    unfold Dat.leavesExact; rw [live 6 t], after_6]
  rw [show (dats m 0 c).leavesExact 7 t = owns (c : Thread nD τ) (ms7 t) fullShare ((dats m 0 c).after 7 t) from by
    unfold Dat.leavesExact; rw [live 7 t], after_7]
  rw [show (dats m 0 c).leavesExact 8 t = owns (c : Thread nD τ) (ms8 t) fullShare ((dats m 0 c).after 8 t) from by
    unfold Dat.leavesExact; rw [live 8 t], after_8]
  rw [show (dats m 0 c).leavesExact 9 t = owns (c : Thread nD τ) (ms9 t) fullShare ((dats m 0 c).after 9 t) from by
    unfold Dat.leavesExact; rw [live 9 t], after_9]
  rw [show (dats m 0 c).leavesExact 10 t = owns (c : Thread nD τ) (ms10 t) fullShare ((dats m 0 c).after 10 t) from by
    unfold Dat.leavesExact; rw [live 10 t], after_10]
  rw [show (dats m 0 c).leavesExact 11 t = owns (c : Thread nD τ) (ms11 t) fullShare ((dats m 0 c).after 11 t) from by
    unfold Dat.leavesExact; rw [live 11 t], after_11]
  by_cases h : t.val % 2 = 0
  · rw [gAt_even m c t h]
    unfold qAt kAt vAt finAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (bodyA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (iblk m c 0 t) (iblk m c 1 t) (iblk m c 2 t) (iblk m c 3 t) (iblk m c 4 t) (iblk m c 5 t) (iblk m c 6 t) (iblk m c 7 t) (first_zero m c t) ((cond_first t).mpr h) (fun h' => (cond_later t).mp h' h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, ⟨%e8, H8⟩, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover m c t)
    isplitl [H9]; · iexact H9
    isplitl [H10]; · iexact H10
    iexact H11
  · rw [gAt_odd m c t h]
    simp only [before_11 m c t h]
    unfold qAt kAt vAt finAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (bodyB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (iblk m c 0 t) (iblk m c 1 t) (iblk m c 2 t) (iblk m c 3 t) (iblk m c 4 t) (iblk m c 5 t) (iblk m c 6 t) (iblk m c 7 t) (first_zero m c t) (fun h' => h ((cond_first t).mp h')) ((cond_later t).mpr h) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    iintro ⟨H0, H1, H2, H3, H4, H5, H6, H7, ⟨%e8, H8⟩, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover m c t)
    isplitl [H9]; · iexact H9
    isplitl [H10]; · iexact H10
    iexact H11

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run and the frame -/

set_option backward.isDefEq.respectTransparency.types false in
/-- The launch: every array of the pipeline ends at what the proof data say, every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun c w _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged and every counter at zero. -/
theorem frame_sb : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.SbIdeal.Run
-- ==== Proof.SbEntry.lean ====
/- What the host's forward lines leave for the stick-breaking backward call, as terms of the arguments. -/
module

public import proofs.«01_k».proof.Proof.SbRefB
public import proofs.«01_k».proof.Proof.SbFrame
public import Idealize.ShloMosaic.Lib.Pipeline.ValueKit

@[expose] public section

set_option maxRecDepth 16384

noncomputable section

namespace Cert.SbIdeal.Value

open Idealize.ShloMosaic Idealize.ShloMosaic.TcCoe Idealize.SL.Sem
open Idealize.ShloMosaic.Pipeline (Dat)
open Cert.SbIdeal Cert.SbIdeal.Gen Cert.SbIdeal.Tile Cert.SbIdeal.Run
open Cert.SbRefIdeal.Read Cert.SbRefIdeal.Real

variable (m : (ℓ : Loc nD τ sig) → Buf (Elt Ideal) ℓ)

theorem v37_eq (c : Dev nD) : V m c main_v37 = shapeCast S4x2048x512 (val_main_v29 (F := Ideal) (m ((c : Thread nD τ).loc main_arg0))) shapeCasts_S4x2048x8x64_S4x2048x512 := by
  entry_read; rfl

theorem v34_eq (c : Dev nD) : V m c main_v34 = (shapeCast S4x2048x512 (broadcastInDim S4x2048x8x64 ![0, 1, 2, 3] bcast_S4x2048x8x1_S4x2048x8x64_0_1_2_3 (broadcastInDim S4x2048x8x1 ![0, 1, 2] bcast_S4x2048x8_S4x2048x8x1_0_1_2
    (transpose S4x2048x8 [0, 2, 1] (Host.reduceAdd (F := Ideal) (φ := .f32) (val_main_v22_0 (F := Ideal) (m ((c : Thread nD τ).loc main_arg0))) (constant S_ .f32 0x00000000#32) reducesTo_S4x8x2048x2048_S4x8x2048_d3 h_S_) transposes_S4x8x2048_S4x2048x8_0_2_1))) shapeCasts_S4x2048x8x64_S4x2048x512 : FVec Ideal S4x2048x512 .f32) := by
  entry_read; rfl

theorem v36_eq (c : Dev nD) : V m c main_v36 = shapeCast S1x512 (m ((c : Thread nD τ).loc main_arg1)) shapeCasts_S512_S1x512 := by
  entry_read; rfl

end Cert.SbIdeal.Value
-- ==== Proof.SbHost.lean ====
/- The operands of the stick-breaking backward call at a grid point, on real numbers: the three blocks of the projection, the
   gain, the output's cotangent, and the raw output and the logs' sums that the host's forward lines make. -/
module

public import proofs.«01_k».proof.Proof.SbRefB
public import proofs.«01_k».proof.Proof.SbFrame
public import proofs.«01_k».proof.Proof.SbEntry
public import Idealize.ShloMosaic.Lib.Pipeline.ValueKit

@[expose] public section

set_option maxRecDepth 16384

noncomputable section

namespace Cert.SbIdeal.Value

open Idealize.ShloMosaic Idealize.ShloMosaic.TcCoe Idealize.SL.Sem
open Idealize.ShloMosaic.Pipeline (Dat)
open Cert.SbIdeal Cert.SbIdeal.Gen Cert.SbIdeal.Tile Cert.SbIdeal.Run
open Cert.SbRefIdeal.Read Cert.SbRefIdeal.Real

variable (m : (ℓ : Loc nD τ sig) → Buf (Elt Ideal) ℓ)

/-- Every window's block index at every grid point. -/
theorem idx_val : ∀ t : Fin cfg0.N, win0_0.index t = ![t.val % 2, 0, 14 + t.val / 2]
    ∧ win0_1.index t = ![t.val % 2, 0, 18 + t.val / 2]
    ∧ win0_2.index t = ![t.val % 2, 0, 22 + t.val / 2]
    ∧ win0_3.index t = ![0, t.val / 2]
    ∧ win0_4.index t = ![t.val % 2, 0, t.val / 2]
    ∧ win0_5.index t = ![t.val % 2, 0, t.val / 2]
    ∧ win0_6.index t = ![t.val % 2, 0, 4 + t.val / 2]
    ∧ win0_8.index t = ![t.val % 2, 0, t.val / 2]
    ∧ win0_9.index t = ![t.val % 2, 0, t.val / 2]
    ∧ win0_10.index t = ![t.val % 2, 0, t.val / 2]
    ∧ win0_11.index t = ![0, t.val / 2] :=
  (by decide +kernel : ∀ t : Fin grid0.N, _)

variable (c : Dev nD) (t : Fin cfg0.N)

/-! ### A window's block of any array -/

theorem read0 (X : BufTy.Contents (Elt Ideal) ⟨S4x2048x3328, .f32⟩) (r : Fin 2) (u : Fin 2048) (d : Fin 128) :
    ((cfg0.win 0).blk t).view.read (Elt Ideal) X (ix3 r u d) = X (ix3 (⟨2 * (t.val % 2) + r.val, by omega⟩ : Fin 4) u (⟨1792 + 128 * (t.val / 2) + d.val, by have := lt_of_lt_of_eq t.isLt N_0; omega⟩ : Fin 3328)) := by
  blk_point [idx_val t]

theorem read1 (X : BufTy.Contents (Elt Ideal) ⟨S4x2048x3328, .f32⟩) (r : Fin 2) (u : Fin 2048) (d : Fin 128) :
    ((cfg0.win 1).blk t).view.read (Elt Ideal) X (ix3 r u d) = X (ix3 (⟨2 * (t.val % 2) + r.val, by omega⟩ : Fin 4) u (⟨2304 + 128 * (t.val / 2) + d.val, by have := lt_of_lt_of_eq t.isLt N_0; omega⟩ : Fin 3328)) := by
  blk_point [idx_val t]

theorem read2 (X : BufTy.Contents (Elt Ideal) ⟨S4x2048x3328, .f32⟩) (r : Fin 2) (u : Fin 2048) (d : Fin 128) :
    ((cfg0.win 2).blk t).view.read (Elt Ideal) X (ix3 r u d) = X (ix3 (⟨2 * (t.val % 2) + r.val, by omega⟩ : Fin 4) u (⟨2816 + 128 * (t.val / 2) + d.val, by have := lt_of_lt_of_eq t.isLt N_0; omega⟩ : Fin 3328)) := by
  blk_point [idx_val t]

theorem read3 (X : BufTy.Contents (Elt Ideal) ⟨S1x512, .f32⟩) (d : Fin 128) :
    ((cfg0.win 3).blk t).view.read (Elt Ideal) X (ix2 0 d) = X (ix2 (0 : Fin 1) (⟨128 * (t.val / 2) + d.val, by have := lt_of_lt_of_eq t.isLt N_0; omega⟩ : Fin 512)) := by
  blk_point [idx_val t]

theorem read4 (X : BufTy.Contents (Elt Ideal) ⟨S4x2048x512, .f32⟩) (r : Fin 2) (u : Fin 2048) (d : Fin 128) :
    ((cfg0.win 4).blk t).view.read (Elt Ideal) X (ix3 r u d) = X (ix3 (⟨2 * (t.val % 2) + r.val, by omega⟩ : Fin 4) u (⟨128 * (t.val / 2) + d.val, by have := lt_of_lt_of_eq t.isLt N_0; omega⟩ : Fin 512)) := by
  blk_point [idx_val t]

theorem read5 (X : BufTy.Contents (Elt Ideal) ⟨S4x2048x512, .f32⟩) (r : Fin 2) (u : Fin 2048) (d : Fin 128) :
    ((cfg0.win 5).blk t).view.read (Elt Ideal) X (ix3 r u d) = X (ix3 (⟨2 * (t.val % 2) + r.val, by omega⟩ : Fin 4) u (⟨128 * (t.val / 2) + d.val, by have := lt_of_lt_of_eq t.isLt N_0; omega⟩ : Fin 512)) := by
  blk_point [idx_val t]

theorem read6 (X : BufTy.Contents (Elt Ideal) ⟨S4x2048x1024, .f32⟩) (r : Fin 2) (u : Fin 2048) (d : Fin 128) :
    ((cfg0.win 6).blk t).view.read (Elt Ideal) X (ix3 r u d) = X (ix3 (⟨2 * (t.val % 2) + r.val, by omega⟩ : Fin 4) u (⟨512 + 128 * (t.val / 2) + d.val, by have := lt_of_lt_of_eq t.isLt N_0; omega⟩ : Fin 1024)) := by
  blk_point [idx_val t]

theorem Re2.of {x : S2x2048x128.Idx → EReal} (f : ℕ → ℕ → ℕ → ℝ) (h : ∀ (r : Fin 2) (u : Fin 2048) (d : Fin 128), x (ix3 r u d) = ((f r.val u.val d.val : ℝ) : EReal)) : Re2 x (f 0) (f 1) :=
  fun u d => ⟨h 0 u d, h 1 u d⟩

/-! ### The operands on real numbers -/

section

variable (P W : ℕ → ℕ → ℕ → ℝ) (Γ : ℕ → ℝ)
  (h0 : ∀ (b : Fin 4) (u : Fin 2048) (k : Fin 3328), m ((c : Thread nD τ).loc main_arg0) (ix3 b u k) = ((P b.val u.val k.val : ℝ) : EReal))
  (h1 : ∀ k : Fin 512, m ((c : Thread nD τ).loc main_arg1) (ix1 k) = ((Γ k.val : ℝ) : EReal))
  (h2 : ∀ (b : Fin 4) (u : Fin 2048) (k : Fin 1024), m ((c : Thread nD τ).loc main_arg2) (ix3 b u k) = ((W b.val u.val k.val : ℝ) : EReal))

/-- The sequence at row `r` of the blocks of a point. -/
def D (r : ℕ) : Dat := dat P W Γ (2 * (t.val % 2) + r) (t.val / 2)

include h0 in
theorem op0 : Re2 (iblk m c 0 t) (D t P W Γ 0).q (D t P W Γ 1).q := by
  refine Re2.of (fun r => (D t P W Γ r).q) fun r u d => ?_
  refine (read0 t (m ((c : Thread nD τ).loc main_arg0)) r u d).trans ?_
  rw [h0]; rfl

include h0 in
theorem op1 : Re2 (iblk m c 1 t) (D t P W Γ 0).k (D t P W Γ 1).k := by
  refine Re2.of (fun r => (D t P W Γ r).k) fun r u d => ?_
  refine (read1 t (m ((c : Thread nD τ).loc main_arg0)) r u d).trans ?_
  rw [h0]; rfl

include h0 in
theorem op2 : Re2 (iblk m c 2 t) (D t P W Γ 0).v (D t P W Γ 1).v := by
  refine Re2.of (fun r => (D t P W Γ r).v) fun r u d => ?_
  refine (read2 t (m ((c : Thread nD τ).loc main_arg0)) r u d).trans ?_
  rw [h0]; rfl

include h2 in
theorem op6 : Re2 (iblk m c 6 t) (D t P W Γ 0).w (D t P W Γ 1).w := by
  refine Re2.of (fun r => (D t P W Γ r).w) fun r u d => ?_
  refine (read6 t (m ((c : Thread nD τ).loc main_arg2)) r u d).trans ?_
  rw [h2]; rfl

include h1 in
theorem op3 (r : ℕ) (d : Fin 128) : iblk m c 3 t (ix2 0 d) = (((D t P W Γ r).γ d.val : ℝ) : EReal) := by
  have h := congrArg (fun f => ((cfg0.win 3).blk t).view.read (Elt Ideal) f (ix2 0 d)) (v36_eq m c)
  refine Eq.trans h ?_
  dsimp only
  rw [read3]
  pointwise
  rw [h1]; rfl

include h0 in
theorem op4 : Re2 (iblk m c 4 t) (D t P W Γ 0).o (D t P W Γ 1).o := by
  refine Re2.of (fun r => (D t P W Γ r).o) fun r u d => ?_
  have h := congrArg (fun f => ((cfg0.win 4).blk t).view.read (Elt Ideal) f (ix3 r u d)) (v37_eq m c)
  refine Eq.trans h ?_
  dsimp only
  rw [read4]
  have hv := v29_o (m ((c : Thread nD τ).loc main_arg0)) P W Γ h0
  generalize val_main_v29 (F := Ideal) (m ((c : Thread nD τ).loc main_arg0)) = X at hv
  pointwise
  rw [hv]
  unfold D
  dsimp only
  rw [show (128 * (t.val / 2) + d.val) / 64 / 2 = t.val / 2 by omega, show 64 * ((128 * (t.val / 2) + d.val) / 64 % 2) + (128 * (t.val / 2) + d.val) % 64 = d.val by omega]

include h0 in
theorem op5 : Re2 (iblk m c 5 t) (fun u d => if d < 64 then remR (D t P W Γ 0).Ql (D t P W Γ 0).k 0 u else remR (D t P W Γ 0).Qh (D t P W Γ 0).k 0 u)
    (fun u d => if d < 64 then remR (D t P W Γ 1).Ql (D t P W Γ 1).k 0 u else remR (D t P W Γ 1).Qh (D t P W Γ 1).k 0 u) := by
  refine Re2.of (fun r u d => if d < 64 then remR (D t P W Γ r).Ql (D t P W Γ r).k 0 u else remR (D t P W Γ r).Qh (D t P W Γ r).k 0 u) fun r u d => ?_
  have h := congrArg (fun f => ((cfg0.win 5).blk t).view.read (Elt Ideal) f (ix3 r u d)) (v34_eq m c)
  refine Eq.trans h ?_
  dsimp only
  rw [read5]
  have hv := v22_re (m ((c : Thread nD τ).loc main_arg0)) P h0
  generalize val_main_v22_0 (F := Ideal) (m ((c : Thread nD τ).loc main_arg0)) = X at hv
  pointwise
  have hf : ∀ x : Fin 2048, X (ix4 (⟨2 * (t.val % 2) + r.val, by omega⟩ : Fin 4) (⟨(128 * (t.val / 2) + d.val) / 64, by have := lt_of_lt_of_eq t.isLt N_0; omega⟩ : Fin 8) u x) =
      ((keep (Qf P (2 * (t.val % 2) + r.val) ((128 * (t.val / 2) + d.val) / 64)) (Kf P (2 * (t.val % 2) + r.val) ((128 * (t.val / 2) + d.val) / 64)) u.val x.val : ℝ) : EReal) := fun x => hv _ _ _ _
  simp only [hf]
  rw [sum_re (fun x => keep (Qf P (2 * (t.val % 2) + r.val) ((128 * (t.val / 2) + d.val) / 64)) (Kf P (2 * (t.val % 2) + r.val) ((128 * (t.val / 2) + d.val) / 64)) u.val x)]
  congr 1
  have hK : Kf P (2 * (t.val % 2) + r.val) ((128 * (t.val / 2) + d.val) / 64) = (D t P W Γ r.val).k := by
    funext x y
    unfold Kf D dat
    dsimp only
    rw [show (128 * (t.val / 2) + d.val) / 64 / 2 = t.val / 2 by omega]
  rw [hK, Qf_lane P W Γ, show (128 * (t.val / 2) + d.val) / 64 / 2 = t.val / 2 by omega]
  unfold remR
  rw [← Finset.range_eq_Ico]
  by_cases h : d.val < 64
  · rw [if_pos (by omega), if_pos h]; rfl
  · rw [if_neg (by omega), if_neg h]; rfl

set_option maxHeartbeats 4000000

/-- The operands of a point. -/
def env : Env Ideal := ⟨c, grid0.coords t, ms0 t, hs0 t, ms1 t, hs1 t, ms2 t, hs2 t, ms3 t, hs3 t, ms4 t, hs4 t, ms5 t, hs5 t, ms6 t, hs6 t, ms7 t, hs7 t, ms8 t, hs8 t, ms9 t, hs9 t, ms10 t, hs10 t, ms11 t, hs11 t,
    iblk m c 0 t, iblk m c 1 t, iblk m c 2 t, iblk m c 3 t, iblk m c 4 t, iblk m c 5 t, iblk m c 6 t, iblk m c 7 t, first_zero m c t⟩

include h0 h1 h2 in
/-- The operands of a point hold the two sequences' real numbers. -/
theorem good : Good (env m c t) (D t P W Γ 0) (D t P W Γ 1) where
  h2 := op0 m c t P W Γ h0
  h3 := op1 m c t P W Γ h0
  h4 := op2 m c t P W Γ h0
  h50 := op3 m c t P W Γ h1 0
  h51 := op3 m c t P W Γ h1 1
  h6 := op4 m c t P W Γ h0
  h7 := op5 m c t P W Γ h0
  h8 := op6 m c t P W Γ h2

theorem fin_env : finAt m c t = (env m c t).st k0_t1_loop.trips := rfl

end

end Cert.SbIdeal.Value
-- ==== Proof.SbArr.lean ====
/- The result arrays of the stick-breaking backward call after the run, on real numbers: the gradients of queries, keys, values
   and gain are those of the reference's `jax.vjp` term. -/
module

public import proofs.«01_k».proof.Proof.SbHost
public import proofs.«01_k».proof.Proof.SbOut

@[expose] public section

set_option maxRecDepth 16384
set_option maxHeartbeats 4000000

noncomputable section

namespace Cert.SbIdeal.Value

open Idealize.ShloMosaic Idealize.ShloMosaic.TcCoe Idealize.SL.Sem
open Idealize.ShloMosaic.Pipeline (Dat)
open Cert.SbIdeal Cert.SbIdeal.Gen Cert.SbIdeal.Tile Cert.SbIdeal.Run
open Cert.SbRefIdeal.Read Cert.SbRefIdeal.Real

variable (m : (ℓ : Loc nD τ sig) → Buf (Elt Ideal) ℓ) (c : Dev nD) (P W : ℕ → ℕ → ℕ → ℝ) (Γ : ℕ → ℝ)
  (h0 : ∀ (b : Fin 4) (t : Fin 2048) (e : Fin 3328), m ((c : Thread nD τ).loc main_arg0) (ix3 b t e) = ((P b.val t.val e.val : ℝ) : EReal))
  (h1 : ∀ e : Fin 512, m ((c : Thread nD τ).loc main_arg1) (ix1 e) = ((Γ e.val : ℝ) : EReal))
  (h2 : ∀ (b : Fin 4) (t : Fin 2048) (e : Fin 1024), m ((c : Thread nD τ).loc main_arg2) (ix3 b t e) = ((W b.val t.val e.val : ℝ) : EReal))

include h0 h1 h2

/-! ### What a grid point leaves -/

/-- Everything a grid point leaves, over a query gradient block that starts at zero. -/
theorem out_all (t : Fin cfg0.N) : Out (env m c t) (D t P W Γ 0) (D t P W Γ 1) 8 ((hs8 t).unread (fun _ => (0 : EReal))) (finAt m c t) :=
  Out.fin (good m c t P W Γ h0 h1 h2) (fun u d => by
    constructor <;> exact congrFun ((hs8 t).read_unread (Val := Elt Ideal) _) _)

theorem q_pt (t : Fin cfg0.N) (r : Fin 2) (u : Fin 2048) (d : Fin 128) :
    qAt m c t (ix3 r u d) = (((D t P W Γ r.val).dq 2048 u.val d.val * (1 / 8) : ℝ) : EReal) := by
  have e : qAt m c t = (ms8 t).view.read (Elt Ideal) ((ms8 t).view.writes (Elt Ideal) ((hs8 t).unread (fun _ => (0 : EReal))) (finAt m c t).2.1) :=
    View.read_writes_of_cover _ _ _ _ _ (cover m c t)
  have h := (out_all m c P W Γ h0 h1 h2 t).m10 u d
  beta_reduce at h
  rw [if_pos (by omega), if_pos (by omega), dq_full (D t P W Γ 0) (by omega) (by omega), dq_full (D t P W Γ 1) (by omega) (by omega)] at h
  rw [e]
  match r with
  | 0 => exact h.1
  | 1 => exact h.2

theorem k_pt (t : Fin cfg0.N) (r : Fin 2) (u : Fin 2048) (d : Fin 128) :
    kAt m c t (ix3 r u d) = (((D t P W Γ r.val).dk 2048 u.val d.val : ℝ) : EReal) := by
  have h := (out_all m c P W Γ h0 h1 h2 t).m11 u d
  match r with
  | 0 => exact h.1
  | 1 => exact h.2

theorem v_pt (t : Fin cfg0.N) (r : Fin 2) (u : Fin 2048) (d : Fin 128) :
    vAt m c t (ix3 r u d) = (((D t P W Γ r.val).dv 2048 u.val d.val : ℝ) : EReal) := by
  have h := (out_all m c P W Γ h0 h1 h2 t).m12 u d
  match r with
  | 0 => exact h.1
  | 1 => exact h.2

theorem g_pt (t : Fin cfg0.N) (d : Fin 128) :
    (finAt m c t).1 (ix2 0 d) = (((D t P W Γ 0).dg 2048 d.val + (D t P W Γ 1).dg 2048 d.val : ℝ) : EReal) :=
  (out_all m c P W Γ h0 h1 h2 t).gain d

/-! ### The arrays -/

omit h0 h1 h2 in
theorem read8 (t : Fin cfg0.N) (X : BufTy.Contents (Elt Ideal) ⟨S4x2048x512, .f32⟩) (r : Fin 2) (u : Fin 2048) (d : Fin 128) :
    ((cfg0.win 8).blk t).view.read (Elt Ideal) X (ix3 r u d) = X (ix3 (⟨2 * (t.val % 2) + r.val, by omega⟩ : Fin 4) u (⟨128 * (t.val / 2) + d.val, by have := lt_of_lt_of_eq t.isLt N_0; omega⟩ : Fin 512)) := by
  blk_point [idx_val t]

omit h0 h1 h2 in
theorem read9 (t : Fin cfg0.N) (X : BufTy.Contents (Elt Ideal) ⟨S4x2048x512, .f32⟩) (r : Fin 2) (u : Fin 2048) (d : Fin 128) :
    ((cfg0.win 9).blk t).view.read (Elt Ideal) X (ix3 r u d) = X (ix3 (⟨2 * (t.val % 2) + r.val, by omega⟩ : Fin 4) u (⟨128 * (t.val / 2) + d.val, by have := lt_of_lt_of_eq t.isLt N_0; omega⟩ : Fin 512)) := by
  blk_point [idx_val t]

omit h0 h1 h2 in
theorem read10 (t : Fin cfg0.N) (X : BufTy.Contents (Elt Ideal) ⟨S4x2048x512, .f32⟩) (r : Fin 2) (u : Fin 2048) (d : Fin 128) :
    ((cfg0.win 10).blk t).view.read (Elt Ideal) X (ix3 r u d) = X (ix3 (⟨2 * (t.val % 2) + r.val, by omega⟩ : Fin 4) u (⟨128 * (t.val / 2) + d.val, by have := lt_of_lt_of_eq t.isLt N_0; omega⟩ : Fin 512)) := by
  blk_point [idx_val t]

omit h0 h1 h2 in
theorem read11 (t : Fin cfg0.N) (X : BufTy.Contents (Elt Ideal) ⟨S1x512, .f32⟩) (d : Fin 128) :
    ((cfg0.win 11).blk t).view.read (Elt Ideal) X (ix2 0 d) = X (ix2 (0 : Fin 1) (⟨128 * (t.val / 2) + d.val, by have := lt_of_lt_of_eq t.isLt N_0; omega⟩ : Fin 512)) := by
  blk_point [idx_val t]

/-- The queries' gradient after the run. -/
theorem final_8 : (dats m 0 c).arrAt 8 (cfgs 0).N = val_main_v94 (F := Ideal) (m ((c : Thread nD τ).loc main_arg0)) (m ((c : Thread nD τ).loc main_arg1)) (m ((c : Thread nD τ).loc main_arg2)) := by
  have hv := v94_re _ _ _ P W Γ h0 h1 h2
  generalize val_main_v94 (F := Ideal) (m ((c : Thread nD τ).loc main_arg0)) (m ((c : Thread nD τ).loc main_arg1)) (m ((c : Thread nD τ).loc main_arg2)) = X at hv ⊢
  refine (dats m 0 c).arrAt_eq_of_covers 8 X (by decide +kernel) fun t hf y => ?_
  obtain ⟨r, u, d, rfl⟩ : ∃ (r : Fin 2) (u : Fin 2048) (d : Fin 128), y = ix3 r u d := ⟨_, _, _, eq_ix3 (n0 := 2) (n1 := 2048) (n2 := 128) y⟩
  have ht : t.val < 8 := lt_of_lt_of_eq t.isLt N_0
  blk_simp; rw [after_8]
  refine (q_pt m c P W Γ h0 h1 h2 t r u d).trans (Eq.trans ?_ (read8 t X r u d).symm)
  rw [hv]
  unfold D
  dsimp only
  rw [show (128 * (t.val / 2) + d.val) / 128 = t.val / 2 by omega, show (128 * (t.val / 2) + d.val) % 128 = d.val by omega]

/-- The keys' gradient after the run. -/
theorem final_9 : (dats m 0 c).arrAt 9 (cfgs 0).N = val_main_v92 (F := Ideal) (m ((c : Thread nD τ).loc main_arg0)) (m ((c : Thread nD τ).loc main_arg1)) (m ((c : Thread nD τ).loc main_arg2)) := by
  have hv := v92_re _ _ _ P W Γ h0 h1 h2
  generalize val_main_v92 (F := Ideal) (m ((c : Thread nD τ).loc main_arg0)) (m ((c : Thread nD τ).loc main_arg1)) (m ((c : Thread nD τ).loc main_arg2)) = X at hv ⊢
  refine (dats m 0 c).arrAt_eq_of_covers 9 X (by decide +kernel) fun t hf y => ?_
  obtain ⟨r, u, d, rfl⟩ : ∃ (r : Fin 2) (u : Fin 2048) (d : Fin 128), y = ix3 r u d := ⟨_, _, _, eq_ix3 (n0 := 2) (n1 := 2048) (n2 := 128) y⟩
  have ht : t.val < 8 := lt_of_lt_of_eq t.isLt N_0
  blk_simp; rw [after_9]
  refine (k_pt m c P W Γ h0 h1 h2 t r u d).trans (Eq.trans ?_ (read9 t X r u d).symm)
  rw [hv]
  unfold D
  dsimp only
  rw [show (128 * (t.val / 2) + d.val) / 128 = t.val / 2 by omega, show (128 * (t.val / 2) + d.val) % 128 = d.val by omega]

/-- The values' gradient after the run. -/
theorem final_10 : (dats m 0 c).arrAt 10 (cfgs 0).N = val_main_v90 (F := Ideal) (m ((c : Thread nD τ).loc main_arg0)) (m ((c : Thread nD τ).loc main_arg1)) (m ((c : Thread nD τ).loc main_arg2)) := by
  have hv := v90_re _ _ _ P W Γ h0 h1 h2
  generalize val_main_v90 (F := Ideal) (m ((c : Thread nD τ).loc main_arg0)) (m ((c : Thread nD τ).loc main_arg1)) (m ((c : Thread nD τ).loc main_arg2)) = X at hv ⊢
  refine (dats m 0 c).arrAt_eq_of_covers 10 X (by decide +kernel) fun t hf y => ?_
  obtain ⟨r, u, d, rfl⟩ : ∃ (r : Fin 2) (u : Fin 2048) (d : Fin 128), y = ix3 r u d := ⟨_, _, _, eq_ix3 (n0 := 2) (n1 := 2048) (n2 := 128) y⟩
  have ht : t.val < 8 := lt_of_lt_of_eq t.isLt N_0
  blk_simp; rw [after_10]
  refine (v_pt m c P W Γ h0 h1 h2 t r u d).trans (Eq.trans ?_ (read10 t X r u d).symm)
  rw [hv]
  unfold D
  dsimp only
  rw [show (128 * (t.val / 2) + d.val) / 128 = t.val / 2 by omega, show (128 * (t.val / 2) + d.val) % 128 = d.val by omega]

/-- The gain's gradient row after an odd point: the four sequences' parts. -/
theorem gain_odd (t : Fin cfg0.N) (h : ¬t.val % 2 = 0) (d : Fin 128) :
    gAt m c t.val t.isLt (ix2 0 d) = ((∑ b ∈ Finset.range 4, (dat P W Γ b (t.val / 2)).dg 2048 d.val : ℝ) : EReal) := by
  have hlt : t.val - 1 < cfg0.N := Nat.lt_of_le_of_lt (Nat.sub_le _ _) t.isLt
  have e1 := g_pt m c P W Γ h0 h1 h2 t d
  have e2 := g_pt m c P W Γ h0 h1 h2 ⟨t.val - 1, hlt⟩ d
  have e3 := gAt_even m c ⟨t.val - 1, hlt⟩ (by dsimp only; omega)
  rw [gAt_odd m c t h]
  dsimp only at e3
  rw [e3]
  pointwise [k0_pay9]
  rw [e1, e2, ← EReal.coe_add]
  congr 1
  unfold D
  dsimp only
  rw [show (t.val - 1) / 2 = t.val / 2 by omega, show t.val % 2 = 1 by omega, show (t.val - 1) % 2 = 0 by omega]
  simp only [Finset.sum_range_succ, Finset.sum_range_zero]
  ring

/-- The gain's gradient array after the run. -/
theorem final_11 : (dats m 0 c).arrAt 11 (cfgs 0).N = fun j => val_main_v56 (F := Ideal) (m ((c : Thread nD τ).loc main_arg0)) (m ((c : Thread nD τ).loc main_arg2)) (ix1 (j 1)) := by
  have hv := v56_re _ _ P W Γ h0 h2
  generalize val_main_v56 (F := Ideal) (m ((c : Thread nD τ).loc main_arg0)) (m ((c : Thread nD τ).loc main_arg2)) = X at hv ⊢
  refine (dats m 0 c).arrAt_eq_of_covers 11 (fun j => X (ix1 (j 1))) (by decide +kernel) fun t hf y => ?_
  obtain ⟨d, rfl⟩ : ∃ d : Fin 128, y = ix2 (0 : Fin 1) d := ⟨y 1, (eq_ix2 (n0 := 1) (n1 := 128) y).trans (congrArg (fun r => ix2 r (y 1)) (Subsingleton.elim (α := Fin 1) _ _))⟩
  have ho : ¬t.val % 2 = 0 := ((by decide +kernel : ∀ t : Fin grid0.N, (cfg0.win 11).flush t = true → ¬t.val % 2 = 0)) t hf
  have ht : t.val < 8 := lt_of_lt_of_eq t.isLt N_0
  blk_simp; rw [after_11]
  refine (gain_odd m c P W Γ h0 h1 h2 t ho d).trans (Eq.trans ?_ (read11 t (fun j => X (ix1 (j 1))) d).symm)
  refine Eq.trans ?_ (hv _).symm
  show _ = ((∑ b ∈ Finset.range 4, (dat P W Γ b ((128 * (t.val / 2) + d.val) / 128)).dg 2048 ((128 * (t.val / 2) + d.val) % 128) : ℝ) : EReal)
  rw [show (128 * (t.val / 2) + d.val) / 128 = t.val / 2 by omega, show (128 * (t.val / 2) + d.val) % 128 = d.val by omega]

/-- The gain's gradient as the program returns it. -/
theorem gain_result : Pipeline.afterTail₀ cfgs (dats m) 0 (V0 m) [hostOps1] c main_v39
    = val_main_v56 (F := Ideal) (m ((c : Thread nD τ).loc main_arg0)) (m ((c : Thread nD τ).loc main_arg2)) := by
  have hf := final_11 m c P W Γ h0 h1 h2
  generalize val_main_v56 (F := Ideal) (m ((c : Thread nD τ).loc main_arg0)) (m ((c : Thread nD τ).loc main_arg2)) = X at hf ⊢
  have e : Pipeline.withArrays (cfgs 0).spec c (V0 m c) (fun w => (dats m 0 c).arrAt w (cfgs 0).N) (Proc.devRef .tc main_v38_3) = _ :=
    ((dats m 0 c).withArrays_arrAt sharedIn0 (V0 m c) (A_eq m c) (11 : Fin 12)).trans hf
  refine (show _ = shapeCast S512 (Pipeline.withArrays (cfgs 0).spec c (V0 m c) (fun w => (dats m 0 c).arrAt w (cfgs 0).N) (Proc.devRef .tc main_v38_3)) shapeCasts_S1x512_S512 from rfl).trans ?_
  rw [e]
  funext j
  pointwise

end Cert.SbIdeal.Value
-- ==== Proof.SbOwn.lean ====
/- The frame of the stick-breaking backward call as it stands, by the run of its reading over the reals, taken at the
   machine's floats. -/
module

public import proofs.«01_k».proof.Proof.SbFrame
public import proofs.«01_k».proof.Defs
public import Idealize.ShloMosaic.Lib.Tactic

@[expose] public section

set_option maxRecDepth 16384

noncomputable section

namespace Cert.SbOwn

open Idealize.ShloMosaic Idealize.ShloMosaic.TcCoe Idealize.ShloMosaic.Tactic

/-- At the machine's floats a named constant is its own float word. -/
@[reducible] def named : Named Bits := ⟨fun _ _ {φ} bits => FloatOps.ofBits φ bits⟩

theorem frame_own [Cert.Sb.Facts] : Cert.quiescent_Sb := fun m ρ _ => by
  have h := @Cert.SbIdeal.Run.frame_sb Bits _ named m ρ
  refine cast ?_ h
  sl_kernel_rfl

end Cert.SbOwn
-- ==== Proof.Finite.lean ====
/- Arrays all of whose elements are finite hold real numbers: what the preconditions of the gradient claims give. -/
module

public import Idealize.ShloMosaic.Lib.ReduceAll
public import Idealize.ShloMosaic.Lib.ValueIdxCore
public import Idealize.ShloMosaic.PureOps.Ideal

@[expose] public section

noncomputable section

namespace Cert.Finite

open Idealize.ShloMosaic Idealize.ShloMosaic.ValueIdx

variable {s u t : Shape} {axes : List (Fin s.rank)}

/-- An element whose absolute value is below `+∞` is a real number. -/
theorem re_of_lt (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  have h' : max x (-x) < ⊤ := by
    by_contra hn
    unfold Ideal.cmp at h
    simp [hn] at h
  obtain ⟨h1, h2⟩ := max_lt_iff.1 h'
  refine (EReal.coe_toReal (ne_of_lt h1) ?_).symm
  rintro rfl
  simp at h2

/-- Two bits whose conjunction is set are both set. -/
theorem and_one {a b : BitVec 1} (h : IntOp.andi a b = 1#1) : a = 1#1 ∧ b = 1#1 := by
  revert a b; decide

/-- A three-axis array of finite elements, as a function of three numbers. -/
def of3 {a b c : ℕ} (x : (⟨3, ![a, b, c]⟩ : Shape).Idx → EReal) (i j k : ℕ) : ℝ :=
  if h : i < a ∧ j < b ∧ k < c then (x (ix3 ⟨i, h.1⟩ ⟨j, h.2.1⟩ ⟨k, h.2.2⟩)).toReal else 0
/-- A two-axis array of finite elements, as a function of two numbers. -/
def of2 {a b : ℕ} (x : (⟨2, ![a, b]⟩ : Shape).Idx → EReal) (i j : ℕ) : ℝ :=
  if h : i < a ∧ j < b then (x (ix2 ⟨i, h.1⟩ ⟨j, h.2⟩)).toReal else 0
/-- A one-axis array of finite elements, as a function of a number. -/
def of1 {a : ℕ} (x : (⟨1, ![a]⟩ : Shape).Idx → EReal) (i : ℕ) : ℝ :=
  if h : i < a then (x (ix1 ⟨i, h⟩)).toReal else 0

theorem of3_eq {a b c : ℕ} (x : (⟨3, ![a, b, c]⟩ : Shape).Idx → EReal) (h : ∀ i, x i = (((x i).toReal : ℝ) : EReal)) (i : Fin a) (j : Fin b) (k : Fin c) :
    x (ix3 i j k) = ((of3 x i.val j.val k.val : ℝ) : EReal) := by
  unfold of3; rw [dif_pos ⟨i.isLt, j.isLt, k.isLt⟩]; exact h _
theorem of2_eq {a b : ℕ} (x : (⟨2, ![a, b]⟩ : Shape).Idx → EReal) (h : ∀ i, x i = (((x i).toReal : ℝ) : EReal)) (i : Fin a) (j : Fin b) :
    x (ix2 i j) = ((of2 x i.val j.val : ℝ) : EReal) := by
  unfold of2; rw [dif_pos ⟨i.isLt, j.isLt⟩]; exact h _
theorem of1_eq {a : ℕ} (x : (⟨1, ![a]⟩ : Shape).Idx → EReal) (h : ∀ i, x i = (((x i).toReal : ℝ) : EReal)) (i : Fin a) :
    x (ix1 i) = ((of1 x i.val : ℝ) : EReal) := by
  unfold of1; rw [dif_pos i.isLt]; exact h _

/-- The predicate's test of one array, "every |x| is below +∞", says that every element is a real number. -/
theorem all_re (x : FVec Ideal s .f32) (B : FVec Ideal s .f32) (hB : ∀ i, B i = Ideal.ofBits .f32 0x7F800000#32) (init : u.Idx → BitVec 1) (hr : s.ReducesTo axes t)
    (hu : 0 < u.numel) [Subsingleton t.Idx] (j : t.Idx) (h : Host.reduce IntOp.andi (cmpf .olt (Host.absf x) B) init hr hu j = 1#1) (i : s.Idx) :
    x i = (((x i : EReal).toReal : ℝ) : EReal) := by
  have h1 := Host.reduce_andi_all (cmpf .olt (Host.absf x) B) init hr hu j h i
  refine re_of_lt _ ?_
  rw [← hB i]; exact h1

end Cert.Finite

end
-- ==== Proof.SbClaim.lean ====
/- The stick-breaking backward call: the claims about the two programs. -/
module

public import proofs.«01_k».proof.Proof.SbArr
public import proofs.«01_k».proof.Proof.SbOwn
public import proofs.«01_k».proof.Proof.Finite
public import proofs.«01_k».proof.Proof.Gen.SbRefIdeal.Run
public import proofs.«01_k».proof.Defs
public import Idealize.ShloMosaic.Adequacy
public import Idealize.ShloMosaic.Init
public import Idealize.ShloMosaic.Lib.Claim

@[expose] public section

set_option maxRecDepth 16384
set_option maxHeartbeats 2000000

noncomputable section

open Idealize.ShloMosaic Idealize.ShloMosaic.ValueIdx Idealize.SL.Sem

namespace Cert.SbClaim

instance : Cert.SbIdeal.Facts := Cert.SbIdeal.Gen.facts
instance : Cert.SbRefIdeal.Facts := Cert.SbRefIdeal.Gen.facts

instance pre_facts : Cert.Pre_sb_finite.Facts where
  bcast_S_S4x2048x3328 := by decide
  reducesTo_S4x2048x3328_S_d0_1_2 := by decide
  h_S_ := by decide
  bcast_S_S512 := by decide
  reducesTo_S512_S_d0 := by decide
  bcast_S_S4x2048x1024 := by decide
  reducesTo_S4x2048x1024_S_d0_1_2 := by decide

instance : Subsingleton Cert.Pre_sb_finite.S_.Idx := ⟨fun a b => funext fun i => i.elim0⟩

/-- The precondition says that the elements of the three arguments are real numbers. -/
theorem finite {x0 : FVec Ideal Cert.Pre_sb_finite.S4x2048x3328 .f32} {x1 : FVec Ideal Cert.Pre_sb_finite.S512 .f32} {x2 : FVec Ideal Cert.Pre_sb_finite.S4x2048x1024 .f32}
    (h : Cert.Pre_sb_finite.fn (F := Ideal) x0 x1 x2 = fun _ => 1#1) :
    (∀ i, x0 i = (((x0 i : EReal).toReal : ℝ) : EReal)) ∧ (∀ i, x1 i = (((x1 i : EReal).toReal : ℝ) : EReal)) ∧ (∀ i, x2 i = (((x2 i : EReal).toReal : ℝ) : EReal)) := by
  have h' := congrFun h ValueIdx.ix0
  unfold Cert.Pre_sb_finite.fn at h'
  dsimp only at h'
  obtain ⟨ha, h2⟩ := Cert.Finite.and_one h'
  obtain ⟨h0, h1⟩ := Cert.Finite.and_one ha
  exact ⟨Cert.Finite.all_re x0 _ (fun _ => rfl) _ _ _ _ h0, Cert.Finite.all_re x1 _ (fun _ => rfl) _ _ _ _ h1, Cert.Finite.all_re x2 _ (fun _ => rfl) _ _ _ _ h2⟩

/-- The kernel's frame, and the same where its arguments are finite. -/
theorem frame_kernel : Cert.quiescent_SbIdeal := fun m ρ _ => Cert.SbIdeal.Run.frame_sb m ρ
theorem frame_kernel_finite : Cert.quiescent_SbIdeal_pre_sb_finite := fun m ρ _ => Cert.SbIdeal.Run.frame_sb m ρ

/-- The reference's frame: it runs to its end, keeps its arguments and leaves every semaphore at zero. -/
theorem frame_ref : Cert.quiescent_SbRefIdeal := by
  intro m ρ _
  exact (θ_run Cert.SbRefIdeal.defs _ _).mono (fun r h => ⟨fun c => (h c).2.2.2.2, sem_eq_zero_of_no_sems (by decide) r.2⟩)
    (Cert.SbRefIdeal.Value.run (F := Ideal) m ρ)
theorem frame_ref_finite : Cert.quiescent_SbRefIdeal_pre_sb_finite := fun m ρ _ => frame_ref m ρ trivial

theorem preserves : Cert.preserves_Sb_SbIdeal := IdealRules.named_const.statement Cert.SbIdeal.κ "mask" .f32 0xF149F2CA#32 ⊥ rfl

/-- Over the reals the kernel's four results are the reference's, at finite arguments. -/
theorem algebraic : Cert.algebraic_SbIdeal_SbRefIdeal_pre_sb_finite := by
  pair_intro
  · run_from Cert.SbIdeal.Run.run_main m g
    exact (show _ = Pipeline.withArrays (Cert.SbIdeal.cfgs 0).spec c (Cert.SbIdeal.Gen.V0 m c) (fun w => (Cert.SbIdeal.Run.dats m 0 c).arrAt w (Cert.SbIdeal.cfgs 0).N) (Proc.devRef .tc Cert.SbIdeal.main_arg1) from rfl).trans
      ((Pipeline.withArrays_of_ne (Cert.SbIdeal.cfgs 0).spec c (Cert.SbIdeal.Gen.V0 m c) _ Cert.SbIdeal.main_arg1 (by decide)).trans rfl)
  · run_from Cert.SbRefIdeal.Value.run m' g'
    all_goals
      have a0 : StableHlo.launchContents m' c (Proc.tc.devRef Cert.SbRefIdeal.main_arg0) = m ((c.tc : Thread Cert.SbIdeal.nD Cert.SbIdeal.τ).loc Cert.SbIdeal.main_arg0) := (hagree c).1
      have a1 : StableHlo.launchContents m' c (Proc.tc.devRef Cert.SbRefIdeal.main_arg1) = m ((c.tc : Thread Cert.SbIdeal.nD Cert.SbIdeal.τ).loc Cert.SbIdeal.main_arg1) := (hagree c).2.1
      have a2 : StableHlo.launchContents m' c (Proc.tc.devRef Cert.SbRefIdeal.main_arg2) = m ((c.tc : Thread Cert.SbIdeal.nD Cert.SbIdeal.τ).loc Cert.SbIdeal.main_arg2) := (hagree c).2.2
      have hre := finite (hpre c)
      have h0 := Cert.Finite.of3_eq _ hre.1
      have h1 := Cert.Finite.of1_eq _ hre.2.1
      have h2 := Cert.Finite.of3_eq _ hre.2.2
    · rw [Cert.SbRefIdeal.Read.val_main_v94_eq, a0, a1, a2]
      exact (Cert.SbIdeal.Value.final_8 m c _ _ _ h0 h1 h2).symm
    · rw [Cert.SbRefIdeal.Read.val_main_v92_eq, a0, a1, a2]
      exact (Cert.SbIdeal.Value.final_9 m c _ _ _ h0 h1 h2).symm
    · rw [Cert.SbRefIdeal.Read.val_main_v90_eq, a0, a1, a2]
      exact (Cert.SbIdeal.Value.final_10 m c _ _ _ h0 h1 h2).symm
    · rw [Cert.SbRefIdeal.Read.val_main_v56_eq, a0, a2]
      exact (Cert.SbIdeal.Value.gain_result m c _ _ _ h0 h1 h2).symm

end Cert.SbClaim

end
-- ==== Proof.PrepPay.lean ====
/- One step of the kernel on real numbers: what its body computes of a tile's rows. -/
module

public import proofs.«01_k».proof.Proof.Gen.PrepIdeal.Skeleton
public import proofs.«01_k».proof.Proof.PrepRow
public import Idealize.ShloMosaic.Lib.Pointwise
public import Idealize.ShloMosaic.Lib.KernelVsHost
public import Idealize.ShloMosaic.Lib.WordCmp

@[expose] public section

set_option maxRecDepth 16384

noncomputable section

open Idealize.ShloMosaic Idealize.ShloMosaic.TcCoe Idealize.SL.Sem
open scoped BigOperators

namespace Cert.PrepIdeal.Pay

open Cert.PrepIdeal Cert.PrepIdeal.Gen Cert.Prep

theorem is_zero (a : Fin 8) : IntOp.cmpi .eq (BitVec.ofNat 32 a.val) 0#32 = if a.val = 0 then 1#1 else 0#1 := by
  split_ifs with h <;> word_cmp
theorem is_seven (a : Fin 8) : IntOp.cmpi .eq (BitVec.ofNat 32 a.val) 7#32 = if a.val = 7 then 1#1 else 0#1 := by
  split_ifs with h <;> word_cmp

/-- The row before, less the row. -/
theorem pay16_re {T : ℕ → Row} {v3 : Vec Ideal S256x1792 .f32} {v5 : Vec Ideal S1x8x1792 .f32} (h3 : Re v3 (fun s j => (T s).p j))
    (h5 : ∀ j : Fin 1792, v5 (ix3 (0 : Fin 1) (0 : Fin 8) j) = (((T 0).q j.val : ℝ) : EReal)) (hT : ∀ s, s < 255 → (T (s + 1)).q = (T s).p) :
    Re (k0_pay16 v3 v5) (fun s j => (T s).q j - (T s).p j) := by
  intro s j
  pointwise [k0_pay16, k0_pay9]
  rw [h3 s j, EReal.coe_sub]
  refine congrArg (· - _) ?_
  by_cases h : s.val < 8
  · refine (dif_pos h).trans ?_
    show Scalar.select (IntOp.cmpi .eq (BitVec.ofNat 32 ((⟨s.val, h⟩ : Fin 8)).val) 0#32) (v5 (ix3 0 ⟨s.val, _⟩ j)) (v3 (ix2 ⟨(s.val + 256 - 1) % 256, _⟩ j)) = _
    rw [is_zero]
    by_cases h0 : s.val = 0
    · rw [if_pos h0]
      show v5 (ix3 0 ⟨s.val, _⟩ j) = _
      rw [show (⟨s.val, h⟩ : Fin 8) = 0 from Fin.ext h0, h5 j, h0]
    · rw [if_neg h0]
      show v3 (ix2 ⟨(s.val + 256 - 1) % 256, _⟩ j) = _
      rw [h3]
      dsimp only
      obtain ⟨k, hk⟩ : ∃ k, s.val = k + 1 := ⟨s.val - 1, by omega⟩
      rw [hk, hT k (by omega), show (k + 1 + 256 - 1) % 256 = k by omega]
  · refine (dif_neg h).trans ?_
    show v3 (ix2 ⟨(8 + (s.val - 8) + 256 - 1) % 256, _⟩ j) = _
    rw [h3]
    dsimp only
    obtain ⟨k, hk⟩ : ∃ k, s.val = k + 1 := ⟨s.val - 1, by omega⟩
    have := s.isLt
    rw [hk, hT k (by omega), show (8 + (k + 1 - 8) + 256 - 1) % 256 = k by omega]

section

variable {A : Pars} {T : ℕ → Row}

theorem pay17_re {v3 : Vec Ideal S256x1792 .f32} {v5 : Vec Ideal S1x8x1792 .f32} {v15 : Vec Ideal S1x1792 .f32} (h3 : Re v3 (fun s j => (T s).p j))
    (h16 : Re (k0_pay16 v3 v5) (fun s j => (T s).q j - (T s).p j)) (h15 : Re v15 (fun _ j => A.mu j)) :
    Re (k0_pay17 v3 v5 v15) (fun s j => pm A (T s) j) := by
  intro s j
  pointwise [k0_pay17, k0_pay9, k0_pay10]
  rw [h3 s j, h15 0 j, h16 s j, ← EReal.coe_mul, ← EReal.coe_add]
  rfl

theorem pay18_re {v3 : Vec Ideal S256x1792 .f32} {v5 : Vec Ideal S1x8x1792 .f32} {v15 : Vec Ideal S1x1792 .f32} {f : ℕ → ℕ → ℝ}
    (h : Re (k0_pay17 v3 v5 v15) f) : Re (k0_pay18 v3 v5 v15) (fun s i => f s (1536 + i)) := by
  intro s i
  pointwise [k0_pay18]
  exact h _ _

theorem pay19_re {v3 : Vec Ideal S256x1792 .f32} {v5 : Vec Ideal S1x8x1792 .f32} {v15 : Vec Ideal S1x1792 .f32} {f : ℕ → ℕ → ℝ}
    (h : Re (k0_pay17 v3 v5 v15) f) : Re (k0_pay19 v3 v5 v15) (fun s i => f s (1664 + i)) := by
  intro s i
  pointwise [k0_pay19]
  exact h _ _

theorem pay20_re {v3 : Vec Ideal S256x1792 .f32} {v5 : Vec Ideal S1x8x1792 .f32} {v15 : Vec Ideal S1x1792 .f32} {f : ℕ → ℕ → ℝ}
    (h : Re (k0_pay18 v3 v5 v15) f) : Re (k0_pay20 v3 v5 v15) (fun s i => Real.tanh (f s i)) := by
  intro s i
  pointwise [k0_pay20]
  rw [h s i]
  rfl

theorem pay21_re {v36 : FVec Ideal S256x128 .f32} {f : ℕ → ℕ → ℝ} (h : Re v36 f) : Re (k0_pay21 v36) (fun s i => (1 + f s i) * (1 - f s i)) := by
  intro s i
  pointwise [k0_pay21]
  rw [h s i, ← EReal.coe_one, ← EReal.coe_add, ← EReal.coe_sub, ← EReal.coe_mul]

/-- A sum over the 128 columns of a weight's upper half. -/
theorem sum_low (f g : ℕ → ℝ) : ∑ i ∈ Finset.range 128, f i * (if i < 64 then g i else 0) = ∑ i ∈ Finset.range 64, f i * g i := by
  rw [Finset.sum_range_add (n := 64) (m := 64)]
  rw [Finset.sum_congr rfl (fun i hi => by rw [if_pos (Finset.mem_range.1 hi)]), add_eq_left]
  exact Finset.sum_eq_zero fun i _ => by rw [if_neg (by omega), mul_zero]
/-- A sum over the 128 columns of a weight's lower half. -/
theorem sum_high (f g : ℕ → ℝ) : ∑ i ∈ Finset.range 128, f i * (if i < 64 then 0 else g (i - 64)) = ∑ i ∈ Finset.range 64, f (64 + i) * g i := by
  rw [Finset.sum_range_add (n := 64) (m := 64)]
  rw [Finset.sum_eq_zero (fun i hi => by rw [if_pos (Finset.mem_range.1 hi), mul_zero]), zero_add]
  exact Finset.sum_congr rfl fun i _ => by rw [if_neg (by omega), Nat.add_sub_cancel_left]

theorem pay22_re {v18 : FVec Ideal S1x512 .f32} {v21 : FVec Ideal S128x512 .f32} {v36 : FVec Ideal S256x128 .f32} (h18 : Re v18 (fun _ d => A.w0 d))
    (h21 : Re v21 (fun i d => if i < 64 then A.wd i d else 0)) (h36 : Re v36 (fun s i => tw A (T s) i)) :
    Re (k0_pay22 v18 v21 v36) (fun s d => zz A (T s) d) := by
  intro s d
  pointwise [k0_pay22]
  simp only [h18 _ _, h21 _ _, h36 _ _, ← EReal.coe_mul]
  rw [sum_re (fun i => tw A (T s.val) i * (if i < 64 then A.wd i d.val else 0)), sum_low (tw A (T s.val)) (fun i => A.wd i d.val), ← EReal.coe_add, ← EReal.coe_zero, ← EReal.coe_sub, zero_sub]
  rfl

theorem pay23_re {v18 : FVec Ideal S1x512 .f32} {v21 : FVec Ideal S128x512 .f32} {v36 : FVec Ideal S256x128 .f32} {f : ℕ → ℕ → ℝ}
    (h : Re (k0_pay22 v18 v21 v36) f) : Re (k0_pay23 v18 v21 v36) (fun s d => -sp (f s d)) := by
  intro s d
  pointwise [k0_pay23]
  rw [h s d]
  refine Eq.trans (b := 0 - max ((f s.val d.val : ℝ) : EReal) 0 - Ideal.log (1 + Ideal.exp (0 - max ((f s.val d.val : ℝ) : EReal) (-((f s.val d.val : ℝ) : EReal))))) ?_ ?_
  · rfl
  rw [abs_re, show ((0:EReal) - ((|f s.val d.val| : ℝ) : EReal)) = ((-|f s.val d.val| : ℝ) : EReal) by rw [← EReal.coe_zero, ← EReal.coe_sub, zero_sub], log_pos, ← EReal.coe_zero, ← coe_max, ← EReal.coe_sub, ← EReal.coe_sub]
  congr 1
  unfold sp
  ring

theorem pay24_re {v18 : FVec Ideal S1x512 .f32} {v21 : FVec Ideal S128x512 .f32} {v36 : FVec Ideal S256x128 .f32} {f : ℕ → ℕ → ℝ}
    (h : Re (k0_pay23 v18 v21 v36) f) : Re (k0_pay24 v18 v21 v36) (fun s d => Real.exp (f s d - 1 / 2)) := by
  intro s d
  pointwise [k0_pay24]
  rw [h s d, half_re, ← EReal.coe_sub]
  rfl

theorem pay25_re {v23 : FVec Ideal S1x512 .f32} {v26 : FVec Ideal S128x512 .f32} {v34 : FVec Ideal S256x128 .f32} (h23 : Re v23 (fun _ d => A.a0 d))
    (h26 : Re v26 (fun i d => if i < 64 then 0 else A.wa (i - 64) d)) (h34 : Re v34 (fun s i => pm A (T s) (1536 + i))) :
    Re (k0_pay25 v23 v26 v34) (fun s d => 4 * (sg (aa A (T s) d) * (1 - sg (aa A (T s) d)))) := by
  intro s d
  pointwise [k0_pay25]
  simp only [h23 _ _, h26 _ _, h34 _ _, ← EReal.coe_mul]
  rw [sum_re (fun i => pm A (T s.val) (1536 + i) * (if i < 64 then 0 else A.wa (i - 64) d.val)),
    sum_high (fun i => pm A (T s.val) (1536 + i)) (fun i => A.wa i d.val), half_re, ← EReal.coe_add, ← EReal.coe_mul, Ideal.tanh_coe, ← EReal.coe_one,
    ← EReal.coe_add, ← EReal.coe_sub, ← EReal.coe_mul, dsg_tanh]
  rfl

theorem pay26_re {v35 : FVec Ideal S256x128 .f32} {f : ℕ → ℕ → ℝ} (h : Re v35 f) : Re (k0_pay26 v35) (fun s i => Real.tanh (1 / 2 * f s i)) := by
  intro s i
  pointwise [k0_pay26]
  rw [h s i, half_re, ← EReal.coe_mul]
  rfl

theorem pay27_re {v35 : FVec Ideal S256x128 .f32} {f : ℕ → ℕ → ℝ} (h : Re (k0_pay26 v35) f) : Re (k0_pay27 v35) (fun s i => 1 + f s i) := by
  intro s i
  pointwise [k0_pay27]
  rw [h s i, ← EReal.coe_one, ← EReal.coe_add]

theorem pay32_re {v99 v101 : Vec Ideal S256x512 .f32} {f g : ℕ → ℕ → ℝ} (h : Re v99 f) (h' : Re v101 g) : Re (k0_pay32 v99 v101) (fun s d => f s d * g s d) := by
  intro s d
  pointwise [k0_pay32]
  rw [h s d, h' s d, ← EReal.coe_mul]

theorem pay33_re {v79 : FVec Ideal S256x128 .f32} {v99 v101 : Vec Ideal S256x512 .f32} {f g : ℕ → ℕ → ℝ} (h : Re v79 (fun s i => Real.tanh (1 / 2 * f s i)))
    (h' : Re (k0_pay32 v99 v101) g) : Re (k0_pay33 v79 v99 v101) (fun i d => ∑ s ∈ Finset.range 256, sg (f s i) * g s d) := by
  intro i d
  pointwise [k0_pay33]
  simp only [h _ _, h' _ _, half_re, ← EReal.coe_one, ← EReal.coe_mul, ← EReal.coe_add, sg_tanh]
  exact sum_re fun s => sg (f s i.val) * g s d.val

theorem pay34_re {v29 : FVec Ideal S128x512 .f32} {v79 v81 : FVec Ideal S256x128 .f32} {v99 v101 : Vec Ideal S256x512 .f32} {f g w : ℕ → ℕ → ℝ}
    (h29 : Re v29 w) (h : Re v79 (fun s i => Real.tanh (1 / 2 * f s i))) (h81 : Re v81 (fun s i => 1 + Real.tanh (1 / 2 * f s i))) (h' : Re (k0_pay32 v99 v101) g) :
    Re (k0_pay34 v29 v79 v81 v99 v101) (fun s i => (∑ d ∈ Finset.range 512, g s d * w i d) * (sg (f s i) * (1 - sg (f s i)))) := by
  intro s i
  pointwise [k0_pay34]
  simp only [h29 _ _, h _ _, h81 _ _, h' _ _, half_re, ← EReal.coe_one, ← EReal.coe_mul, ← EReal.coe_sub, dsg_tanh]
  rw [sum_re (fun d => g s.val d * w i.val d), ← EReal.coe_mul, ← EReal.coe_mul, ← EReal.coe_mul]
  congr 1
  ring

theorem pay35_re {v76 : FVec Ideal S256x512 .f32} {v97 : Vec Ideal S256x512 .f32} {f g : ℕ → ℕ → ℝ} (h : Re v76 f) (h' : Re v97 g) :
    Re (k0_pay35 v76 v97) (fun s d => 1 / 2 * g s d * f s d) := by
  intro s d
  pointwise [k0_pay35]
  rw [h s d, h' s d, half_re, ← EReal.coe_mul, ← EReal.coe_mul]

theorem pay36_re : Re (k0_pay36 (F := Ideal)) (fun _ _ => 1 / 2) := by
  intro s d
  pointwise [k0_pay36]
  exact half_re

theorem pay37_re {v117 v118 : FVec Ideal S256x512 .f32} {f g : ℕ → ℕ → ℝ} (h : Re v117 f) (h' : Re v118 g) : Re (k0_pay37 v117 v118) (fun s d => g s d * f s d) := by
  intro s d
  pointwise [k0_pay37]
  rw [h s d, h' s d, ← EReal.coe_mul]

theorem pay38_re {v117 v118 : FVec Ideal S256x512 .f32} {f : ℕ → ℕ → ℝ} (h : Re (k0_pay37 v117 v118) f) : Re (k0_pay38 v117 v118) (fun _ d => ∑ s ∈ Finset.range 256, f s d) := by
  intro a d
  pointwise [k0_pay38]
  simp only [h _ _]
  exact sum_re fun s => f s d.val

theorem pay39_re {v34 : FVec Ideal S256x128 .f32} {v117 v118 : FVec Ideal S256x512 .f32} {f g : ℕ → ℕ → ℝ} (h34 : Re v34 g) (h : Re (k0_pay37 v117 v118) f) :
    Re (k0_pay39 v34 v117 v118) (fun i d => ∑ s ∈ Finset.range 256, g s i * f s d) := by
  intro i d
  pointwise [k0_pay39]
  simp only [h34 _ _, h _ _, ← EReal.coe_mul]
  exact sum_re fun s => g s i.val * f s d.val

theorem pay40_re {v48 v60 v63 v96 : FVec Ideal S256x512 .f32} {z s' e l : ℕ → ℕ → ℝ} (h48 : Re v48 z) (h60 : Re v60 s') (h63 : Re v63 e) (h96 : Re v96 l) :
    Re (k0_pay40 v48 v60 v63 v96) (fun s d => -(l s d * e s d * Real.exp (z s d + s' s d))) := by
  intro s d
  pointwise [k0_pay40]
  rw [h48 s d, h60 s d, h63 s d, h96 s d, ← EReal.coe_add, Ideal.exp_coe, ← EReal.coe_zero, ← EReal.coe_sub, ← EReal.coe_mul, ← EReal.coe_sub, ← EReal.coe_mul, ← EReal.coe_sub]
  congr 1
  ring

theorem pay41_re {v48 v60 v63 v96 : FVec Ideal S256x512 .f32} {f : ℕ → ℕ → ℝ} (h : Re (k0_pay40 v48 v60 v63 v96) f) :
    Re (k0_pay41 v48 v60 v63 v96) (fun _ d => ∑ s ∈ Finset.range 256, f s d) := by
  intro a d
  pointwise [k0_pay41]
  simp only [h _ _]
  exact sum_re fun s => f s d.val

theorem pay42_re {v36 : FVec Ideal S256x128 .f32} {v48 v60 v63 v96 : FVec Ideal S256x512 .f32} {f g : ℕ → ℕ → ℝ} (h36 : Re v36 g) (h : Re (k0_pay40 v48 v60 v63 v96) f) :
    Re (k0_pay42 v36 v48 v60 v63 v96) (fun i d => ∑ s ∈ Finset.range 256, g s i * f s d) := by
  intro i d
  pointwise [k0_pay42]
  simp only [h36 _ _, h _ _, ← EReal.coe_mul]
  exact sum_re fun s => g s i.val * f s d.val

end

end Cert.PrepIdeal.Pay

end
-- ==== Proof.PrepTile.lean ====
/- The gradient of a tile on real numbers, its columns gathered. -/
module

public import proofs.«01_k».proof.Proof.Gen.PrepIdeal.Skeleton
public import proofs.«01_k».proof.Proof.PrepPay
public import Idealize.ShloMosaic.Lib.Pointwise
public import Idealize.ShloMosaic.Lib.KernelVsHost
public import Idealize.ShloMosaic.Lib.WordCmp

@[expose] public section

set_option maxRecDepth 16384

noncomputable section

open Idealize.ShloMosaic Idealize.ShloMosaic.TcCoe Idealize.SL.Sem
open scoped BigOperators

namespace Cert.PrepIdeal.Pay

open Cert.PrepIdeal Cert.PrepIdeal.Gen Cert.Prep

theorem pay43_re {v21 v26 : FVec Ideal S128x512 .f32} {v41 v114 : FVec Ideal S256x128 .f32} {v48 v60 v63 v92 v94 v96 v117 v118 : FVec Ideal S256x512 .f32}
    {wd wa f41 gz ga dk dv gx : ℕ → ℕ → ℝ} (h21 : Re v21 (fun i d => if i < 64 then wd i d else 0)) (h26 : Re v26 (fun i d => if i < 64 then 0 else wa (i - 64) d))
    (h41 : Re v41 f41) (h40 : Re (k0_pay40 v48 v60 v63 v96) gz) (h37 : Re (k0_pay37 v117 v118) ga) (h92 : Re v92 dk) (h94 : Re v94 dv) (h114 : Re v114 gx) :
    Re (k0_pay43 v21 v26 v41 v48 v60 v63 v92 v94 v96 v114 v117 v118)
      (fun s j => if j < 512 then 0 else if j < 1024 then dk s (j - 512) else if j < 1536 then dv s (j - 1024)
        else if j < 1600 then (∑ d ∈ Finset.range 512, gz s d * wd (j - 1536) d) * f41 s (j - 1536)
        else if j < 1664 then ∑ d ∈ Finset.range 512, ga s d * wa (j - 1600) d else gx s (j - 1664)) := by
  intro s j
  pointwise [k0_pay43]
  by_cases c1 : j.val < 512
  · have c2 : j.val < 1024 := by omega
    have c3 : j.val < 1536 := by omega
    have c4 : j.val < 1664 := by omega
    simp only [dif_pos c1, dif_pos c2, dif_pos c3, dif_pos c4, if_pos c1, add_zero]
    rfl
  by_cases c2 : j.val < 1024
  · have c3 : j.val < 1536 := by omega
    have c4 : j.val < 1664 := by omega
    simp only [dif_neg c1, dif_pos c2, dif_pos c3, dif_pos c4, if_neg c1, if_pos c2, add_zero, zero_add]
    exact h92 _ _
  by_cases c3 : j.val < 1536
  · have c4 : j.val < 1664 := by omega
    simp only [dif_neg c1, dif_neg c2, dif_pos c3, dif_pos c4, if_neg c1, if_neg c2, if_pos c3, add_zero, zero_add]
    exact h94 _ _
  by_cases c4 : j.val < 1664
  · simp only [dif_neg c1, dif_neg c2, dif_neg c3, dif_pos c4, if_neg c1, if_neg c2, if_neg c3, add_zero, zero_add]
    simp only [h37 _ _, h40 _ _, h21 _ _, h26 _ _, h41 _ _, ← EReal.coe_mul]
    rw [sum_re (fun d => ga s.val d * (if j.val - 1536 < 64 then 0 else wa (j.val - 1536 - 64) d)),
      sum_re (fun d => gz s.val d * (if j.val - 1536 < 64 then wd (j.val - 1536) d else 0)), ← EReal.coe_mul, ← EReal.coe_add]
    refine congrArg _ ?_
    by_cases c5 : j.val < 1600
    · have c6 : j.val - 1536 < 64 := by omega
      simp only [if_pos c5, if_pos c6, mul_zero, Finset.sum_const_zero, zero_add]
    · have c6 : ¬j.val - 1536 < 64 := by omega
      simp only [if_neg c5, if_neg c6, if_pos c4, mul_zero, Finset.sum_const_zero, zero_mul, add_zero, show j.val - 1536 - 64 = j.val - 1600 by omega]
  · have c5 : ¬j.val < 1600 := by omega
    simp only [dif_neg c1, dif_neg c2, dif_neg c3, dif_neg c4, if_neg c1, if_neg c2, if_neg c3, if_neg c4, if_neg c5, add_zero, zero_add]
    exact h114 _ _

section

variable {v16 : FVec Ideal S1x1792 .f32} {v30 v164 : FVec Ideal S256x1792 .f32} {v90 : FVec Ideal S256x512 .f32} {mu : ℕ → ℝ} {f g dr : ℕ → ℕ → ℝ}

/-- The zero the kernel pads with. -/
def zer : Ideal .f32 := Scalar.ofBits (F := Ideal) .f32 0x00000000#32

theorem zer_eq : zer = (0 : EReal) := by simp [zer, Scalar.ofBits, Ideal.ofBits, Ideal.ieee]

theorem pay44_re (h90 : Re v90 dr) (h164 : Re v164 f) : Re (k0_pay44 v90 v164 zer) (fun s j => f s j + if j < 512 then dr s j else 0) := by
  intro s j
  pointwise [k0_pay44]
  rw [h164 s j, EReal.coe_add]
  refine congrArg (_ + ·) ?_
  by_cases c : j.val < 512
  · rw [dif_pos c, if_pos c]; exact h90 _ _
  · rw [dif_neg c, if_neg c]; exact zer_eq

theorem pay45_re (h16 : Re v16 (fun _ j => mu j)) (h : Re (k0_pay44 v90 v164 zer) f) : Re (k0_pay45 v16 v90 v164 zer) (fun s j => mu j * f s j) := by
  intro s j
  pointwise [k0_pay45]
  rw [h16 _ _, h s j, ← EReal.coe_mul]

theorem pay46_re (h30 : Re v30 g) (h : Re (k0_pay44 v90 v164 zer) f) : Re (k0_pay46 v30 v90 v164 zer) (fun _ j => ∑ s ∈ Finset.range 256, f s j * g s j) := by
  intro a j
  pointwise [k0_pay46]
  simp only [h _ _, h30 _ _, ← EReal.coe_mul]
  exact sum_re fun s => f s j.val * g s j.val

theorem pay48_re (h : Re (k0_pay45 v16 v90 v164 zer) f) : Re (k0_pay48 v16 v90 v164 zer) f := by
  intro a j
  pointwise [k0_pay48]
  exact h _ _

theorem pay8_re : Re (k0_pay8 (F := Ideal)) (fun _ _ => 0) := by
  intro a j
  pointwise [k0_pay8]
  rfl

/-- Whether the tile of a point is the last of its sequence. -/
theorem is_last : ∀ t : Fin 32, Scalar.cmpi .eq (Scalar.select (Scalar.andi (Scalar.xori (Scalar.cmpi .slt (Scalar.remsi (Scalar.subi 31#32 (BitVec.ofNat 32 t.val)) (Scalar.select (Scalar.cmpi .eq 8#32 0#32) 1#32 8#32)) 0#32)
      (Scalar.cmpi .slt (Scalar.select (Scalar.cmpi .eq 8#32 0#32) 1#32 8#32) 0#32)) (Scalar.cmpi .ne (Scalar.remsi (Scalar.subi 31#32 (BitVec.ofNat 32 t.val)) (Scalar.select (Scalar.cmpi .eq 8#32 0#32) 1#32 8#32)) 0#32))
    (Scalar.addi (Scalar.remsi (Scalar.subi 31#32 (BitVec.ofNat 32 t.val)) (Scalar.select (Scalar.cmpi .eq 8#32 0#32) 1#32 8#32)) (Scalar.select (Scalar.cmpi .eq 8#32 0#32) 1#32 8#32))
    (Scalar.remsi (Scalar.subi 31#32 (BitVec.ofNat 32 t.val)) (Scalar.select (Scalar.cmpi .eq 8#32 0#32) 1#32 8#32))) 7#32 = if t.val % 8 = 0 then 1#1 else 0#1 := by decide +kernel

theorem last_row : ∀ i : Fin 8, IntOp.cmpi .eq (BitVec.ofNat 32 i.val) 7#32 = if i.val = 7 then 1#1 else 0#1 := by decide +kernel

set_option maxHeartbeats 4000000 in
theorem pay47_re {v189 : Vec Ideal S8x1792 .f32} {n : ℕ → ℕ → ℝ} (t : Fin 32) (h : Re (k0_pay44 v90 v164 zer) f) (h' : Re (k0_pay45 v16 v90 v164 zer) g) (h189 : Re v189 n) :
    Re (k0_pay47 (BitVec.ofNat 32 t.val) v16 v90 v164 zer v189)
      (fun s j => f s j - g s j + if s < 255 then g (s + 1) j else if t.val % 8 = 0 then 0 else n 0 j) := by
  intro s j
  pointwise [k0_pay47]
  have e1 : (k0_pay44 v90 v164 zer (ix2 s j) : EReal) + (0 - k0_pay45 v16 v90 v164 zer (ix2 s j)) = ((f s.val j.val - g s.val j.val : ℝ) : EReal) := by
    rw [h s j, h' s j, ← EReal.coe_zero, ← EReal.coe_sub, ← EReal.coe_add, zero_sub, ← sub_eq_add_neg]
  rw [EReal.coe_add]
  refine congrArg₂ (fun a b : EReal => a + b) e1 ?_
  by_cases c : s.val < 248
  · have c' : s.val < 255 := by omega
    rw [dif_pos c, if_pos c', h' _ _]
    have e : (s.val + 256 - 255) % 256 = s.val + 1 := by omega
    simp only [e]
  rw [dif_neg c]
  have l := last_row ⟨s.val - 248, by omega⟩
  have l' := is_last t
  by_cases c' : s.val < 255
  · have d : ¬s.val - 248 = 7 := by omega
    rw [l.trans (if_neg d), if_pos c']
    show k0_pay45 v16 v90 v164 zer _ = _
    rw [h' _ _]
    have e : (248 + (s.val - 248) + 256 - 255) % 256 = s.val + 1 := by omega
    simp only [e]
  · have d : s.val - 248 = 7 := by omega
    rw [l.trans (if_pos d)]
    refine Eq.trans ?_ (congrArg (fun r : ℝ => (r : EReal)) (if_neg c').symm)
    by_cases z : t.val % 8 = 0
    · rw [l'.trans (if_pos z)]
      exact congrArg (fun r : ℝ => (r : EReal)) (if_pos z).symm
    · rw [l'.trans (if_neg z)]
      refine Eq.trans ?_ (congrArg (fun r : ℝ => (r : EReal)) (if_neg z).symm)
      refine (h189 _ _).trans (congrArg (fun k : ℕ => ((n k j.val : ℝ) : EReal)) ?_)
      show (s.val - 248 + 8 - 7) % 8 = 0
      omega

end

/-! ### The parameters and cotangents, as the kernel holds them -/

theorem pay10_re {x : Vec Ideal S1x1792 .f32} {f : ℕ → ℝ} (h : Re x (fun _ j => f j)) : Re (k0_pay10 x) (fun _ j => f j) := by
  intro a j; pointwise [k0_pay10]; exact h _ _
theorem pay11_re {x : Vec Ideal S1x512 .f32} {f : ℕ → ℝ} (h : Re x (fun _ j => f j)) : Re (k0_pay11 x) (fun _ j => f j) := by
  intro a j; pointwise [k0_pay11]; exact h _ _
theorem pay12_re {x : Vec Ideal S128x512 .bf16} {f : ℕ → ℕ → ℝ} (h : Re x f) : Re (k0_pay12 x) f := by
  intro a j; pointwise [k0_pay12]; exact h _ _
theorem pay13_re {x : Vec Ideal S1x512 .f32} {f : ℕ → ℝ} (h : Re x (fun _ j => f j)) : Re (k0_pay13 x) (fun _ j => f j) := by
  intro a j; pointwise [k0_pay13]; exact h _ _
theorem pay14_re {x : Vec Ideal S128x512 .bf16} {f : ℕ → ℕ → ℝ} (h : Re x f) : Re (k0_pay14 x) f := by
  intro a j; pointwise [k0_pay14]; exact h _ _
theorem pay15_re {x : Vec Ideal S128x512 .bf16} {f : ℕ → ℕ → ℝ} (h : Re x f) : Re (k0_pay15 x) f := by
  intro a j; pointwise [k0_pay15]; exact h _ _
theorem pay28_re {x : Vec Ideal S256x512 .f32} {f : ℕ → ℕ → ℝ} (h : Re x f) : Re (k0_pay28 x) f := by
  intro a j; pointwise [k0_pay28]; exact h _ _
theorem pay29_re {x : Vec Ideal S256x512 .f32} {f : ℕ → ℕ → ℝ} (h : Re x f) : Re (k0_pay29 x) f := by
  intro a j; pointwise [k0_pay29]; exact h _ _
theorem pay30_re {x : Vec Ideal S256x512 .f32} {f : ℕ → ℕ → ℝ} (h : Re x f) : Re (k0_pay30 x) f := by
  intro a j; pointwise [k0_pay30]; exact h _ _
theorem pay31_re {x : Vec Ideal S256x512 .f32} {f : ℕ → ℕ → ℝ} (h : Re x f) : Re (k0_pay31 x) f := by
  intro a j; pointwise [k0_pay31]; exact h _ _

end Cert.PrepIdeal.Pay

end
-- ==== Proof.PrepStep.lean ====
/- One step of the kernel: what its body computes of the blocks of a grid point. -/
module

public import proofs.«01_k».proof.Proof.Gen.PrepIdeal.Frame.Runs

@[expose] public section

set_option maxRecDepth 16384

noncomputable section

namespace Cert.PrepIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.PrepIdeal.Gen

variable {F : FTy → Type} [FloatOps F]

/-- The blocks a grid point reads. -/
structure Ins (F : FTy → Type) where
  p : Vec F S256x1792 .f32
  edge : Vec F S1x8x1792 .f32
  mu : Vec F S1x1792 .f32
  w0 : Vec F S1x512 .f32
  wd : Vec F S128x512 .bf16
  a0 : Vec F S1x512 .f32
  wa : Vec F S128x512 .bf16
  wg : Vec F S128x512 .bf16
  dr : Vec F S256x512 .f32
  dk : Vec F S256x512 .f32
  dv : Vec F S256x512 .f32
  dlw : Vec F S256x512 .f32
  da : Vec F S256x512 .f32
  dy : Vec F S256x512 .f32
  z : Vec F S256x512 .f32
  sq : Vec F S256x512 .f32
  sk : Vec F S256x512 .f32
  sv : Vec F S256x512 .f32

/-- The gradients of the six parameters, as sums over rows. -/
structure Pars (F : FTy → Type) where
  mu : Vec F S1x1792 .f32
  w0 : Vec F S1x512 .f32
  wd : Vec F S128x512 .f32
  a0 : Vec F S1x512 .f32
  wa : Vec F S128x512 .f32
  wg : Vec F S128x512 .f32

namespace Ins

variable (b : Ins F)

/-- The columns the decay and the learning rate read, mixed with the row before. -/
def wa' : FVec F S256x128 .f32 := k0_pay18 b.p b.edge b.mu
/-- The gate's columns, mixed with the row before. -/
def g' : FVec F S256x128 .f32 := k0_pay19 b.p b.edge b.mu
/-- The hyperbolic tangent of the decay's columns. -/
def tw : FVec F S256x128 .f32 := k0_pay20 b.p b.edge b.mu
/-- The decay before its softplus, negated. -/
def dec : FVec F S256x512 .f32 := k0_pay22 (k0_pay11 b.w0) (k0_pay12 b.wd) b.tw
/-- The logarithm of the sigmoid. -/
def lsg : FVec F S256x512 .f32 := k0_pay23 (k0_pay11 b.w0) (k0_pay12 b.wd) b.tw
/-- The decay's rate. -/
def rate : FVec F S256x512 .f32 := k0_pay24 (k0_pay11 b.w0) (k0_pay12 b.wd) b.tw
/-- Four times the derivative of the learning rate's sigmoid. -/
def lr : FVec F S256x512 .f32 := k0_pay25 (k0_pay13 b.a0) (k0_pay14 b.wa) b.wa'
/-- The cotangent of the gate's columns. -/
def cg : FVec F S256x128 .f32 := k0_pay34 (k0_pay15 b.wg) (k0_pay26 b.g') (k0_pay27 b.g') b.dy b.z
/-- The cotangent of the learning rate before its sigmoid, twice. -/
def clr : FVec F S256x512 .f32 := k0_pay35 b.lr b.da
/-- The cotangents of the mixed columns, those of the receptance apart. -/
def cols : FVec F S256x1792 .f32 :=
  k0_pay43 (k0_pay12 b.wd) (k0_pay14 b.wa) (k0_pay21 b.tw) b.dec b.lsg b.rate (k0_pay29 b.dk) (k0_pay30 b.dv) (k0_pay31 b.dlw) b.cg b.clr (k0_pay36 (F := F))

/-- The parameters' gradients over this tile's rows alone. -/
def grads : Pars F where
  mu := k0_pay46 (k0_pay16 b.p b.edge) (k0_pay28 b.dr) b.cols (Scalar.ofBits .f32 0x00000000#32)
  w0 := k0_pay41 b.dec b.lsg b.rate (k0_pay31 b.dlw)
  wd := k0_pay42 b.tw b.dec b.lsg b.rate (k0_pay31 b.dlw)
  a0 := k0_pay38 b.clr (k0_pay36 (F := F))
  wa := k0_pay39 b.wa' b.clr (k0_pay36 (F := F))
  wg := k0_pay33 (k0_pay26 b.g') b.dy b.z

/-- The gradient of the tile's rows, given what the rows after them hand back. -/
def dp (i : grid0.Coords) (next : Vec F S8x1792 .f32) : Vec F S256x3328 .bf16 :=
  k0_pay1 (k0_pay47 (BitVec.ofNat 32 (i 0).val) (k0_pay10 b.mu) (k0_pay28 b.dr) b.cols (Scalar.ofBits .f32 0x00000000#32) next) b.sq b.sk b.sv

/-- What the tile hands back to the rows before it. -/
def next : Vec F S8x1792 .f32 :=
  k0_pay48 (k0_pay10 b.mu) (k0_pay28 b.dr) b.cols (Scalar.ofBits .f32 0x00000000#32)

end Ins

/-- A tile's gradients added to what is there. -/
def Pars.add (g x : Pars F) : Pars F where
  mu := k0_pay2 g.mu x.mu
  w0 := k0_pay3 g.w0 x.w0
  wd := k0_pay4 g.wd x.wd
  a0 := k0_pay5 g.a0 x.a0
  wa := k0_pay6 g.wa x.wa
  wg := k0_pay7 g.wg x.wg

end Cert.PrepIdeal.Run
-- ==== Proof.PrepHold.lean ====
/- What a step of the kernel computes where its blocks hold real numbers. -/
module

public import proofs.«01_k».proof.Proof.Gen.PrepIdeal.Skeleton
public import proofs.«01_k».proof.Proof.PrepTile
public import proofs.«01_k».proof.Proof.PrepStep
public import Idealize.ShloMosaic.Lib.Pointwise
public import Idealize.ShloMosaic.Lib.KernelVsHost
public import Idealize.ShloMosaic.Lib.WordCmp

@[expose] public section

set_option maxRecDepth 16384

noncomputable section

open Idealize.ShloMosaic Idealize.ShloMosaic.TcCoe Idealize.SL.Sem
open scoped BigOperators

namespace Cert.PrepIdeal.Run

open Cert.PrepIdeal Cert.PrepIdeal.Gen Cert.PrepIdeal.Pay
open Cert.Prep (Re Row)

/-- The blocks hold the parameters and a run of rows, each row's predecessor the row above it. -/
structure Ins.Holds (b : Ins Ideal) (A : Cert.Prep.Pars) (T : ℕ → Row) : Prop where
  p : Re b.p (fun s j => (T s).p j)
  edge : ∀ j : Fin 1792, b.edge (ix3 (0 : Fin 1) (0 : Fin 8) j) = (((T 0).q j.val : ℝ) : EReal)
  above : ∀ s, s < 255 → (T (s + 1)).q = (T s).p
  mu : Re b.mu (fun _ j => A.mu j)
  w0 : Re b.w0 (fun _ d => A.w0 d)
  wd : Re b.wd (fun i d => if i < 64 then A.wd i d else 0)
  a0 : Re b.a0 (fun _ d => A.a0 d)
  wa : Re b.wa (fun i d => if i < 64 then 0 else A.wa (i - 64) d)
  wg : Re b.wg (fun i d => A.wg i d)
  dr : Re b.dr (fun s d => (T s).dr d)
  dk : Re b.dk (fun s d => (T s).dk d)
  dv : Re b.dv (fun s d => (T s).dv d)
  dlw : Re b.dlw (fun s d => (T s).dlw d)
  da : Re b.da (fun s d => (T s).da d)
  dy : Re b.dy (fun s d => (T s).dy d)
  z : Re b.z (fun s d => (T s).z d)

namespace Ins.Holds

variable {b : Ins Ideal} {A : Cert.Prep.Pars} {T : ℕ → Row} (h : b.Holds A T)

include h

theorem diff : Re (k0_pay16 b.p b.edge) (fun s j => (T s).q j - (T s).p j) := pay16_re h.p h.edge h.above
theorem mixed : Re (k0_pay17 b.p b.edge b.mu) (fun s j => Cert.Prep.pm A (T s) j) := pay17_re h.p h.diff h.mu
theorem wa' : Re b.wa' (fun s i => Cert.Prep.pm A (T s) (1536 + i)) := pay18_re h.mixed
theorem g' : Re b.g' (fun s i => Cert.Prep.pm A (T s) (1664 + i)) := pay19_re h.mixed
theorem tw : Re b.tw (fun s i => Cert.Prep.tw A (T s) i) := pay20_re h.wa'
theorem dec : Re b.dec (fun s d => Cert.Prep.zz A (T s) d) := pay22_re (pay11_re h.w0) (pay12_re h.wd) h.tw
theorem lsg : Re b.lsg (fun s d => -Cert.Prep.sp (Cert.Prep.zz A (T s) d)) := pay23_re h.dec
theorem rate : Re b.rate (fun s d => Cert.Prep.ew A (T s) d) := pay24_re h.lsg
theorem lr : Re b.lr (fun s d => 4 * (Cert.Prep.sg (Cert.Prep.aa A (T s) d) * (1 - Cert.Prep.sg (Cert.Prep.aa A (T s) d)))) :=
  pay25_re (pay13_re h.a0) (pay14_re h.wa) h.wa'
theorem cot : Re (k0_pay32 b.dy b.z) (fun s d => Cert.Prep.dg (T s) d) := pay32_re h.dy h.z
theorem cg : Re b.cg (fun s i => Cert.Prep.gx A (T s) i) := pay34_re (pay15_re h.wg) (pay26_re h.g') (pay27_re (pay26_re h.g')) h.cot
theorem clr : Re b.clr (fun s d => 1 / 2 * (T s).da d * (4 * (Cert.Prep.sg (Cert.Prep.aa A (T s) d) * (1 - Cert.Prep.sg (Cert.Prep.aa A (T s) d))))) :=
  pay35_re h.lr h.da
theorem rateCot : Re (k0_pay37 b.clr (k0_pay36 (F := Ideal))) (fun s d => Cert.Prep.ga A (T s) d) := by
  intro s d
  refine (pay37_re h.clr pay36_re s d).trans (congrArg _ ?_)
  unfold Cert.Prep.ga
  ring
theorem decCot : Re (k0_pay40 b.dec b.lsg b.rate (k0_pay31 b.dlw)) (fun s d => Cert.Prep.gz A (T s) d) := pay40_re h.dec h.lsg h.rate (pay31_re h.dlw)

/-- The cotangent of the mixed row. -/
theorem mixCot : Re (k0_pay44 (k0_pay28 b.dr) b.cols zer) (fun s j => Cert.Prep.D A (T s) j) := by
  intro s j
  refine (pay44_re (pay28_re h.dr) (pay43_re (pay12_re h.wd) (pay14_re h.wa) (pay21_re h.tw) h.decCot h.rateCot (pay29_re h.dk) (pay30_re h.dv) h.cg) s j).trans (congrArg _ ?_)
  unfold Cert.Prep.D Cert.Prep.tx Cert.Prep.ax
  by_cases c : j.val < 512
  · simp only [if_pos c, zero_add]
  · simp only [if_neg c, add_zero]

theorem shifted : Re (k0_pay45 (k0_pay10 b.mu) (k0_pay28 b.dr) b.cols zer) (fun s j => A.mu j * Cert.Prep.D A (T s) j) := pay45_re (pay10_re h.mu) h.mixCot

theorem next : Re b.next (fun s j => A.mu j * Cert.Prep.D A (T s) j) := pay48_re h.shifted

theorem rows (t : Fin 32) {v : Vec Ideal S8x1792 .f32} {n : ℕ → ℕ → ℝ} (hv : Re v n) :
    Re (k0_pay47 (BitVec.ofNat 32 t.val) (k0_pay10 b.mu) (k0_pay28 b.dr) b.cols zer v)
      (fun s j => Cert.Prep.D A (T s) j - A.mu j * Cert.Prep.D A (T s) j
        + if s < 255 then A.mu j * Cert.Prep.D A (T (s + 1)) j else if t.val % 8 = 0 then 0 else n 0 j) :=
  pay47_re t h.mixCot h.shifted hv

theorem g_mu : Re b.grads.mu (fun _ j => ∑ s ∈ Finset.range 256, Cert.Prep.D A (T s) j * ((T s).q j - (T s).p j)) := pay46_re h.diff h.mixCot
theorem g_w0 : Re b.grads.w0 (fun _ d => ∑ s ∈ Finset.range 256, Cert.Prep.gz A (T s) d) := pay41_re h.decCot
theorem g_wd : Re b.grads.wd (fun i d => ∑ s ∈ Finset.range 256, Cert.Prep.tw A (T s) i * Cert.Prep.gz A (T s) d) := pay42_re h.tw h.decCot
theorem g_a0 : Re b.grads.a0 (fun _ d => ∑ s ∈ Finset.range 256, Cert.Prep.ga A (T s) d) := pay38_re h.rateCot
theorem g_wa : Re b.grads.wa (fun i d => ∑ s ∈ Finset.range 256, Cert.Prep.pm A (T s) (1536 + i) * Cert.Prep.ga A (T s) d) := pay39_re h.wa' h.rateCot
theorem g_wg : Re b.grads.wg (fun i d => ∑ s ∈ Finset.range 256, Cert.Prep.sx A (T s) i * Cert.Prep.dg (T s) d) := pay33_re (pay26_re h.g') h.cot

end Ins.Holds

/-- Gradients over more rows: the real numbers of the arrays add. -/
theorem add_re {n k : ℕ} {g x y : (⟨2, ![n, k]⟩ : Shape).Idx → EReal} (e : ∀ i d, y (ix2 i d) = x (ix2 i d) + g (ix2 i d)) {f f' : ℕ → ℕ → ℝ} (h : Re g f) (h' : Re x f') :
    Re y (fun i d => f' i d + f i d) := by
  intro i d
  rw [e, h i d, h' i d, ← EReal.coe_add]

theorem add_mu (g x : Pars Ideal) (i d) : (g.add x).mu (ix2 i d) = x.mu (ix2 i d) + g.mu (ix2 i d) := by unfold Pars.add; pointwise [k0_pay2]
theorem add_w0 (g x : Pars Ideal) (i d) : (g.add x).w0 (ix2 i d) = x.w0 (ix2 i d) + g.w0 (ix2 i d) := by unfold Pars.add; pointwise [k0_pay3]
theorem add_wd (g x : Pars Ideal) (i d) : (g.add x).wd (ix2 i d) = x.wd (ix2 i d) + g.wd (ix2 i d) := by unfold Pars.add; pointwise [k0_pay4]
theorem add_a0 (g x : Pars Ideal) (i d) : (g.add x).a0 (ix2 i d) = x.a0 (ix2 i d) + g.a0 (ix2 i d) := by unfold Pars.add; pointwise [k0_pay5]
theorem add_wa (g x : Pars Ideal) (i d) : (g.add x).wa (ix2 i d) = x.wa (ix2 i d) + g.wa (ix2 i d) := by unfold Pars.add; pointwise [k0_pay6]
theorem add_wg (g x : Pars Ideal) (i d) : (g.add x).wg (ix2 i d) = x.wg (ix2 i d) + g.wg (ix2 i d) := by unfold Pars.add; pointwise [k0_pay7]

end Cert.PrepIdeal.Run

end
-- ==== Proof.PrepBody.lean ====
/- The body of the gradient of the token shift, the decay, the learning rate and the gate at any grid point. -/
module

public import proofs.«01_k».proof.Proof.Gen.PrepIdeal.Frame.Runs
public import proofs.«01_k».proof.Proof.PrepStep
public import Idealize.ShloMosaic.Lib.VecWindow
public import Idealize.ShloMosaic.Lib.WholeRead
public import Idealize.ShloMosaic.Lib.Pipeline.ValueKit

@[expose] public section

set_option maxRecDepth 16384

noncomputable section

namespace Cert.PrepIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.PrepIdeal.Gen

variable {F : FTy → Type} [FloatOps F]

local notation "𝕄G" => MT nD τ sig Unit (Elt F) ℕ (UR sig nD τ) ℕ

variable (c : Dev nD) (i : grid0.Coords)

/-- A whole memref at an array's words holds that array. -/
theorem held {sp : _} {s : Shape} {e : _} (m : Memref sig .tc sp s e) (h : m.IsWhole) (x : Vec F s e) :
    (View.loc c.tc m.view ↦[m.view.set]{fullShare} h.unread x : sProp 𝕄G) ⊢ iprop(∃ f, ⌜m.view.read (Elt F) f = x⌝ ∗ View.loc c.tc m.view ↦[m.view.set]{fullShare} f) := by
  iintro H; iexists _; isplitr
  · ipureintro; exact h.read_unread _
  iexact H

variable
  (arg1 : Memref sig .tc .vmem S256x1792 .f32) (harg1 : arg1.IsWhole)
  (arg2 : Memref sig .tc .vmem S1x8x1792 .f32) (harg2 : arg2.IsWhole)
  (arg3 : Memref sig .tc .vmem S1x1792 .f32) (harg3 : arg3.IsWhole)
  (arg4 : Memref sig .tc .vmem S1x512 .f32) (harg4 : arg4.IsWhole)
  (arg5 : Memref sig .tc .vmem S128x512 .bf16) (harg5 : arg5.IsWhole)
  (arg6 : Memref sig .tc .vmem S1x512 .f32) (harg6 : arg6.IsWhole)
  (arg7 : Memref sig .tc .vmem S128x512 .bf16) (harg7 : arg7.IsWhole)
  (arg8 : Memref sig .tc .vmem S128x512 .bf16) (harg8 : arg8.IsWhole)
  (arg9 : Memref sig .tc .vmem S256x512 .f32) (harg9 : arg9.IsWhole)
  (arg10 : Memref sig .tc .vmem S256x512 .f32) (harg10 : arg10.IsWhole)
  (arg11 : Memref sig .tc .vmem S256x512 .f32) (harg11 : arg11.IsWhole)
  (arg12 : Memref sig .tc .vmem S256x512 .f32) (harg12 : arg12.IsWhole)
  (arg13 : Memref sig .tc .vmem S256x512 .f32) (harg13 : arg13.IsWhole)
  (arg14 : Memref sig .tc .vmem S256x512 .f32) (harg14 : arg14.IsWhole)
  (arg15 : Memref sig .tc .vmem S256x512 .f32) (harg15 : arg15.IsWhole)
  (arg16 : Memref sig .tc .vmem S256x512 .f32) (harg16 : arg16.IsWhole)
  (arg17 : Memref sig .tc .vmem S256x512 .f32) (harg17 : arg17.IsWhole)
  (arg18 : Memref sig .tc .vmem S256x512 .f32) (harg18 : arg18.IsWhole)
  (arg19 : Memref sig .tc .vmem S256x3328 .bf16) (harg19 : arg19.IsWhole)
  (arg20 : Memref sig .tc .vmem S1x1792 .f32) (harg20 : arg20.IsWhole)
  (arg21 : Memref sig .tc .vmem S1x512 .f32) (harg21 : arg21.IsWhole)
  (arg22 : Memref sig .tc .vmem S128x512 .f32) (harg22 : arg22.IsWhole)
  (arg23 : Memref sig .tc .vmem S1x512 .f32) (harg23 : arg23.IsWhole)
  (arg24 : Memref sig .tc .vmem S128x512 .f32) (harg24 : arg24.IsWhole)
  (arg25 : Memref sig .tc .vmem S128x512 .f32) (harg25 : arg25.IsWhole)
  (arg26 : Memref sig .tc .vmem S8x1792 .f32) (harg26 : arg26.IsWhole)
  (b : Ins F)

set_option maxHeartbeats 4000000 in
/-- The body at a point that starts the parameters' sums. -/
theorem bodyA (h0 : cond0_0 i) (h1 : cond0_1 i) (h2 : ¬cond0_2 i) (E : Set ℕ) (K : PUnit → sProp 𝕄G) :
    iprop(owns (c : Thread nD τ) arg1 fullShare b.p ∗ owns (c : Thread nD τ) arg2 fullShare b.edge ∗ owns (c : Thread nD τ) arg3 fullShare b.mu ∗ owns (c : Thread nD τ) arg4 fullShare b.w0 ∗ owns (c : Thread nD τ) arg5 fullShare b.wd ∗ owns (c : Thread nD τ) arg6 fullShare b.a0 ∗ owns (c : Thread nD τ) arg7 fullShare b.wa ∗ owns (c : Thread nD τ) arg8 fullShare b.wg ∗ owns (c : Thread nD τ) arg9 fullShare b.dr ∗ owns (c : Thread nD τ) arg10 fullShare b.dk ∗ owns (c : Thread nD τ) arg11 fullShare b.dv ∗ owns (c : Thread nD τ) arg12 fullShare b.dlw ∗ owns (c : Thread nD τ) arg13 fullShare b.da ∗ owns (c : Thread nD τ) arg14 fullShare b.dy ∗ owns (c : Thread nD τ) arg15 fullShare b.z ∗ owns (c : Thread nD τ) arg16 fullShare b.sq ∗ owns (c : Thread nD τ) arg17 fullShare b.sk ∗ owns (c : Thread nD τ) arg18 fullShare b.sv ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
      ∗ (iprop(owns (c : Thread nD τ) arg1 fullShare b.p ∗ owns (c : Thread nD τ) arg2 fullShare b.edge ∗ owns (c : Thread nD τ) arg3 fullShare b.mu ∗ owns (c : Thread nD τ) arg4 fullShare b.w0 ∗ owns (c : Thread nD τ) arg5 fullShare b.wd ∗ owns (c : Thread nD τ) arg6 fullShare b.a0 ∗ owns (c : Thread nD τ) arg7 fullShare b.wa ∗ owns (c : Thread nD τ) arg8 fullShare b.wg ∗ owns (c : Thread nD τ) arg9 fullShare b.dr ∗ owns (c : Thread nD τ) arg10 fullShare b.dk ∗ owns (c : Thread nD τ) arg11 fullShare b.dv ∗ owns (c : Thread nD τ) arg12 fullShare b.dlw ∗ owns (c : Thread nD τ) arg13 fullShare b.da ∗ owns (c : Thread nD τ) arg14 fullShare b.dy ∗ owns (c : Thread nD τ) arg15 fullShare b.z ∗ owns (c : Thread nD τ) arg16 fullShare b.sq ∗ owns (c : Thread nD τ) arg17 fullShare b.sk ∗ owns (c : Thread nD τ) arg18 fullShare b.sv ∗ owns (c : Thread nD τ) arg19 fullShare (b.dp i (k0_pay8 (F := F))) ∗ owns (c : Thread nD τ) arg20 fullShare b.grads.mu ∗ owns (c : Thread nD τ) arg21 fullShare b.grads.w0 ∗ owns (c : Thread nD τ) arg22 fullShare b.grads.wd ∗ owns (c : Thread nD τ) arg23 fullShare b.grads.a0 ∗ owns (c : Thread nD τ) arg24 fullShare b.grads.wa ∗ owns (c : Thread nD τ) arg25 fullShare b.grads.wg ∗ owns (c : Thread nD τ) arg26 fullShare b.next) -∗ K ⟨⟩))
    ⊢ wp frame (wpE (defs₀ (F := F)) Variants.none c none) E (cc0_d_rwkv_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_d_rwkv_prep_eq_skeleton]; unfold cc0_d_rwkv_prep_skel
  simp only [k0_part1_eq_skeleton, k0_part2_eq_skeleton, k0_part3_eq_skeleton, k0_part4_eq_skeleton, k0_part5_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  obtain rfl := harg1.eq_unread h1; obtain rfl := harg2.eq_unread h2; obtain rfl := harg3.eq_unread h3; obtain rfl := harg4.eq_unread h4; obtain rfl := harg5.eq_unread h5
  obtain rfl := harg6.eq_unread h6; obtain rfl := harg7.eq_unread h7; obtain rfl := harg8.eq_unread h8; obtain rfl := harg9.eq_unread h9; obtain rfl := harg10.eq_unread h10
  obtain rfl := harg11.eq_unread h11; obtain rfl := harg12.eq_unread h12; obtain rfl := harg13.eq_unread h13; obtain rfl := harg14.eq_unread h14; obtain rfl := harg15.eq_unread h15
  obtain rfl := harg16.eq_unread h16; obtain rfl := harg17.eq_unread h17; obtain rfl := harg18.eq_unread h18
  sl_exec (disch := first | sl_exact h0 | sl_exact h1 | sl_exact h2)
  sl_step
  iapply Hk
  isplitl [H1]
  · iapply (held c arg1 harg1 _); iexact H1
  isplitl [H2]
  · iapply (held c arg2 harg2 _); iexact H2
  isplitl [H3]
  · iapply (held c arg3 harg3 _); iexact H3
  isplitl [H4]
  · iapply (held c arg4 harg4 _); iexact H4
  isplitl [H5]
  · iapply (held c arg5 harg5 _); iexact H5
  isplitl [H6]
  · iapply (held c arg6 harg6 _); iexact H6
  isplitl [H7]
  · iapply (held c arg7 harg7 _); iexact H7
  isplitl [H8]
  · iapply (held c arg8 harg8 _); iexact H8
  isplitl [H9]
  · iapply (held c arg9 harg9 _); iexact H9
  isplitl [H10]
  · iapply (held c arg10 harg10 _); iexact H10
  isplitl [H11]
  · iapply (held c arg11 harg11 _); iexact H11
  isplitl [H12]
  · iapply (held c arg12 harg12 _); iexact H12
  isplitl [H13]
  · iapply (held c arg13 harg13 _); iexact H13
  isplitl [H14]
  · iapply (held c arg14 harg14 _); iexact H14
  isplitl [H15]
  · iapply (held c arg15 harg15 _); iexact H15
  isplitl [H16]
  · iapply (held c arg16 harg16 _); iexact H16
  isplitl [H17]
  · iapply (held c arg17 harg17 _); iexact H17
  isplitl [H18]
  · iapply (held c arg18 harg18 _); iexact H18
  isplitl [H19]
  · iexists _; isplitr
    swap; · iexact H19
    ipureintro; refine (View.read_writes_full _ _ _ _ _).trans ?_; frame_out; rfl
  isplitl [H20]
  · iexists _; isplitr
    swap; · iexact H20
    ipureintro; refine (View.read_writes_full _ _ _ _ _).trans ?_; frame_out; rfl
  isplitl [H21]
  · iexists _; isplitr
    swap; · iexact H21
    ipureintro; refine (View.read_writes_full _ _ _ _ _).trans ?_; frame_out; rfl
  isplitl [H22]
  · iexists _; isplitr
    swap; · iexact H22
    ipureintro; refine (View.read_writes_full _ _ _ _ _).trans ?_; frame_out; rfl
  isplitl [H23]
  · iexists _; isplitr
    swap; · iexact H23
    ipureintro; refine (View.read_writes_full _ _ _ _ _).trans ?_; frame_out; rfl
  isplitl [H24]
  · iexists _; isplitr
    swap; · iexact H24
    ipureintro; refine (View.read_writes_full _ _ _ _ _).trans ?_; frame_out; rfl
  isplitl [H25]
  · iexists _; isplitr
    swap; · iexact H25
    ipureintro; refine (View.read_writes_full _ _ _ _ _).trans ?_; frame_out; rfl
  iexists _; isplitr
  swap; · iexact H26
  ipureintro; refine (View.read_writes_full _ _ _ _ _).trans ?_; frame_out; rfl

set_option maxHeartbeats 4000000 in
/-- The body at a point that adds to the parameters' sums. -/
theorem bodyB (h0 : ¬cond0_0 i) (h1 : ¬cond0_1 i) (h2 : cond0_2 i) (g : Pars F) (n : Vec F S8x1792 .f32) (E : Set ℕ) (K : PUnit → sProp 𝕄G) :
    iprop(owns (c : Thread nD τ) arg1 fullShare b.p ∗ owns (c : Thread nD τ) arg2 fullShare b.edge ∗ owns (c : Thread nD τ) arg3 fullShare b.mu ∗ owns (c : Thread nD τ) arg4 fullShare b.w0 ∗ owns (c : Thread nD τ) arg5 fullShare b.wd ∗ owns (c : Thread nD τ) arg6 fullShare b.a0 ∗ owns (c : Thread nD τ) arg7 fullShare b.wa ∗ owns (c : Thread nD τ) arg8 fullShare b.wg ∗ owns (c : Thread nD τ) arg9 fullShare b.dr ∗ owns (c : Thread nD τ) arg10 fullShare b.dk ∗ owns (c : Thread nD τ) arg11 fullShare b.dv ∗ owns (c : Thread nD τ) arg12 fullShare b.dlw ∗ owns (c : Thread nD τ) arg13 fullShare b.da ∗ owns (c : Thread nD τ) arg14 fullShare b.dy ∗ owns (c : Thread nD τ) arg15 fullShare b.z ∗ owns (c : Thread nD τ) arg16 fullShare b.sq ∗ owns (c : Thread nD τ) arg17 fullShare b.sk ∗ owns (c : Thread nD τ) arg18 fullShare b.sv ∗ (∃ d, owns (c : Thread nD τ) arg19 fullShare d) ∗ owns (c : Thread nD τ) arg20 fullShare g.mu ∗ owns (c : Thread nD τ) arg21 fullShare g.w0 ∗ owns (c : Thread nD τ) arg22 fullShare g.wd ∗ owns (c : Thread nD τ) arg23 fullShare g.a0 ∗ owns (c : Thread nD τ) arg24 fullShare g.wa ∗ owns (c : Thread nD τ) arg25 fullShare g.wg ∗ owns (c : Thread nD τ) arg26 fullShare n
      ∗ (iprop(owns (c : Thread nD τ) arg1 fullShare b.p ∗ owns (c : Thread nD τ) arg2 fullShare b.edge ∗ owns (c : Thread nD τ) arg3 fullShare b.mu ∗ owns (c : Thread nD τ) arg4 fullShare b.w0 ∗ owns (c : Thread nD τ) arg5 fullShare b.wd ∗ owns (c : Thread nD τ) arg6 fullShare b.a0 ∗ owns (c : Thread nD τ) arg7 fullShare b.wa ∗ owns (c : Thread nD τ) arg8 fullShare b.wg ∗ owns (c : Thread nD τ) arg9 fullShare b.dr ∗ owns (c : Thread nD τ) arg10 fullShare b.dk ∗ owns (c : Thread nD τ) arg11 fullShare b.dv ∗ owns (c : Thread nD τ) arg12 fullShare b.dlw ∗ owns (c : Thread nD τ) arg13 fullShare b.da ∗ owns (c : Thread nD τ) arg14 fullShare b.dy ∗ owns (c : Thread nD τ) arg15 fullShare b.z ∗ owns (c : Thread nD τ) arg16 fullShare b.sq ∗ owns (c : Thread nD τ) arg17 fullShare b.sk ∗ owns (c : Thread nD τ) arg18 fullShare b.sv ∗ owns (c : Thread nD τ) arg19 fullShare (b.dp i n) ∗ owns (c : Thread nD τ) arg20 fullShare (b.grads.add g).mu ∗ owns (c : Thread nD τ) arg21 fullShare (b.grads.add g).w0 ∗ owns (c : Thread nD τ) arg22 fullShare (b.grads.add g).wd ∗ owns (c : Thread nD τ) arg23 fullShare (b.grads.add g).a0 ∗ owns (c : Thread nD τ) arg24 fullShare (b.grads.add g).wa ∗ owns (c : Thread nD τ) arg25 fullShare (b.grads.add g).wg ∗ owns (c : Thread nD τ) arg26 fullShare b.next) -∗ K ⟨⟩))
    ⊢ wp frame (wpE (defs₀ (F := F)) Variants.none c none) E (cc0_d_rwkv_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_d_rwkv_prep_eq_skeleton]; unfold cc0_d_rwkv_prep_skel
  simp only [k0_part1_eq_skeleton, k0_part2_eq_skeleton, k0_part3_eq_skeleton, k0_part4_eq_skeleton, k0_part5_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%d19, %f19, -, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, Hk⟩
  obtain rfl := harg1.eq_unread h1; obtain rfl := harg2.eq_unread h2; obtain rfl := harg3.eq_unread h3; obtain rfl := harg4.eq_unread h4; obtain rfl := harg5.eq_unread h5
  obtain rfl := harg6.eq_unread h6; obtain rfl := harg7.eq_unread h7; obtain rfl := harg8.eq_unread h8; obtain rfl := harg9.eq_unread h9; obtain rfl := harg10.eq_unread h10
  obtain rfl := harg11.eq_unread h11; obtain rfl := harg12.eq_unread h12; obtain rfl := harg13.eq_unread h13; obtain rfl := harg14.eq_unread h14; obtain rfl := harg15.eq_unread h15
  obtain rfl := harg16.eq_unread h16; obtain rfl := harg17.eq_unread h17; obtain rfl := harg18.eq_unread h18; obtain rfl := harg20.eq_unread h20; obtain rfl := harg21.eq_unread h21
  obtain rfl := harg22.eq_unread h22; obtain rfl := harg23.eq_unread h23; obtain rfl := harg24.eq_unread h24; obtain rfl := harg25.eq_unread h25; obtain rfl := harg26.eq_unread h26
  sl_exec (disch := first | sl_exact h0 | sl_exact h1 | sl_exact h2)
  sl_step
  iapply Hk
  isplitl [H1]
  · iapply (held c arg1 harg1 _); iexact H1
  isplitl [H2]
  · iapply (held c arg2 harg2 _); iexact H2
  isplitl [H3]
  · iapply (held c arg3 harg3 _); iexact H3
  isplitl [H4]
  · iapply (held c arg4 harg4 _); iexact H4
  isplitl [H5]
  · iapply (held c arg5 harg5 _); iexact H5
  isplitl [H6]
  · iapply (held c arg6 harg6 _); iexact H6
  isplitl [H7]
  · iapply (held c arg7 harg7 _); iexact H7
  isplitl [H8]
  · iapply (held c arg8 harg8 _); iexact H8
  isplitl [H9]
  · iapply (held c arg9 harg9 _); iexact H9
  isplitl [H10]
  · iapply (held c arg10 harg10 _); iexact H10
  isplitl [H11]
  · iapply (held c arg11 harg11 _); iexact H11
  isplitl [H12]
  · iapply (held c arg12 harg12 _); iexact H12
  isplitl [H13]
  · iapply (held c arg13 harg13 _); iexact H13
  isplitl [H14]
  · iapply (held c arg14 harg14 _); iexact H14
  isplitl [H15]
  · iapply (held c arg15 harg15 _); iexact H15
  isplitl [H16]
  · iapply (held c arg16 harg16 _); iexact H16
  isplitl [H17]
  · iapply (held c arg17 harg17 _); iexact H17
  isplitl [H18]
  · iapply (held c arg18 harg18 _); iexact H18
  isplitl [H19]
  · iexists _; isplitr
    swap; · iexact H19
    ipureintro; refine (View.read_writes_full _ _ _ _ _).trans ?_; frame_out; rfl
  isplitl [H20]
  · iexists _; isplitr
    swap; · iexact H20
    ipureintro; refine (View.read_writes_full _ _ _ _ _).trans ?_; frame_out; rfl
  isplitl [H21]
  · iexists _; isplitr
    swap; · iexact H21
    ipureintro; refine (View.read_writes_full _ _ _ _ _).trans ?_; frame_out; rfl
  isplitl [H22]
  · iexists _; isplitr
    swap; · iexact H22
    ipureintro; refine (View.read_writes_full _ _ _ _ _).trans ?_; frame_out; rfl
  isplitl [H23]
  · iexists _; isplitr
    swap; · iexact H23
    ipureintro; refine (View.read_writes_full _ _ _ _ _).trans ?_; frame_out; rfl
  isplitl [H24]
  · iexists _; isplitr
    swap; · iexact H24
    ipureintro; refine (View.read_writes_full _ _ _ _ _).trans ?_; frame_out; rfl
  isplitl [H25]
  · iexists _; isplitr
    swap; · iexact H25
    ipureintro; refine (View.read_writes_full _ _ _ _ _).trans ?_; frame_out; rfl
  iexists _; isplitr
  swap; · iexact H26
  ipureintro; refine (View.read_writes_full _ _ _ _ _).trans ?_; frame_out; rfl

end Cert.PrepIdeal.Run
-- ==== Proof.PrepFrame.lean ====
/- The frame of the gradient of the token shift, the decay, the learning rate and the gate: the proof data of its
   pipeline, the body at every grid point, the launch. -/
module

public import proofs.«01_k».proof.Proof.Gen.PrepIdeal.Frame.Runs
public import proofs.«01_k».proof.Proof.PrepBody
public import Idealize.ShloMosaic.Lib.Claim
public import Idealize.ShloMosaic.Lib.Pipeline.TableIdle

@[expose] public section

set_option maxRecDepth 16384

noncomputable section

namespace Cert.PrepIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.PrepIdeal.Gen

variable {F : FTy → Type} [FloatOps F]

local notation "𝕄G" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

theorem live : ∀ (w : Fin cfg0.W) (t : Fin cfg0.N), cfg0.idle w (grid0.coords t) = false := by decide +kernel

theorem at_first (t : Fin cfg0.N) : t.val % 32 = 0 ↔ t.val = 0 := by
  have : t.val < 32 := lt_of_lt_of_eq t.isLt N_0
  omega

/-- The blocks a point reads. -/
def insAt (c : Dev nD) (t : Fin cfg0.N) : Ins F where
  p := X0_0 m c t
  edge := iblk m c 1 t
  mu := iblk m c 2 t
  w0 := iblk m c 3 t
  wd := iblk m c 4 t
  a0 := iblk m c 5 t
  wa := iblk m c 6 t
  wg := iblk m c 7 t
  dr := iblk m c 8 t
  dk := iblk m c 9 t
  dv := iblk m c 10 t
  dlw := iblk m c 11 t
  da := iblk m c 12 t
  dy := iblk m c 13 t
  z := iblk m c 14 t
  sq := iblk m c 15 t
  sk := iblk m c 16 t
  sv := iblk m c 17 t

/-- The parameters' gradients after a point: the sum over the tiles so far. -/
def gAt (c : Dev nD) : (n : ℕ) → n < cfg0.N → Pars F
  | 0, hn => (insAt m c ⟨0, hn⟩).grads
  | n + 1, hn => (insAt m c ⟨n + 1, hn⟩).grads.add (gAt c n (Nat.lt_of_succ_lt hn))

/-- What the tile visited before handed back: nothing at the first point. -/
def nextAt (c : Dev nD) : (n : ℕ) → n < cfg0.N → Vec F S8x1792 .f32
  | 0, _ => k0_pay8 (F := F)
  | n + 1, hn => (insAt m c ⟨n, Nat.lt_of_succ_lt hn⟩).next

theorem gAt_first (c : Dev nD) (t : Fin cfg0.N) (h : t.val = 0) : gAt m c t.val t.isLt = (insAt m c t).grads := by
  obtain ⟨n, hn⟩ := t
  subst h; rfl
theorem gAt_later (c : Dev nD) (t : Fin cfg0.N) (h : t.val ≠ 0) :
    gAt m c t.val t.isLt = (insAt m c t).grads.add (gAt m c (t.val - 1) (Nat.lt_of_le_of_lt (Nat.sub_le _ _) t.isLt)) := by
  obtain ⟨n, hn⟩ := t
  cases n with
  | zero => exact absurd rfl h
  | succ n => rfl
theorem nextAt_first (c : Dev nD) (t : Fin cfg0.N) (h : t.val = 0) : nextAt m c t.val t.isLt = k0_pay8 (F := F) := by
  obtain ⟨n, hn⟩ := t
  subst h; rfl
theorem nextAt_later (c : Dev nD) (t : Fin cfg0.N) (h : t.val ≠ 0) :
    nextAt m c t.val t.isLt = (insAt m c ⟨t.val - 1, Nat.lt_of_le_of_lt (Nat.sub_le _ _) t.isLt⟩).next := by
  obtain ⟨n, hn⟩ := t
  cases n with
  | zero => exact absurd rfl h
  | succ n => rfl

/-- Between points the scratch holds what the last tile handed back. -/
def Phi (c : Dev nD) : (n : ℕ) → n ≤ cfg0.N → sProp 𝕄G
  | 0, _ => Pipeline.ΦA spec0 c
  | n + 1, hn => iprop(owns (c : Thread nD τ) scM0_0 fullShare (insAt m c ⟨n, hn⟩).next ∗ (∃ r, prngReg c r))

theorem Phi_first (c : Dev nD) (n : ℕ) (h : n ≤ cfg0.N) (hz : n = 0) : Phi m c n h = Pipeline.ΦA spec0 c := by
  subst hz; rfl
theorem Phi_later (c : Dev nD) (n : ℕ) (h : n ≤ cfg0.N) (hz : n ≠ 0) :
    Phi m c n h = iprop(owns (c : Thread nD τ) scM0_0 fullShare (insAt m c ⟨n - 1, by omega⟩).next ∗ (∃ r, prngReg c r)) := by
  cases n with
  | zero => exact absurd rfl hz
  | succ n => rfl

/-! ## The proof data -/

/-- The arrays as the region finds them; each input's buffer at its block, each output's at what the body leaves. -/
def dats (_ : Fin 1) (c : Dev nD) : Dat τ (Elt F) Unit ℕ (UR sig nD τ) ℕ cfg0 c where
  A w := V m c (Pipeline.arrRef spec0 w)
  after w t := match w with
    | ⟨0, _⟩ => (insAt m c t).p
    | ⟨1, _⟩ => (insAt m c t).edge
    | ⟨2, _⟩ => (insAt m c t).mu
    | ⟨3, _⟩ => (insAt m c t).w0
    | ⟨4, _⟩ => (insAt m c t).wd
    | ⟨5, _⟩ => (insAt m c t).a0
    | ⟨6, _⟩ => (insAt m c t).wa
    | ⟨7, _⟩ => (insAt m c t).wg
    | ⟨8, _⟩ => (insAt m c t).dr
    | ⟨9, _⟩ => (insAt m c t).dk
    | ⟨10, _⟩ => (insAt m c t).dv
    | ⟨11, _⟩ => (insAt m c t).dlw
    | ⟨12, _⟩ => (insAt m c t).da
    | ⟨13, _⟩ => (insAt m c t).dy
    | ⟨14, _⟩ => (insAt m c t).z
    | ⟨15, _⟩ => (insAt m c t).sq
    | ⟨16, _⟩ => (insAt m c t).sk
    | ⟨17, _⟩ => (insAt m c t).sv
    | ⟨18, _⟩ => (insAt m c t).dp (grid0.coords t) (nextAt m c t.val t.isLt)
    | ⟨19, _⟩ => (gAt m c t.val t.isLt).mu
    | ⟨20, _⟩ => (gAt m c t.val t.isLt).w0
    | ⟨21, _⟩ => (gAt m c t.val t.isLt).wd
    | ⟨22, _⟩ => (gAt m c t.val t.isLt).a0
    | ⟨23, _⟩ => (gAt m c t.val t.isLt).wa
    | ⟨24, _⟩ => (gAt m c t.val t.isLt).wg
    | ⟨_ + 25, h⟩ => absurd h (Nat.not_lt.2 (Nat.le_add_left _ _))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_cast (c : Dev nD) (t : Fin cfg0.N) : (dats m 0 c).Φ t.castSucc = Phi m c t.val (Nat.le_of_lt t.isLt) := by
  dsimp only [dats]; exact Pipeline.Dat.Φ_castSucc (Phi m c) t
theorem after_0 (c : Dev nD) (t : Fin cfg0.N) : (dats m 0 c).after 0 t = (insAt m c t).p := by dsimp only [dats]
theorem after_1 (c : Dev nD) (t : Fin cfg0.N) : (dats m 0 c).after 1 t = (insAt m c t).edge := by dsimp only [dats]
theorem after_2 (c : Dev nD) (t : Fin cfg0.N) : (dats m 0 c).after 2 t = (insAt m c t).mu := by dsimp only [dats]
theorem after_3 (c : Dev nD) (t : Fin cfg0.N) : (dats m 0 c).after 3 t = (insAt m c t).w0 := by dsimp only [dats]
theorem after_4 (c : Dev nD) (t : Fin cfg0.N) : (dats m 0 c).after 4 t = (insAt m c t).wd := by dsimp only [dats]
theorem after_5 (c : Dev nD) (t : Fin cfg0.N) : (dats m 0 c).after 5 t = (insAt m c t).a0 := by dsimp only [dats]
theorem after_6 (c : Dev nD) (t : Fin cfg0.N) : (dats m 0 c).after 6 t = (insAt m c t).wa := by dsimp only [dats]
theorem after_7 (c : Dev nD) (t : Fin cfg0.N) : (dats m 0 c).after 7 t = (insAt m c t).wg := by dsimp only [dats]
theorem after_8 (c : Dev nD) (t : Fin cfg0.N) : (dats m 0 c).after 8 t = (insAt m c t).dr := by dsimp only [dats]
theorem after_9 (c : Dev nD) (t : Fin cfg0.N) : (dats m 0 c).after 9 t = (insAt m c t).dk := by dsimp only [dats]
theorem after_10 (c : Dev nD) (t : Fin cfg0.N) : (dats m 0 c).after 10 t = (insAt m c t).dv := by dsimp only [dats]
theorem after_11 (c : Dev nD) (t : Fin cfg0.N) : (dats m 0 c).after 11 t = (insAt m c t).dlw := by dsimp only [dats]
theorem after_12 (c : Dev nD) (t : Fin cfg0.N) : (dats m 0 c).after 12 t = (insAt m c t).da := by dsimp only [dats]
theorem after_13 (c : Dev nD) (t : Fin cfg0.N) : (dats m 0 c).after 13 t = (insAt m c t).dy := by dsimp only [dats]
theorem after_14 (c : Dev nD) (t : Fin cfg0.N) : (dats m 0 c).after 14 t = (insAt m c t).z := by dsimp only [dats]
theorem after_15 (c : Dev nD) (t : Fin cfg0.N) : (dats m 0 c).after 15 t = (insAt m c t).sq := by dsimp only [dats]
theorem after_16 (c : Dev nD) (t : Fin cfg0.N) : (dats m 0 c).after 16 t = (insAt m c t).sk := by dsimp only [dats]
theorem after_17 (c : Dev nD) (t : Fin cfg0.N) : (dats m 0 c).after 17 t = (insAt m c t).sv := by dsimp only [dats]
theorem after_18 (c : Dev nD) (t : Fin cfg0.N) : (dats m 0 c).after 18 t = (insAt m c t).dp (grid0.coords t) (nextAt m c t.val t.isLt) := by dsimp only [dats]
theorem after_19 (c : Dev nD) (t : Fin cfg0.N) : (dats m 0 c).after 19 t = (gAt m c t.val t.isLt).mu := by dsimp only [dats]
theorem after_20 (c : Dev nD) (t : Fin cfg0.N) : (dats m 0 c).after 20 t = (gAt m c t.val t.isLt).w0 := by dsimp only [dats]
theorem after_21 (c : Dev nD) (t : Fin cfg0.N) : (dats m 0 c).after 21 t = (gAt m c t.val t.isLt).wd := by dsimp only [dats]
theorem after_22 (c : Dev nD) (t : Fin cfg0.N) : (dats m 0 c).after 22 t = (gAt m c t.val t.isLt).a0 := by dsimp only [dats]
theorem after_23 (c : Dev nD) (t : Fin cfg0.N) : (dats m 0 c).after 23 t = (gAt m c t.val t.isLt).wa := by dsimp only [dats]
theorem after_24 (c : Dev nD) (t : Fin cfg0.N) : (dats m 0 c).after 24 t = (gAt m c t.val t.isLt).wg := by dsimp only [dats]
theorem before_0 (c : Dev nD) (t : Fin cfg0.N) (d) : (dats m 0 c).before 0 t d = (insAt m c t).p :=
  before0_0_of m (dats m 0 c) (A_eq m c 0) (after_0 m c) t d
theorem before_1 (c : Dev nD) (t : Fin cfg0.N) (d) : (dats m 0 c).before 1 t d = (insAt m c t).edge :=
  before0_1_of m (dats m 0 c) (A_eq m c 1) (after_1 m c) t d
theorem before_2 (c : Dev nD) (t : Fin cfg0.N) (d) : (dats m 0 c).before 2 t d = (insAt m c t).mu :=
  before0_2_of m (dats m 0 c) (A_eq m c 2) (after_2 m c) t d
theorem before_3 (c : Dev nD) (t : Fin cfg0.N) (d) : (dats m 0 c).before 3 t d = (insAt m c t).w0 :=
  before0_3_of m (dats m 0 c) (A_eq m c 3) (after_3 m c) t d
theorem before_4 (c : Dev nD) (t : Fin cfg0.N) (d) : (dats m 0 c).before 4 t d = (insAt m c t).wd :=
  before0_4_of m (dats m 0 c) (A_eq m c 4) (after_4 m c) t d
theorem before_5 (c : Dev nD) (t : Fin cfg0.N) (d) : (dats m 0 c).before 5 t d = (insAt m c t).a0 :=
  before0_5_of m (dats m 0 c) (A_eq m c 5) (after_5 m c) t d
theorem before_6 (c : Dev nD) (t : Fin cfg0.N) (d) : (dats m 0 c).before 6 t d = (insAt m c t).wa :=
  before0_6_of m (dats m 0 c) (A_eq m c 6) (after_6 m c) t d
theorem before_7 (c : Dev nD) (t : Fin cfg0.N) (d) : (dats m 0 c).before 7 t d = (insAt m c t).wg :=
  before0_7_of m (dats m 0 c) (A_eq m c 7) (after_7 m c) t d
theorem before_8 (c : Dev nD) (t : Fin cfg0.N) (d) : (dats m 0 c).before 8 t d = (insAt m c t).dr :=
  before0_8_of m (dats m 0 c) (A_eq m c 8) (after_8 m c) t d
theorem before_9 (c : Dev nD) (t : Fin cfg0.N) (d) : (dats m 0 c).before 9 t d = (insAt m c t).dk :=
  before0_9_of m (dats m 0 c) (A_eq m c 9) (after_9 m c) t d
theorem before_10 (c : Dev nD) (t : Fin cfg0.N) (d) : (dats m 0 c).before 10 t d = (insAt m c t).dv :=
  before0_10_of m (dats m 0 c) (A_eq m c 10) (after_10 m c) t d
theorem before_11 (c : Dev nD) (t : Fin cfg0.N) (d) : (dats m 0 c).before 11 t d = (insAt m c t).dlw :=
  before0_11_of m (dats m 0 c) (A_eq m c 11) (after_11 m c) t d
theorem before_12 (c : Dev nD) (t : Fin cfg0.N) (d) : (dats m 0 c).before 12 t d = (insAt m c t).da :=
  before0_12_of m (dats m 0 c) (A_eq m c 12) (after_12 m c) t d
theorem before_13 (c : Dev nD) (t : Fin cfg0.N) (d) : (dats m 0 c).before 13 t d = (insAt m c t).dy :=
  before0_13_of m (dats m 0 c) (A_eq m c 13) (after_13 m c) t d
theorem before_14 (c : Dev nD) (t : Fin cfg0.N) (d) : (dats m 0 c).before 14 t d = (insAt m c t).z :=
  before0_14_of m (dats m 0 c) (A_eq m c 14) (after_14 m c) t d
theorem before_15 (c : Dev nD) (t : Fin cfg0.N) (d) : (dats m 0 c).before 15 t d = (insAt m c t).sq :=
  before0_15_of m (dats m 0 c) (A_eq m c 15) (after_15 m c) t d
theorem before_16 (c : Dev nD) (t : Fin cfg0.N) (d) : (dats m 0 c).before 16 t d = (insAt m c t).sk :=
  before0_16_of m (dats m 0 c) (A_eq m c 16) (after_16 m c) t d
theorem before_17 (c : Dev nD) (t : Fin cfg0.N) (d) : (dats m 0 c).before 17 t d = (insAt m c t).sv :=
  before0_17_of m (dats m 0 c) (A_eq m c 17) (after_17 m c) t d
theorem before_19 (c : Dev nD) (t : Fin cfg0.N) (h : t.val ≠ 0) (d) :
    (dats m 0 c).before 19 t d = (gAt m c (t.val - 1) (Nat.lt_of_le_of_lt (Nat.sub_le _ _) t.isLt)).mu := by
  have h1 : 1 ≤ t.val := Nat.one_le_iff_ne_zero.2 h
  have h0 : ¬t.val % 32 = 0 := fun e => h ((at_first t).1 e)
  rw [Dat.before_out_traj _ 19 rfl (fun _ _ => rfl)
    (fun t _ hi _ => absurd ((live 19 t).symm.trans hi) Bool.false_ne_true) t.val t rfl d,
    if_neg (by rw [notFresh0_19_B t (fun e => h0 ((hcond0_0 t).1 e)) (fun e => h0 ((hcond0_1 t).1 e)) ((hcond0_2 t).2 h1)]; exact Bool.false_ne_true)]
  dsimp only [dats]
theorem before_20 (c : Dev nD) (t : Fin cfg0.N) (h : t.val ≠ 0) (d) :
    (dats m 0 c).before 20 t d = (gAt m c (t.val - 1) (Nat.lt_of_le_of_lt (Nat.sub_le _ _) t.isLt)).w0 := by
  have h1 : 1 ≤ t.val := Nat.one_le_iff_ne_zero.2 h
  have h0 : ¬t.val % 32 = 0 := fun e => h ((at_first t).1 e)
  rw [Dat.before_out_traj _ 20 rfl (fun _ _ => rfl)
    (fun t _ hi _ => absurd ((live 20 t).symm.trans hi) Bool.false_ne_true) t.val t rfl d,
    if_neg (by rw [notFresh0_20_B t (fun e => h0 ((hcond0_0 t).1 e)) (fun e => h0 ((hcond0_1 t).1 e)) ((hcond0_2 t).2 h1)]; exact Bool.false_ne_true)]
  dsimp only [dats]
theorem before_21 (c : Dev nD) (t : Fin cfg0.N) (h : t.val ≠ 0) (d) :
    (dats m 0 c).before 21 t d = (gAt m c (t.val - 1) (Nat.lt_of_le_of_lt (Nat.sub_le _ _) t.isLt)).wd := by
  have h1 : 1 ≤ t.val := Nat.one_le_iff_ne_zero.2 h
  have h0 : ¬t.val % 32 = 0 := fun e => h ((at_first t).1 e)
  rw [Dat.before_out_traj _ 21 rfl (fun _ _ => rfl)
    (fun t _ hi _ => absurd ((live 21 t).symm.trans hi) Bool.false_ne_true) t.val t rfl d,
    if_neg (by rw [notFresh0_21_B t (fun e => h0 ((hcond0_0 t).1 e)) (fun e => h0 ((hcond0_1 t).1 e)) ((hcond0_2 t).2 h1)]; exact Bool.false_ne_true)]
  dsimp only [dats]
theorem before_22 (c : Dev nD) (t : Fin cfg0.N) (h : t.val ≠ 0) (d) :
    (dats m 0 c).before 22 t d = (gAt m c (t.val - 1) (Nat.lt_of_le_of_lt (Nat.sub_le _ _) t.isLt)).a0 := by
  have h1 : 1 ≤ t.val := Nat.one_le_iff_ne_zero.2 h
  have h0 : ¬t.val % 32 = 0 := fun e => h ((at_first t).1 e)
  rw [Dat.before_out_traj _ 22 rfl (fun _ _ => rfl)
    (fun t _ hi _ => absurd ((live 22 t).symm.trans hi) Bool.false_ne_true) t.val t rfl d,
    if_neg (by rw [notFresh0_22_B t (fun e => h0 ((hcond0_0 t).1 e)) (fun e => h0 ((hcond0_1 t).1 e)) ((hcond0_2 t).2 h1)]; exact Bool.false_ne_true)]
  dsimp only [dats]
theorem before_23 (c : Dev nD) (t : Fin cfg0.N) (h : t.val ≠ 0) (d) :
    (dats m 0 c).before 23 t d = (gAt m c (t.val - 1) (Nat.lt_of_le_of_lt (Nat.sub_le _ _) t.isLt)).wa := by
  have h1 : 1 ≤ t.val := Nat.one_le_iff_ne_zero.2 h
  have h0 : ¬t.val % 32 = 0 := fun e => h ((at_first t).1 e)
  rw [Dat.before_out_traj _ 23 rfl (fun _ _ => rfl)
    (fun t _ hi _ => absurd ((live 23 t).symm.trans hi) Bool.false_ne_true) t.val t rfl d,
    if_neg (by rw [notFresh0_23_B t (fun e => h0 ((hcond0_0 t).1 e)) (fun e => h0 ((hcond0_1 t).1 e)) ((hcond0_2 t).2 h1)]; exact Bool.false_ne_true)]
  dsimp only [dats]
theorem before_24 (c : Dev nD) (t : Fin cfg0.N) (h : t.val ≠ 0) (d) :
    (dats m 0 c).before 24 t d = (gAt m c (t.val - 1) (Nat.lt_of_le_of_lt (Nat.sub_le _ _) t.isLt)).wg := by
  have h1 : 1 ≤ t.val := Nat.one_le_iff_ne_zero.2 h
  have h0 : ¬t.val % 32 = 0 := fun e => h ((at_first t).1 e)
  rw [Dat.before_out_traj _ 24 rfl (fun _ _ => rfl)
    (fun t _ hi _ => absurd ((live 24 t).symm.trans hi) Bool.false_ne_true) t.val t rfl d,
    if_neg (by rw [notFresh0_24_B t (fun e => h0 ((hcond0_0 t).1 e)) (fun e => h0 ((hcond0_1 t).1 e)) ((hcond0_2 t).2 h1)]; exact Bool.false_ne_true)]
  dsimp only [dats]

/-! ## The body at a point -/

/-- What the body is called with. -/
def bodyPre (c : Dev nD) (t : Fin cfg0.N) : sProp 𝕄G :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))
/-- What it returns. -/
def bodyPost (c : Dev nD) (t : Fin cfg0.N) : sProp 𝕄G :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17]
  rw [show (dats m 0 c).owesAt () t.succ = (dats m 0 c).owesAt () t.castSucc from rfl,
    show (dats m 0 c).Φ t.succ = iprop(owns (c : Thread nD τ) scM0_0 fullShare (insAt m c t).next ∗ (∃ r, prngReg c r)) from rfl, Phi_cast]
  rw [show (dats m 0 c).leavesExact 0 t = owns (c : Thread nD τ) (ms0_0 t) fullShare ((dats m 0 c).after 0 t) from by
    unfold Dat.leavesExact; rw [live 0 t], after_0]
  rw [show (dats m 0 c).leavesExact 1 t = owns (c : Thread nD τ) (ms0_1 t) fullShare ((dats m 0 c).after 1 t) from by
    unfold Dat.leavesExact; rw [live 1 t], after_1]
  rw [show (dats m 0 c).leavesExact 2 t = owns (c : Thread nD τ) (ms0_2 t) fullShare ((dats m 0 c).after 2 t) from by
    unfold Dat.leavesExact; rw [live 2 t], after_2]
  rw [show (dats m 0 c).leavesExact 3 t = owns (c : Thread nD τ) (ms0_3 t) fullShare ((dats m 0 c).after 3 t) from by
    unfold Dat.leavesExact; rw [live 3 t], after_3]
  rw [show (dats m 0 c).leavesExact 4 t = owns (c : Thread nD τ) (ms0_4 t) fullShare ((dats m 0 c).after 4 t) from by
    unfold Dat.leavesExact; rw [live 4 t], after_4]
  rw [show (dats m 0 c).leavesExact 5 t = owns (c : Thread nD τ) (ms0_5 t) fullShare ((dats m 0 c).after 5 t) from by
    unfold Dat.leavesExact; rw [live 5 t], after_5]
  rw [show (dats m 0 c).leavesExact 6 t = owns (c : Thread nD τ) (ms0_6 t) fullShare ((dats m 0 c).after 6 t) from by
    unfold Dat.leavesExact; rw [live 6 t], after_6]
  rw [show (dats m 0 c).leavesExact 7 t = owns (c : Thread nD τ) (ms0_7 t) fullShare ((dats m 0 c).after 7 t) from by
    unfold Dat.leavesExact; rw [live 7 t], after_7]
  rw [show (dats m 0 c).leavesExact 8 t = owns (c : Thread nD τ) (ms0_8 t) fullShare ((dats m 0 c).after 8 t) from by
    unfold Dat.leavesExact; rw [live 8 t], after_8]
  rw [show (dats m 0 c).leavesExact 9 t = owns (c : Thread nD τ) (ms0_9 t) fullShare ((dats m 0 c).after 9 t) from by
    unfold Dat.leavesExact; rw [live 9 t], after_9]
  rw [show (dats m 0 c).leavesExact 10 t = owns (c : Thread nD τ) (ms0_10 t) fullShare ((dats m 0 c).after 10 t) from by
    unfold Dat.leavesExact; rw [live 10 t], after_10]
  rw [show (dats m 0 c).leavesExact 11 t = owns (c : Thread nD τ) (ms0_11 t) fullShare ((dats m 0 c).after 11 t) from by
    unfold Dat.leavesExact; rw [live 11 t], after_11]
  rw [show (dats m 0 c).leavesExact 12 t = owns (c : Thread nD τ) (ms0_12 t) fullShare ((dats m 0 c).after 12 t) from by
    unfold Dat.leavesExact; rw [live 12 t], after_12]
  rw [show (dats m 0 c).leavesExact 13 t = owns (c : Thread nD τ) (ms0_13 t) fullShare ((dats m 0 c).after 13 t) from by
    unfold Dat.leavesExact; rw [live 13 t], after_13]
  rw [show (dats m 0 c).leavesExact 14 t = owns (c : Thread nD τ) (ms0_14 t) fullShare ((dats m 0 c).after 14 t) from by
    unfold Dat.leavesExact; rw [live 14 t], after_14]
  rw [show (dats m 0 c).leavesExact 15 t = owns (c : Thread nD τ) (ms0_15 t) fullShare ((dats m 0 c).after 15 t) from by
    unfold Dat.leavesExact; rw [live 15 t], after_15]
  rw [show (dats m 0 c).leavesExact 16 t = owns (c : Thread nD τ) (ms0_16 t) fullShare ((dats m 0 c).after 16 t) from by
    unfold Dat.leavesExact; rw [live 16 t], after_16]
  rw [show (dats m 0 c).leavesExact 17 t = owns (c : Thread nD τ) (ms0_17 t) fullShare ((dats m 0 c).after 17 t) from by
    unfold Dat.leavesExact; rw [live 17 t], after_17]
  rw [show (dats m 0 c).leavesExact 18 t = owns (c : Thread nD τ) (ms0_18 t) fullShare ((dats m 0 c).after 18 t) from by
    unfold Dat.leavesExact; rw [live 18 t], after_18]
  rw [show (dats m 0 c).leavesExact 19 t = owns (c : Thread nD τ) (ms0_19 t) fullShare ((dats m 0 c).after 19 t) from by
    unfold Dat.leavesExact; rw [live 19 t], after_19]
  rw [show (dats m 0 c).leavesExact 20 t = owns (c : Thread nD τ) (ms0_20 t) fullShare ((dats m 0 c).after 20 t) from by
    unfold Dat.leavesExact; rw [live 20 t], after_20]
  rw [show (dats m 0 c).leavesExact 21 t = owns (c : Thread nD τ) (ms0_21 t) fullShare ((dats m 0 c).after 21 t) from by
    unfold Dat.leavesExact; rw [live 21 t], after_21]
  rw [show (dats m 0 c).leavesExact 22 t = owns (c : Thread nD τ) (ms0_22 t) fullShare ((dats m 0 c).after 22 t) from by
    unfold Dat.leavesExact; rw [live 22 t], after_22]
  rw [show (dats m 0 c).leavesExact 23 t = owns (c : Thread nD τ) (ms0_23 t) fullShare ((dats m 0 c).after 23 t) from by
    unfold Dat.leavesExact; rw [live 23 t], after_23]
  rw [show (dats m 0 c).leavesExact 24 t = owns (c : Thread nD τ) (ms0_24 t) fullShare ((dats m 0 c).after 24 t) from by
    unfold Dat.leavesExact; rw [live 24 t], after_24]
  by_cases h : t.val = 0
  · rw [Phi_first m c _ _ h, PhiA0_eq, gAt_first m c t h, nextAt_first m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply (bodyA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (insAt m c t) ((hcond0_0 t).2 ((at_first t).2 h)) ((hcond0_1 t).2 ((at_first t).2 h)) (fun e => absurd ((hcond0_2 t).1 e) (by omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [HS]; · iexact HS
    iintro ⟨H0, H1, H2, H3, H4, H5, H6, H7, H8, H9, H10, H11, H12, H13, H14, H15, H16, H17, H18, H19, H20, H21, H22, H23, H24, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  · rw [Phi_later m c _ _ h, gAt_later m c t h, nextAt_later m c t h]
    simp only [before_19 m c t h, before_20 m c t h, before_21 m c t h, before_22 m c t h, before_23 m c t h, before_24 m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply (bodyB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) (insAt m c t) (fun e => h ((at_first t).1 ((hcond0_0 t).1 e))) (fun e => h ((at_first t).1 ((hcond0_1 t).1 e))) ((hcond0_2 t).2 (Nat.one_le_iff_ne_zero.2 h)) (gAt m c (t.val - 1) (Nat.lt_of_le_of_lt (Nat.sub_le _ _) t.isLt)) (insAt m c ⟨t.val - 1, Nat.lt_of_le_of_lt (Nat.sub_le _ _) t.isLt⟩).next Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexact H19
    isplitl [H20]; · iexact H20
    isplitl [H21]; · iexact H21
    isplitl [H22]; · iexact H22
    isplitl [H23]; · iexact H23
    isplitl [H24]; · iexact H24
    isplitl [HS]; · iexact HS
    iintro ⟨H0, H1, H2, H3, H4, H5, H6, H7, H8, H9, H10, H11, H12, H13, H14, H15, H16, H17, H18, H19, H20, H21, H22, H23, H24, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24

theorem defs_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem enter (c : Dev nD) : Pipeline.ΦA spec0 c ⊢ (dats m 0 c).Φ 0 := by
  rw [show (dats m 0 c).Φ 0 = Phi m c 0 (Nat.zero_le _) from rfl, Phi_first m c 0 _ rfl]
  try exact Idealize.SL.BI.Entails.refl _

/-- After any point but the first the scratch's contents may be forgotten. -/
theorem leave (c : Dev nD) (t : Fin (cfg0.N + 1)) (ht : t.val ≠ 0) : (dats m 0 c).Φ t ⊢ Pipeline.ΦA spec0 c := by
  rw [show (dats m 0 c).Φ t = Phi m c t.val (Nat.le_of_lt_succ t.isLt) from rfl, Phi_later m c _ _ ht, PhiA0_eq]
  iintro ⟨HS, Hg⟩
  isplitl [HS]
  · iexists _; iexact HS
  iexact Hg

/-! ## The run and the frame -/

set_option backward.isDefEq.respectTransparency.types false in
set_option maxHeartbeats 4000000 in
/-- The launch: every array of the pipeline ends at what the proof data say, every counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m)
    (hout := fun c => leave m c _ (fun e => absurd ((Fin.val_last _).symm.trans e) (by rw [show cfg0.N = 32 from N_0]; decide)))

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged and every counter at zero. -/
theorem frame_prep : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (frame_of m ρ (dats m) (A_eq m) (run_main m ρ)) ((θ_run defs _ _).mono (fun _ h => h.2) (run_main_quiescent m ρ))

end Cert.PrepIdeal.Run
-- ==== Proof.PrepReads.lean ====
/- The blocks a grid point reads, as rows of the arguments. -/
module

public import proofs.«01_k».proof.Proof.Gen.PrepIdeal.Skeleton
public import proofs.«01_k».proof.Proof.PrepHold
public import proofs.«01_k».proof.Proof.PrepFrame
public import Idealize.ShloMosaic.Lib.Pipeline.ValueKit
public import Idealize.ShloMosaic.Lib.Pointwise
public import Idealize.ShloMosaic.Lib.KernelVsHost
public import Idealize.ShloMosaic.Lib.WordCmp

@[expose] public section

set_option maxRecDepth 16384

noncomputable section

open Idealize.ShloMosaic Idealize.ShloMosaic.TcCoe Idealize.SL.Sem
open scoped BigOperators

namespace Cert.PrepIdeal.Run

open Cert.PrepIdeal Cert.PrepIdeal.Gen
open Cert.Prep (Re Row)

variable (m : (ℓ : Loc nD τ sig) → Buf (Elt Ideal) ℓ) (c : Dev nD)

/-- Every window's block index at every grid point: the tiles are visited from the last to the first. -/
theorem idx_val : ∀ t : Fin cfg0.N, win0_0.index t = ![31 - t.val, 0] ∧ win0_1.index t = ![31 - t.val, 0, 0]
    ∧ win0_2.index t = ![0, 0] ∧ win0_3.index t = ![0, 0] ∧ win0_4.index t = ![0, 0] ∧ win0_5.index t = ![0, 0] ∧ win0_6.index t = ![0, 0] ∧ win0_7.index t = ![0, 0]
    ∧ win0_8.index t = ![31 - t.val, 0] ∧ win0_9.index t = ![31 - t.val, 0] ∧ win0_10.index t = ![31 - t.val, 0] ∧ win0_11.index t = ![31 - t.val, 0]
    ∧ win0_12.index t = ![31 - t.val, 0] ∧ win0_13.index t = ![31 - t.val, 0] ∧ win0_14.index t = ![31 - t.val, 0] ∧ win0_15.index t = ![31 - t.val, 0]
    ∧ win0_16.index t = ![31 - t.val, 0] ∧ win0_17.index t = ![31 - t.val, 0] ∧ win0_18.index t = ![31 - t.val, 0]
    ∧ win0_19.index t = ![0, 0] ∧ win0_20.index t = ![0, 0] ∧ win0_21.index t = ![0, 0] ∧ win0_22.index t = ![0, 0] ∧ win0_23.index t = ![0, 0] ∧ win0_24.index t = ![0, 0] :=
  (by decide +kernel : ∀ t : Fin grid0.N, _)

/-- The row of the whole array a tile's row is. -/
def rw (t : ℕ) (s : ℕ) : ℕ := (31 - t) * 256 + s
theorem rw_lt (t : Fin cfg0.N) (s : Fin 256) : rw t.val s.val < 8192 := by
  have := lt_of_lt_of_eq t.isLt N_0
  unfold rw; omega

/-- Rows laid out one sequence after the other. -/
theorem flat512 (X : FVec Ideal S4x2048x512 .f32) (r : Fin 8192) (d : Fin 512) :
    shapeCast S8192x512 X shapeCasts_S4x2048x512_S8192x512 (ix2 r d) = X (ix3 (⟨r.val / 2048, by omega⟩ : Fin 4) (⟨r.val % 2048, by omega⟩ : Fin 2048) d) := by
  pointwise
theorem flat1024 (X : FVec Ideal S4x2048x1024 .f32) (r : Fin 8192) (d : Fin 1024) :
    shapeCast S8192x1024 X shapeCasts_S4x2048x1024_S8192x1024 (ix2 r d) = X (ix3 (⟨r.val / 2048, by omega⟩ : Fin 4) (⟨r.val % 2048, by omega⟩ : Fin 2048) d) := by
  pointwise
theorem flat3328 (X : FVec Ideal S4x2048x3328 .f32) (r : Fin 8192) (d : Fin 3328) :
    shapeCast S8192x3328 X shapeCasts_S4x2048x3328_S8192x3328 (ix2 r d) = X (ix3 (⟨r.val / 2048, by omega⟩ : Fin 4) (⟨r.val % 2048, by omega⟩ : Fin 2048) d) := by
  pointwise

theorem read8 (t : Fin cfg0.N) (X : BufTy.Contents (Elt Ideal) ⟨S8192x512, .f32⟩) (s : Fin 256) (d : Fin 512) :
    ((cfg0.win 8).blk t).view.read (Elt Ideal) X (ix2 s d) = X (ix2 ⟨rw t.val s.val, rw_lt t s⟩ d) := by
  unfold rw; blk_point [idx_val t]
theorem read9 (t : Fin cfg0.N) (X : BufTy.Contents (Elt Ideal) ⟨S8192x512, .f32⟩) (s : Fin 256) (d : Fin 512) :
    ((cfg0.win 9).blk t).view.read (Elt Ideal) X (ix2 s d) = X (ix2 ⟨rw t.val s.val, rw_lt t s⟩ d) := by
  unfold rw; blk_point [idx_val t]
theorem read10 (t : Fin cfg0.N) (X : BufTy.Contents (Elt Ideal) ⟨S8192x512, .f32⟩) (s : Fin 256) (d : Fin 512) :
    ((cfg0.win 10).blk t).view.read (Elt Ideal) X (ix2 s d) = X (ix2 ⟨rw t.val s.val, rw_lt t s⟩ d) := by
  unfold rw; blk_point [idx_val t]
theorem read11 (t : Fin cfg0.N) (X : BufTy.Contents (Elt Ideal) ⟨S8192x512, .f32⟩) (s : Fin 256) (d : Fin 512) :
    ((cfg0.win 11).blk t).view.read (Elt Ideal) X (ix2 s d) = X (ix2 ⟨rw t.val s.val, rw_lt t s⟩ d) := by
  unfold rw; blk_point [idx_val t]
theorem read12 (t : Fin cfg0.N) (X : BufTy.Contents (Elt Ideal) ⟨S8192x512, .f32⟩) (s : Fin 256) (d : Fin 512) :
    ((cfg0.win 12).blk t).view.read (Elt Ideal) X (ix2 s d) = X (ix2 ⟨rw t.val s.val, rw_lt t s⟩ d) := by
  unfold rw; blk_point [idx_val t]
theorem read14 (t : Fin cfg0.N) (X : BufTy.Contents (Elt Ideal) ⟨S8192x512, .f32⟩) (s : Fin 256) (d : Fin 512) :
    ((cfg0.win 14).blk t).view.read (Elt Ideal) X (ix2 s d) = X (ix2 ⟨rw t.val s.val, rw_lt t s⟩ d) := by
  unfold rw; blk_point [idx_val t]
theorem read15 (t : Fin cfg0.N) (X : BufTy.Contents (Elt Ideal) ⟨S8192x512, .f32⟩) (s : Fin 256) (d : Fin 512) :
    ((cfg0.win 15).blk t).view.read (Elt Ideal) X (ix2 s d) = X (ix2 ⟨rw t.val s.val, rw_lt t s⟩ d) := by
  unfold rw; blk_point [idx_val t]
theorem read16 (t : Fin cfg0.N) (X : BufTy.Contents (Elt Ideal) ⟨S8192x512, .f32⟩) (s : Fin 256) (d : Fin 512) :
    ((cfg0.win 16).blk t).view.read (Elt Ideal) X (ix2 s d) = X (ix2 ⟨rw t.val s.val, rw_lt t s⟩ d) := by
  unfold rw; blk_point [idx_val t]
theorem read17 (t : Fin cfg0.N) (X : BufTy.Contents (Elt Ideal) ⟨S8192x512, .f32⟩) (s : Fin 256) (d : Fin 512) :
    ((cfg0.win 17).blk t).view.read (Elt Ideal) X (ix2 s d) = X (ix2 ⟨rw t.val s.val, rw_lt t s⟩ d) := by
  unfold rw; blk_point [idx_val t]
theorem read13 (t : Fin cfg0.N) (X : BufTy.Contents (Elt Ideal) ⟨S8192x1024, .f32⟩) (s : Fin 256) (d : Fin 512) :
    ((cfg0.win 13).blk t).view.read (Elt Ideal) X (ix2 s d) = X (ix2 ⟨rw t.val s.val, rw_lt t s⟩ (⟨d.val, by omega⟩ : Fin 1024)) := by
  unfold rw; blk_point [idx_val t]
theorem read1 (t : Fin cfg0.N) (X : BufTy.Contents (Elt Ideal) ⟨S32x8x1792, .f32⟩) (j : Fin 1792) :
    ((cfg0.win 1).blk t).view.read (Elt Ideal) X (ix3 0 0 j) = X (ix3 (⟨31 - t.val, by omega⟩ : Fin 32) (0 : Fin 8) j) := by
  blk_point [idx_val t]
theorem read2 (t : Fin cfg0.N) (X : BufTy.Contents (Elt Ideal) ⟨S1x1792, .f32⟩) (i : Fin 1) (d : Fin 1792) :
    ((cfg0.win 2).blk t).view.read (Elt Ideal) X (ix2 i d) = X (ix2 i d) := by
  blk_point [idx_val t]
theorem read3 (t : Fin cfg0.N) (X : BufTy.Contents (Elt Ideal) ⟨S1x512, .f32⟩) (i : Fin 1) (d : Fin 512) :
    ((cfg0.win 3).blk t).view.read (Elt Ideal) X (ix2 i d) = X (ix2 i d) := by
  blk_point [idx_val t]
theorem read4 (t : Fin cfg0.N) (X : BufTy.Contents (Elt Ideal) ⟨S128x512, .bf16⟩) (i : Fin 128) (d : Fin 512) :
    ((cfg0.win 4).blk t).view.read (Elt Ideal) X (ix2 i d) = X (ix2 i d) := by
  blk_point [idx_val t]
theorem read5 (t : Fin cfg0.N) (X : BufTy.Contents (Elt Ideal) ⟨S1x512, .f32⟩) (i : Fin 1) (d : Fin 512) :
    ((cfg0.win 5).blk t).view.read (Elt Ideal) X (ix2 i d) = X (ix2 i d) := by
  blk_point [idx_val t]
theorem read6 (t : Fin cfg0.N) (X : BufTy.Contents (Elt Ideal) ⟨S128x512, .bf16⟩) (i : Fin 128) (d : Fin 512) :
    ((cfg0.win 6).blk t).view.read (Elt Ideal) X (ix2 i d) = X (ix2 i d) := by
  blk_point [idx_val t]
theorem read7 (t : Fin cfg0.N) (X : BufTy.Contents (Elt Ideal) ⟨S128x512, .bf16⟩) (i : Fin 128) (d : Fin 512) :
    ((cfg0.win 7).blk t).view.read (Elt Ideal) X (ix2 i d) = X (ix2 i d) := by
  blk_point [idx_val t]

/-! ### What the host hands over -/

theorem v16_eq : V m c main_v16 = shapeCast S8192x512 (m ((c : Thread nD τ).loc main_arg8)) shapeCasts_S4x2048x512_S8192x512 := by
  entry_read; rfl
theorem v17_eq : V m c main_v17 = shapeCast S8192x512 (m ((c : Thread nD τ).loc main_arg9)) shapeCasts_S4x2048x512_S8192x512 := by
  entry_read; rfl
theorem v18_eq : V m c main_v18 = shapeCast S8192x512 (m ((c : Thread nD τ).loc main_arg10)) shapeCasts_S4x2048x512_S8192x512 := by
  entry_read; rfl
theorem v19_eq : V m c main_v19 = shapeCast S8192x512 (m ((c : Thread nD τ).loc main_arg11)) shapeCasts_S4x2048x512_S8192x512 := by
  entry_read; rfl
theorem v20_eq : V m c main_v20 = shapeCast S8192x512 (m ((c : Thread nD τ).loc main_arg12)) shapeCasts_S4x2048x512_S8192x512 := by
  entry_read; rfl
theorem v22_eq : V m c main_v22 = shapeCast S8192x512 (m ((c : Thread nD τ).loc main_arg1)) shapeCasts_S4x2048x512_S8192x512 := by
  entry_read; rfl
theorem v24_eq : V m c main_v24 = shapeCast S8192x512 (m ((c : Thread nD τ).loc main_arg14)) shapeCasts_S4x2048x512_S8192x512 := by
  entry_read; rfl
theorem v25_eq : V m c main_v25 = shapeCast S8192x512 (m ((c : Thread nD τ).loc main_arg15)) shapeCasts_S4x2048x512_S8192x512 := by
  entry_read; rfl
theorem v26_eq : V m c main_v26 = shapeCast S8192x512 (m ((c : Thread nD τ).loc main_arg16)) shapeCasts_S4x2048x512_S8192x512 := by
  entry_read; rfl
theorem v21_eq : V m c main_v21 = shapeCast S8192x1024 (m ((c : Thread nD τ).loc main_arg13)) shapeCasts_S4x2048x1024_S8192x1024 := by
  entry_read; rfl
theorem v23_eq : V m c main_v23 = shapeCast S8192x3328 (m ((c : Thread nD τ).loc main_arg0)) shapeCasts_S4x2048x3328_S8192x3328 := by
  entry_read; rfl
theorem v12_eq : V m c main_v12 = shapeCast S1x1792 (m ((c : Thread nD τ).loc main_arg2)) shapeCasts_S1792_S1x1792 := by
  entry_read; rfl
theorem v13_eq : V m c main_v13 = shapeCast S1x512 (m ((c : Thread nD τ).loc main_arg3)) shapeCasts_S512_S1x512 := by
  entry_read; rfl
theorem v14_eq : V m c main_v14 = shapeCast S1x512 (m ((c : Thread nD τ).loc main_arg5)) shapeCasts_S512_S1x512 := by
  entry_read; rfl
theorem v15_eq : V m c main_v15 = (truncf .bf16 (m ((c : Thread nD τ).loc main_arg7) : FVec Ideal S128x512 .f32) bitsLt_bf16_f32 : FVec Ideal S128x512 .bf16) := by
  entry_read; rfl
/-- The zeros that fill the two low-rank weights up to 128 rows. -/
def zeros : FVec Ideal S64x512 .bf16 := broadcastInDim S64x512 ![] bcast_S_S64x512 (constant S_ .bf16 0x0000#16 : FVec Ideal S_ .bf16)
theorem v2_eq : V m c main_v2 = (concatenate S128x512 0 [⟨S64x512, (truncf .bf16 (m ((c : Thread nD τ).loc main_arg4) : FVec Ideal S64x512 .f32) bitsLt_bf16_f32 : FVec Ideal S64x512 .bf16)⟩, ⟨S64x512, zeros⟩] concatenates_S64x512_S64x512_S128x512_d0 : FVec Ideal S128x512 .bf16) := by
  entry_read; rfl
theorem v4_eq : V m c main_v4 = (concatenate S128x512 0 [⟨S64x512, zeros⟩, ⟨S64x512, (truncf .bf16 (m ((c : Thread nD τ).loc main_arg6) : FVec Ideal S64x512 .f32) bitsLt_bf16_f32 : FVec Ideal S64x512 .bf16)⟩] concatenates_S64x512_S64x512_S128x512_d0 : FVec Ideal S128x512 .bf16) := by
  entry_read; rfl
/-- The rows above, the first of each sequence zero. -/
def above (X : FVec Ideal S4x2048x3328 .f32) : FVec Ideal S4x2048x1792 .f32 :=
  concatenate S4x2048x1792 1 [⟨S4x1x1792, (broadcastInDim S4x1x1792 ![] bcast_S_S4x1x1792 (constant S_ .f32 0x00000000#32 : FVec Ideal S_ .f32) : FVec Ideal S4x1x1792 .f32)⟩,
    ⟨S4x2047x1792, extractStridedSlice S4x2047x1792 ![0, 0, 0] (extractStridedSlice S4x2048x1792 ![0, 0, 0] X slices_S4x2048x3328_S4x2048x1792_0_0_0) slices_S4x2048x1792_S4x2047x1792_0_0_0⟩] concatenates_S4x1x1792_S4x2047x1792_S4x2048x1792_d1
theorem v11_eq : V m c main_v11 = (extractStridedSlice S32x8x1792 ![0, 0, 0] (shapeCast S32x256x1792 (above (m ((c : Thread nD τ).loc main_arg0))) shapeCasts_S4x2048x1792_S32x256x1792) slices_S32x256x1792_S32x8x1792_0_0_0 : FVec Ideal S32x8x1792 .f32) := by
  entry_read; rfl

theorem zeros_val (i : Fin 64) (d : Fin 512) : zeros (ix2 i d) = (0 : EReal) := by
  unfold zeros; pointwise

theorem pad_low (X : FVec Ideal S64x512 .f32) (i : Fin 128) (d : Fin 512) :
    (concatenate S128x512 0 [⟨S64x512, (truncf .bf16 X bitsLt_bf16_f32 : FVec Ideal S64x512 .bf16)⟩, ⟨S64x512, zeros⟩] concatenates_S64x512_S64x512_S128x512_d0 : FVec Ideal S128x512 .bf16) (ix2 i d)
      = if h : i.val < 64 then X (ix2 ⟨i.val, h⟩ d) else (0 : EReal) := by
  pointwise
  by_cases h : i.val < 64
  · rw [dif_pos h, dif_pos h]
  · rw [dif_neg h, dif_neg h]; exact zeros_val _ _

theorem pad_high (X : FVec Ideal S64x512 .f32) (i : Fin 128) (d : Fin 512) :
    (concatenate S128x512 0 [⟨S64x512, zeros⟩, ⟨S64x512, (truncf .bf16 X bitsLt_bf16_f32 : FVec Ideal S64x512 .bf16)⟩] concatenates_S64x512_S64x512_S128x512_d0 : FVec Ideal S128x512 .bf16) (ix2 i d)
      = if h : i.val < 64 then (0 : EReal) else X (ix2 ⟨i.val - 64, by omega⟩ d) := by
  pointwise
  by_cases h : i.val < 64
  · rw [dif_pos h, dif_pos h]; exact zeros_val _ _
  · rw [dif_neg h, dif_neg h]

theorem above_val (X : FVec Ideal S4x2048x3328 .f32) (b : Fin 4) (t : Fin 2048) (j : Fin 1792) :
    above X (ix3 b t j) = if h : t.val < 1 then (0 : EReal) else X (ix3 b (⟨t.val - 1, by omega⟩ : Fin 2048) (⟨j.val, by omega⟩ : Fin 3328)) := by
  unfold above
  pointwise

theorem edge_val (X : FVec Ideal S4x2048x3328 .f32) (k : Fin 32) (j : Fin 1792) :
    (extractStridedSlice S32x8x1792 ![0, 0, 0] (shapeCast S32x256x1792 (above X) shapeCasts_S4x2048x1792_S32x256x1792) slices_S32x256x1792_S32x8x1792_0_0_0 : FVec Ideal S32x8x1792 .f32) (ix3 k (0 : Fin 8) j)
      = above X (ix3 (⟨k.val * 256 / 2048, by omega⟩ : Fin 4) (⟨k.val * 256 % 2048, by omega⟩ : Fin 2048) j) := by
  pointwise
  simp only [show k.val / 8 = k.val * 256 / 2048 by omega, show k.val % 8 * 256 = k.val * 256 % 2048 by omega]

theorem p_val (t : Fin cfg0.N) (s : Fin 256) (j : Fin 1792) : X0_0 m c t (ix2 s j) = V m c main_v23 (ix2 (⟨rw t.val s.val, rw_lt t s⟩ : Fin 8192) (⟨j.val, by omega⟩ : Fin 3328)) := by
  unfold X0_0 Pipeline.Window.fill
  rw [dif_pos (moved0_0 t _)]
  show ((cfg0.win 0).blk t).view.read (Elt Ideal) (V m c main_v23) _ = _
  generalize V m c main_v23 = X
  unfold rw
  blk_point [idx_val t]

end Cert.PrepIdeal.Run

end
-- ==== Proof.PrepGiven.lean ====
/- The arguments as real numbers: the parameters, and four sequences of rows. -/
module

public import proofs.«01_k».proof.Proof.PrepRow
public import Idealize.ShloMosaic.Lib.Pointwise

@[expose] public section

set_option maxRecDepth 16384

noncomputable section

open Idealize.ShloMosaic Idealize.ShloMosaic.TcCoe Idealize.SL.Sem
open scoped BigOperators

namespace Cert.Prep

/-- An array of the given sizes at the reals. -/
abbrev Arr3 (a b c : ℕ) := (⟨3, ![a, b, c]⟩ : Shape).Idx → EReal
abbrev Arr2 (a b : ℕ) := (⟨2, ![a, b]⟩ : Shape).Idx → EReal
abbrev Arr1 (a : ℕ) := (⟨1, ![a]⟩ : Shape).Idx → EReal

/-- The arguments hold the real numbers of the parameters and of four sequences of rows, each row's predecessor the row above it and the first one's zero. -/
structure Given (x0 : Arr3 4 2048 3328) (x1 : Arr3 4 2048 512) (x2 : Arr1 1792) (x3 : Arr1 512) (x4 : Arr2 64 512) (x5 : Arr1 512) (x6 : Arr2 64 512) (x7 : Arr2 128 512)
    (x8 x9 x10 x11 x12 : Arr3 4 2048 512) (x13 : Arr3 4 2048 1024) (A : Pars) (X : ℕ → ℕ → Row) : Prop where
  p : ∀ (b : Fin 4) (t : Fin 2048) (j : Fin 1792), x0 (ix3 b t (⟨j.val, by omega⟩ : Fin 3328)) = (((X b.val t.val).p j.val : ℝ) : EReal)
  first : ∀ b, (X b 0).q = fun _ => 0
  later : ∀ b t, (X b (t + 1)).q = (X b t).p
  mu : ∀ j : Fin 1792, x2 (ix1 j) = ((A.mu j.val : ℝ) : EReal)
  w0 : ∀ d : Fin 512, x3 (ix1 d) = ((A.w0 d.val : ℝ) : EReal)
  wd : ∀ (i : Fin 64) (d : Fin 512), x4 (ix2 i d) = ((A.wd i.val d.val : ℝ) : EReal)
  a0 : ∀ d : Fin 512, x5 (ix1 d) = ((A.a0 d.val : ℝ) : EReal)
  wa : ∀ (i : Fin 64) (d : Fin 512), x6 (ix2 i d) = ((A.wa i.val d.val : ℝ) : EReal)
  wg : ∀ (i : Fin 128) (d : Fin 512), x7 (ix2 i d) = ((A.wg i.val d.val : ℝ) : EReal)
  dr : ∀ (b : Fin 4) (t : Fin 2048) (d : Fin 512), x8 (ix3 b t d) = (((X b.val t.val).dr d.val : ℝ) : EReal)
  dk : ∀ (b : Fin 4) (t : Fin 2048) (d : Fin 512), x9 (ix3 b t d) = (((X b.val t.val).dk d.val : ℝ) : EReal)
  dv : ∀ (b : Fin 4) (t : Fin 2048) (d : Fin 512), x10 (ix3 b t d) = (((X b.val t.val).dv d.val : ℝ) : EReal)
  dlw : ∀ (b : Fin 4) (t : Fin 2048) (d : Fin 512), x11 (ix3 b t d) = (((X b.val t.val).dlw d.val : ℝ) : EReal)
  da : ∀ (b : Fin 4) (t : Fin 2048) (d : Fin 512), x12 (ix3 b t d) = (((X b.val t.val).da d.val : ℝ) : EReal)
  z : ∀ (b : Fin 4) (t : Fin 2048) (d : Fin 512), x1 (ix3 b t d) = (((X b.val t.val).z d.val : ℝ) : EReal)
  dy : ∀ (b : Fin 4) (t : Fin 2048) (d : Fin 512), x13 (ix3 b t (⟨d.val, by omega⟩ : Fin 1024)) = (((X b.val t.val).dy d.val : ℝ) : EReal)

/-- The gradient of a row's first columns: what stays, and what the row below hands back. -/
def dP (A : Pars) (X : ℕ → ℕ → Row) (b t j : ℕ) : ℝ :=
  D A (X b t) j - A.mu j * D A (X b t) j + if t < 2047 then A.mu j * D A (X b (t + 1)) j else 0
/-- A sum over every row of the four sequences. -/
def tot (f : Row → ℝ) (X : ℕ → ℕ → Row) : ℝ := ∑ b ∈ Finset.range 4, ∑ t ∈ Finset.range 2048, f (X b t)

/-- The gradient of the projection: a row's first columns, then the three arrays that are only copied. -/
def out (x14 x15 x16 : Arr3 4 2048 512) (A : Pars) (X : ℕ → ℕ → Row) (r : Fin 8192) (j : Fin 3328) : EReal :=
  if j.val < 1792 then ((dP A X (r.val / 2048) (r.val % 2048) j.val : ℝ) : EReal)
  else if h1 : j.val - 1792 < 512 then x14 (ix3 (⟨r.val / 2048, by omega⟩ : Fin 4) (⟨r.val % 2048, by omega⟩ : Fin 2048) (⟨j.val - 1792, h1⟩ : Fin 512))
  else if h2 : j.val - 1792 - 512 < 512 then x15 (ix3 (⟨r.val / 2048, by omega⟩ : Fin 4) (⟨r.val % 2048, by omega⟩ : Fin 2048) (⟨j.val - 1792 - 512, h2⟩ : Fin 512))
  else x16 (ix3 (⟨r.val / 2048, by omega⟩ : Fin 4) (⟨r.val % 2048, by omega⟩ : Fin 2048) (⟨j.val - 1792 - 512 - 512, by omega⟩ : Fin 512))

/-- A sum over the first two coordinates. -/
theorem reduce2 {n0 n1 n2 : ℕ} (h : (⟨3, ![n0, n1, n2]⟩ : Shape).ReducesTo [0, 1] ⟨1, ![n2]⟩) (x : Arr3 n0 n1 n2) (j : Fin n2) :
    Ideal.hostReduceAdd h x 0 (ix1 j) = ∑ a : Fin n0, ∑ b : Fin n1, x (ix3 a b j) := by
  have hd : ∀ i : (⟨3, ![n0, n1, n2]⟩ : Shape).Idx, (h.drop i 0 : ℕ) = i 2 := fun i => Shape.ReducesTo.drop_apply_val h i 0
  have key : ∀ i : (⟨3, ![n0, n1, n2]⟩ : Shape).Idx, h.drop i = ix1 j ↔ i = ix3 (i 0) (i 1) j := by
    intro i
    constructor
    · intro e
      have e2 : i 2 = j := Fin.ext ((hd i).symm.trans (congrArg (fun f : (⟨1, ![n2]⟩ : Shape).Idx => (f 0).val) e))
      funext k
      fin_cases k
      · rfl
      · rfl
      · exact e2
    · intro e
      funext k
      have hk : k = 0 := Subsingleton.elim _ _
      subst hk
      exact Fin.ext ((hd i).trans (congrArg Fin.val (congrFun e 2)))
  rw [Ideal.hostReduceAdd, zero_add, ← Fintype.sum_prod_type']
  refine Finset.sum_bij' (fun i _ => (i 0, i 1)) (fun p _ => ix3 p.1 p.2 j) (fun i _ => Finset.mem_univ _) (fun p _ => ?_) (fun i hi => ?_) (fun p _ => rfl) (fun i hi => ?_)
  · exact Finset.mem_filter.2 ⟨Finset.mem_univ _, (key _).2 rfl⟩
  · exact ((key i).1 (Finset.mem_filter.1 hi).2).symm
  · exact congrArg x ((key i).1 (Finset.mem_filter.1 hi).2)

/-- A double sum of real numbers. -/
theorem sum2_re {n k : ℕ} (f : ℕ → ℕ → ℝ) : (∑ i : Fin n, ∑ j : Fin k, ((f i.val j.val : ℝ) : EReal)) = ((∑ i ∈ Finset.range n, ∑ j ∈ Finset.range k, f i j : ℝ) : EReal) := by
  exact (Finset.sum_congr rfl fun i _ => sum_re (fun j => f i.val j)).trans (sum_re fun i => ∑ j ∈ Finset.range k, f i j)

end Cert.Prep

end
-- ==== Proof.PrepIns.lean ====
/- The blocks a grid point reads, as rows of the arguments. -/
module

public import proofs.«01_k».proof.Proof.Gen.PrepIdeal.Skeleton
public import proofs.«01_k».proof.Proof.PrepHold
public import proofs.«01_k».proof.Proof.PrepReads
public import proofs.«01_k».proof.Proof.PrepGiven
public import Idealize.ShloMosaic.Lib.Pipeline.ValueKit
public import Idealize.ShloMosaic.Lib.Pointwise
public import Idealize.ShloMosaic.Lib.KernelVsHost
public import Idealize.ShloMosaic.Lib.WordCmp

@[expose] public section

set_option maxRecDepth 16384

noncomputable section

open Idealize.ShloMosaic Idealize.ShloMosaic.TcCoe Idealize.SL.Sem
open scoped BigOperators

namespace Cert.PrepIdeal.Run

open Cert.PrepIdeal Cert.PrepIdeal.Gen
open Cert.Prep (Re Row)

variable (m : (ℓ : Loc nD τ sig) → Buf (Elt Ideal) ℓ) (c : Dev nD)

/-- The arguments hold the real numbers of the parameters and of four sequences of rows. -/
abbrev Given (A : Cert.Prep.Pars) (X : ℕ → ℕ → Row) : Prop :=
  Cert.Prep.Given (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) A X

/-- The rows of a tile. -/
def tile (X : ℕ → ℕ → Row) (t s : ℕ) : Row := X (rw t s / 2048) (rw t s % 2048)

variable {m c} {A : Cert.Prep.Pars} {X : ℕ → ℕ → Row}

set_option maxHeartbeats 4000000 in
theorem holds (g : Given m c A X) (t : Fin cfg0.N) : (insAt m c t).Holds A (tile X t.val) where
  p s j := (p_val m c t s j).trans ((congrFun (v23_eq m c) _).trans ((flat3328 _ _ _).trans (g.p _ _ j)))
  edge j := by
    refine (read1 t (V m c main_v11) j).trans ((congrFun (v11_eq m c) _).trans ((edge_val _ _ j).trans ((above_val _ _ _ j).trans ?_)))
    have ht := lt_of_lt_of_eq t.isLt N_0
    by_cases h : (31 - t.val) * 256 % 2048 < 1
    · rw [dif_pos h]
      unfold tile
      rw [show rw t.val 0 % 2048 = 0 by unfold rw; omega, g.first]
      rfl
    · rw [dif_neg h]
      refine (g.p _ _ j).trans ?_
      unfold tile
      rw [show rw t.val 0 % 2048 = ((31 - t.val) * 256 % 2048 - 1) + 1 by unfold rw; omega, g.later]
      rfl
  above s hs := by
    unfold tile
    have ht := lt_of_lt_of_eq t.isLt N_0
    rw [show rw t.val (s + 1) / 2048 = rw t.val s / 2048 by unfold rw; omega, show rw t.val (s + 1) % 2048 = rw t.val s % 2048 + 1 by unfold rw; omega, g.later]
  mu _ j := (read2 t (V m c main_v12) _ j).trans ((congrFun (v12_eq m c) _).trans (Eq.trans (by pointwise) (g.mu j)))
  w0 _ j := (read3 t (V m c main_v13) _ j).trans ((congrFun (v13_eq m c) _).trans (Eq.trans (by pointwise) (g.w0 j)))
  a0 _ j := (read5 t (V m c main_v14) _ j).trans ((congrFun (v14_eq m c) _).trans (Eq.trans (by pointwise) (g.a0 j)))
  wd i d := by
    refine (read4 t (V m c main_v2) i d).trans ((congrFun (v2_eq m c) _).trans ((pad_low _ i d).trans ?_))
    by_cases h : i.val < 64
    · rw [dif_pos h]; refine Eq.trans ?_ (congrArg (fun r : ℝ => (r : EReal)) (if_pos h).symm); exact g.wd _ _
    · rw [dif_neg h]; refine Eq.trans ?_ (congrArg (fun r : ℝ => (r : EReal)) (if_neg h).symm); rfl
  wa i d := by
    refine (read6 t (V m c main_v4) i d).trans ((congrFun (v4_eq m c) _).trans ((pad_high _ i d).trans ?_))
    by_cases h : i.val < 64
    · rw [dif_pos h]; refine Eq.trans ?_ (congrArg (fun r : ℝ => (r : EReal)) (if_pos h).symm); rfl
    · rw [dif_neg h]; refine Eq.trans ?_ (congrArg (fun r : ℝ => (r : EReal)) (if_neg h).symm); exact g.wa _ _
  wg i d := (read7 t (V m c main_v15) i d).trans ((congrFun (v15_eq m c) _).trans (g.wg i d))
  dr s d := (read8 t (V m c main_v16) s d).trans ((congrFun (v16_eq m c) _).trans ((flat512 _ _ _).trans (g.dr _ _ d)))
  dk s d := (read9 t (V m c main_v17) s d).trans ((congrFun (v17_eq m c) _).trans ((flat512 _ _ _).trans (g.dk _ _ d)))
  dv s d := (read10 t (V m c main_v18) s d).trans ((congrFun (v18_eq m c) _).trans ((flat512 _ _ _).trans (g.dv _ _ d)))
  dlw s d := (read11 t (V m c main_v19) s d).trans ((congrFun (v19_eq m c) _).trans ((flat512 _ _ _).trans (g.dlw _ _ d)))
  da s d := (read12 t (V m c main_v20) s d).trans ((congrFun (v20_eq m c) _).trans ((flat512 _ _ _).trans (g.da _ _ d)))
  dy s d := (read13 t (V m c main_v21) s d).trans ((congrFun (v21_eq m c) _).trans ((flat1024 _ _ _).trans (g.dy _ _ d)))
  z s d := (read14 t (V m c main_v22) s d).trans ((congrFun (v22_eq m c) _).trans ((flat512 _ _ _).trans (g.z _ _ d)))

/-- The three gradients the kernel only copies. -/
theorem sq_val (t : Fin cfg0.N) (s : Fin 256) (d : Fin 512) : (insAt m c t).sq (ix2 s d) = m ((c : Thread nD τ).loc main_arg14) (ix3 (⟨rw t.val s.val / 2048, by have := rw_lt t s; omega⟩ : Fin 4) (⟨rw t.val s.val % 2048, by omega⟩ : Fin 2048) d) :=
  (read15 t (V m c main_v24) s d).trans ((congrFun (v24_eq m c) _).trans (flat512 _ _ _))
theorem sk_val (t : Fin cfg0.N) (s : Fin 256) (d : Fin 512) : (insAt m c t).sk (ix2 s d) = m ((c : Thread nD τ).loc main_arg15) (ix3 (⟨rw t.val s.val / 2048, by have := rw_lt t s; omega⟩ : Fin 4) (⟨rw t.val s.val % 2048, by omega⟩ : Fin 2048) d) :=
  (read16 t (V m c main_v25) s d).trans ((congrFun (v25_eq m c) _).trans (flat512 _ _ _))
theorem sv_val (t : Fin cfg0.N) (s : Fin 256) (d : Fin 512) : (insAt m c t).sv (ix2 s d) = m ((c : Thread nD τ).loc main_arg16) (ix3 (⟨rw t.val s.val / 2048, by have := rw_lt t s; omega⟩ : Fin 4) (⟨rw t.val s.val % 2048, by omega⟩ : Fin 2048) d) :=
  (read17 t (V m c main_v26) s d).trans ((congrFun (v26_eq m c) _).trans (flat512 _ _ _))

end Cert.PrepIdeal.Run

end
-- ==== Proof.PrepArr.lean ====
/- What the kernel's arrays hold: the sums over all tiles, and the gradient of the rows. -/
module

public import proofs.«01_k».proof.Proof.PrepIns

@[expose] public section

set_option maxRecDepth 16384

noncomputable section

open Idealize.ShloMosaic Idealize.ShloMosaic.TcCoe Idealize.SL.Sem
open Idealize.ShloMosaic.Pipeline
open scoped BigOperators

/-- A sum over blocks of equal size. -/
theorem Cert.Prep.sum_blocks (F : ℕ → ℝ) (n k : ℕ) : ∑ i ∈ Finset.range (n * k), F i = ∑ a ∈ Finset.range n, ∑ s ∈ Finset.range k, F (a * k + s) := by
  induction n with
  | zero => simp
  | succ n ih => rw [Nat.succ_mul, Finset.sum_range_add, ih, Finset.sum_range_succ]

namespace Cert.PrepIdeal.Run

open Cert.PrepIdeal Cert.PrepIdeal.Gen
open Cert.Prep (Re Row tot sum_blocks)

variable {m : (ℓ : Loc nD τ sig) → Buf (Elt Ideal) ℓ} {c : Dev nD} {A : Cert.Prep.Pars} {X : ℕ → ℕ → Row}

/-- The last point. -/
def tEnd : Fin cfg0.N := ⟨31, lt_of_lt_of_eq (by norm_num) N_0.symm⟩

/-- The rows of all tiles, visited from the last to the first, are all the rows. -/
theorem all_tiles (f : Row → ℝ) : ∑ k ∈ Finset.range 32, ∑ s ∈ Finset.range 256, f (tile X k s) = tot f X := by
  have h : ∑ k ∈ Finset.range 32, ∑ s ∈ Finset.range 256, f (tile X k s) = ∑ k ∈ Finset.range 32, ∑ s ∈ Finset.range 256, (fun i => f (X (i / 2048) (i % 2048))) (k * 256 + s) :=
    Finset.sum_range_reflect (fun k => ∑ s ∈ Finset.range 256, f (X ((k * 256 + s) / 2048) ((k * 256 + s) % 2048))) 32
  refine h.trans ((sum_blocks (fun i => f (X (i / 2048) (i % 2048))) 32 256).symm.trans ?_)
  refine (sum_blocks (fun i => f (X (i / 2048) (i % 2048))) 4 2048).trans ?_
  refine Finset.sum_congr rfl fun b _ => Finset.sum_congr rfl fun t ht => ?_
  have ht' := Finset.mem_range.1 ht
  show f (X ((b * 2048 + t) / 2048) ((b * 2048 + t) % 2048)) = _
  rw [show (b * 2048 + t) / 2048 = b by omega, show (b * 2048 + t) % 2048 = t by omega]

/-- A gradient after a point is the sum over the tiles visited so far. -/
theorem sums {n k : ℕ} (proj : Pars Ideal → (⟨2, ![n, k]⟩ : Shape).Idx → EReal) (f : Row → ℕ → ℕ → ℝ)
    (hadd : ∀ g x : Pars Ideal, ∀ i d, proj (g.add x) (ix2 i d) = proj x (ix2 i d) + proj g (ix2 i d))
    (hone : ∀ t : Fin cfg0.N, Re (proj (insAt m c t).grads) (fun i d => ∑ s ∈ Finset.range 256, f (tile X t.val s) i d)) :
    ∀ (N : ℕ) (hN : N < cfg0.N), Re (proj (gAt m c N hN)) (fun i d => ∑ a ∈ Finset.range (N + 1), ∑ s ∈ Finset.range 256, f (tile X a s) i d) := by
  intro N
  induction N with
  | zero =>
    intro hN i d
    rw [gAt_first m c ⟨0, hN⟩ rfl]
    exact (hone ⟨0, hN⟩ i d).trans (by simp)
  | succ N ih =>
    intro hN i d
    rw [gAt_later m c ⟨N + 1, hN⟩ (Nat.succ_ne_zero N), hadd, hone ⟨N + 1, hN⟩ i d]
    refine (congrArg (fun r : EReal => r + _) (ih (Nat.lt_of_succ_lt hN) i d)).trans ?_
    rw [← EReal.coe_add]
    exact congrArg (fun r : ℝ => (r : EReal)) (Finset.sum_range_succ (fun a => ∑ s ∈ Finset.range 256, f (tile X a s) i.val d.val) (N + 1)).symm

/-- Its last value sums over every row. -/
theorem sums_last {n k : ℕ} (proj : Pars Ideal → (⟨2, ![n, k]⟩ : Shape).Idx → EReal) (f : Row → ℕ → ℕ → ℝ)
    (hadd : ∀ g x : Pars Ideal, ∀ i d, proj (g.add x) (ix2 i d) = proj x (ix2 i d) + proj g (ix2 i d))
    (hone : ∀ t : Fin cfg0.N, Re (proj (insAt m c t).grads) (fun i d => ∑ s ∈ Finset.range 256, f (tile X t.val s) i d)) :
    Re (proj (gAt m c tEnd.val tEnd.isLt)) (fun i d => tot (fun R => f R i d) X) := by
  intro i d
  exact (sums proj f hadd hone 31 tEnd.isLt i d).trans (congrArg (fun r : ℝ => (r : EReal)) (all_tiles fun R => f R i.val d.val))

/-! ## The six gradients of the parameters -/

theorem final_mu (g : Given m c A X) (i : Fin 1) (d : Fin 1792) :
    (dats m 0 c).arrAt 19 cfg0.N (ix2 i d) = ((tot (fun R => (fun R _ j => Cert.Prep.D A R j * (R.q j - R.p j)) R i.val d.val) X : ℝ) : EReal) := by
  have hv := sums_last (m := m) (c := c) (X := X) (fun q => q.mu) (fun R _ j => Cert.Prep.D A R j * (R.q j - R.p j)) add_mu (fun t => (holds g t).g_mu)
  refine Eq.trans (congrFun ((dats m 0 c).arrAt_eq_of_after_last 19 tEnd (by decide +kernel) (gAt m c tEnd.val tEnd.isLt).mu fun j => ?_) (ix2 i d)) (hv i d)
  blk_simp
  rw [after_19]

theorem final_w0 (g : Given m c A X) (i : Fin 1) (d : Fin 512) :
    (dats m 0 c).arrAt 20 cfg0.N (ix2 i d) = ((tot (fun R => (fun R _ d => Cert.Prep.gz A R d) R i.val d.val) X : ℝ) : EReal) := by
  have hv := sums_last (m := m) (c := c) (X := X) (fun q => q.w0) (fun R _ d => Cert.Prep.gz A R d) add_w0 (fun t => (holds g t).g_w0)
  refine Eq.trans (congrFun ((dats m 0 c).arrAt_eq_of_after_last 20 tEnd (by decide +kernel) (gAt m c tEnd.val tEnd.isLt).w0 fun j => ?_) (ix2 i d)) (hv i d)
  blk_simp
  rw [after_20]

theorem final_wd (g : Given m c A X) (i : Fin 128) (d : Fin 512) :
    (dats m 0 c).arrAt 21 cfg0.N (ix2 i d) = ((tot (fun R => (fun R i d => Cert.Prep.tw A R i * Cert.Prep.gz A R d) R i.val d.val) X : ℝ) : EReal) := by
  have hv := sums_last (m := m) (c := c) (X := X) (fun q => q.wd) (fun R i d => Cert.Prep.tw A R i * Cert.Prep.gz A R d) add_wd (fun t => (holds g t).g_wd)
  refine Eq.trans (congrFun ((dats m 0 c).arrAt_eq_of_after_last 21 tEnd (by decide +kernel) (gAt m c tEnd.val tEnd.isLt).wd fun j => ?_) (ix2 i d)) (hv i d)
  blk_simp
  rw [after_21]

theorem final_a0 (g : Given m c A X) (i : Fin 1) (d : Fin 512) :
    (dats m 0 c).arrAt 22 cfg0.N (ix2 i d) = ((tot (fun R => (fun R _ d => Cert.Prep.ga A R d) R i.val d.val) X : ℝ) : EReal) := by
  have hv := sums_last (m := m) (c := c) (X := X) (fun q => q.a0) (fun R _ d => Cert.Prep.ga A R d) add_a0 (fun t => (holds g t).g_a0)
  refine Eq.trans (congrFun ((dats m 0 c).arrAt_eq_of_after_last 22 tEnd (by decide +kernel) (gAt m c tEnd.val tEnd.isLt).a0 fun j => ?_) (ix2 i d)) (hv i d)
  blk_simp
  rw [after_22]

theorem final_wa (g : Given m c A X) (i : Fin 128) (d : Fin 512) :
    (dats m 0 c).arrAt 23 cfg0.N (ix2 i d) = ((tot (fun R => (fun R i d => Cert.Prep.pm A R (1536 + i) * Cert.Prep.ga A R d) R i.val d.val) X : ℝ) : EReal) := by
  have hv := sums_last (m := m) (c := c) (X := X) (fun q => q.wa) (fun R i d => Cert.Prep.pm A R (1536 + i) * Cert.Prep.ga A R d) add_wa (fun t => (holds g t).g_wa)
  refine Eq.trans (congrFun ((dats m 0 c).arrAt_eq_of_after_last 23 tEnd (by decide +kernel) (gAt m c tEnd.val tEnd.isLt).wa fun j => ?_) (ix2 i d)) (hv i d)
  blk_simp
  rw [after_23]

theorem final_wg (g : Given m c A X) (i : Fin 128) (d : Fin 512) :
    (dats m 0 c).arrAt 24 cfg0.N (ix2 i d) = ((tot (fun R => (fun R i d => Cert.Prep.sx A R i * Cert.Prep.dg R d) R i.val d.val) X : ℝ) : EReal) := by
  have hv := sums_last (m := m) (c := c) (X := X) (fun q => q.wg) (fun R i d => Cert.Prep.sx A R i * Cert.Prep.dg R d) add_wg (fun t => (holds g t).g_wg)
  refine Eq.trans (congrFun ((dats m 0 c).arrAt_eq_of_after_last 24 tEnd (by decide +kernel) (gAt m c tEnd.val tEnd.isLt).wg fun j => ?_) (ix2 i d)) (hv i d)
  blk_simp
  rw [after_24]

/-! ## The gradient of the rows -/

theorem coord (t : Fin cfg0.N) : ((grid0.coords t) 0).val = t.val := (by decide +kernel : ∀ t : Fin grid0.N, ((grid0.coords t) 0).val = t.val) t

/-- What a tile is handed by the rows after it. -/
theorem handed (g : Given m c A X) (t : Fin cfg0.N) :
    Re (nextAt m c t.val t.isLt) (fun s j => if t.val = 0 then 0 else A.mu j * Cert.Prep.D A (tile X (t.val - 1) s) j) := by
  intro s j
  by_cases h : t.val = 0
  · rw [nextAt_first m c t h]
    refine (Pay.pay8_re s j).trans (congrArg (fun r : ℝ => (r : EReal)) (if_pos h).symm)
  · rw [nextAt_later m c t h]
    refine ((holds g ⟨t.val - 1, _⟩).next s j).trans (congrArg (fun r : ℝ => (r : EReal)) (if_neg h).symm)

/-- The four arrays side by side. -/
theorem pay1_at (y : FVec Ideal S256x1792 .f32) (a b d : Vec Ideal S256x512 .f32) (s : Fin 256) (j : Fin 3328) :
    k0_pay1 (F := Ideal) y a b d (ix2 s j) = if h : j.val < 1792 then y (ix2 s (⟨j.val, h⟩ : Fin 1792))
      else if h1 : j.val - 1792 < 512 then a (ix2 s (⟨j.val - 1792, h1⟩ : Fin 512))
      else if h2 : j.val - 1792 - 512 < 512 then b (ix2 s (⟨j.val - 1792 - 512, h2⟩ : Fin 512))
      else d (ix2 s (⟨j.val - 1792 - 512 - 512, by omega⟩ : Fin 512)) := by
  pointwise [k0_pay1]

/-- A row's gradient in a tile is its gradient in its sequence. -/
theorem row_dp (t s j : ℕ) (ht : t < 32) (hs : s < 256) :
    (Cert.Prep.D A (tile X t s) j - A.mu j * Cert.Prep.D A (tile X t s) j +
      if s < 255 then A.mu j * Cert.Prep.D A (tile X t (s + 1)) j
      else if t % 8 = 0 then 0 else if t = 0 then 0 else A.mu j * Cert.Prep.D A (tile X (t - 1) 0) j)
      = Cert.Prep.dP A X (rw t s / 2048) (rw t s % 2048) j := by
  unfold Cert.Prep.dP
  have e0 : tile X t s = X (rw t s / 2048) (rw t s % 2048) := rfl
  rw [e0]
  refine congrArg (fun r : ℝ => Cert.Prep.D A (X (rw t s / 2048) (rw t s % 2048)) j - A.mu j * Cert.Prep.D A (X (rw t s / 2048) (rw t s % 2048)) j + r) ?_
  by_cases h : s < 255
  · have e1 : tile X t (s + 1) = X (rw t s / 2048) (rw t s % 2048 + 1) := by
      show X (rw t (s + 1) / 2048) (rw t (s + 1) % 2048) = _
      unfold rw
      rw [show ((31 - t) * 256 + (s + 1)) / 2048 = ((31 - t) * 256 + s) / 2048 by omega, show ((31 - t) * 256 + (s + 1)) % 2048 = ((31 - t) * 256 + s) % 2048 + 1 by omega]
    rw [if_pos h, if_pos (by unfold rw; omega), e1]
  · rw [if_neg h]
    by_cases h8 : t % 8 = 0
    · rw [if_pos h8, if_neg (by unfold rw; omega)]
    · have e1 : tile X (t - 1) 0 = X (rw t s / 2048) (rw t s % 2048 + 1) := by
        show X (rw (t - 1) 0 / 2048) (rw (t - 1) 0 % 2048) = _
        unfold rw
        rw [show ((31 - (t - 1)) * 256 + 0) / 2048 = ((31 - t) * 256 + s) / 2048 by omega, show ((31 - (t - 1)) * 256 + 0) % 2048 = ((31 - t) * 256 + s) % 2048 + 1 by omega]
      rw [if_neg h8, if_neg (by omega), if_pos (by unfold rw; omega), e1]

/-- The gradient of a tile's rows. -/
theorem point_dp (g : Given m c A X) (t : Fin cfg0.N) (s : Fin 256) (j : Fin 3328) :
    (insAt m c t).dp (grid0.coords t) (nextAt m c t.val t.isLt) (ix2 s j)
      = Cert.Prep.out (m ((c : Thread nD τ).loc main_arg14)) (m ((c : Thread nD τ).loc main_arg15)) (m ((c : Thread nD τ).loc main_arg16)) A X (⟨rw t.val s.val, rw_lt t s⟩ : Fin 8192) j := by
  have ht := lt_of_lt_of_eq t.isLt N_0
  have hr := (holds g t).rows (t := ⟨t.val, ht⟩) (handed g t)
  unfold Ins.dp
  rw [coord t]
  refine (pay1_at _ _ _ _ s j).trans ?_
  unfold Cert.Prep.out
  by_cases h : j.val < 1792
  · rw [dif_pos h, if_pos h]
    exact (hr s ⟨j.val, h⟩).trans (congrArg (fun r : ℝ => (r : EReal)) (row_dp t.val s.val j.val ht s.isLt))
  rw [dif_neg h, if_neg h]
  by_cases h1 : j.val - 1792 < 512
  · rw [dif_pos h1, dif_pos h1]; exact sq_val t s _
  rw [dif_neg h1, dif_neg h1]
  by_cases h2 : j.val - 1792 - 512 < 512
  · rw [dif_pos h2, dif_pos h2]; exact sk_val t s _
  rw [dif_neg h2, dif_neg h2]; exact sv_val t s _

/-- A tile's rows within the array. -/
theorem read18 (t : Fin cfg0.N) (x : BufTy.Contents (Elt Ideal) ⟨S8192x3328, .bf16⟩) (s : Fin 256) (d : Fin 3328) :
    ((cfg0.win 18).blk t).view.read (Elt Ideal) x (ix2 s d) = x (ix2 (⟨rw t.val s.val, rw_lt t s⟩ : Fin 8192) d) := by
  have ht := lt_of_lt_of_eq t.isLt N_0
  unfold rw
  blk_point [idx_val t]

/-- The gradient of the projection. -/
theorem final_dp (g : Given m c A X) (r : Fin 8192) (j : Fin 3328) :
    (dats m 0 c).arrAt 18 cfg0.N (ix2 r j) = Cert.Prep.out (m ((c : Thread nD τ).loc main_arg14)) (m ((c : Thread nD τ).loc main_arg15)) (m ((c : Thread nD τ).loc main_arg16)) A X r j := by
  have hp := fun t s d => point_dp g t s d
  generalize hW : (fun y : S8192x3328.Idx => Cert.Prep.out (m ((c : Thread nD τ).loc main_arg14)) (m ((c : Thread nD τ).loc main_arg15)) (m ((c : Thread nD τ).loc main_arg16)) A X (y 0) (y 1)) = W
  have hW' : ∀ (r : Fin 8192) (j : Fin 3328), Cert.Prep.out (m ((c : Thread nD τ).loc main_arg14)) (m ((c : Thread nD τ).loc main_arg15)) (m ((c : Thread nD τ).loc main_arg16)) A X r j = W (ix2 r j) := by
    intro r j; rw [← hW]; rfl
  rw [hW' r j]
  refine congrFun ((dats m 0 c).arrAt_eq_of_covers 18 W (by decide +kernel) fun t hf y => ?_) (ix2 r j)
  obtain ⟨s, d, rfl⟩ : ∃ (s : Fin 256) (d : Fin 3328), y = ix2 s d := ⟨_, _, eq_ix2 (n0 := 256) (n1 := 3328) y⟩
  blk_simp
  rw [after_18]
  exact (hp t s d).trans ((hW' _ _).trans (read18 t W s d).symm)

end Cert.PrepIdeal.Run

end
-- ==== Proof.PrepRef.lean ====
/- The reference on real numbers: what it computes of every row. -/
module

public import proofs.«01_k».proof.Proof.Gen.PrepRefIdeal.Read
public import proofs.«01_k».proof.Proof.PrepGiven
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open scoped BigOperators

namespace Cert.PrepRefIdeal.Real

open Cert.PrepRefIdeal Cert.PrepRefIdeal.Gen Cert.PrepRefIdeal.Read
open Cert.Prep

/-- The softplus of a real number. -/
theorem softplus (z : ℝ) : (if (z : EReal) ≠ (z : EReal) then (z : EReal) else max (z : EReal) 0 + Ideal.log1p (Ideal.exp (-FloatOps.absf (F := Ideal) (φ := .f32) (z : EReal)))) = ((sp z : ℝ) : EReal) := by
  rw [if_neg (fun h => h rfl)]
  show max (z : EReal) 0 + Ideal.log (1 + Ideal.exp (-(max (z : EReal) (-(z : EReal))))) = _
  rw [abs_re, ← EReal.coe_neg, log_pos, ← EReal.coe_zero, ← coe_max, ← EReal.coe_add]
  rfl

/-- The reciprocal of one plus an exponential. -/
theorem sig (x : ℝ) : Ideal.div 1 (1 + Ideal.exp (-(x : EReal))) = ((sg x : ℝ) : EReal) := by
  rw [← EReal.coe_neg, Ideal.exp_coe, ← EReal.coe_one, ← EReal.coe_add, Ideal.div_coe (by positivity), ← EReal.coe_mul, one_mul]
  rfl

section

variable {x0 : (⟨S4x2048x3328, .f32⟩ : BufTy).Contents (Elt Ideal)} {x1 : (⟨S4x2048x512, .f32⟩ : BufTy).Contents (Elt Ideal)} {x2 : (⟨S1792, .f32⟩ : BufTy).Contents (Elt Ideal)}
  {x3 : (⟨S512, .f32⟩ : BufTy).Contents (Elt Ideal)} {x4 : (⟨S64x512, .f32⟩ : BufTy).Contents (Elt Ideal)} {x5 : (⟨S512, .f32⟩ : BufTy).Contents (Elt Ideal)}
  {x6 : (⟨S64x512, .f32⟩ : BufTy).Contents (Elt Ideal)} {x7 : (⟨S128x512, .f32⟩ : BufTy).Contents (Elt Ideal)}
  {x8 x9 x10 x11 x12 : (⟨S4x2048x512, .f32⟩ : BufTy).Contents (Elt Ideal)} {x13 : (⟨S4x2048x1024, .f32⟩ : BufTy).Contents (Elt Ideal)} {x14 x15 x16 : (⟨S4x2048x512, .f32⟩ : BufTy).Contents (Elt Ideal)}
  {A : Pars} {X : ℕ → ℕ → Row} (g : Given x0 x1 x2 x3 x4 x5 x6 x7 x8 x9 x10 x11 x12 x13 A X)

include g

/-- The row before, less the row. -/
theorem v6_re : Re3 (val_main_v6 (F := Ideal) x0) (fun b t j => (X b t).q j - (X b t).p j) := by
  intro b t j
  pointwise [val_main_v6, val_main_v4, val_main_v3, val_main_v2, val_main_v0, val_main_cst]
  rw [g.p b t j]
  by_cases h : t.val < 1
  · have e : t.val = 0 := by omega
    rw [dif_pos h, e, g.first, ← EReal.coe_zero, ← EReal.coe_sub]
  · obtain ⟨u, hu⟩ : ∃ u, t.val = u + 1 := ⟨t.val - 1, by omega⟩
    rw [dif_neg h, g.p b _ j]
    rw [← EReal.coe_sub]
    simp only [hu, g.later, Nat.add_sub_cancel]

/-- The mixed row. -/
theorem v10_re : Re3 (val_main_v10 (F := Ideal) x0 x2) (fun b t j => pm A (X b t) j) := by
  intro b t j
  pointwise [val_main_v10, val_main_v9, val_main_v8, val_main_v7, val_main_v0]
  rw [v6_re g b t j, g.p b t j, g.mu j, ← EReal.coe_mul, ← EReal.coe_add]
  rfl

theorem v14_re : Re3 (val_main_v14 (F := Ideal) x0 x2) (fun b t i => pm A (X b t) (1536 + i)) := by
  intro b t i
  pointwise [val_main_v14]
  exact (v10_re g b t _).trans (by simp only [Nat.add_comm])

theorem v15_re : Re3 (val_main_v15 (F := Ideal) x0 x2) (fun b t i => pm A (X b t) (1600 + i)) := by
  intro b t i
  pointwise [val_main_v15]
  exact (v10_re g b t _).trans (by simp only [Nat.add_comm])

theorem v16_re : Re3 (val_main_v16 (F := Ideal) x0 x2) (fun b t i => pm A (X b t) (1664 + i)) := by
  intro b t i
  pointwise [val_main_v16]
  exact (v10_re g b t _).trans (by simp only [Nat.add_comm])

theorem v17_re : Re3 (val_main_v17 (F := Ideal) x0 x2) (fun b t i => tw A (X b t) i) := by
  intro b t i
  pointwise [val_main_v17]
  rw [v14_re g b t i]
  exact Ideal.tanh_coe _

theorem v22_re : Re3 (val_main_v22 (F := Ideal) x0 x2) (fun b t i => (1 + tw A (X b t) i) * (1 - tw A (X b t) i)) := by
  intro b t i
  pointwise [val_main_v22, val_main_v21, val_main_v20, val_main_v19, val_main_v18, val_main_cst_1, val_main_cst_2]
  rw [v17_re g b t i, ← EReal.coe_one, ← EReal.coe_add, ← EReal.coe_sub, ← EReal.coe_mul]

/-- The decay before its softplus, negated. -/
theorem v27_re : Re3 (val_main_v27 (F := Ideal) x0 x2 x3 x4) (fun b t d => zz A (X b t) d) := by
  intro b t d
  pointwise [val_main_v27, val_main_v26, val_main_v25, val_main_v24, val_main_v23]
  simp only [v17_re g b t _, g.wd _ d, ← EReal.coe_mul]
  rw [sum_re (fun i => tw A (X b.val t.val) i * A.wd i d.val), g.w0 d, ← EReal.coe_add, ← EReal.coe_neg]
  rfl

theorem sp_re : Re3 (val_main_v28_0 (F := Ideal) x0 x2 x3 x4) (fun b t d => sp (zz A (X b t) d)) := by
  intro b t d
  pointwise [val_main_v28_0, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_cst]
  rw [v27_re g b t d, softplus]

theorem dsp_re : Re3 (val_main_v28_1 (F := Ideal) x0 x2 x3 x4) (fun b t d => Real.exp (zz A (X b t) d - sp (zz A (X b t) d))) := by
  intro b t d
  pointwise [val_main_v28_1, val_main_call0_v13, val_main_call0_v14, val_main_call0_v15, val_main_call0_v16, val_main_call0_v17, val_main_call0_v18, val_main_call0_v19, val_main_call0_v20, val_main_call0_v21, val_main_call0_cst_0, val_main_call0_cst_1, val_main_call0_cst_2, val_main_call0_cst_3]
  rw [sp_re g b t d, v27_re g b t d, pinf, if_neg (EReal.coe_ne_top _), if_neg (EReal.coe_ne_top _), ← EReal.coe_sub, Ideal.exp_coe]

/-- The decay's rate. -/
theorem v59_re : Re3 (val_main_v59 (F := Ideal) x0 x2 x3 x4) (fun b t d => ew A (X b t) d) := by
  intro b t d
  pointwise [val_main_v59, val_main_v31, val_main_v30, val_main_v29, val_main_cst_3]
  rw [sp_re g b t d, half_re, ← EReal.coe_neg, ← EReal.coe_sub, Ideal.exp_coe]
  rfl

theorem v41_re : Re3 (val_main_v41 (F := Ideal) x0 x2 x5 x6) (fun b t d => sg (aa A (X b t) d)) := by
  intro b t d
  pointwise [val_main_v41, val_main_v40, val_main_v39, val_main_v38, val_main_v37, val_main_v36, val_main_v35, val_main_v34, val_main_v33, val_main_v32, val_main_cst_4, val_main_cst_5]
  simp only [v15_re g b t _, g.wa _ d, ← EReal.coe_mul]
  rw [sum_re (fun i => pm A (X b.val t.val) (1600 + i) * A.wa i d.val), g.a0 d, ← EReal.coe_add, sig]
  rfl

theorem v50_re : Re3 (val_main_v50 (F := Ideal) x0 x2) (fun b t i => sx A (X b t) i) := by
  intro b t i
  pointwise [val_main_v50, val_main_v49, val_main_v48, val_main_v47, val_main_v46, val_main_v45, val_main_cst_7, val_main_cst_8]
  rw [v16_re g b t i, sig]
  rfl

theorem v72_re : Re3 (val_main_v72 (F := Ideal) x0 x2 x5 x6 x12) (fun b t d => ga A (X b t) d) := by
  intro b t d
  pointwise [val_main_v72, val_main_v44, val_main_v43, val_main_v42, val_main_cst_6]
  rw [v41_re g b t d, g.da b t d, ← EReal.coe_one, ← EReal.coe_sub, ← EReal.coe_mul, ← EReal.coe_mul]
  rfl

theorem v81_re : Re3 (val_main_v81 (F := Ideal) x0 x2 x3 x4 x11) (fun b t d => gz A (X b t) d) := by
  intro b t d
  pointwise [val_main_v81, val_main_v80, val_main_v79, val_main_v65, val_main_v64]
  rw [v59_re g b t d, dsp_re g b t d, g.dlw b t d, ← EReal.coe_neg, ← EReal.coe_mul, ← EReal.coe_neg, ← EReal.coe_mul, ← EReal.coe_neg]
  unfold gz
  refine congrArg _ ?_
  ring

theorem v63_re : Re3 (val_main_v63 (F := Ideal) x1 x13) (fun b t d => dg (X b t) d) := by
  intro b t d
  pointwise [val_main_v63, val_main_v62]
  rw [g.z b t d, g.dy b t d, ← EReal.coe_mul]
  refine congrArg _ ?_
  unfold dg
  ring

theorem v71_re : Re3 (val_main_v71 (F := Ideal) x0 x1 x2 x7 x13) (fun b t i => gx A (X b t) i) := by
  intro b t i
  pointwise [val_main_v71, val_main_v70, val_main_v53, val_main_v52, val_main_v51, val_main_cst_9]
  simp only [v63_re g b t _, g.wg i _, ← EReal.coe_mul]
  rw [v50_re g b t i, sum_re (fun d => dg (X b.val t.val) d * A.wg i.val d), ← EReal.coe_one, ← EReal.coe_sub, ← EReal.coe_mul, ← EReal.coe_mul]
  rfl

theorem v78_re : Re3 (val_main_v78 (F := Ideal) x0 x2 x5 x6 x12) (fun b t i => ax A (X b t) i) := by
  intro b t i
  pointwise [val_main_v78]
  simp only [v72_re g b t _, g.wa i _, ← EReal.coe_mul]
  exact sum_re (fun d => ga A (X b.val t.val) d * A.wa i.val d)

theorem v88_re : Re3 (val_main_v88 (F := Ideal) x0 x2 x3 x4 x11) (fun b t i => tx A (X b t) i) := by
  intro b t i
  pointwise [val_main_v88, val_main_v87]
  simp only [v81_re g b t _, g.wd i _, ← EReal.coe_mul]
  rw [v22_re g b t i, sum_re (fun d => gz A (X b.val t.val) d * A.wd i.val d), ← EReal.coe_mul]
  rfl

/-- The cotangent of the mixed row. -/
theorem v89_re : Re3 (val_main_v89 (F := Ideal) x0 x1 x2 x3 x4 x5 x6 x7 x8 x9 x10 x11 x12 x13) (fun b t j => D A (X b t) j) := by
  intro b t j
  pointwise [val_main_v89]
  unfold D
  simp only [v71_re g b t _, v78_re g b t _, v88_re g b t _, g.dr b t _, g.dk b t _, g.dv b t _]
  have hj := j.isLt
  by_cases h1 : j.val < 512
  · rw [dif_pos h1, if_pos h1]
  rw [dif_neg h1, if_neg h1]
  by_cases h2 : j.val - 512 < 512
  · rw [dif_pos h2, if_pos (by omega)]
  rw [dif_neg h2, if_neg (by omega)]
  by_cases h3 : j.val - 512 - 512 < 512
  · rw [dif_pos h3, if_pos (by omega), show j.val - 512 - 512 = j.val - 1024 by omega]
  rw [dif_neg h3, if_neg (by omega)]
  by_cases h4 : j.val - 512 - 512 - 512 < 64
  · rw [dif_pos h4, if_pos (by omega), show j.val - 512 - 512 - 512 = j.val - 1536 by omega]
  rw [dif_neg h4, if_neg (by omega)]
  by_cases h5 : j.val - 512 - 512 - 512 - 64 < 64
  · rw [dif_pos h5, if_pos (by omega), show j.val - 512 - 512 - 512 - 64 = j.val - 1600 by omega]
  rw [dif_neg h5, if_neg (by omega), show j.val - 512 - 512 - 512 - 64 - 64 = j.val - 1664 by omega]

theorem v91_re : Re3 (val_main_v91 (F := Ideal) x0 x1 x2 x3 x4 x5 x6 x7 x8 x9 x10 x11 x12 x13) (fun b t j => A.mu j * D A (X b t) j) := by
  intro b t j
  pointwise [val_main_v91, val_main_v90, val_main_v7]
  rw [v89_re g b t j, g.mu j, ← EReal.coe_mul]

theorem v101_re : Re3 (val_main_v101 (F := Ideal) x0 x1 x2 x3 x4 x5 x6 x7 x8 x9 x10 x11 x12 x13) (fun b t j => dP A X b t j) := by
  intro b t j
  pointwise [val_main_v101, val_main_v100, val_main_v99, val_main_v97, val_main_v96, val_main_cst_17]
  rw [v89_re g b t j, v91_re g b t j, ← EReal.coe_neg, ← EReal.coe_add]
  unfold dP
  by_cases h : t.val < 2047
  · rw [dif_pos h, if_pos h, v91_re g b _ j, ← EReal.coe_add]
    simp only [Nat.add_comm 1, ← sub_eq_add_neg]
  · rw [dif_neg h, if_neg h, ← EReal.coe_zero, ← EReal.coe_add, ← sub_eq_add_neg]

/-! ### The sums over the rows -/

theorem v95_re (j : Fin 1792) : (val_main_v95 (F := Ideal) x0 x1 x2 x3 x4 x5 x6 x7 x8 x9 x10 x11 x12 x13) (ix1 j) = ((tot (fun R => D A R j.val * (R.q j.val - R.p j.val)) X : ℝ) : EReal) := by
  have e : ∀ (b : Fin 4) (t : Fin 2048), (val_main_v92 (F := Ideal) x0 x1 x2 x3 x4 x5 x6 x7 x8 x9 x10 x11 x12 x13) (ix3 b t j) = (((fun b t => D A (X b t) j.val * ((X b t).q j.val - (X b t).p j.val)) b.val t.val : ℝ) : EReal) := by
    intro b t
    pointwise [val_main_v92]
    rw [v89_re g b t j, v6_re g b t j, ← EReal.coe_mul]
  pointwise [val_main_v95, val_main_v94, val_main_v93, val_main_cst_15, val_main_cst_16]
  refine (reduce2 _ _ j).trans ?_
  refine (Fin.sum_univ_one _).trans ((Fin.sum_univ_one _).trans ?_)
  pointwise []
  refine (reduce2 _ _ j).trans ?_
  simp only [e]
  unfold tot
  exact sum2_re (fun b t => D A (X b t) j.val * ((X b t).q j.val - (X b t).p j.val))

theorem v84_re (d : Fin 512) : (val_main_v84 (F := Ideal) x0 x2 x3 x4 x11) (ix1 d) = ((tot (fun R => gz A R d.val) X : ℝ) : EReal) := by
  have e : ∀ (b : Fin 4) (t : Fin 2048), (val_main_v81 (F := Ideal) x0 x2 x3 x4 x11) (ix3 b t d) = (((fun b t => gz A (X b t) d.val) b.val t.val : ℝ) : EReal) := by
    intro b t
    exact v81_re g b t d
  pointwise [val_main_v84, val_main_v83, val_main_v82, val_main_cst_13, val_main_cst_14]
  refine (reduce2 _ _ d).trans ?_
  refine (Fin.sum_univ_one _).trans ((Fin.sum_univ_one _).trans ?_)
  pointwise []
  refine (reduce2 _ _ d).trans ?_
  simp only [e]
  unfold tot
  exact sum2_re (fun b t => gz A (X b t) d.val)

theorem v75_re (d : Fin 512) : (val_main_v75 (F := Ideal) x0 x2 x5 x6 x12) (ix1 d) = ((tot (fun R => ga A R d.val) X : ℝ) : EReal) := by
  have e : ∀ (b : Fin 4) (t : Fin 2048), (val_main_v72 (F := Ideal) x0 x2 x5 x6 x12) (ix3 b t d) = (((fun b t => ga A (X b t) d.val) b.val t.val : ℝ) : EReal) := by
    intro b t
    exact v72_re g b t d
  pointwise [val_main_v75, val_main_v74, val_main_v73, val_main_cst_11, val_main_cst_12]
  refine (reduce2 _ _ d).trans ?_
  refine (Fin.sum_univ_one _).trans ((Fin.sum_univ_one _).trans ?_)
  pointwise []
  refine (reduce2 _ _ d).trans ?_
  simp only [e]
  unfold tot
  exact sum2_re (fun b t => ga A (X b t) d.val)

theorem v86_re (i : Fin 64) (d : Fin 512) : (val_main_v86 (F := Ideal) x0 x2 x3 x4 x11) (ix2 i d) = ((tot (fun R => tw A R i.val * gz A R d.val) X : ℝ) : EReal) := by
  pointwise [val_main_v86, val_main_v85]
  simp only [v81_re g _ _ d, v17_re g _ _ i, ← EReal.coe_mul]
  refine (sum2_re (fun b t => gz A (X b t) d.val * tw A (X b t) i.val)).trans ?_
  unfold tot
  simp only [mul_comm]

theorem v77_re (i : Fin 64) (d : Fin 512) : (val_main_v77 (F := Ideal) x0 x2 x5 x6 x12) (ix2 i d) = ((tot (fun R => pm A R (1600 + i.val) * ga A R d.val) X : ℝ) : EReal) := by
  pointwise [val_main_v77, val_main_v76]
  simp only [v72_re g _ _ d, v15_re g _ _ i, ← EReal.coe_mul]
  refine (sum2_re (fun b t => ga A (X b t) d.val * pm A (X b t) (1600 + i.val))).trans ?_
  unfold tot
  simp only [mul_comm]

theorem v69_re (i : Fin 128) (d : Fin 512) : (val_main_v69 (F := Ideal) x0 x1 x2 x13) (ix2 i d) = ((tot (fun R => sx A R i.val * dg R d.val) X : ℝ) : EReal) := by
  pointwise [val_main_v69, val_main_v68]
  simp only [v63_re g _ _ d, v50_re g _ _ i, ← EReal.coe_mul]
  refine (sum2_re (fun b t => dg (X b t) d.val * sx A (X b t) i.val)).trans ?_
  unfold tot
  simp only [mul_comm]

/-- The gradient of the projection's rows: the first columns, then the three arrays that are only copied. -/
theorem v105_re (r : Fin 8192) (j : Fin 3328) : (val_main_v105 (F := Ideal) x0 x1 x2 x3 x4 x5 x6 x7 x8 x9 x10 x11 x12 x13 x14 x15 x16) (ix2 r j) = out x14 x15 x16 A X r j := by
  have hr := r.isLt
  pointwise [val_main_v105, val_main_v104, val_main_v103, val_main_v102, val_main_v67, val_main_v66, val_main_cst_10, val_main_cst_18]
  unfold out
  by_cases h : j.val < 1792
  · have n1 : ¬(r.val / 2048 < 4 ∧ r.val % 2048 < 2048 ∧ 1792 ≤ j.val ∧ j.val - 1792 < 1536) := by omega
    have n2 : r.val / 2048 < 4 ∧ r.val % 2048 < 2048 ∧ j.val < 1792 := by omega
    rw [dif_neg n1, dif_pos n2, if_pos h, zero_add]
    exact v101_re g (⟨r.val / 2048, by omega⟩ : Fin 4) (⟨r.val % 2048, by omega⟩ : Fin 2048) (⟨j.val, h⟩ : Fin 1792)
  · have n1 : r.val / 2048 < 4 ∧ r.val % 2048 < 2048 ∧ 1792 ≤ j.val ∧ j.val - 1792 < 1536 := by omega
    have n2 : ¬(r.val / 2048 < 4 ∧ r.val % 2048 < 2048 ∧ j.val < 1792) := by omega
    refine (congrArg₂ (fun a b : EReal => a + b) (dif_pos n1) (dif_neg n2)).trans ?_
    exact (add_zero _).trans (if_neg h).symm

end

end Cert.PrepRefIdeal.Real

end
-- ==== Proof.PrepOut.lean ====
/- The results of the token-shift backward call, and that they are the reference's. -/
module

public import proofs.«01_k».proof.Proof.PrepArr
public import proofs.«01_k».proof.Proof.PrepRef

@[expose] public section

set_option maxRecDepth 16384

noncomputable section

open Idealize.ShloMosaic Idealize.ShloMosaic.TcCoe Idealize.SL.Sem
open Idealize.ShloMosaic.Pipeline

namespace Cert.PrepIdeal.Run

open Cert.PrepIdeal Cert.PrepIdeal.Gen
open Cert.PrepRefIdeal.Read Cert.PrepRefIdeal.Real
open Cert.Prep (Row)

variable {m : (ℓ : Loc nD τ sig) → Buf (Elt Ideal) ℓ} {c : Dev nD} {A : Cert.Prep.Pars} {X : ℕ → ℕ → Row}

/-- An array of the pipeline after the call. -/
theorem array (W : Fin 25) : Pipeline.withArrays (cfgs 0).spec c (V0 m c) (fun w => (dats m 0 c).arrAt w (cfgs 0).N) (Proc.devRef .tc (Pipeline.arrRef spec0 W)) = (dats m 0 c).arrAt W (cfgs 0).N :=
  Pipeline.withArrays_arr (cfgs 0).spec (by decide) c (V0 m c) _ W

theorem result_dp (g : Given m c A X) : (dats m 0 c).arrAt 18 (cfgs 0).N
    = val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  funext y
  obtain ⟨i, d, rfl⟩ : ∃ (i : Fin 8192) (d : Fin 3328), y = ix2 i d := ⟨_, _, eq_ix2 (n0 := 8192) (n1 := 3328) y⟩
  exact (final_dp g i d).trans (v105_re g i d).symm

theorem result_wg (g : Given m c A X) : (dats m 0 c).arrAt 24 (cfgs 0).N
    = val_main_v69 (F := Ideal) (m ((c : Thread nD τ).loc main_arg0)) (m ((c : Thread nD τ).loc main_arg1)) (m ((c : Thread nD τ).loc main_arg2)) (m ((c : Thread nD τ).loc main_arg13)) := by
  funext y
  obtain ⟨i, d, rfl⟩ : ∃ (i : Fin 128) (d : Fin 512), y = ix2 i d := ⟨_, _, eq_ix2 (n0 := 128) (n1 := 512) y⟩
  exact (final_wg g i d).trans (v69_re g i d).symm

theorem result_mu (g : Given m c A X) : Pipeline.afterTail₀ cfgs (dats m) 0 (V0 m) [hostOps1] c main_v28
    = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have e := array (m := m) (c := c) (19 : Fin 25)
  refine (show _ = shapeCast S1792 (Pipeline.withArrays (cfgs 0).spec c (V0 m c) (fun w => (dats m 0 c).arrAt w (cfgs 0).N) (Proc.devRef .tc main_v27_1)) shapeCasts_S1x1792_S1792 from rfl).trans ?_
  have hf := final_mu g
  generalize Pipeline.withArrays (cfgs 0).spec c (V0 m c) (fun w => (dats m 0 c).arrAt w (cfgs 0).N) (Proc.devRef .tc main_v27_1) = Y at e ⊢
  funext y
  obtain ⟨d, rfl⟩ : ∃ d : Fin 1792, y = ix1 d := ⟨_, eq_ix1 (n0 := 1792) y⟩
  refine Eq.trans ?_ (v95_re g d).symm
  refine Eq.trans ?_ (hf 0 d)
  rw [e]
  pointwise

theorem result_w0 (g : Given m c A X) : Pipeline.afterTail₀ cfgs (dats m) 0 (V0 m) [hostOps1] c main_v29
    = val_main_v84 (F := Ideal) (m ((c : Thread nD τ).loc main_arg0)) (m ((c : Thread nD τ).loc main_arg2)) (m ((c : Thread nD τ).loc main_arg3)) (m ((c : Thread nD τ).loc main_arg4)) (m ((c : Thread nD τ).loc main_arg11)) := by
  have e := array (m := m) (c := c) (20 : Fin 25)
  refine (show _ = shapeCast S512 (Pipeline.withArrays (cfgs 0).spec c (V0 m c) (fun w => (dats m 0 c).arrAt w (cfgs 0).N) (Proc.devRef .tc main_v27_2)) shapeCasts_S1x512_S512 from rfl).trans ?_
  have hf := final_w0 g
  generalize Pipeline.withArrays (cfgs 0).spec c (V0 m c) (fun w => (dats m 0 c).arrAt w (cfgs 0).N) (Proc.devRef .tc main_v27_2) = Y at e ⊢
  funext y
  obtain ⟨d, rfl⟩ : ∃ d : Fin 512, y = ix1 d := ⟨_, eq_ix1 (n0 := 512) y⟩
  refine Eq.trans ?_ (v84_re g d).symm
  refine Eq.trans ?_ (hf 0 d)
  rw [e]
  pointwise

theorem result_a0 (g : Given m c A X) : Pipeline.afterTail₀ cfgs (dats m) 0 (V0 m) [hostOps1] c main_v31
    = val_main_v75 (F := Ideal) (m ((c : Thread nD τ).loc main_arg0)) (m ((c : Thread nD τ).loc main_arg2)) (m ((c : Thread nD τ).loc main_arg5)) (m ((c : Thread nD τ).loc main_arg6)) (m ((c : Thread nD τ).loc main_arg12)) := by
  have e := array (m := m) (c := c) (22 : Fin 25)
  refine (show _ = shapeCast S512 (Pipeline.withArrays (cfgs 0).spec c (V0 m c) (fun w => (dats m 0 c).arrAt w (cfgs 0).N) (Proc.devRef .tc main_v27_4)) shapeCasts_S1x512_S512 from rfl).trans ?_
  have hf := final_a0 g
  generalize Pipeline.withArrays (cfgs 0).spec c (V0 m c) (fun w => (dats m 0 c).arrAt w (cfgs 0).N) (Proc.devRef .tc main_v27_4) = Y at e ⊢
  funext y
  obtain ⟨d, rfl⟩ : ∃ d : Fin 512, y = ix1 d := ⟨_, eq_ix1 (n0 := 512) y⟩
  refine Eq.trans ?_ (v75_re g d).symm
  refine Eq.trans ?_ (hf 0 d)
  rw [e]
  pointwise

theorem result_wd (g : Given m c A X) : Pipeline.afterTail₀ cfgs (dats m) 0 (V0 m) [hostOps1] c main_v30
    = val_main_v86 (F := Ideal) (m ((c : Thread nD τ).loc main_arg0)) (m ((c : Thread nD τ).loc main_arg2)) (m ((c : Thread nD τ).loc main_arg3)) (m ((c : Thread nD τ).loc main_arg4)) (m ((c : Thread nD τ).loc main_arg11)) := by
  have e := array (m := m) (c := c) (21 : Fin 25)
  refine (show _ = extractStridedSlice S64x512 ![0, 0] (Pipeline.withArrays (cfgs 0).spec c (V0 m c) (fun w => (dats m 0 c).arrAt w (cfgs 0).N) (Proc.devRef .tc main_v27_3)) slices_S128x512_S64x512_0_0 from rfl).trans ?_
  have hf := final_wd g
  generalize Pipeline.withArrays (cfgs 0).spec c (V0 m c) (fun w => (dats m 0 c).arrAt w (cfgs 0).N) (Proc.devRef .tc main_v27_3) = Y at e ⊢
  funext y
  obtain ⟨i, d, rfl⟩ : ∃ (i : Fin 64) (d : Fin 512), y = ix2 i d := ⟨_, _, eq_ix2 (n0 := 64) (n1 := 512) y⟩
  refine Eq.trans ?_ (v86_re g i d).symm
  refine Eq.trans ?_ ((hf (⟨i.val, by omega⟩ : Fin 128) d).trans ?_)
  · rw [e]
    pointwise
  · rfl

theorem result_wa (g : Given m c A X) : Pipeline.afterTail₀ cfgs (dats m) 0 (V0 m) [hostOps1] c main_v32
    = val_main_v77 (F := Ideal) (m ((c : Thread nD τ).loc main_arg0)) (m ((c : Thread nD τ).loc main_arg2)) (m ((c : Thread nD τ).loc main_arg5)) (m ((c : Thread nD τ).loc main_arg6)) (m ((c : Thread nD τ).loc main_arg12)) := by
  have e := array (m := m) (c := c) (23 : Fin 25)
  refine (show _ = extractStridedSlice S64x512 ![64, 0] (Pipeline.withArrays (cfgs 0).spec c (V0 m c) (fun w => (dats m 0 c).arrAt w (cfgs 0).N) (Proc.devRef .tc main_v27_5)) slices_S128x512_S64x512_64_0 from rfl).trans ?_
  have hf := final_wa g
  generalize Pipeline.withArrays (cfgs 0).spec c (V0 m c) (fun w => (dats m 0 c).arrAt w (cfgs 0).N) (Proc.devRef .tc main_v27_5) = Y at e ⊢
  funext y
  obtain ⟨i, d, rfl⟩ : ∃ (i : Fin 64) (d : Fin 512), y = ix2 i d := ⟨_, _, eq_ix2 (n0 := 64) (n1 := 512) y⟩
  refine Eq.trans ?_ (v77_re g i d).symm
  refine Eq.trans ?_ ((hf (⟨64 + i.val, by omega⟩ : Fin 128) d).trans ?_)
  · rw [e]
    pointwise
  · simp only [show 1536 + (64 + i.val) = 1600 + i.val by omega]

end Cert.PrepIdeal.Run

end
-- ==== Proof.PrepOwn.lean ====
/- The frame of the token-shift backward call as it stands, by the run of its reading over the reals, taken at the
   machine's floats. -/
module

public import proofs.«01_k».proof.Proof.PrepFrame
public import proofs.«01_k».proof.Defs
public import Idealize.ShloMosaic.Lib.Tactic

@[expose] public section

set_option maxRecDepth 16384

noncomputable section

namespace Cert.PrepOwn

open Idealize.ShloMosaic Idealize.ShloMosaic.TcCoe Idealize.ShloMosaic.Tactic

theorem frame_own [Cert.Prep.Facts] : Cert.quiescent_Prep := fun m ρ _ => by
  have h := @Cert.PrepIdeal.Run.frame_prep Bits _ m ρ
  refine cast ?_ h
  sl_kernel_rfl

end Cert.PrepOwn

end
-- ==== Proof.PrepClaim.lean ====
/- The token-shift backward call: the claims about the two programs. -/
module

public import proofs.«01_k».proof.Proof.PrepOut
public import proofs.«01_k».proof.Proof.PrepOwn
public import proofs.«01_k».proof.Proof.Finite
public import proofs.«01_k».proof.Proof.Gen.PrepRefIdeal.Run
public import proofs.«01_k».proof.Defs
public import Idealize.ShloMosaic.Adequacy
public import Idealize.ShloMosaic.Init
public import Idealize.ShloMosaic.Lib.Claim

@[expose] public section

set_option maxRecDepth 16384
set_option maxHeartbeats 4000000

noncomputable section

open Idealize.ShloMosaic Idealize.ShloMosaic.ValueIdx Idealize.SL.Sem

namespace Cert.PrepClaim

instance : Cert.PrepIdeal.Facts := Cert.PrepIdeal.Gen.facts
instance : Cert.PrepRefIdeal.Facts := Cert.PrepRefIdeal.Gen.facts

instance pre_facts : Cert.Pre_prep_finite.Facts where
  bcast_S_S4x2048x3328 := by decide
  reducesTo_S4x2048x3328_S_d0_1_2 := by decide
  h_S_ := by decide
  bcast_S_S4x2048x512 := by decide
  reducesTo_S4x2048x512_S_d0_1_2 := by decide
  bcast_S_S1792 := by decide
  reducesTo_S1792_S_d0 := by decide
  bcast_S_S512 := by decide
  reducesTo_S512_S_d0 := by decide
  bcast_S_S64x512 := by decide
  reducesTo_S64x512_S_d0_1 := by decide
  bcast_S_S128x512 := by decide
  reducesTo_S128x512_S_d0_1 := by decide
  bcast_S_S4x2048x1024 := by decide
  reducesTo_S4x2048x1024_S_d0_1_2 := by decide

instance : Subsingleton Cert.Pre_prep_finite.S_.Idx := ⟨fun a b => funext fun i => i.elim0⟩

/-- The precondition says that the elements of the first fourteen arguments are real numbers. -/
theorem finite {x0 : FVec Ideal Cert.Pre_prep_finite.S4x2048x3328 .f32} {x1 : FVec Ideal Cert.Pre_prep_finite.S4x2048x512 .f32} {x2 : FVec Ideal Cert.Pre_prep_finite.S1792 .f32} {x3 : FVec Ideal Cert.Pre_prep_finite.S512 .f32} {x4 : FVec Ideal Cert.Pre_prep_finite.S64x512 .f32} {x5 : FVec Ideal Cert.Pre_prep_finite.S512 .f32} {x6 : FVec Ideal Cert.Pre_prep_finite.S64x512 .f32} {x7 : FVec Ideal Cert.Pre_prep_finite.S128x512 .f32} {x8 : FVec Ideal Cert.Pre_prep_finite.S4x2048x512 .f32} {x9 : FVec Ideal Cert.Pre_prep_finite.S4x2048x512 .f32} {x10 : FVec Ideal Cert.Pre_prep_finite.S4x2048x512 .f32} {x11 : FVec Ideal Cert.Pre_prep_finite.S4x2048x512 .f32} {x12 : FVec Ideal Cert.Pre_prep_finite.S4x2048x512 .f32} {x13 : FVec Ideal Cert.Pre_prep_finite.S4x2048x1024 .f32} {x14 : FVec Ideal Cert.Pre_prep_finite.S4x2048x512 .f32} {x15 : FVec Ideal Cert.Pre_prep_finite.S4x2048x512 .f32} {x16 : FVec Ideal Cert.Pre_prep_finite.S4x2048x512 .f32}
    (h : Cert.Pre_prep_finite.fn (F := Ideal) x0 x1 x2 x3 x4 x5 x6 x7 x8 x9 x10 x11 x12 x13 x14 x15 x16 = fun _ => 1#1) :
    (∀ i, x0 i = (((x0 i : EReal).toReal : ℝ) : EReal)) ∧ (∀ i, x1 i = (((x1 i : EReal).toReal : ℝ) : EReal)) ∧ (∀ i, x2 i = (((x2 i : EReal).toReal : ℝ) : EReal)) ∧ (∀ i, x3 i = (((x3 i : EReal).toReal : ℝ) : EReal)) ∧ (∀ i, x4 i = (((x4 i : EReal).toReal : ℝ) : EReal)) ∧ (∀ i, x5 i = (((x5 i : EReal).toReal : ℝ) : EReal)) ∧ (∀ i, x6 i = (((x6 i : EReal).toReal : ℝ) : EReal)) ∧ (∀ i, x7 i = (((x7 i : EReal).toReal : ℝ) : EReal)) ∧ (∀ i, x8 i = (((x8 i : EReal).toReal : ℝ) : EReal)) ∧ (∀ i, x9 i = (((x9 i : EReal).toReal : ℝ) : EReal)) ∧ (∀ i, x10 i = (((x10 i : EReal).toReal : ℝ) : EReal)) ∧ (∀ i, x11 i = (((x11 i : EReal).toReal : ℝ) : EReal)) ∧ (∀ i, x12 i = (((x12 i : EReal).toReal : ℝ) : EReal)) ∧ (∀ i, x13 i = (((x13 i : EReal).toReal : ℝ) : EReal)) := by
  have h' := congrFun h ValueIdx.ix0
  unfold Cert.Pre_prep_finite.fn Cert.Pre_prep_finite.fn_part1 Cert.Pre_prep_finite.fn_part2 Cert.Pre_prep_finite.fn_part3 Cert.Pre_prep_finite.fn_part4 at h'
  dsimp only at h'
  obtain ⟨h', h13⟩ := Cert.Finite.and_one h'
  obtain ⟨h', h12⟩ := Cert.Finite.and_one h'
  obtain ⟨h', h11⟩ := Cert.Finite.and_one h'
  obtain ⟨h', h10⟩ := Cert.Finite.and_one h'
  obtain ⟨h', h9⟩ := Cert.Finite.and_one h'
  obtain ⟨h', h8⟩ := Cert.Finite.and_one h'
  obtain ⟨h', h7⟩ := Cert.Finite.and_one h'
  obtain ⟨h', h6⟩ := Cert.Finite.and_one h'
  obtain ⟨h', h5⟩ := Cert.Finite.and_one h'
  obtain ⟨h', h4⟩ := Cert.Finite.and_one h'
  obtain ⟨h', h3⟩ := Cert.Finite.and_one h'
  obtain ⟨h', h2⟩ := Cert.Finite.and_one h'
  obtain ⟨h', h1⟩ := Cert.Finite.and_one h'
  exact ⟨Cert.Finite.all_re x0 _ (fun _ => rfl) _ _ _ _ h', Cert.Finite.all_re x1 _ (fun _ => rfl) _ _ _ _ h1, Cert.Finite.all_re x2 _ (fun _ => rfl) _ _ _ _ h2, Cert.Finite.all_re x3 _ (fun _ => rfl) _ _ _ _ h3, Cert.Finite.all_re x4 _ (fun _ => rfl) _ _ _ _ h4, Cert.Finite.all_re x5 _ (fun _ => rfl) _ _ _ _ h5, Cert.Finite.all_re x6 _ (fun _ => rfl) _ _ _ _ h6, Cert.Finite.all_re x7 _ (fun _ => rfl) _ _ _ _ h7, Cert.Finite.all_re x8 _ (fun _ => rfl) _ _ _ _ h8, Cert.Finite.all_re x9 _ (fun _ => rfl) _ _ _ _ h9, Cert.Finite.all_re x10 _ (fun _ => rfl) _ _ _ _ h10, Cert.Finite.all_re x11 _ (fun _ => rfl) _ _ _ _ h11, Cert.Finite.all_re x12 _ (fun _ => rfl) _ _ _ _ h12, Cert.Finite.all_re x13 _ (fun _ => rfl) _ _ _ _ h13⟩

/-- The parameters and the rows that finite arguments hold. -/
def pars (x2 : Cert.Prep.Arr1 1792) (x3 : Cert.Prep.Arr1 512) (x4 : Cert.Prep.Arr2 64 512) (x5 : Cert.Prep.Arr1 512) (x6 : Cert.Prep.Arr2 64 512) (x7 : Cert.Prep.Arr2 128 512) : Cert.Prep.Pars where
  mu := Cert.Finite.of1 x2
  w0 := Cert.Finite.of1 x3
  a0 := Cert.Finite.of1 x5
  wd := Cert.Finite.of2 x4
  wa := Cert.Finite.of2 x6
  wg := Cert.Finite.of2 x7
def rows (x0 : Cert.Prep.Arr3 4 2048 3328) (x1 x8 x9 x10 x11 x12 : Cert.Prep.Arr3 4 2048 512) (x13 : Cert.Prep.Arr3 4 2048 1024) (b t : ℕ) : Cert.Prep.Row where
  p := Cert.Finite.of3 x0 b t
  q j := if t = 0 then 0 else Cert.Finite.of3 x0 b (t - 1) j
  dr := Cert.Finite.of3 x8 b t
  dk := Cert.Finite.of3 x9 b t
  dv := Cert.Finite.of3 x10 b t
  dlw := Cert.Finite.of3 x11 b t
  da := Cert.Finite.of3 x12 b t
  dy := Cert.Finite.of3 x13 b t
  z := Cert.Finite.of3 x1 b t

theorem given {x0 : FVec Ideal Cert.Pre_prep_finite.S4x2048x3328 .f32} {x1 : FVec Ideal Cert.Pre_prep_finite.S4x2048x512 .f32} {x2 : FVec Ideal Cert.Pre_prep_finite.S1792 .f32} {x3 : FVec Ideal Cert.Pre_prep_finite.S512 .f32} {x4 : FVec Ideal Cert.Pre_prep_finite.S64x512 .f32} {x5 : FVec Ideal Cert.Pre_prep_finite.S512 .f32} {x6 : FVec Ideal Cert.Pre_prep_finite.S64x512 .f32} {x7 : FVec Ideal Cert.Pre_prep_finite.S128x512 .f32} {x8 : FVec Ideal Cert.Pre_prep_finite.S4x2048x512 .f32} {x9 : FVec Ideal Cert.Pre_prep_finite.S4x2048x512 .f32} {x10 : FVec Ideal Cert.Pre_prep_finite.S4x2048x512 .f32} {x11 : FVec Ideal Cert.Pre_prep_finite.S4x2048x512 .f32} {x12 : FVec Ideal Cert.Pre_prep_finite.S4x2048x512 .f32} {x13 : FVec Ideal Cert.Pre_prep_finite.S4x2048x1024 .f32} {x14 : FVec Ideal Cert.Pre_prep_finite.S4x2048x512 .f32} {x15 : FVec Ideal Cert.Pre_prep_finite.S4x2048x512 .f32} {x16 : FVec Ideal Cert.Pre_prep_finite.S4x2048x512 .f32}
    (h : Cert.Pre_prep_finite.fn (F := Ideal) x0 x1 x2 x3 x4 x5 x6 x7 x8 x9 x10 x11 x12 x13 x14 x15 x16 = fun _ => 1#1) :
    Cert.Prep.Given x0 x1 x2 x3 x4 x5 x6 x7 x8 x9 x10 x11 x12 x13 (pars x2 x3 x4 x5 x6 x7) (rows x0 x1 x8 x9 x10 x11 x12 x13) := by
  obtain ⟨h0, h1, h2, h3, h4, h5, h6, h7, h8, h9, h10, h11, h12, h13⟩ := finite h
  exact {
    p := fun b t j => Cert.Finite.of3_eq x0 h0 b t _
    first := fun b => funext fun j => (if_pos rfl : (if (0 : ℕ) = 0 then (0 : ℝ) else Cert.Finite.of3 x0 b (0 - 1) j) = 0)
    later := fun b t => funext fun j => (if_neg (Nat.succ_ne_zero t) : (if t + 1 = 0 then (0 : ℝ) else Cert.Finite.of3 x0 b (t + 1 - 1) j) = Cert.Finite.of3 x0 b (t + 1 - 1) j)
    mu := fun j => Cert.Finite.of1_eq x2 h2 j
    w0 := fun d => Cert.Finite.of1_eq x3 h3 d
    wd := fun i d => Cert.Finite.of2_eq x4 h4 i d
    a0 := fun d => Cert.Finite.of1_eq x5 h5 d
    wa := fun i d => Cert.Finite.of2_eq x6 h6 i d
    wg := fun i d => Cert.Finite.of2_eq x7 h7 i d
    dr := fun b t d => Cert.Finite.of3_eq x8 h8 b t d
    dk := fun b t d => Cert.Finite.of3_eq x9 h9 b t d
    dv := fun b t d => Cert.Finite.of3_eq x10 h10 b t d
    dlw := fun b t d => Cert.Finite.of3_eq x11 h11 b t d
    da := fun b t d => Cert.Finite.of3_eq x12 h12 b t d
    z := fun b t d => Cert.Finite.of3_eq x1 h1 b t d
    dy := fun b t d => Cert.Finite.of3_eq x13 h13 b t _ }

/-- The kernel's frame, and the same where its arguments are finite. -/
theorem frame_kernel : Cert.quiescent_PrepIdeal := fun m ρ _ => Cert.PrepIdeal.Run.frame_prep m ρ
theorem frame_kernel_finite : Cert.quiescent_PrepIdeal_pre_prep_finite := fun m ρ _ => Cert.PrepIdeal.Run.frame_prep m ρ

/-- The reference's frame: it runs to its end, keeps its arguments and leaves every semaphore at zero. -/
theorem frame_ref : Cert.quiescent_PrepRefIdeal := by
  intro m ρ _
  exact (θ_run Cert.PrepRefIdeal.defs _ _).mono (fun r h => ⟨fun c => (h c).2.2.2.2.2.2.2, sem_eq_zero_of_no_sems (by decide) r.2⟩)
    (Cert.PrepRefIdeal.Value.run (F := Ideal) m ρ)
theorem frame_ref_finite : Cert.quiescent_PrepRefIdeal_pre_prep_finite := fun m ρ _ => frame_ref m ρ trivial

/-- Over the reals the kernel's seven results are the reference's, at finite arguments. -/
theorem algebraic : Cert.algebraic_PrepIdeal_PrepRefIdeal_pre_prep_finite := by
  pair_intro
  · run_from Cert.PrepIdeal.Run.run_main m g
    · exact hc.1 18
    · exact hc.1 24
    · exact Cert.PrepIdeal.Gen.W_main_arg0 m (Cert.PrepIdeal.Run.dats m) c
    · exact Cert.PrepIdeal.Gen.W_main_arg1 m (Cert.PrepIdeal.Run.dats m) c
    · exact Cert.PrepIdeal.Gen.W_main_arg2 m (Cert.PrepIdeal.Run.dats m) c
    · exact Cert.PrepIdeal.Gen.W_main_arg3 m (Cert.PrepIdeal.Run.dats m) c
    · exact Cert.PrepIdeal.Gen.W_main_arg4 m (Cert.PrepIdeal.Run.dats m) c
    · exact Cert.PrepIdeal.Gen.W_main_arg5 m (Cert.PrepIdeal.Run.dats m) c
    · exact Cert.PrepIdeal.Gen.W_main_arg6 m (Cert.PrepIdeal.Run.dats m) c
    · exact Cert.PrepIdeal.Gen.W_main_arg7 m (Cert.PrepIdeal.Run.dats m) c
    · exact Cert.PrepIdeal.Gen.W_main_arg8 m (Cert.PrepIdeal.Run.dats m) c
    · exact Cert.PrepIdeal.Gen.W_main_arg9 m (Cert.PrepIdeal.Run.dats m) c
    · exact Cert.PrepIdeal.Gen.W_main_arg10 m (Cert.PrepIdeal.Run.dats m) c
    · exact Cert.PrepIdeal.Gen.W_main_arg11 m (Cert.PrepIdeal.Run.dats m) c
    · exact Cert.PrepIdeal.Gen.W_main_arg12 m (Cert.PrepIdeal.Run.dats m) c
    · exact Cert.PrepIdeal.Gen.W_main_arg13 m (Cert.PrepIdeal.Run.dats m) c
    · exact Cert.PrepIdeal.Gen.W_main_arg14 m (Cert.PrepIdeal.Run.dats m) c
    · exact Cert.PrepIdeal.Gen.W_main_arg15 m (Cert.PrepIdeal.Run.dats m) c
    · exact Cert.PrepIdeal.Gen.W_main_arg16 m (Cert.PrepIdeal.Run.dats m) c
  · run_from Cert.PrepRefIdeal.Value.run m' g'
    all_goals
      have a0 : m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0) := (hagree c).1
      have a1 : m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1) := (hagree c).2.1
      have a2 : m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2) := (hagree c).2.2.1
      have a3 : m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3) := (hagree c).2.2.2.1
      have a4 : m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4) := (hagree c).2.2.2.2.1
      have a5 : m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5) := (hagree c).2.2.2.2.2.1
      have a6 : m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6) := (hagree c).2.2.2.2.2.2.1
      have a7 : m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7) := (hagree c).2.2.2.2.2.2.2.1
      have a8 : m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8) := (hagree c).2.2.2.2.2.2.2.2.1
      have a9 : m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9) := (hagree c).2.2.2.2.2.2.2.2.2.1
      have a10 : m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10) := (hagree c).2.2.2.2.2.2.2.2.2.2.1
      have a11 : m' ((c.tc : Thread Cert.PrepRefIdeal.nD Cert.PrepRefIdeal.τ).loc Cert.PrepRefIdeal.main_arg11) = m ((c.tc : Thread Cert.PrepIdeal.nD Cert.PrepIdeal.τ).loc Cert.PrepIdeal.main_arg11) := (hagree c).2.2.2.2.2.2.2.2.2.2.2.1
      have a12 : m' ((c.tc : Thread Cert.PrepRefIdeal.nD Cert.PrepRefIdeal.τ).loc Cert.PrepRefIdeal.main_arg12) = m ((c.tc : Thread Cert.PrepIdeal.nD Cert.PrepIdeal.τ).loc Cert.PrepIdeal.main_arg12) := (hagree c).2.2.2.2.2.2.2.2.2.2.2.2.1
      have a13 : m' ((c.tc : Thread Cert.PrepRefIdeal.nD Cert.PrepRefIdeal.τ).loc Cert.PrepRefIdeal.main_arg13) = m ((c.tc : Thread Cert.PrepIdeal.nD Cert.PrepIdeal.τ).loc Cert.PrepIdeal.main_arg13) := (hagree c).2.2.2.2.2.2.2.2.2.2.2.2.2.1
      have a14 : m' ((c.tc : Thread Cert.PrepRefIdeal.nD Cert.PrepRefIdeal.τ).loc Cert.PrepRefIdeal.main_arg14) = m ((c.tc : Thread Cert.PrepIdeal.nD Cert.PrepIdeal.τ).loc Cert.PrepIdeal.main_arg14) := (hagree c).2.2.2.2.2.2.2.2.2.2.2.2.2.2.1
      have a15 : m' ((c.tc : Thread Cert.PrepRefIdeal.nD Cert.PrepRefIdeal.τ).loc Cert.PrepRefIdeal.main_arg15) = m ((c.tc : Thread Cert.PrepIdeal.nD Cert.PrepIdeal.τ).loc Cert.PrepIdeal.main_arg15) := (hagree c).2.2.2.2.2.2.2.2.2.2.2.2.2.2.2.1
      have a16 : m' ((c.tc : Thread Cert.PrepRefIdeal.nD Cert.PrepRefIdeal.τ).loc Cert.PrepRefIdeal.main_arg16) = m ((c.tc : Thread Cert.PrepIdeal.nD Cert.PrepIdeal.τ).loc Cert.PrepIdeal.main_arg16) := (hagree c).2.2.2.2.2.2.2.2.2.2.2.2.2.2.2.2
      have gv := given (hpre c)
    · rw [Cert.PrepRefIdeal.Read.val_main_v105_eq, a0, a1, a2, a3, a4, a5, a6, a7, a8, a9, a10, a11, a12, a13, a14, a15, a16]
      exact (Cert.PrepIdeal.Run.result_dp gv).symm
    · rw [Cert.PrepRefIdeal.Read.val_main_v95_eq, a0, a1, a2, a3, a4, a5, a6, a7, a8, a9, a10, a11, a12, a13]
      exact (Cert.PrepIdeal.Run.result_mu gv).symm
    · rw [Cert.PrepRefIdeal.Read.val_main_v84_eq, a0, a2, a3, a4, a11]
      exact (Cert.PrepIdeal.Run.result_w0 gv).symm
    · rw [Cert.PrepRefIdeal.Read.val_main_v86_eq, a0, a2, a3, a4, a11]
      exact (Cert.PrepIdeal.Run.result_wd gv).symm
    · rw [Cert.PrepRefIdeal.Read.val_main_v75_eq]
      exact (Cert.PrepIdeal.Run.result_a0 gv).symm
    · rw [Cert.PrepRefIdeal.Read.val_main_v77_eq, a0, a2, a5, a6, a12]
      exact (Cert.PrepIdeal.Run.result_wa gv).symm
    · rw [Cert.PrepRefIdeal.Read.val_main_v69_eq]
      exact (Cert.PrepIdeal.Run.result_wg gv).symm

end Cert.PrepClaim

end
-- ==== Proof.DActValue.lean ====
/- The gate gradient fused with a product (`d_act`): what the kernel's result array holds is the
   reference's `jax.vjp` term, element by element. -/
module

public import proofs.«01_k».proof.Proof.Gen.DActIdeal.Frame
public import proofs.«01_k».proof.Proof.Gen.DActRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.DActIdeal.Value

open Cert.DActIdeal Cert.DActIdeal.Gen

variable (m : (ℓ : Loc nD τ sig) → Buf (Elt Ideal) ℓ)

/-- Every window's block index at every grid point. -/
theorem idx_val : ∀ t : Fin cfg0.N, win0_0.index t = ![t.val / 4, 0]
    ∧ win0_1.index t = ![t.val % 4, 0]
    ∧ win0_2.index t = ![t.val / 4, t.val % 4]
    ∧ win0_3.index t = ![t.val / 4, t.val % 4] :=
  (by decide +kernel : ∀ t : Fin grid0.N, _)

/-- The two forms of the gate's gradient: `a · (w·max(u,0))` and `if u > 0 then a · (w·max(u,0)) else 0`. -/
theorem gate (a w u : EReal) : a * (w * max u 0) = if 0 < u then a * (w * max u 0) else 0 := by
  split
  · rfl
  · rename_i h
    rw [max_eq_right (not_lt.mp h)]; simp

/-- What the body stores at block index `y` of point `t` is the reference at the array index `y` sits at. -/
theorem point (c : Dev nD) (t : Fin cfg0.N) (y) :
    k0_pay1 (iblk m c 0 t) (iblk m c 1 t) (iblk m c 2 t) y
      = Cert.DActRefIdeal.Read.val_main_v14 (F := Ideal) (m ((c : Thread nD τ).loc main_arg0)) (m ((c : Thread nD τ).loc main_arg1)) (m ((c : Thread nD τ).loc
        main_arg2)) (((cfg0.win 3).blk t).view.emb y) := by
  rw [← Cert.DActRefIdeal.Read.val_main_v14_eq]
  pointwise [k0_pay1]
  refine (gate _ _ _).trans ?_
  blk_point [iblk, V, idx_val t]

/-- The result array after the run. -/
theorem final (c : Dev nD) : (dats m 0 c).arrAt 3 (cfgs 0).N = Cert.DActRefIdeal.Read.val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.DActIdeal.Value

end
-- ==== Proof.DActClaim.lean ====
/- `d_act`: the claims about the two programs -/
module

public import proofs.«01_k».proof.Proof.Gen.DActIdeal.Frame
public import proofs.«01_k».proof.Proof.Gen.DActRefIdeal.Read
public import proofs.«01_k».proof.Proof.DActValue
public import proofs.«01_k».proof.Defs
public import Idealize.ShloMosaic.Adequacy
public import Idealize.ShloMosaic.Init
public import Idealize.ShloMosaic.Lib.Claim

@[expose] public section

set_option maxRecDepth 16384

noncomputable section

open Idealize.ShloMosaic Idealize.SL.Sem

namespace Cert.DActClaim

instance : Cert.DActIdeal.Facts := Cert.DActIdeal.Gen.facts
instance : Cert.DActRefIdeal.Facts := Cert.DActRefIdeal.Gen.facts

/-- The reference's frame: it runs to its end, keeps its arguments and leaves every semaphore at zero. -/
theorem frame_ref : Cert.quiescent_DActRefIdeal := by
  intro m ρ _
  exact (θ_run Cert.DActRefIdeal.defs _ _).mono (fun r h => ⟨fun c => (h c).2, sem_eq_zero_of_no_sems (by decide) r.2⟩)
    (Cert.DActRefIdeal.Value.run (F := Ideal) m ρ)

/-- Over the reals the kernel's results are the reference's. -/
theorem algebraic : Cert.algebraic_DActIdeal_DActRefIdeal := by
  pair_intro
  · run_from Cert.DActIdeal.Gen.run_main m g
  · run_from Cert.DActRefIdeal.Value.run m' g'
    exact (Cert.DActIdeal.Value.final m c).symm

end Cert.DActClaim

end
-- ==== Proof.DH2Value.lean ====
/- The second norm's gradient fused with the product by w_upᵀ (`d_h2`): what the kernel's result arrays hold
   is the reference's `jax.vjp` term, element by element. -/
module

public import proofs.«01_k».proof.Proof.Gen.DH2Ideal.Frame
public import proofs.«01_k».proof.Proof.Gen.DH2RefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.DH2Ideal.Value

open Cert.DH2Ideal Cert.DH2Ideal.Gen
open Cert.DH2RefIdeal.Read

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![t.val, 0]
    ∧ win0_7.index t = ![0, 0] :=
  (by decide +kernel : ∀ t : Fin grid0.N, _)

/-- The residual's cotangent comes last in the kernel's sum and first in the reference's. -/
theorem rot (a b c d : EReal) : a + b + c + d = d + a + b + c := by ac_rfl

/-- What the body stores of the residual's gradient at block index `y` of point `t`. -/
theorem point_5 (c : Dev nD) (t : Fin cfg0.N) (y) :
    k0_pay2 (iblk m c 3 t) (k0_pay11 (iblk m c 0 t) (iblk m c 1 t) (iblk m c 2 t) (iblk m c 4 t))
      (k0_pay12 (iblk m c 0 t) (iblk m c 1 t) (iblk m c 2 t) (iblk m c 4 t)) y
      = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay1, k0_pay2, k0_pay5, k0_pay6, k0_pay7, k0_pay9, k0_pay10, k0_pay11, k0_pay12, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_cst, val_main_cst_0, val_main_cst_1, val_main_cst_2, val_main_cst_3, val_main_cst_4, val_main_cst_5, val_main_cst_6, val_main_cst_7]
  refine (rot _ _ _ _).trans ?_
  blk_point [iblk, V, idx_val t]

/-- The first result array after the run. -/
theorem final_5 (c : Dev nD) : (dats m 0 c).arrAt 5 (cfgs 0).N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  have ht : t.val < 16 := lt_of_lt_of_eq t.isLt N_0
  by_cases h : t.val % 16 = 0
  · rw [outsAt0_A m c t h]; dsimp only; frame_out
    all_goals first | omega | exact point_5 m c t y
  · rw [outsAt0_B m c t h]; dsimp only; frame_out
    all_goals first | omega | exact point_5 m c t y

/-- The bf16 copy of the first result holds the same elements over the reals. -/
theorem point_6 (c : Dev nD) (t : Fin cfg0.N) (y) :
    k0_pay3 (iblk m c 3 t) (k0_pay11 (iblk m c 0 t) (iblk m c 1 t) (iblk m c 2 t) (iblk m c 4 t))
      (k0_pay12 (iblk m c 0 t) (iblk m c 1 t) (iblk m c 2 t) (iblk m c 4 t)) y
      = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) :=
  (show _ = k0_pay2 (iblk m c 3 t) (k0_pay11 (iblk m c 0 t) (iblk m c 1 t) (iblk m c 2 t) (iblk m c 4 t))
      (k0_pay12 (iblk m c 0 t) (iblk m c 1 t) (iblk m c 2 t) (iblk m c 4 t)) y from rfl).trans (point_5 m c t y)

/-- The second result array after the run. -/
theorem final_6 (c : Dev nD) : (dats m 0 c).arrAt 6 (cfgs 0).N = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  have ht : t.val < 16 := lt_of_lt_of_eq t.isLt N_0
  by_cases h : t.val % 16 = 0
  · rw [outsAt0_A m c t h]; dsimp only; frame_out
    all_goals first | omega | exact point_6 m c t y
  · rw [outsAt0_B m c t h]; dsimp only; frame_out
    all_goals first | omega | exact point_6 m c t y

/-- A sum over one index. -/
theorem sum_one (g : Fin 1 → EReal) : ∑ i, g i = g 0 := Fin.sum_univ_one g

/-- The third result array after the run: the row blocks' sums added up. -/
theorem final_7 (c : Dev nD) : (dats m 0 c).arrAt 7 (cfgs 0).N = val_main_v42 (F := Ideal) (m ((c : Thread nD τ).loc main_arg0)) (m ((c : Thread nD τ).loc main_arg1)) (m ((c : Thread nD τ).loc main_arg2)) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0)
    (fun t j => k0_pay8 (iblk m c 0 t) (iblk m c 1 t) (iblk m c 2 t) j)
    (fun t h j => by
      have ht : t.val < 16 := lt_of_lt_of_eq t.isLt N_0
      rw [outsAt0_A m c t h]; frame_out
      · exact (zero_add _).symm
      · omega)
    (fun t h j => by
      have ht : t.val < 16 := lt_of_lt_of_eq t.isLt N_0
      rw [outsAt0_B m c t h]; frame_out
      · pointwise [k0_pay4]
      · omega)
    (le_of_eq N_0) t0_15 rfl j, zero_add]
  pointwise [k0_pay5, k0_pay6, k0_pay7, k0_pay8, val_main_v0, val_main_v1, val_main_v2, val_main_v3, val_main_v4, val_main_v5, val_main_v6, val_main_v7, val_main_v8, val_main_v9, val_main_v12, val_main_v13, val_main_v14, val_main_v19, val_main_v20, val_main_v21, val_main_v22, val_main_v23, val_main_v26, val_main_v42, val_main_cst, val_main_cst_0, val_main_cst_1, val_main_cst_2, val_main_cst_3, val_main_cst_4]
  refine Eq.trans ?_ (sum_one _).symm
  refine Fin.sum_mul_add_congr (fun s k hl => ?_) (show 8192 = cfg0.N * 512 from (congrArg (· * 512) N_0).symm)
  blk_point [iblk, V, idx_val s]

end Cert.DH2Ideal.Value

end
-- ==== Proof.DH2Claim.lean ====
/- `d_h2`: the claims about the two programs -/
module

public import proofs.«01_k».proof.Proof.Gen.DH2Ideal.Frame
public import proofs.«01_k».proof.Proof.Gen.DH2RefIdeal.Read
public import proofs.«01_k».proof.Proof.DH2Value
public import proofs.«01_k».proof.Defs
public import Idealize.ShloMosaic.Adequacy
public import Idealize.ShloMosaic.Init
public import Idealize.ShloMosaic.Lib.Claim

@[expose] public section

set_option maxRecDepth 16384

noncomputable section

open Idealize.ShloMosaic Idealize.SL.Sem

namespace Cert.DH2Claim

instance : Cert.DH2Ideal.Facts := Cert.DH2Ideal.Gen.facts
instance : Cert.DH2RefIdeal.Facts := Cert.DH2RefIdeal.Gen.facts

/-- The reference's frame: it runs to its end, keeps its arguments and leaves every semaphore at zero. -/
theorem frame_ref : Cert.quiescent_DH2RefIdeal := by
  intro m ρ _
  exact (θ_run Cert.DH2RefIdeal.defs _ _).mono (fun r h => ⟨fun c => (h c).2.2.2, sem_eq_zero_of_no_sems (by decide) r.2⟩)
    (Cert.DH2RefIdeal.Value.run (F := Ideal) m ρ)

/-- Over the reals the kernel's results are the reference's. -/
theorem algebraic : Cert.algebraic_DH2Ideal_DH2RefIdeal := by
  pair_intro
  · run_from Cert.DH2Ideal.Gen.run_main m g
  · run_from Cert.DH2RefIdeal.Value.run m' g'
    · rw [Cert.DH2RefIdeal.Read.val_main_v41_eq, (hagree c).1, (hagree c).2.1, (hagree c).2.2.1, (hagree c).2.2.2.1, (hagree c).2.2.2.2]
      exact (Cert.DH2Ideal.Value.final_5 m c).symm
    · rw [Cert.DH2RefIdeal.Read.val_main_v43_eq, (hagree c).1, (hagree c).2.1, (hagree c).2.2.1, (hagree c).2.2.2.1, (hagree c).2.2.2.2]
      exact (Cert.DH2Ideal.Value.final_6 m c).symm
    · exact (Cert.DH2Ideal.Value.final_7 m c).symm

end Cert.DH2Claim

end
-- ==== Proof.LossValue.lean ====
/- The second product of the MLP, the final norm, the loss and their gradient (`mlp_down`): what the kernel's result arrays hold
   is the reference's `jax.vjp` term, element by element. -/
module

public import proofs.«01_k».proof.Proof.Gen.LossIdeal.Frame
public import proofs.«01_k».proof.Proof.Gen.LossRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.LossIdeal.Value

open Cert.LossIdeal Cert.LossIdeal.Gen
open Cert.LossRefIdeal.Read

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![t.val, 0]
    ∧ win0_7.index t = ![0, 0]
    ∧ win0_8.index t = ![0, 0] :=
  (by decide +kernel : ∀ t : Fin grid0.N, _)

/-- A sum over one index. -/
theorem sum_one (g : Fin 1 → EReal) : ∑ i, g i = g 0 := Fin.sum_univ_one g

/-- The float word 2.0. -/
theorem two_eq : Ideal.ofBits FTy.f32 0x40000000#32 = 1 + 1 := by
  simp [Ideal.ofBits, Ideal.ieee]
  rw [← EReal.coe_mul, ← EReal.coe_one, ← EReal.coe_add]
  norm_num

/-- The float word 0.5 is a finite number that is not negative. -/
theorem half_nonneg : 0 ≤ Ideal.ofBits FTy.f32 0x3F000000#32 ∧ Ideal.ofBits FTy.f32 0x3F000000#32 ≠ ⊤ := by
  simp [Ideal.ofBits, Ideal.ieee]
  norm_cast
  norm_num

/-- The squared error's gradient: the kernel adds the two factors' parts, the reference doubles. -/
theorem twice (e d : EReal) : e * d + d * e = d * (Ideal.ofBits FTy.f32 0x40000000#32 * e) := by
  rw [two_eq, mul_left_comm, EReal.right_distrib_of_nonneg zero_le_one zero_le_one, one_mul, mul_comm e d]

/-- A finite factor that is not negative goes into a sum. -/
theorem mul_sum {ι : Type*} (s : Finset ι) (h : EReal) (h0 : 0 ≤ h) (ht : h ≠ ⊤) (f : ι → EReal) :
    ∑ i ∈ s, h * f i = h * ∑ i ∈ s, f i := by
  classical
  induction s using Finset.induction_on with
  | empty => simp
  | insert a s ha ih =>
    rw [Finset.sum_insert ha, Finset.sum_insert ha, EReal.left_distrib_of_nonneg_of_ne_top h0 ht, ih]

/-- The gain's block at any point is the gain. -/
theorem gain (c : Dev nD) (t : Fin cfg0.N) (k : Fin 1024) :
    iblk m c 4 t (ix2 0 k) = m ((c : Thread nD τ).loc main_arg4) (ix1 k) := by
  have e : V m c main_v0 = shapeCast S1x1024 (m ((c : Thread nD τ).loc main_arg4)) shapeCasts_S1024_S1x1024 := by
    entry_read; rfl
  blk_simp [iblk]
  rw [e]
  pointwise
  blk_ext [idx_val t]

/-- What the body stores of the residual's gradient at block index `y` of point `t`. -/
theorem point_5 (c : Dev nD) (t : Fin cfg0.N) (y) :
    k0_pay14 (k0_pay3 (iblk m c 4 t)) (k0_pay4 (iblk m c 0 t) (iblk m c 1 t) (iblk m c 2 t))
      (k0_pay6 (iblk m c 0 t) (iblk m c 1 t) (iblk m c 2 t)) (k0_pay7 (iblk m c 0 t) (iblk m c 1 t) (iblk m c 2 t)) (k0_pay9 (iblk m c 0 t) (iblk m c 1 t) (iblk m c 2 t) (iblk m c 3 t) (iblk m c 4 t)) k0_pay11 y
      = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay3, k0_pay4, k0_pay5, k0_pay6, k0_pay7, k0_pay8, k0_pay9, k0_pay10, k0_pay11, k0_pay12, k0_pay13, k0_pay14, k0_pay15, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [sum_one, twice, gain]
  blk_point [iblk, V, idx_val t]
  refine (gain m c t (y 1)).trans ?_
  blk_ext [idx_val t]

/-- The bf16 copy of it holds the same elements over the reals. -/
theorem point_6 (c : Dev nD) (t : Fin cfg0.N) (y) :
    k0_pay16 (k0_pay3 (iblk m c 4 t)) (k0_pay4 (iblk m c 0 t) (iblk m c 1 t) (iblk m c 2 t))
      (k0_pay6 (iblk m c 0 t) (iblk m c 1 t) (iblk m c 2 t)) (k0_pay7 (iblk m c 0 t) (iblk m c 1 t) (iblk m c 2 t)) (k0_pay9 (iblk m c 0 t) (iblk m c 1 t) (iblk m c 2 t) (iblk m c 3 t) (iblk m c 4 t)) k0_pay11 y
      = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) :=
  (show _ = k0_pay14 (k0_pay3 (iblk m c 4 t)) (k0_pay4 (iblk m c 0 t) (iblk m c 1 t) (iblk m c 2 t))
      (k0_pay6 (iblk m c 0 t) (iblk m c 1 t) (iblk m c 2 t)) (k0_pay7 (iblk m c 0 t) (iblk m c 1 t) (iblk m c 2 t)) (k0_pay9 (iblk m c 0 t) (iblk m c 1 t) (iblk m c 2 t) (iblk m c 3 t) (iblk m c 4 t)) k0_pay11 y from rfl).trans (point_5 m c t y)

/-- The result array 5 after the run. -/
theorem final_5 (c : Dev nD) : (dats m 0 c).arrAt 5 (cfgs 0).N = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  have ht : t.val < 16 := lt_of_lt_of_eq t.isLt N_0
  by_cases h : t.val % 16 = 0
  · rw [outsAt0_A m c t h]; dsimp only; frame_out
    all_goals first | omega | exact point_5 m c t y
  · rw [outsAt0_B m c t h]; dsimp only; frame_out
    all_goals first | omega | exact point_5 m c t y

/-- The result array 6 after the run. -/
theorem final_6 (c : Dev nD) : (dats m 0 c).arrAt 6 (cfgs 0).N = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  have ht : t.val < 16 := lt_of_lt_of_eq t.isLt N_0
  by_cases h : t.val % 16 = 0
  · rw [outsAt0_A m c t h]; dsimp only; frame_out
    all_goals first | omega | exact point_6 m c t y
  · rw [outsAt0_B m c t h]; dsimp only; frame_out
    all_goals first | omega | exact point_6 m c t y

/-- The loss, in every lane: the row blocks' sums added up. -/
theorem final_7 (c : Dev nD) : (dats m 0 c).arrAt 7 (cfgs 0).N = fun _ => val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (fun a => a.elim0) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0)
    (fun t j => k0_pay15 (k0_pay10 (iblk m c 0 t) (iblk m c 1 t) (iblk m c 2 t) (iblk m c 3 t) (iblk m c 4 t)) j)
    (fun t h j => by
      have ht : t.val < 16 := lt_of_lt_of_eq t.isLt N_0
      rw [outsAt0_A m c t h]; frame_out
      · exact (zero_add _).symm
      · omega)
    (fun t h j => by
      have ht : t.val < 16 := lt_of_lt_of_eq t.isLt N_0
      rw [outsAt0_B m c t h]; frame_out
      · pointwise [k0_pay1]
      · omega)
    (le_of_eq N_0) t0_15 rfl j, zero_add]
  pointwise [k0_pay3, k0_pay4, k0_pay5, k0_pay6, k0_pay7, k0_pay8, k0_pay9, k0_pay10, k0_pay11, k0_pay12, k0_pay13, k0_pay14, k0_pay15, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [sum_one, gain]
  rw [← mul_sum _ _ half_nonneg.1 half_nonneg.2]
  refine Fin.sum_mul_add_congr (fun s k hl => ?_) (show 8192 = cfg0.N * 512 from (congrArg (· * 512) N_0).symm)
  blk_point [iblk, V, idx_val s]

/-- The last gain's gradient: the row blocks' sums added up. -/
theorem final_8 (c : Dev nD) : (dats m 0 c).arrAt 8 (cfgs 0).N = fun j => val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix1 (j 1)) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0)
    (fun t j => k0_pay13 (k0_pay8 (iblk m c 0 t) (iblk m c 1 t) (iblk m c 2 t)) (k0_pay9 (iblk m c 0 t) (iblk m c 1 t) (iblk m c 2 t) (iblk m c 3 t) (iblk m c 4 t)) k0_pay11 j)
    (fun t h j => by
      have ht : t.val < 16 := lt_of_lt_of_eq t.isLt N_0
      rw [outsAt0_A m c t h]; frame_out
      · exact (zero_add _).symm
      · omega)
    (fun t h j => by
      have ht : t.val < 16 := lt_of_lt_of_eq t.isLt N_0
      rw [outsAt0_B m c t h]; frame_out
      · pointwise [k0_pay2]
      · omega)
    (le_of_eq N_0) t0_15 rfl j, zero_add]
  pointwise [k0_pay3, k0_pay4, k0_pay5, k0_pay6, k0_pay7, k0_pay8, k0_pay9, k0_pay10, k0_pay11, k0_pay12, k0_pay13, k0_pay14, k0_pay15, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [sum_one, twice, gain]
  refine Fin.sum_mul_add_congr (fun s k hl => ?_) (show 8192 = cfg0.N * 512 from (congrArg (· * 512) N_0).symm)
  blk_point [iblk, V, idx_val s]
  exact gain m c s (j 1)

/-- The last gain's gradient as the program returns it. -/
theorem gain_result (c : Dev nD) : Pipeline.afterTail₀ cfgs (dats m) 0 (V0 m) [hostOps1] c main_v4
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e : Pipeline.withArrays (cfgs 0).spec c (V0 m c) (fun w => (dats m 0 c).arrAt w (cfgs 0).N) (Proc.devRef .tc main_v1_3) = _ :=
    (Pipeline.withArrays_arr (cfgs 0).spec (by decide) c (V0 m c) _ (8 : Fin 9)).trans (final_8 m c)
  refine (show _ = shapeCast S1024 (Pipeline.withArrays (cfgs 0).spec c (V0 m c) (fun w => (dats m 0 c).arrAt w (cfgs 0).N) (Proc.devRef .tc main_v1_3)) shapeCasts_S1x1024_S1024 from rfl).trans ?_
  rw [e]
  funext j
  pointwise

/-- The loss as the program returns it. -/
theorem loss_result (c : Dev nD) : Pipeline.afterTail₀ cfgs (dats m) 0 (V0 m) [hostOps1] c main_v3
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e : Pipeline.withArrays (cfgs 0).spec c (V0 m c) (fun w => (dats m 0 c).arrAt w (cfgs 0).N) (Proc.devRef .tc main_v1_2) = _ :=
    (Pipeline.withArrays_arr (cfgs 0).spec (by decide) c (V0 m c) _ (7 : Fin 9)).trans (final_7 m c)
  refine (show _ = shapeCast S_ (extractStridedSlice S1x1 ![0, 0] (Pipeline.withArrays (cfgs 0).spec c (V0 m c) (fun w => (dats m 0 c).arrAt w (cfgs 0).N) (Proc.devRef .tc main_v1_2)) slices_S1x128_S1x1_0_0) shapeCasts_S1x1_S_ from rfl).trans ?_
  rw [e]
  funext j
  pointwise
  exact congrArg _ (Subsingleton.elim _ _)

/-- The gain itself, which the host reshapes before the call, ends unchanged. -/
theorem arg4_result (c : Dev nD) : Pipeline.afterTail₀ cfgs (dats m) 0 (V0 m) [hostOps1] c main_arg4
    = m ((c : Thread nD τ).loc main_arg4) :=
  (show _ = Pipeline.withArrays (cfgs 0).spec c (V0 m c) (fun w => (dats m 0 c).arrAt w (cfgs 0).N) (Proc.devRef .tc main_arg4) from rfl).trans
    ((Pipeline.withArrays_of_ne (cfgs 0).spec c (V0 m c) _ main_arg4 (by decide)).trans rfl)

end Cert.LossIdeal.Value

end
-- ==== Proof.LossClaim.lean ====
/- `mlp_down`: the claims about the two programs -/
module

public import proofs.«01_k».proof.Proof.Gen.LossIdeal.Frame
public import proofs.«01_k».proof.Proof.Gen.LossRefIdeal.Read
public import proofs.«01_k».proof.Proof.LossValue
public import proofs.«01_k».proof.Defs
public import Idealize.ShloMosaic.Adequacy
public import Idealize.ShloMosaic.Init
public import Idealize.ShloMosaic.Lib.Claim

@[expose] public section

set_option maxRecDepth 16384

noncomputable section

open Idealize.ShloMosaic Idealize.SL.Sem

namespace Cert.LossClaim

instance : Cert.LossIdeal.Facts := Cert.LossIdeal.Gen.facts
instance : Cert.LossRefIdeal.Facts := Cert.LossRefIdeal.Gen.facts

/-- The reference's frame: it runs to its end, keeps its arguments and leaves every semaphore at zero. -/
theorem frame_ref : Cert.quiescent_LossRefIdeal := by
  intro m ρ _
  exact (θ_run Cert.LossRefIdeal.defs _ _).mono (fun r h => ⟨fun c => (h c).2.2.2.2, sem_eq_zero_of_no_sems (by decide) r.2⟩)
    (Cert.LossRefIdeal.Value.run (F := Ideal) m ρ)

/-- Over the reals the kernel's results are the reference's. -/
theorem algebraic : Cert.algebraic_LossIdeal_LossRefIdeal := by
  pair_intro
  · run_from Cert.LossIdeal.Gen.run_main m g
    exact Cert.LossIdeal.Value.arg4_result m c
  · run_from Cert.LossRefIdeal.Value.run m' g'
    · rw [Cert.LossRefIdeal.Read.val_main_v54_eq, (hagree c).1, (hagree c).2.1, (hagree c).2.2.1, (hagree c).2.2.2.1, (hagree c).2.2.2.2]
      exact (Cert.LossIdeal.Value.final_5 m c).symm
    · rw [Cert.LossRefIdeal.Read.val_main_v55_eq, (hagree c).1, (hagree c).2.1, (hagree c).2.2.1, (hagree c).2.2.2.1, (hagree c).2.2.2.2]
      exact (Cert.LossIdeal.Value.final_6 m c).symm
    · exact (Cert.LossIdeal.Value.loss_result m c).symm
    · exact (Cert.LossIdeal.Value.gain_result m c).symm

end Cert.LossClaim

end
-- ==== Proof.DH1Value.lean ====
/- The first norm's gradient fused with the product by w_inᵀ (`d_h1`, without its exchange): what the kernel's result arrays hold
   is the reference's `jax.vjp` term, element by element. -/
module

public import proofs.«01_k».proof.Proof.Gen.DH1Ideal.Frame
public import proofs.«01_k».proof.Proof.Gen.DH1RefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.DH1Ideal.Value

open Cert.DH1Ideal Cert.DH1Ideal.Gen
open Cert.DH1RefIdeal.Read

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![0, 0]:=
  (by decide +kernel : ∀ t : Fin grid0.N, _)

/-- The residual's cotangent comes last in the kernel's sum and first in the reference's. -/
theorem rot (a b c d : EReal) : a + b + c + d = d + a + b + c := by ac_rfl

/-- What the body stores of the residual's gradient at block index `y` of point `t`. -/
theorem point_5 (c : Dev nD) (t : Fin cfg0.N) (y) :
    k0_pay1 (iblk m c 3 t) (k0_pay9 (iblk m c 0 t) (iblk m c 1 t) (iblk m c 2 t) (iblk m c 4 t))
      (k0_pay10 (iblk m c 0 t) (iblk m c 1 t) (iblk m c 2 t) (iblk m c 4 t)) y
      = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay1, k0_pay2, k0_pay3, k0_pay4, k0_pay5, k0_pay6, k0_pay7, k0_pay8, k0_pay9, k0_pay10, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_cst, val_main_cst_0, val_main_cst_1, val_main_cst_2, val_main_cst_3, val_main_cst_4, val_main_cst_5, val_main_cst_6, val_main_cst_7]
  refine (rot _ _ _ _).trans ?_
  blk_point [iblk, V, idx_val t]

/-- The first result array after the run. -/
theorem final_5 (c : Dev nD) : (dats m 0 c).arrAt 5 (cfgs 0).N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  have ht : t.val < 16 := lt_of_lt_of_eq t.isLt N_0
  by_cases h : t.val % 16 = 0
  · rw [outsAt0_A m c t h]; dsimp only; frame_out
    all_goals first | omega | exact point_5 m c t y
  · rw [outsAt0_B m c t h]; dsimp only; frame_out
    all_goals first | omega | exact point_5 m c t y

/-- A sum over one index. -/
theorem sum_one (g : Fin 1 → EReal) : ∑ i, g i = g 0 := Fin.sum_univ_one g

/-- The second result array after the run: the row blocks' sums added up. -/
theorem final_6 (c : Dev nD) : (dats m 0 c).arrAt 6 (cfgs 0).N = val_main_v42 (F := Ideal) (m ((c : Thread nD τ).loc main_arg0)) (m ((c : Thread nD τ).loc main_arg1)) (m ((c : Thread nD τ).loc main_arg2)) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun t j => k0_pay6 (iblk m c 0 t) (iblk m c 1 t) (iblk m c 2 t) j)
    (fun t h j => by
      have ht : t.val < 16 := lt_of_lt_of_eq t.isLt N_0
      rw [outsAt0_A m c t h]; frame_out
      · exact (zero_add _).symm
      · omega)
    (fun t h j => by
      have ht : t.val < 16 := lt_of_lt_of_eq t.isLt N_0
      rw [outsAt0_B m c t h]; frame_out
      · pointwise [k0_pay2]
      · omega)
    (le_of_eq N_0) t0_15 rfl j, zero_add]
  pointwise [k0_pay3, k0_pay4, k0_pay5, k0_pay6, val_main_v0, val_main_v1, val_main_v2, val_main_v3, val_main_v4, val_main_v5, val_main_v6, val_main_v7, val_main_v8, val_main_v9, val_main_v12, val_main_v13, val_main_v14, val_main_v19, val_main_v20, val_main_v21, val_main_v22, val_main_v23, val_main_v26, val_main_v42, val_main_cst, val_main_cst_0, val_main_cst_1, val_main_cst_2, val_main_cst_3, val_main_cst_4]
  refine Eq.trans ?_ (sum_one _).symm
  refine Fin.sum_mul_add_congr (fun s k hl => ?_) (show 8192 = cfg0.N * 512 from (congrArg (· * 512) N_0).symm)
  blk_point [iblk, V, idx_val s]

end Cert.DH1Ideal.Value

end
-- ==== Proof.DH1Claim.lean ====
/- `d_h1` without its exchange: the claims about the two programs -/
module

public import proofs.«01_k».proof.Proof.Gen.DH1Ideal.Frame
public import proofs.«01_k».proof.Proof.Gen.DH1RefIdeal.Read
public import proofs.«01_k».proof.Proof.DH1Value
public import proofs.«01_k».proof.Defs
public import Idealize.ShloMosaic.Adequacy
public import Idealize.ShloMosaic.Init
public import Idealize.ShloMosaic.Lib.Claim

@[expose] public section

set_option maxRecDepth 16384

noncomputable section

open Idealize.ShloMosaic Idealize.SL.Sem

namespace Cert.DH1Claim

instance : Cert.DH1Ideal.Facts := Cert.DH1Ideal.Gen.facts
instance : Cert.DH1RefIdeal.Facts := Cert.DH1RefIdeal.Gen.facts

/-- The reference's frame: it runs to its end, keeps its arguments and leaves every semaphore at zero. -/
theorem frame_ref : Cert.quiescent_DH1RefIdeal := by
  intro m ρ _
  exact (θ_run Cert.DH1RefIdeal.defs _ _).mono (fun r h => ⟨fun c => (h c).2.2, sem_eq_zero_of_no_sems (by decide) r.2⟩)
    (Cert.DH1RefIdeal.Value.run (F := Ideal) m ρ)

/-- Over the reals the kernel's results are the reference's. -/
theorem algebraic : Cert.algebraic_DH1Ideal_DH1RefIdeal := by
  pair_intro
  · run_from Cert.DH1Ideal.Gen.run_main m g
  · run_from Cert.DH1RefIdeal.Value.run m' g'
    · rw [Cert.DH1RefIdeal.Read.val_main_v41_eq, (hagree c).1, (hagree c).2.1, (hagree c).2.2.1, (hagree c).2.2.2.1, (hagree c).2.2.2.2]
      exact (Cert.DH1Ideal.Value.final_5 m c).symm
    · exact (Cert.DH1Ideal.Value.final_6 m c).symm

end Cert.DH1Claim

end
-- ==== Proof.UpClaim.lean ====
/- The first product of the MLP with the squared relu (`mlp_up`): its two results are the reference's. -/
module

public import proofs.«01_k».proof.Proof.Gen.UpIdeal.Frame
public import proofs.«01_k».proof.Proof.Gen.UpRefIdeal.Run
public import proofs.«01_k».proof.Proof.Gen.UpRefIdeal.Read
public import proofs.«01_k».proof.Defs
public import Idealize.ShloMosaic.Adequacy
public import Idealize.ShloMosaic.Init
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.UpIdeal.Value

open Cert.UpIdeal Cert.UpIdeal.Gen
open Cert.UpRefIdeal.Read

variable (m : (ℓ : Loc nD τ sig) → Buf (Elt Ideal) ℓ)

/-- Every window's block index at every grid point. -/
theorem idx_val : ∀ t : Fin cfg0.N, win0_0.index t = ![t.val / 2, 0]
    ∧ win0_1.index t = ![0, t.val % 2]
    ∧ win0_2.index t = ![t.val / 2, t.val % 2]
    ∧ win0_3.index t = ![t.val / 2, t.val % 2] :=
  (by decide +kernel : ∀ t : Fin grid0.N, _)

/-- The product's block. -/
theorem point_2 (c : Dev nD) (t : Fin cfg0.N) (y) :
    k0_pay1 (iblk m c 0 t) (iblk m c 1 t) y
      = val_main_v2 (F := Ideal) (m ((c : Thread nD τ).loc main_arg0)) (m ((c : Thread nD τ).loc main_arg1))
        (((cfg0.win 2).blk t).view.emb y) := by
  pointwise [k0_pay1, val_main_v0, val_main_v1, val_main_v2]
  blk_point [iblk, V, idx_val t]

/-- That result array after the run. -/
theorem final_2 (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point_2 m c t y

/-- The squared relu's block. -/
theorem point_3 (c : Dev nD) (t : Fin cfg0.N) (y) :
    k0_pay2 (iblk m c 0 t) (iblk m c 1 t) y
      = val_main_v5 (F := Ideal) (m ((c : Thread nD τ).loc main_arg0)) (m ((c : Thread nD τ).loc main_arg1))
        (((cfg0.win 3).blk t).view.emb y) := by
  pointwise [k0_pay1, k0_pay2, val_main_v0, val_main_v1, val_main_v2, val_main_v3, val_main_v4, val_main_v5, val_main_call0_v0, val_main_call0_cst]
  blk_point [iblk, V, idx_val t]

/-- That result array after the run. -/
theorem final_3 (c : Dev nD) : (dats m 0 c).arrAt 3 (cfgs 0).N
    = val_main_v5 (F := Ideal) (m ((c : Thread nD τ).loc main_arg0)) (m ((c : Thread nD τ).loc main_arg1)) := by
  refine (dats m 0 c).arrAt_eq_of_covers 3 _ (by decide +kernel) fun t hf y => ?_
  blk_simp; rw [after0_3]; frame_out
  exact point_3 m c t y

end Cert.UpIdeal.Value

namespace Cert.UpClaim

open Idealize.ShloMosaic Idealize.SL.Sem

instance : Cert.UpIdeal.Facts := Cert.UpIdeal.Gen.facts
instance : Cert.UpRefIdeal.Facts := Cert.UpRefIdeal.Gen.facts

/-- The reference's frame: it runs to its end, keeps its arguments and leaves every semaphore at zero. -/
theorem frame_ref : Cert.quiescent_UpRefIdeal := by
  intro m ρ _
  exact (θ_run Cert.UpRefIdeal.defs _ _).mono (fun r h => ⟨fun c => (h c).2.2, sem_eq_zero_of_no_sems (by decide) r.2⟩)
    (Cert.UpRefIdeal.Value.run (F := Ideal) m ρ)

/-- Over the reals the kernel's results are the reference's. -/
theorem algebraic : Cert.algebraic_UpIdeal_UpRefIdeal := by
  pair_intro
  · run_from Cert.UpIdeal.Gen.run_main m g
  · run_from Cert.UpRefIdeal.Value.run m' g'
    · exact (Cert.UpIdeal.Value.final_2 m c).symm
    · rw [Cert.UpRefIdeal.Read.val_main_v5_eq]
      exact (Cert.UpIdeal.Value.final_3 m c).symm

end Cert.UpClaim

end
-- ==== Proof.ProjOutClaim.lean ====
/- The output product of the attention with the residual and the second norm (`proj_out`): its two results are the reference's. -/
module

public import proofs.«01_k».proof.Proof.Gen.ProjOutIdeal.Frame
public import proofs.«01_k».proof.Proof.Gen.ProjOutRefIdeal.Run
public import proofs.«01_k».proof.Proof.Gen.ProjOutRefIdeal.Read
public import proofs.«01_k».proof.Defs
public import Idealize.ShloMosaic.Adequacy
public import Idealize.ShloMosaic.Init
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ProjOutIdeal.Value

open Cert.ProjOutIdeal Cert.ProjOutIdeal.Gen
open Cert.ProjOutRefIdeal.Read

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

/-- The residual's block. -/
theorem point_4 (c : Dev nD) (t : Fin cfg0.N) (y) :
    k0_pay2 (iblk m c 0 t) (iblk m c 1 t) (iblk m c 2 t) y
      = val_main_v3 (F := Ideal) (m ((c : Thread nD τ).loc main_arg0)) (m ((c : Thread nD τ).loc main_arg1)) (m ((c : Thread nD τ).loc main_arg2))
        (((cfg0.win 4).blk t).view.emb y) := by
  pointwise [k0_pay1, k0_pay2, val_main_v0, val_main_v1, val_main_v2, val_main_v3]
  blk_point [iblk, V, idx_val t]

/-- That result array after the run. -/
theorem final_4 (c : Dev nD) : (dats m 0 c).arrAt 4 (cfgs 0).N
    = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  exact point_4 m c t y

/-- The normalised block. -/
theorem point_5 (c : Dev nD) (t : Fin cfg0.N) (y) :
    k0_pay3 (iblk m c 0 t) (iblk m c 1 t) (iblk m c 2 t) (iblk m c 3 t) y
      = val_main_v18 (F := Ideal) (m ((c : Thread nD τ).loc main_arg0)) (m ((c : Thread nD τ).loc main_arg1)) (m ((c : Thread nD τ).loc main_arg2)) (m ((c : Thread nD τ).loc main_arg3))
        (((cfg0.win 5).blk t).view.emb y) := by
  pointwise [k0_pay1, k0_pay2, k0_pay3, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_cst, val_main_cst_0, val_main_cst_1]
  blk_point [iblk, V, idx_val t]

/-- That result array after the run. -/
theorem final_5 (c : Dev nD) : (dats m 0 c).arrAt 5 (cfgs 0).N
    = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point_5 m c t y

end Cert.ProjOutIdeal.Value

namespace Cert.ProjOutClaim

open Idealize.ShloMosaic Idealize.SL.Sem

instance : Cert.ProjOutIdeal.Facts := Cert.ProjOutIdeal.Gen.facts
instance : Cert.ProjOutRefIdeal.Facts := Cert.ProjOutRefIdeal.Gen.facts

/-- The reference's frame: it runs to its end, keeps its arguments and leaves every semaphore at zero. -/
theorem frame_ref : Cert.quiescent_ProjOutRefIdeal := by
  intro m ρ _
  exact (θ_run Cert.ProjOutRefIdeal.defs _ _).mono (fun r h => ⟨fun c => (h c).2.2, sem_eq_zero_of_no_sems (by decide) r.2⟩)
    (Cert.ProjOutRefIdeal.Value.run (F := Ideal) m ρ)

/-- Over the reals the kernel's results are the reference's. -/
theorem algebraic : Cert.algebraic_ProjOutIdeal_ProjOutRefIdeal := by
  pair_intro
  · run_from Cert.ProjOutIdeal.Gen.run_main m g
  · run_from Cert.ProjOutRefIdeal.Value.run m' g'
    · rw [Cert.ProjOutRefIdeal.Read.val_main_v3_eq]
      exact (Cert.ProjOutIdeal.Value.final_4 m c).symm
    · rw [Cert.ProjOutRefIdeal.Read.val_main_v18_eq]
      exact (Cert.ProjOutIdeal.Value.final_5 m c).symm

end Cert.ProjOutClaim

end
-- ==== Proof.MixClaim.lean ====
/- The gated recurrence's output beside the attention's (`mix_cat`): its result is the reference's. -/
module

public import proofs.«01_k».proof.Proof.Gen.MixIdeal.Frame
public import proofs.«01_k».proof.Proof.Gen.MixRefIdeal.Run
public import proofs.«01_k».proof.Proof.Gen.MixRefIdeal.Read
public import proofs.«01_k».proof.Defs
public import Idealize.ShloMosaic.Adequacy
public import Idealize.ShloMosaic.Init
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MixIdeal.Value

open Cert.MixIdeal Cert.MixIdeal.Gen
open Cert.MixRefIdeal.Read

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0] :=
  (by decide +kernel : ∀ t : Fin grid0.N, _)

/-- The concatenated block. -/
theorem point_3 (c : Dev nD) (t : Fin cfg0.N) (y) :
    k0_pay1 (iblk m c 0 t) (iblk m c 1 t) (iblk m c 2 t) y
      = val_main_v2 (F := Ideal) (m ((c : Thread nD τ).loc main_arg0)) (m ((c : Thread nD τ).loc main_arg1)) (m ((c : Thread nD τ).loc main_arg2))
        (((cfg0.win 3).blk t).view.emb y) := by
  have e : ((((cfg0.win 3).blk t).view.emb y) 1).val = (y 1).val :=
    win0_3.rect_emb_val_of_index_zero t 1 (by rw [(idx_val t).2.2.2]; rfl) y
  pointwise [k0_pay1, val_main_v0, val_main_v1, val_main_v2]
  by_cases h : (y 1).val < 512
  · refine (dif_pos h).trans (Eq.trans ?_ (dif_pos (e.trans_lt h)).symm)
    blk_point [iblk, V, idx_val t]
  · refine (dif_neg h).trans (Eq.trans ?_ (dif_neg (fun q => h (e.symm.trans_lt q))).symm)
    blk_point [iblk, V, idx_val t]

/-- That result array after the run. -/
theorem final_3 (c : Dev nD) : (dats m 0 c).arrAt 3 (cfgs 0).N
    = val_main_v2 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point_3 m c t y

end Cert.MixIdeal.Value

namespace Cert.MixClaim

open Idealize.ShloMosaic Idealize.SL.Sem

instance : Cert.MixIdeal.Facts := Cert.MixIdeal.Gen.facts
instance : Cert.MixRefIdeal.Facts := Cert.MixRefIdeal.Gen.facts

/-- The reference's frame: it runs to its end, keeps its arguments and leaves every semaphore at zero. -/
theorem frame_ref : Cert.quiescent_MixRefIdeal := by
  intro m ρ _
  exact (θ_run Cert.MixRefIdeal.defs _ _).mono (fun r h => ⟨fun c => (h c).2, sem_eq_zero_of_no_sems (by decide) r.2⟩)
    (Cert.MixRefIdeal.Value.run (F := Ideal) m ρ)

/-- Over the reals the kernel's results are the reference's. -/
theorem algebraic : Cert.algebraic_MixIdeal_MixRefIdeal := by
  pair_intro
  · run_from Cert.MixIdeal.Gen.run_main m g
  · run_from Cert.MixRefIdeal.Value.run m' g'
    · rw [Cert.MixRefIdeal.Read.val_main_v2_eq]
      exact (congrArg (Cert.MixRefIdeal.Read.val_main_v2 (F := Ideal) _ _) (hagree c).2.2).trans (Cert.MixIdeal.Value.final_3 m c).symm

end Cert.MixClaim

end
-- ==== Proof.Norm1Claim.lean ====
/- The first norm (`norm1`): its result is the reference's. -/
module

public import proofs.«01_k».proof.Proof.Gen.Norm1Ideal.Frame
public import proofs.«01_k».proof.Proof.Gen.Norm1RefIdeal.Run
public import proofs.«01_k».proof.Proof.Gen.Norm1RefIdeal.Read
public import proofs.«01_k».proof.Defs
public import Idealize.ShloMosaic.Adequacy
public import Idealize.ShloMosaic.Init
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Norm1Ideal.Value

open Cert.Norm1Ideal Cert.Norm1Ideal.Gen
open Cert.Norm1RefIdeal.Read

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![t.val, 0] :=
  (by decide +kernel : ∀ t : Fin grid0.N, _)

/-- The normalised block. -/
theorem point_2 (c : Dev nD) (t : Fin cfg0.N) (y) :
    k0_pay1 (iblk m c 0 t) (iblk m c 1 t) y
      = val_main_v14 (F := Ideal) (m ((c : Thread nD τ).loc main_arg0)) (m ((c : Thread nD τ).loc main_arg1))
        (((cfg0.win 2).blk t).view.emb y) := by
  pointwise [k0_pay1, val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
  blk_point [iblk, V, idx_val t]

/-- That result array after the run. -/
theorem final_2 (c : Dev nD) : (dats m 0 c).arrAt 2 (cfgs 0).N
    = val_main_v14 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point_2 m c t y

end Cert.Norm1Ideal.Value

namespace Cert.Norm1Claim

open Idealize.ShloMosaic Idealize.SL.Sem

instance : Cert.Norm1Ideal.Facts := Cert.Norm1Ideal.Gen.facts
instance : Cert.Norm1RefIdeal.Facts := Cert.Norm1RefIdeal.Gen.facts

/-- The reference's frame: it runs to its end, keeps its arguments and leaves every semaphore at zero. -/
theorem frame_ref : Cert.quiescent_Norm1RefIdeal := by
  intro m ρ _
  exact (θ_run Cert.Norm1RefIdeal.defs _ _).mono (fun r h => ⟨fun c => (h c).2, sem_eq_zero_of_no_sems (by decide) r.2⟩)
    (Cert.Norm1RefIdeal.Value.run (F := Ideal) m ρ)

/-- Over the reals the kernel's results are the reference's. -/
theorem algebraic : Cert.algebraic_Norm1Ideal_Norm1RefIdeal := by
  pair_intro
  · run_from Cert.Norm1Ideal.Gen.run_main m g
  · run_from Cert.Norm1RefIdeal.Value.run m' g'
    · rw [Cert.Norm1RefIdeal.Read.val_main_v14_eq]
      exact (Cert.Norm1Ideal.Value.final_2 m c).symm

end Cert.Norm1Claim

end
-- ==== Proof.lean ====
module

public import proofs.«01_k».proof.Proof.Gen.PrepFwd.Frame
public import proofs.«01_k».proof.Proof.Gen.PrepFwdIdeal.Frame
public import proofs.«01_k».proof.Proof.Gen.PrepFwdRefIdeal.Run
public import proofs.«01_k».proof.Proof.Gen.PrepFwdRefIdeal.Read
public import proofs.«01_k».proof.Proof.Gen.PrepFwd
public import proofs.«01_k».proof.Proof.Gen.PrepFwdIdeal
public import proofs.«01_k».proof.Proof.Gen.PrepFwdRefIdeal
public import proofs.«01_k».proof.Proof.FwdClaim
public import proofs.«01_k».proof.Proof.Gen.ProjIn.Frame
public import proofs.«01_k».proof.Proof.Gen.ProjInIdeal.Frame
public import proofs.«01_k».proof.Proof.Gen.ProjInRefIdeal.Run
public import proofs.«01_k».proof.Proof.Gen.ProjInRefIdeal.Read
public import proofs.«01_k».proof.Proof.Gen.ProjIn
public import proofs.«01_k».proof.Proof.Gen.ProjInIdeal
public import proofs.«01_k».proof.Proof.Gen.ProjInRefIdeal
public import proofs.«01_k».proof.Proof.ProjInClaim
public import proofs.«01_k».proof.Proof.Gen.DYcat.Frame
public import proofs.«01_k».proof.Proof.Gen.DYcatIdeal.Frame
public import proofs.«01_k».proof.Proof.Gen.DYcatRefIdeal.Run
public import proofs.«01_k».proof.Proof.Gen.DYcatRefIdeal.Read
public import proofs.«01_k».proof.Proof.Gen.DYcat
public import proofs.«01_k».proof.Proof.Gen.DYcatIdeal
public import proofs.«01_k».proof.Proof.Gen.DYcatRefIdeal
public import proofs.«01_k».proof.Proof.DYcatClaim
public import proofs.«01_k».proof.Proof.Gen.DWDown.Frame
public import proofs.«01_k».proof.Proof.Gen.DWDownIdeal.Frame
public import proofs.«01_k».proof.Proof.Gen.DWDownRefIdeal.Run
public import proofs.«01_k».proof.Proof.Gen.DWDownRefIdeal.Read
public import proofs.«01_k».proof.Proof.Gen.DWDown
public import proofs.«01_k».proof.Proof.Gen.DWDownIdeal
public import proofs.«01_k».proof.Proof.Gen.DWDownRefIdeal
public import proofs.«01_k».proof.Proof.DWDownClaim
public import proofs.«01_k».proof.Proof.Gen.Adam.Frame
public import proofs.«01_k».proof.Proof.Gen.AdamIdeal.Frame
public import proofs.«01_k».proof.Proof.Gen.AdamRefIdeal.Run
public import proofs.«01_k».proof.Proof.Gen.AdamRefIdeal.Read
public import proofs.«01_k».proof.Proof.Gen.Adam
public import proofs.«01_k».proof.Proof.Gen.AdamIdeal
public import proofs.«01_k».proof.Proof.Gen.AdamRefIdeal
public import proofs.«01_k».proof.Proof.AdamClaim
public import proofs.«01_k».proof.Defs
public import proofs.«01_k».proof.Proof.Gen.DAct.Frame
public import proofs.«01_k».proof.Proof.Gen.DActIdeal.Frame
public import proofs.«01_k».proof.Proof.Gen.DActRefIdeal.Read
public import proofs.«01_k».proof.Proof.Gen.DH2.Frame
public import proofs.«01_k».proof.Proof.Gen.DH2Ideal.Frame
public import proofs.«01_k».proof.Proof.Gen.DH2RefIdeal.Read
public import proofs.«01_k».proof.Proof.Gen.Loss.Frame
public import proofs.«01_k».proof.Proof.Gen.LossIdeal.Frame
public import proofs.«01_k».proof.Proof.Gen.LossRefIdeal.Read
public import proofs.«01_k».proof.Proof.Gen.DH1.Frame
public import proofs.«01_k».proof.Proof.Gen.DH1Ideal.Frame
public import proofs.«01_k».proof.Proof.Gen.DH1RefIdeal.Read
public import proofs.«01_k».proof.Proof.Gen.SbRefIdeal.Run
public import proofs.«01_k».proof.Proof.Gen.SbRefIdeal.Read
public import proofs.«01_k».proof.Proof.Gen.Sb
public import proofs.«01_k».proof.Proof.Gen.Sb.Skeleton
public import proofs.«01_k».proof.Proof.Gen.Sb.Loops
public import proofs.«01_k».proof.Proof.Gen.Sb.Launch
public import proofs.«01_k».proof.Proof.Gen.Sb.Points
public import proofs.«01_k».proof.Proof.Gen.Sb.Frame
public import proofs.«01_k».proof.Proof.Gen.SbIdeal
public import proofs.«01_k».proof.Proof.Gen.SbIdeal.Skeleton
public import proofs.«01_k».proof.Proof.Gen.SbIdeal.Loops
public import proofs.«01_k».proof.Proof.Gen.SbIdeal.Launch
public import proofs.«01_k».proof.Proof.Gen.SbIdeal.Points
public import proofs.«01_k».proof.Proof.Gen.SbIdeal.Frame
public import proofs.«01_k».proof.Proof.Gen.SbRefIdeal
public import proofs.«01_k».proof.Proof.SbClaim
public import proofs.«01_k».proof.Proof.Gen.Prep
public import proofs.«01_k».proof.Proof.Gen.PrepRefIdeal.Run
public import proofs.«01_k».proof.Proof.Gen.PrepRefIdeal.Read
public import proofs.«01_k».proof.Proof.PrepClaim
public import proofs.«01_k».proof.Proof.DActClaim
public import proofs.«01_k».proof.Proof.DH2Claim
public import proofs.«01_k».proof.Proof.LossClaim
public import proofs.«01_k».proof.Proof.DH1Claim
public import proofs.«01_k».proof.Proof.Gen.Up.Frame
public import proofs.«01_k».proof.Proof.Gen.UpIdeal.Frame
public import proofs.«01_k».proof.Proof.Gen.UpRefIdeal.Read
public import proofs.«01_k».proof.Proof.UpClaim
public import proofs.«01_k».proof.Proof.Gen.ProjOut.Frame
public import proofs.«01_k».proof.Proof.Gen.ProjOutIdeal.Frame
public import proofs.«01_k».proof.Proof.Gen.ProjOutRefIdeal.Read
public import proofs.«01_k».proof.Proof.ProjOutClaim
public import proofs.«01_k».proof.Proof.Gen.Mix.Frame
public import proofs.«01_k».proof.Proof.Gen.MixIdeal.Frame
public import proofs.«01_k».proof.Proof.Gen.MixRefIdeal.Read
public import proofs.«01_k».proof.Proof.MixClaim
public import proofs.«01_k».proof.Proof.Gen.Norm1.Frame
public import proofs.«01_k».proof.Proof.Gen.Norm1Ideal.Frame
public import proofs.«01_k».proof.Proof.Gen.Norm1RefIdeal.Read
public import proofs.«01_k».proof.Proof.Norm1Claim
public import Idealize.ShloMosaic.Adequacy
public import Idealize.ShloMosaic.Init

@[expose] public section

noncomputable section

namespace Cert.Proof

open Idealize.ShloMosaic Idealize.SL.Sem Cert.DAct

theorem claim : Cert.Claim := ⟨Cert.DAct.Gen.facts, Cert.DActIdeal.Gen.facts, Cert.DActRefIdeal.Gen.facts,
  Cert.DH2.Gen.facts, Cert.DH2Ideal.Gen.facts, Cert.DH2RefIdeal.Gen.facts,
  Cert.Loss.Gen.facts, Cert.LossIdeal.Gen.facts, Cert.LossRefIdeal.Gen.facts,
  Cert.DH1.Gen.facts, Cert.DH1Ideal.Gen.facts, Cert.DH1RefIdeal.Gen.facts,
  Cert.Sb.Gen.facts, Cert.SbIdeal.Gen.facts, Cert.SbRefIdeal.Gen.facts,
  Cert.Prep.Gen.facts, Cert.PrepIdeal.Gen.facts, Cert.PrepRefIdeal.Gen.facts,
  Cert.Up.Gen.facts, Cert.UpIdeal.Gen.facts, Cert.UpRefIdeal.Gen.facts,
  Cert.ProjOut.Gen.facts, Cert.ProjOutIdeal.Gen.facts, Cert.ProjOutRefIdeal.Gen.facts,
  Cert.Mix.Gen.facts, Cert.MixIdeal.Gen.facts, Cert.MixRefIdeal.Gen.facts,
  Cert.Norm1.Gen.facts, Cert.Norm1Ideal.Gen.facts, Cert.Norm1RefIdeal.Gen.facts,
  Cert.PrepFwd.Gen.facts, Cert.PrepFwdIdeal.Gen.facts, Cert.PrepFwdRefIdeal.Gen.facts,
  Cert.ProjIn.Gen.facts, Cert.ProjInIdeal.Gen.facts, Cert.ProjInRefIdeal.Gen.facts,
  Cert.DYcat.Gen.facts, Cert.DYcatIdeal.Gen.facts, Cert.DYcatRefIdeal.Gen.facts,
  Cert.DWDown.Gen.facts, Cert.DWDownIdeal.Gen.facts, Cert.DWDownRefIdeal.Gen.facts,
  Cert.Adam.Gen.facts, Cert.AdamIdeal.Gen.facts, Cert.AdamRefIdeal.Gen.facts,
  Cert.SbClaim.pre_facts, Cert.PrepClaim.pre_facts,
  fun m ρ _ => Cert.DAct.Gen.frame m ρ, fun m ρ _ => Cert.DActIdeal.Gen.frame m ρ, Cert.DActClaim.frame_ref,
  fun m ρ _ => Cert.DH2.Gen.frame m ρ, fun m ρ _ => Cert.DH2Ideal.Gen.frame m ρ, Cert.DH2Claim.frame_ref,
  fun m ρ _ => Cert.Loss.Gen.frame m ρ, fun m ρ _ => Cert.LossIdeal.Gen.frame m ρ, Cert.LossClaim.frame_ref,
  fun m ρ _ => Cert.DH1.Gen.frame m ρ, fun m ρ _ => Cert.DH1Ideal.Gen.frame m ρ, Cert.DH1Claim.frame_ref,
  Cert.SbOwn.frame_own, Cert.SbClaim.frame_kernel, Cert.SbClaim.frame_kernel_finite, Cert.SbClaim.frame_ref, Cert.SbClaim.frame_ref_finite,
  Cert.PrepOwn.frame_own, Cert.PrepClaim.frame_kernel, Cert.PrepClaim.frame_kernel_finite, Cert.PrepClaim.frame_ref, Cert.PrepClaim.frame_ref_finite,
  fun m ρ _ => Cert.Up.Gen.frame m ρ, fun m ρ _ => Cert.UpIdeal.Gen.frame m ρ, Cert.UpClaim.frame_ref,
  fun m ρ _ => Cert.ProjOut.Gen.frame m ρ, fun m ρ _ => Cert.ProjOutIdeal.Gen.frame m ρ, Cert.ProjOutClaim.frame_ref,
  fun m ρ _ => Cert.Mix.Gen.frame m ρ, fun m ρ _ => Cert.MixIdeal.Gen.frame m ρ, Cert.MixClaim.frame_ref,
  fun m ρ _ => Cert.Norm1.Gen.frame m ρ, fun m ρ _ => Cert.Norm1Ideal.Gen.frame m ρ, Cert.Norm1Claim.frame_ref,
  fun m ρ _ => Cert.PrepFwd.Gen.frame m ρ, fun m ρ _ => Cert.PrepFwdIdeal.Gen.frame m ρ, Cert.PrepFwdClaim.frame_ref,
  fun m ρ _ => Cert.ProjIn.Gen.frame m ρ, fun m ρ _ => Cert.ProjInIdeal.Gen.frame m ρ, Cert.ProjInClaim.frame_ref,
  fun m ρ _ => Cert.DYcat.Gen.frame m ρ, fun m ρ _ => Cert.DYcatIdeal.Gen.frame m ρ, Cert.DYcatClaim.frame_ref,
  fun m ρ _ => Cert.DWDown.Gen.frame m ρ, fun m ρ _ => Cert.DWDownIdeal.Gen.frame m ρ, Cert.DWDownClaim.frame_ref,
  fun m ρ _ => Cert.Adam.Gen.frame m ρ, fun m ρ _ => Cert.AdamIdeal.Gen.frame m ρ, Cert.AdamClaim.frame_ref,
  trivial, Cert.DActClaim.algebraic,
  trivial, Cert.DH2Claim.algebraic,
  trivial, Cert.LossClaim.algebraic,
  trivial, Cert.DH1Claim.algebraic,
  Cert.SbClaim.preserves, Cert.SbClaim.algebraic,
  trivial, Cert.PrepClaim.algebraic,
  trivial, Cert.UpClaim.algebraic,
  trivial, Cert.ProjOutClaim.algebraic,
  trivial, Cert.MixClaim.algebraic,
  trivial, Cert.Norm1Claim.algebraic,
  trivial, Cert.PrepFwdClaim.algebraic,
  trivial, Cert.ProjInClaim.algebraic,
  trivial, Cert.DYcatClaim.algebraic,
  trivial, Cert.DWDownClaim.algebraic,
  trivial, Cert.AdamClaim.algebraic⟩

end Cert.Proof

end
